-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v29) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S2x8192x12x128 : Shape := ⟨4, ![2, 8192, 12, 128]⟩
abbrev S16384x128 : Shape := ⟨2, ![16384, 128]⟩
abbrev S128 : Shape := ⟨1, ![128]⟩
abbrev S16384x1536 : Shape := ⟨2, ![16384, 1536]⟩
abbrev S_ : Shape := ⟨0, ![]⟩
abbrev S16384x4608 : Shape := ⟨2, ![16384, 4608]⟩
abbrev S1x128 : Shape := ⟨2, ![1, 128]⟩
abbrev S512x256 : Shape := ⟨2, ![512, 256]⟩
abbrev S8192x256 : Shape := ⟨2, ![8192, 256]⟩
abbrev S8192x128 : Shape := ⟨2, ![8192, 128]⟩
abbrev S2x8192x256 : Shape := ⟨3, ![2, 8192, 256]⟩
abbrev S2x512x128 : Shape := ⟨3, ![2, 512, 128]⟩
abbrev S2x512x256 : Shape := ⟨3, ![2, 512, 256]⟩
abbrev S2x512x1024 : Shape := ⟨3, ![2, 512, 1024]⟩
abbrev S384x256 : Shape := ⟨2, ![384, 256]⟩
abbrev S512x128 : Shape := ⟨2, ![512, 128]⟩
abbrev S512x384 : Shape := ⟨2, ![512, 384]⟩
abbrev S1x512x128 : Shape := ⟨3, ![1, 512, 128]⟩
abbrev S1x1024x256 : Shape := ⟨3, ![1, 1024, 256]⟩
abbrev S1024x256 : Shape := ⟨2, ![1024, 256]⟩
abbrev S512x1024 : Shape := ⟨2, ![512, 1024]⟩
abbrev S1x512x1024 : Shape := ⟨3, ![1, 512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1x512x256 : Shape := ⟨3, ![1, 512, 256]⟩

abbrev nBuf : Space → Nat
  | .hbm => 15
  | .vmem => 17
  | .smem => 0
  | _ => 0

abbrev bufTy : (tb : Table) → Fin (tcTables nBuf tb) → BufTy
  | .hbm, ⟨0, _⟩ => ⟨S2x8192x12x128, .f32⟩
  | .hbm, ⟨1, _⟩ => ⟨S2x8192x12x128, .f32⟩
  | .hbm, ⟨2, _⟩ => ⟨S2x8192x12x128, .f32⟩
  | .hbm, ⟨3, _⟩ => ⟨S16384x128, .f32⟩
  | .hbm, ⟨4, _⟩ => ⟨S128, .f32⟩
  | .hbm, ⟨5, _⟩ => ⟨S16384x1536, .f32⟩
  | .hbm, ⟨6, _⟩ => ⟨S_, .f32⟩
  | .hbm, ⟨7, _⟩ => ⟨S16384x1536, .f32⟩
  | .hbm, ⟨8, _⟩ => ⟨S16384x1536, .f32⟩
  | .hbm, ⟨9, _⟩ => ⟨S16384x1536, .f32⟩
  | .hbm, ⟨10, _⟩ => ⟨S16384x1536, .f32⟩
  | .hbm, ⟨11, _⟩ => ⟨S16384x4608, .f32⟩
  | .hbm, ⟨12, _⟩ => ⟨S16384x4608, .bf16⟩
  | .hbm, ⟨13, _⟩ => ⟨S1x128, .f32⟩
  | .hbm, ⟨14, _⟩ => ⟨S16384x1536, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S1x128, .f32⟩
  | .local _ .vmem, ⟨5, _⟩ => ⟨S8192x256, .bf16⟩
  | .local _ .vmem, ⟨6, _⟩ => ⟨S8192x256, .bf16⟩
  | .local _ .vmem, ⟨7, _⟩ => ⟨S8192x128, .f32⟩
  | .local _ .vmem, ⟨8, _⟩ => ⟨S512x256, .bf16⟩
  | .local _ .vmem, ⟨9, _⟩ => ⟨S512x256, .bf16⟩
  | .local _ .vmem, ⟨10, _⟩ => ⟨S2x8192x256, .bf16⟩
  | .local _ .vmem, ⟨11, _⟩ => ⟨S2x8192x256, .bf16⟩
  | .local _ .vmem, ⟨12, _⟩ => ⟨S2x512x128, .f32⟩
  | .local _ .vmem, ⟨13, _⟩ => ⟨S2x512x256, .f32⟩
  | .local _ .vmem, ⟨14, _⟩ => ⟨S2x512x1024, .f32⟩
  | .local _ .vmem, ⟨15, _⟩ => ⟨S2x512x1024, .f32⟩
  | .local _ .vmem, ⟨16, _⟩ => ⟨S2x512x1024, .f32⟩
  | _, _ => ⟨S2x8192x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![12, 16], ![false, false]⟩

def k0_cond1 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_140 : BitVec 32 := 0#32
  let c16_i32 : BitVec 32 := 16#32
  let v290 : BitVec 32 := Scalar.addi c0_i32_140 c16_i32
  let c1_i32_141 : BitVec 32 := 1#32
  ⟨c0_i32_140, v290, c1_i32_141⟩
def k0_mult1 (k0_t1 : Fin k0_t1_loop.trips) : BitVec 32 :=
  let c0_i32_140 : BitVec 32 := 0#32
  let c1_i32_141 : BitVec 32 := 1#32
  let arg16 : BitVec 32 := Scf.iv c0_i32_140 c1_i32_141 k0_t1
  let c512_i32_143 : BitVec 32 := 512#32
  let v291 : BitVec 32 := Scalar.muli arg16 c512_i32_143
  v291
def k0_off1 (k0_t1 : Fin k0_t1_loop.trips) : Fin 2 → Nat :=
  let c0_i32_140 : BitVec 32 := 0#32
  let c1_i32_141 : BitVec 32 := 1#32
  let arg16 : BitVec 32 := Scf.iv c0_i32_140 c1_i32_141 k0_t1
  let c512_i32_143 : BitVec 32 := 512#32
  let v291 : BitVec 32 := Scalar.muli arg16 c512_i32_143
  let v292 : BitVec 32 := v291
  let v293 : Index := Scalar.indexCast v292
  let c0_144 : Index := 0#32
  ![v293.toNat, 0]
def k0_off2 (k0_t1 : Fin k0_t1_loop.trips) : Fin 2 → Nat :=
  let c0_i32_140 : BitVec 32 := 0#32
  let c1_i32_141 : BitVec 32 := 1#32
  let arg16 : BitVec 32 := Scf.iv c0_i32_140 c1_i32_141 k0_t1
  let c512_i32_143 : BitVec 32 := 512#32
  let v291 : BitVec 32 := Scalar.muli arg16 c512_i32_143
  let v292 : BitVec 32 := v291
  let v307 : Index := Scalar.indexCast v292
  let c0_147 : Index := 0#32
  ![v307.toNat, 0]
def k0_off3 (k0_t1 : Fin k0_t1_loop.trips) : Fin 3 → Nat :=
  let c0_148 : Index := 0#32
  let c0_i32_140 : BitVec 32 := 0#32
  let c1_i32_141 : BitVec 32 := 1#32
  let arg16 : BitVec 32 := Scf.iv c0_i32_140 c1_i32_141 k0_t1
  let c512_i32_143 : BitVec 32 := 512#32
  let v291 : BitVec 32 := Scalar.muli arg16 c512_i32_143
  let v292 : BitVec 32 := v291
  let v310 : Index := Scalar.indexCast v292
  let c0_149 : Index := 0#32
  ![0, v310.toNat, 0]
def k0_off4 (k0_t1 : Fin k0_t1_loop.trips) : Fin 3 → Nat :=
  let c0_150 : Index := 0#32
  let c0_i32_140 : BitVec 32 := 0#32
  let c1_i32_141 : BitVec 32 := 1#32
  let arg16 : BitVec 32 := Scf.iv c0_i32_140 c1_i32_141 k0_t1
  let c512_i32_143 : BitVec 32 := 512#32
  let v291 : BitVec 32 := Scalar.muli arg16 c512_i32_143
  let v292 : BitVec 32 := v291
  let v315 : Index := Scalar.indexCast v292
  let c128_151 : Index := 128#32
  ![0, v315.toNat, 128]
def k0_off5 (k0_t1 : Fin k0_t1_loop.trips) : Fin 2 → Nat :=
  let c0_i32_140 : BitVec 32 := 0#32
  let c1_i32_141 : BitVec 32 := 1#32
  let arg16 : BitVec 32 := Scf.iv c0_i32_140 c1_i32_141 k0_t1
  let c512_i32_143 : BitVec 32 := 512#32
  let v291 : BitVec 32 := Scalar.muli arg16 c512_i32_143
  let v292 : BitVec 32 := v291
  let v330 : Index := Scalar.indexCast v292
  let c128_157 : Index := 128#32
  ![v330.toNat, 128]
def k0_off6 (k0_t1 : Fin k0_t1_loop.trips) : Fin 3 → Nat :=
  let c1_158 : Index := 1#32
  let c0_i32_140 : BitVec 32 := 0#32
  let c1_i32_141 : BitVec 32 := 1#32
  let arg16 : BitVec 32 := Scf.iv c0_i32_140 c1_i32_141 k0_t1
  let c512_i32_143 : BitVec 32 := 512#32
  let v291 : BitVec 32 := Scalar.muli arg16 c512_i32_143
  let v292 : BitVec 32 := v291
  let v333 : Index := Scalar.indexCast v292
  let c0_159 : Index := 0#32
  ![1, v333.toNat, 0]
def k0_off7 (k0_t1 : Fin k0_t1_loop.trips) : Fin 3 → Nat :=
  let c1_160 : Index := 1#32
  let c0_i32_140 : BitVec 32 := 0#32
  let c1_i32_141 : BitVec 32 := 1#32
  let arg16 : BitVec 32 := Scf.iv c0_i32_140 c1_i32_141 k0_t1
  let c512_i32_143 : BitVec 32 := 512#32
  let v291 : BitVec 32 := Scalar.muli arg16 c512_i32_143
  let v292 : BitVec 32 := v291
  let v338 : Index := Scalar.indexCast v292
  let c128_161 : Index := 128#32
  ![1, v338.toNat, 128]
def k0_cond2 (i : grid0.Coords) : BitVec 1 :=
  let arg1 : BitVec 32 := BitVec.ofNat 32 (i 1).val
  let c2_i32 : BitVec 32 := 2#32
  let v46 : BitVec 1 := Scalar.cmpi .sle arg1 c2_i32
  let v47 : BitVec 32 := Scalar.extui v46
  let c0_i32_19 : BitVec 32 := 0#32
  let v48 : BitVec 1 := Scalar.cmpi .ne v47 c0_i32_19
  v48

def k0_mult2 : BitVec 32 :=
  let c0_i32_118 : BitVec 32 := 0#32
  c0_i32_118
def k0_cond3 (i : grid0.Coords) : BitVec 1 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c0_i32_20 : BitVec 32 := 0#32
  let v49 : BitVec 1 := Scalar.cmpi .eq v45 c0_i32_20
  let c2_i32_21 : BitVec 32 := 2#32
  let c0_i32_22 : BitVec 32 := 0#32
  let v50 : BitVec 1 := Scalar.cmpi .eq c2_i32_21 c0_i32_22
  let c1_i32_23 : BitVec 32 := 1#32
  let v51 : BitVec 32 := Scalar.select v50 c1_i32_23 c2_i32_21
  let v52 : BitVec 32 := Scalar.remsi arg1 v51
  let c0_i32_25 : BitVec 32 := 0#32
  let v54 : BitVec 1 := Scalar.cmpi .slt v52 c0_i32_25
  let c0_i32_26 : BitVec 32 := 0#32
  let v55 : BitVec 1 := Scalar.cmpi .slt v51 c0_i32_26
  let v56 : BitVec 1 := Scalar.xori v54 v55
  let c0_i32_24 : BitVec 32 := 0#32
  let v53 : BitVec 1 := Scalar.cmpi .ne v52 c0_i32_24
  let v57 : BitVec 1 := Scalar.andi v56 v53
  let v58 : BitVec 32 := Scalar.addi v52 v51
  let v59 : BitVec 32 := Scalar.select v57 v58 v52
  let c0_i32_27 : BitVec 32 := 0#32
  let v60 : BitVec 1 := Scalar.cmpi .eq v59 c0_i32_27
  let v61 : BitVec 1 := Scalar.andi v49 v60
  let v62 : BitVec 32 := Scalar.extui v61
  let c0_i32_28 : BitVec 32 := 0#32
  let v63 : BitVec 1 := Scalar.cmpi .ne v62 c0_i32_28
  v63

def k0_mult3 : BitVec 32 :=
  let c0_i32_118 : BitVec 32 := 0#32
  c0_i32_118
def k0_cond4 (i : grid0.Coords) : BitVec 1 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c0_i32_20 : BitVec 32 := 0#32
  let v49 : BitVec 1 := Scalar.cmpi .eq v45 c0_i32_20
  let c2_i32_29 : BitVec 32 := 2#32
  let c0_i32_30 : BitVec 32 := 0#32
  let v64 : BitVec 1 := Scalar.cmpi .eq c2_i32_29 c0_i32_30
  let c1_i32_31 : BitVec 32 := 1#32
  let v65 : BitVec 32 := Scalar.select v64 c1_i32_31 c2_i32_29
  let v66 : BitVec 32 := Scalar.remsi arg1 v65
  let c0_i32_33 : BitVec 32 := 0#32
  let v68 : BitVec 1 := Scalar.cmpi .slt v66 c0_i32_33
  let c0_i32_34 : BitVec 32 := 0#32
  let v69 : BitVec 1 := Scalar.cmpi .slt v65 c0_i32_34
  let v70 : BitVec 1 := Scalar.xori v68 v69
  let c0_i32_32 : BitVec 32 := 0#32
  let v67 : BitVec 1 := Scalar.cmpi .ne v66 c0_i32_32
  let v71 : BitVec 1 := Scalar.andi v70 v67
  let v72 : BitVec 32 := Scalar.addi v66 v65
  let v73 : BitVec 32 := Scalar.select v71 v72 v66
  let c1_i32_35 : BitVec 32 := 1#32
  let v74 : BitVec 1 := Scalar.cmpi .eq v73 c1_i32_35
  let v75 : BitVec 1 := Scalar.andi v49 v74
  let v76 : BitVec 32 := Scalar.extui v75
  let c0_i32_36 : BitVec 32 := 0#32
  let v77 : BitVec 1 := Scalar.cmpi .ne v76 c0_i32_36
  v77

def k0_mult4 : BitVec 32 :=
  let c0_i32_118 : BitVec 32 := 0#32
  c0_i32_118
def k0_cond5 (i : grid0.Coords) : BitVec 1 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_37 : BitVec 32 := 1#32
  let v78 : BitVec 1 := Scalar.cmpi .sge v45 c1_i32_37
  let v79 : BitVec 32 := Scalar.extui v78
  let c0_i32_38 : BitVec 32 := 0#32
  let v80 : BitVec 1 := Scalar.cmpi .ne v79 c0_i32_38
  v80

def k0_mult5 : BitVec 32 :=
  let c1024_i32_118 : BitVec 32 := 1024#32
  c1024_i32_118
def k0_mult6 : BitVec 32 :=
  let c0_i32_135 : BitVec 32 := 0#32
  c0_i32_135
@[reducible] def k0_t2_loop (i : grid0.Coords) : Scf.Loop 32 :=
  let c0_i32_48 : BitVec 32 := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_39 : BitVec 32 := 1#32
  let v81 : BitVec 32 := Scalar.subi v45 c1_i32_39
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let v99 : BitVec 32 := Scalar.subi v98 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_50 : BitVec 32 := 1#32
  ⟨c0_i32_48, v103, c1_i32_50⟩
def k0_mult7 (i : grid0.Coords) (k0_t2 : Fin (k0_t2_loop i).trips) : BitVec 32 :=
  let c2_i32_118 : BitVec 32 := 2#32
  let c0_i32_48 : BitVec 32 := 0#32
  let c1_i32_50 : BitVec 32 := 1#32
  let arg16 : BitVec 32 := Scf.iv c0_i32_48 c1_i32_50 k0_t2
  let v228 : BitVec 32 := Scalar.muli c2_i32_118 arg16
  let c2_i32_119 : BitVec 32 := 2#32
  let v229 : BitVec 32 := Scalar.addi v228 c2_i32_119
  let c1024_i32_120 : BitVec 32 := 1024#32
  let v230 : BitVec 32 := Scalar.muli v229 c1024_i32_120
  v230
def k0_off8 (i : grid0.Coords) (k0_t2 : Fin (k0_t2_loop i).trips) (c2_i32_119 : BitVec 32) : Fin 3 → Nat :=
  let c0_123 : Index := 0#32
  let c2_i32_118 : BitVec 32 := 2#32
  let c0_i32_48 : BitVec 32 := 0#32
  let c1_i32_50 : BitVec 32 := 1#32
  let arg16 : BitVec 32 := Scf.iv c0_i32_48 c1_i32_50 k0_t2
  let v228 : BitVec 32 := Scalar.muli c2_i32_118 arg16
  let v229 : BitVec 32 := Scalar.addi v228 c2_i32_119
  let c1024_i32_120 : BitVec 32 := 1024#32
  let v230 : BitVec 32 := Scalar.muli v229 c1024_i32_120
  let v231 : BitVec 32 := v230
  let v235 : Index := Scalar.indexCast v231
  let c0_124 : Index := 0#32
  ![0, v235.toNat, 0]
def k0_off9 (i : grid0.Coords) (k0_t2 : Fin (k0_t2_loop i).trips) (c2_i32_119 : BitVec 32) : Fin 3 → Nat :=
  let c1_131 : Index := 1#32
  let c2_i32_118 : BitVec 32 := 2#32
  let c0_i32_48 : BitVec 32 := 0#32
  let c1_i32_50 : BitVec 32 := 1#32
  let arg16 : BitVec 32 := Scf.iv c0_i32_48 c1_i32_50 k0_t2
  let v228 : BitVec 32 := Scalar.muli c2_i32_118 arg16
  let v229 : BitVec 32 := Scalar.addi v228 c2_i32_119
  let c1024_i32_120 : BitVec 32 := 1024#32
  let v230 : BitVec 32 := Scalar.muli v229 c1024_i32_120
  let v231 : BitVec 32 := v230
  let v245 : Index := Scalar.indexCast v231
  let c0_132 : Index := 0#32
  ![1, v245.toNat, 0]
def k0_mult8 (i : grid0.Coords) (k0_t2 : Fin (k0_t2_loop i).trips) : BitVec 32 :=
  let c2_i32_137 : BitVec 32 := 2#32
  let c0_i32_48 : BitVec 32 := 0#32
  let c1_i32_50 : BitVec 32 := 1#32
  let arg16 : BitVec 32 := Scf.iv c0_i32_48 c1_i32_50 k0_t2
  let v252 : BitVec 32 := Scalar.muli c2_i32_137 arg16
  let c1_i32_138 : BitVec 32 := 1#32
  let v253 : BitVec 32 := Scalar.addi v252 c1_i32_138
  let c1024_i32_139 : BitVec 32 := 1024#32
  let v254 : BitVec 32 := Scalar.muli v253 c1024_i32_139
  v254
def k0_mult9 (i : grid0.Coords) (k0_t2 : Fin (k0_t2_loop i).trips) : BitVec 32 :=
  let c2_i32_178 : BitVec 32 := 2#32
  let c0_i32_48 : BitVec 32 := 0#32
  let c1_i32_50 : BitVec 32 := 1#32
  let arg16 : BitVec 32 := Scf.iv c0_i32_48 c1_i32_50 k0_t2
  let v358 : BitVec 32 := Scalar.muli c2_i32_178 arg16
  let c3_i32_179 : BitVec 32 := 3#32
  let v359 : BitVec 32 := Scalar.addi v358 c3_i32_179
  let c1024_i32_180 : BitVec 32 := 1024#32
  let v360 : BitVec 32 := Scalar.muli v359 c1024_i32_180
  v360
def k0_mult10 (i : grid0.Coords) (k0_t2 : Fin (k0_t2_loop i).trips) : BitVec 32 :=
  let c2_i32_197 : BitVec 32 := 2#32
  let c0_i32_48 : BitVec 32 := 0#32
  let c1_i32_50 : BitVec 32 := 1#32
  let arg16 : BitVec 32 := Scf.iv c0_i32_48 c1_i32_50 k0_t2
  let v382 : BitVec 32 := Scalar.muli c2_i32_197 arg16
  let c2_i32_198 : BitVec 32 := 2#32
  let v383 : BitVec 32 := Scalar.addi v382 c2_i32_198
  let c1024_i32_199 : BitVec 32 := 1024#32
  let v384 : BitVec 32 := Scalar.muli v383 c1024_i32_199
  v384
@[reducible] def k0_t3_loop (i : grid0.Coords) : Scf.Loop 32 :=
  let c0_i32_48 : BitVec 32 := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_39 : BitVec 32 := 1#32
  let v81 : BitVec 32 := Scalar.subi v45 c1_i32_39
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let v99 : BitVec 32 := Scalar.subi v98 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let v100 : BitVec 32 := Scalar.addi c0_i32_48 v99
  let c1_i32_51 : BitVec 32 := 1#32
  ⟨v103, v100, c1_i32_51⟩
def k0_mult11 (i : grid0.Coords) (k0_t3 : Fin (k0_t3_loop i).trips) : BitVec 32 :=
  let c2_i32_118 : BitVec 32 := 2#32
  let c0_i32_48 : BitVec 32 := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_39 : BitVec 32 := 1#32
  let v81 : BitVec 32 := Scalar.subi v45 c1_i32_39
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let v99 : BitVec 32 := Scalar.subi v98 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg16 : BitVec 32 := Scf.iv v103 c1_i32_51 k0_t3
  let v228 : BitVec 32 := Scalar.muli c2_i32_118 arg16
  let c2_i32_119 : BitVec 32 := 2#32
  let v229 : BitVec 32 := Scalar.addi v228 c2_i32_119
  let c1024_i32_120 : BitVec 32 := 1024#32
  let v230 : BitVec 32 := Scalar.muli v229 c1024_i32_120
  v230
def k0_off10 (i : grid0.Coords) (k0_t3 : Fin (k0_t3_loop i).trips) (c2_i32_119 : BitVec 32) : Fin 3 → Nat :=
  let c0_123 : Index := 0#32
  let c2_i32_118 : BitVec 32 := 2#32
  let c0_i32_48 : BitVec 32 := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_39 : BitVec 32 := 1#32
  let v81 : BitVec 32 := Scalar.subi v45 c1_i32_39
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let v99 : BitVec 32 := Scalar.subi v98 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg16 : BitVec 32 := Scf.iv v103 c1_i32_51 k0_t3
  let v228 : BitVec 32 := Scalar.muli c2_i32_118 arg16
  let v229 : BitVec 32 := Scalar.addi v228 c2_i32_119
  let c1024_i32_120 : BitVec 32 := 1024#32
  let v230 : BitVec 32 := Scalar.muli v229 c1024_i32_120
  let v231 : BitVec 32 := v230
  let v235 : Index := Scalar.indexCast v231
  let c0_124 : Index := 0#32
  ![0, v235.toNat, 0]
def k0_off11 (i : grid0.Coords) (k0_t3 : Fin (k0_t3_loop i).trips) (c2_i32_119 : BitVec 32) : Fin 3 → Nat :=
  let c1_131 : Index := 1#32
  let c2_i32_118 : BitVec 32 := 2#32
  let c0_i32_48 : BitVec 32 := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_39 : BitVec 32 := 1#32
  let v81 : BitVec 32 := Scalar.subi v45 c1_i32_39
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let v99 : BitVec 32 := Scalar.subi v98 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg16 : BitVec 32 := Scf.iv v103 c1_i32_51 k0_t3
  let v228 : BitVec 32 := Scalar.muli c2_i32_118 arg16
  let v229 : BitVec 32 := Scalar.addi v228 c2_i32_119
  let c1024_i32_120 : BitVec 32 := 1024#32
  let v230 : BitVec 32 := Scalar.muli v229 c1024_i32_120
  let v231 : BitVec 32 := v230
  let v245 : Index := Scalar.indexCast v231
  let c0_132 : Index := 0#32
  ![1, v245.toNat, 0]
def k0_mult12 (i : grid0.Coords) (k0_t3 : Fin (k0_t3_loop i).trips) : BitVec 32 :=
  let c2_i32_137 : BitVec 32 := 2#32
  let c0_i32_48 : BitVec 32 := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_39 : BitVec 32 := 1#32
  let v81 : BitVec 32 := Scalar.subi v45 c1_i32_39
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let v99 : BitVec 32 := Scalar.subi v98 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg16 : BitVec 32 := Scf.iv v103 c1_i32_51 k0_t3
  let v252 : BitVec 32 := Scalar.muli c2_i32_137 arg16
  let c1_i32_138 : BitVec 32 := 1#32
  let v253 : BitVec 32 := Scalar.addi v252 c1_i32_138
  let c1024_i32_139 : BitVec 32 := 1024#32
  let v254 : BitVec 32 := Scalar.muli v253 c1024_i32_139
  v254
def k0_mult13 (i : grid0.Coords) (k0_t3 : Fin (k0_t3_loop i).trips) : BitVec 32 :=
  let c2_i32_178 : BitVec 32 := 2#32
  let c0_i32_48 : BitVec 32 := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_39 : BitVec 32 := 1#32
  let v81 : BitVec 32 := Scalar.subi v45 c1_i32_39
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let v99 : BitVec 32 := Scalar.subi v98 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg16 : BitVec 32 := Scf.iv v103 c1_i32_51 k0_t3
  let v358 : BitVec 32 := Scalar.muli c2_i32_178 arg16
  let c3_i32_179 : BitVec 32 := 3#32
  let v359 : BitVec 32 := Scalar.addi v358 c3_i32_179
  let c1024_i32_180 : BitVec 32 := 1024#32
  let v360 : BitVec 32 := Scalar.muli v359 c1024_i32_180
  v360
def k0_mult14 (i : grid0.Coords) (k0_t3 : Fin (k0_t3_loop i).trips) : BitVec 32 :=
  let c2_i32_197 : BitVec 32 := 2#32
  let c0_i32_48 : BitVec 32 := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_39 : BitVec 32 := 1#32
  let v81 : BitVec 32 := Scalar.subi v45 c1_i32_39
  let c0_i32_41 : BitVec 32 := 0#32
  let v83 : BitVec 1 := Scalar.cmpi .sgt v81 c0_i32_41
  let v84 : BitVec 32 := Scalar.extui v83
  let c0_i32_42 : BitVec 32 := 0#32
  let v85 : BitVec 1 := Scalar.cmpi .slt v81 c0_i32_42
  let v86 : BitVec 32 := Scalar.extui v85
  let v87 : BitVec 32 := Scalar.subi v84 v86
  let c2_i32_40 : BitVec 32 := 2#32
  let c0_i32_43 : BitVec 32 := 0#32
  let v88 : BitVec 1 := Scalar.cmpi .sgt c2_i32_40 c0_i32_43
  let v89 : BitVec 32 := Scalar.extui v88
  let c0_i32_44 : BitVec 32 := 0#32
  let v90 : BitVec 1 := Scalar.cmpi .slt c2_i32_40 c0_i32_44
  let v91 : BitVec 32 := Scalar.extui v90
  let v92 : BitVec 32 := Scalar.subi v89 v91
  let v93 : BitVec 1 := Scalar.cmpi .ne v87 v92
  let v94 : BitVec 32 := Scalar.remsi v81 c2_i32_40
  let c0_i32_45 : BitVec 32 := 0#32
  let v95 : BitVec 1 := Scalar.cmpi .ne v94 c0_i32_45
  let v96 : BitVec 1 := Scalar.andi v93 v95
  let v82 : BitVec 32 := Scalar.divsi v81 c2_i32_40
  let c1_i32_46 : BitVec 32 := 1#32
  let v97 : BitVec 32 := Scalar.subi v82 c1_i32_46
  let v98 : BitVec 32 := Scalar.select v96 v97 v82
  let v99 : BitVec 32 := Scalar.subi v98 c0_i32_48
  let c1_i32_49 : BitVec 32 := 1#32
  let v101 : BitVec 32 := Scalar.divsi v99 c1_i32_49
  let v102 : BitVec 32 := Scalar.muli v101 c1_i32_49
  let v103 : BitVec 32 := Scalar.addi c0_i32_48 v102
  let c1_i32_51 : BitVec 32 := 1#32
  let arg16 : BitVec 32 := Scf.iv v103 c1_i32_51 k0_t3
  let v382 : BitVec 32 := Scalar.muli c2_i32_197 arg16
  let c2_i32_198 : BitVec 32 := 2#32
  let v383 : BitVec 32 := Scalar.addi v382 c2_i32_198
  let c1024_i32_199 : BitVec 32 := 1024#32
  let v384 : BitVec 32 := Scalar.muli v383 c1024_i32_199
  v384
def k0_cond6 (i : grid0.Coords) : BitVec 1 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_52 : BitVec 32 := 1#32
  let v104 : BitVec 1 := Scalar.cmpi .sge v45 c1_i32_52
  let c2_i32_53 : BitVec 32 := 2#32
  let c0_i32_54 : BitVec 32 := 0#32
  let v105 : BitVec 1 := Scalar.cmpi .eq c2_i32_53 c0_i32_54
  let c1_i32_55 : BitVec 32 := 1#32
  let v106 : BitVec 32 := Scalar.select v105 c1_i32_55 c2_i32_53
  let v107 : BitVec 32 := Scalar.remsi v45 v106
  let c0_i32_57 : BitVec 32 := 0#32
  let v109 : BitVec 1 := Scalar.cmpi .slt v107 c0_i32_57
  let c0_i32_58 : BitVec 32 := 0#32
  let v110 : BitVec 1 := Scalar.cmpi .slt v106 c0_i32_58
  let v111 : BitVec 1 := Scalar.xori v109 v110
  let c0_i32_56 : BitVec 32 := 0#32
  let v108 : BitVec 1 := Scalar.cmpi .ne v107 c0_i32_56
  let v112 : BitVec 1 := Scalar.andi v111 v108
  let v113 : BitVec 32 := Scalar.addi v107 v106
  let v114 : BitVec 32 := Scalar.select v112 v113 v107
  let c1_i32_59 : BitVec 32 := 1#32
  let v115 : BitVec 1 := Scalar.cmpi .eq v114 c1_i32_59
  let v116 : BitVec 1 := Scalar.andi v104 v115
  let c2_i32_60 : BitVec 32 := 2#32
  let c0_i32_61 : BitVec 32 := 0#32
  let v117 : BitVec 1 := Scalar.cmpi .eq c2_i32_60 c0_i32_61
  let c1_i32_62 : BitVec 32 := 1#32
  let v118 : BitVec 32 := Scalar.select v117 c1_i32_62 c2_i32_60
  let v119 : BitVec 32 := Scalar.remsi arg1 v118
  let c0_i32_64 : BitVec 32 := 0#32
  let v121 : BitVec 1 := Scalar.cmpi .slt v119 c0_i32_64
  let c0_i32_65 : BitVec 32 := 0#32
  let v122 : BitVec 1 := Scalar.cmpi .slt v118 c0_i32_65
  let v123 : BitVec 1 := Scalar.xori v121 v122
  let c0_i32_63 : BitVec 32 := 0#32
  let v120 : BitVec 1 := Scalar.cmpi .ne v119 c0_i32_63
  let v124 : BitVec 1 := Scalar.andi v123 v120
  let v125 : BitVec 32 := Scalar.addi v119 v118
  let v126 : BitVec 32 := Scalar.select v124 v125 v119
  let c0_i32_66 : BitVec 32 := 0#32
  let v127 : BitVec 1 := Scalar.cmpi .eq v126 c0_i32_66
  let v128 : BitVec 1 := Scalar.andi v116 v127
  let v129 : BitVec 32 := Scalar.extui v128
  let c0_i32_67 : BitVec 32 := 0#32
  let v130 : BitVec 1 := Scalar.cmpi .ne v129 c0_i32_67
  v130

def k0_mult15 : BitVec 32 :=
  let c0_i32_118 : BitVec 32 := 0#32
  c0_i32_118
def k0_mult16 (i : grid0.Coords) : BitVec 32 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_135 : BitVec 32 := 1024#32
  let v249 : BitVec 32 := Scalar.muli v45 c1024_i32_135
  v249
def k0_off12 (i : grid0.Coords) : Fin 3 → Nat :=
  let c0_146 : Index := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_135 : BitVec 32 := 1024#32
  let v249 : BitVec 32 := Scalar.muli v45 c1024_i32_135
  let v250 : BitVec 32 := v249
  let v286 : Index := Scalar.indexCast v250
  let c0_147 : Index := 0#32
  ![0, v286.toNat, 0]
def k0_off13 (i : grid0.Coords) : Fin 3 → Nat :=
  let c1_168 : Index := 1#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_135 : BitVec 32 := 1024#32
  let v249 : BitVec 32 := Scalar.muli v45 c1024_i32_135
  let v250 : BitVec 32 := v249
  let v336 : Index := Scalar.indexCast v250
  let c0_169 : Index := 0#32
  ![1, v336.toNat, 0]
def k0_cond7 (i : grid0.Coords) : BitVec 1 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_52 : BitVec 32 := 1#32
  let v104 : BitVec 1 := Scalar.cmpi .sge v45 c1_i32_52
  let c2_i32_53 : BitVec 32 := 2#32
  let c0_i32_54 : BitVec 32 := 0#32
  let v105 : BitVec 1 := Scalar.cmpi .eq c2_i32_53 c0_i32_54
  let c1_i32_55 : BitVec 32 := 1#32
  let v106 : BitVec 32 := Scalar.select v105 c1_i32_55 c2_i32_53
  let v107 : BitVec 32 := Scalar.remsi v45 v106
  let c0_i32_57 : BitVec 32 := 0#32
  let v109 : BitVec 1 := Scalar.cmpi .slt v107 c0_i32_57
  let c0_i32_58 : BitVec 32 := 0#32
  let v110 : BitVec 1 := Scalar.cmpi .slt v106 c0_i32_58
  let v111 : BitVec 1 := Scalar.xori v109 v110
  let c0_i32_56 : BitVec 32 := 0#32
  let v108 : BitVec 1 := Scalar.cmpi .ne v107 c0_i32_56
  let v112 : BitVec 1 := Scalar.andi v111 v108
  let v113 : BitVec 32 := Scalar.addi v107 v106
  let v114 : BitVec 32 := Scalar.select v112 v113 v107
  let c1_i32_59 : BitVec 32 := 1#32
  let v115 : BitVec 1 := Scalar.cmpi .eq v114 c1_i32_59
  let v116 : BitVec 1 := Scalar.andi v104 v115
  let c2_i32_68 : BitVec 32 := 2#32
  let c0_i32_69 : BitVec 32 := 0#32
  let v131 : BitVec 1 := Scalar.cmpi .eq c2_i32_68 c0_i32_69
  let c1_i32_70 : BitVec 32 := 1#32
  let v132 : BitVec 32 := Scalar.select v131 c1_i32_70 c2_i32_68
  let v133 : BitVec 32 := Scalar.remsi arg1 v132
  let c0_i32_72 : BitVec 32 := 0#32
  let v135 : BitVec 1 := Scalar.cmpi .slt v133 c0_i32_72
  let c0_i32_73 : BitVec 32 := 0#32
  let v136 : BitVec 1 := Scalar.cmpi .slt v132 c0_i32_73
  let v137 : BitVec 1 := Scalar.xori v135 v136
  let c0_i32_71 : BitVec 32 := 0#32
  let v134 : BitVec 1 := Scalar.cmpi .ne v133 c0_i32_71
  let v138 : BitVec 1 := Scalar.andi v137 v134
  let v139 : BitVec 32 := Scalar.addi v133 v132
  let v140 : BitVec 32 := Scalar.select v138 v139 v133
  let c1_i32_74 : BitVec 32 := 1#32
  let v141 : BitVec 1 := Scalar.cmpi .eq v140 c1_i32_74
  let v142 : BitVec 1 := Scalar.andi v116 v141
  let v143 : BitVec 32 := Scalar.extui v142
  let c0_i32_75 : BitVec 32 := 0#32
  let v144 : BitVec 1 := Scalar.cmpi .ne v143 c0_i32_75
  v144

def k0_mult17 : BitVec 32 :=
  let c0_i32_118 : BitVec 32 := 0#32
  c0_i32_118
def k0_mult18 (i : grid0.Coords) : BitVec 32 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_135 : BitVec 32 := 1024#32
  let v249 : BitVec 32 := Scalar.muli v45 c1024_i32_135
  v249
def k0_off14 (i : grid0.Coords) : Fin 3 → Nat :=
  let c0_146 : Index := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_135 : BitVec 32 := 1024#32
  let v249 : BitVec 32 := Scalar.muli v45 c1024_i32_135
  let v250 : BitVec 32 := v249
  let v298 : Index := Scalar.indexCast v250
  let c0_147 : Index := 0#32
  ![0, v298.toNat, 0]
def k0_off15 (i : grid0.Coords) : Fin 3 → Nat :=
  let c1_168 : Index := 1#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_135 : BitVec 32 := 1024#32
  let v249 : BitVec 32 := Scalar.muli v45 c1024_i32_135
  let v250 : BitVec 32 := v249
  let v360 : Index := Scalar.indexCast v250
  let c0_169 : Index := 0#32
  ![1, v360.toNat, 0]
def k0_cond8 (i : grid0.Coords) : BitVec 1 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_76 : BitVec 32 := 1#32
  let v145 : BitVec 1 := Scalar.cmpi .sge v45 c1_i32_76
  let c2_i32_77 : BitVec 32 := 2#32
  let c0_i32_78 : BitVec 32 := 0#32
  let v146 : BitVec 1 := Scalar.cmpi .eq c2_i32_77 c0_i32_78
  let c1_i32_79 : BitVec 32 := 1#32
  let v147 : BitVec 32 := Scalar.select v146 c1_i32_79 c2_i32_77
  let v148 : BitVec 32 := Scalar.remsi v45 v147
  let c0_i32_81 : BitVec 32 := 0#32
  let v150 : BitVec 1 := Scalar.cmpi .slt v148 c0_i32_81
  let c0_i32_82 : BitVec 32 := 0#32
  let v151 : BitVec 1 := Scalar.cmpi .slt v147 c0_i32_82
  let v152 : BitVec 1 := Scalar.xori v150 v151
  let c0_i32_80 : BitVec 32 := 0#32
  let v149 : BitVec 1 := Scalar.cmpi .ne v148 c0_i32_80
  let v153 : BitVec 1 := Scalar.andi v152 v149
  let v154 : BitVec 32 := Scalar.addi v148 v147
  let v155 : BitVec 32 := Scalar.select v153 v154 v148
  let c0_i32_83 : BitVec 32 := 0#32
  let v156 : BitVec 1 := Scalar.cmpi .eq v155 c0_i32_83
  let v157 : BitVec 1 := Scalar.andi v145 v156
  let c2_i32_84 : BitVec 32 := 2#32
  let c0_i32_85 : BitVec 32 := 0#32
  let v158 : BitVec 1 := Scalar.cmpi .eq c2_i32_84 c0_i32_85
  let c1_i32_86 : BitVec 32 := 1#32
  let v159 : BitVec 32 := Scalar.select v158 c1_i32_86 c2_i32_84
  let v160 : BitVec 32 := Scalar.remsi arg1 v159
  let c0_i32_88 : BitVec 32 := 0#32
  let v162 : BitVec 1 := Scalar.cmpi .slt v160 c0_i32_88
  let c0_i32_89 : BitVec 32 := 0#32
  let v163 : BitVec 1 := Scalar.cmpi .slt v159 c0_i32_89
  let v164 : BitVec 1 := Scalar.xori v162 v163
  let c0_i32_87 : BitVec 32 := 0#32
  let v161 : BitVec 1 := Scalar.cmpi .ne v160 c0_i32_87
  let v165 : BitVec 1 := Scalar.andi v164 v161
  let v166 : BitVec 32 := Scalar.addi v160 v159
  let v167 : BitVec 32 := Scalar.select v165 v166 v160
  let c0_i32_90 : BitVec 32 := 0#32
  let v168 : BitVec 1 := Scalar.cmpi .eq v167 c0_i32_90
  let v169 : BitVec 1 := Scalar.andi v157 v168
  let v170 : BitVec 32 := Scalar.extui v169
  let c0_i32_91 : BitVec 32 := 0#32
  let v171 : BitVec 1 := Scalar.cmpi .ne v170 c0_i32_91
  v171

def k0_mult19 (i : grid0.Coords) : BitVec 32 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_118 : BitVec 32 := 1024#32
  let v228 : BitVec 32 := Scalar.muli v45 c1024_i32_118
  v228
def k0_off16 (i : grid0.Coords) : Fin 3 → Nat :=
  let c0_121 : Index := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_118 : BitVec 32 := 1024#32
  let v228 : BitVec 32 := Scalar.muli v45 c1024_i32_118
  let v229 : BitVec 32 := v228
  let v233 : Index := Scalar.indexCast v229
  let c0_122 : Index := 0#32
  ![0, v233.toNat, 0]
def k0_off17 (i : grid0.Coords) : Fin 3 → Nat :=
  let c1_129 : Index := 1#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_118 : BitVec 32 := 1024#32
  let v228 : BitVec 32 := Scalar.muli v45 c1024_i32_118
  let v229 : BitVec 32 := v228
  let v243 : Index := Scalar.indexCast v229
  let c0_130 : Index := 0#32
  ![1, v243.toNat, 0]
def k0_mult20 (i : grid0.Coords) : BitVec 32 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_135 : BitVec 32 := 1#32
  let v250 : BitVec 32 := Scalar.subi v45 c1_i32_135
  let c1024_i32_136 : BitVec 32 := 1024#32
  let v251 : BitVec 32 := Scalar.muli v250 c1024_i32_136
  v251
def k0_off18 (i : grid0.Coords) : Fin 3 → Nat :=
  let c0_144 : Index := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_135 : BitVec 32 := 1#32
  let v250 : BitVec 32 := Scalar.subi v45 c1_i32_135
  let c1024_i32_136 : BitVec 32 := 1024#32
  let v251 : BitVec 32 := Scalar.muli v250 c1024_i32_136
  let v252 : BitVec 32 := v251
  let v289 : Index := Scalar.indexCast v252
  let c0_145 : Index := 0#32
  ![0, v289.toNat, 0]
def k0_off19 (i : grid0.Coords) : Fin 3 → Nat :=
  let c1_163 : Index := 1#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_135 : BitVec 32 := 1#32
  let v250 : BitVec 32 := Scalar.subi v45 c1_i32_135
  let c1024_i32_136 : BitVec 32 := 1024#32
  let v251 : BitVec 32 := Scalar.muli v250 c1024_i32_136
  let v252 : BitVec 32 := v251
  let v340 : Index := Scalar.indexCast v252
  let c0_164 : Index := 0#32
  ![1, v340.toNat, 0]
def k0_mult21 : BitVec 32 :=
  let c0_i32_175 : BitVec 32 := 0#32
  c0_i32_175
def k0_mult22 (i : grid0.Coords) : BitVec 32 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_192 : BitVec 32 := 1024#32
  let v376 : BitVec 32 := Scalar.muli v45 c1024_i32_192
  v376
def k0_cond9 (i : grid0.Coords) : BitVec 1 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_76 : BitVec 32 := 1#32
  let v145 : BitVec 1 := Scalar.cmpi .sge v45 c1_i32_76
  let c2_i32_77 : BitVec 32 := 2#32
  let c0_i32_78 : BitVec 32 := 0#32
  let v146 : BitVec 1 := Scalar.cmpi .eq c2_i32_77 c0_i32_78
  let c1_i32_79 : BitVec 32 := 1#32
  let v147 : BitVec 32 := Scalar.select v146 c1_i32_79 c2_i32_77
  let v148 : BitVec 32 := Scalar.remsi v45 v147
  let c0_i32_81 : BitVec 32 := 0#32
  let v150 : BitVec 1 := Scalar.cmpi .slt v148 c0_i32_81
  let c0_i32_82 : BitVec 32 := 0#32
  let v151 : BitVec 1 := Scalar.cmpi .slt v147 c0_i32_82
  let v152 : BitVec 1 := Scalar.xori v150 v151
  let c0_i32_80 : BitVec 32 := 0#32
  let v149 : BitVec 1 := Scalar.cmpi .ne v148 c0_i32_80
  let v153 : BitVec 1 := Scalar.andi v152 v149
  let v154 : BitVec 32 := Scalar.addi v148 v147
  let v155 : BitVec 32 := Scalar.select v153 v154 v148
  let c0_i32_83 : BitVec 32 := 0#32
  let v156 : BitVec 1 := Scalar.cmpi .eq v155 c0_i32_83
  let v157 : BitVec 1 := Scalar.andi v145 v156
  let c2_i32_92 : BitVec 32 := 2#32
  let c0_i32_93 : BitVec 32 := 0#32
  let v172 : BitVec 1 := Scalar.cmpi .eq c2_i32_92 c0_i32_93
  let c1_i32_94 : BitVec 32 := 1#32
  let v173 : BitVec 32 := Scalar.select v172 c1_i32_94 c2_i32_92
  let v174 : BitVec 32 := Scalar.remsi arg1 v173
  let c0_i32_96 : BitVec 32 := 0#32
  let v176 : BitVec 1 := Scalar.cmpi .slt v174 c0_i32_96
  let c0_i32_97 : BitVec 32 := 0#32
  let v177 : BitVec 1 := Scalar.cmpi .slt v173 c0_i32_97
  let v178 : BitVec 1 := Scalar.xori v176 v177
  let c0_i32_95 : BitVec 32 := 0#32
  let v175 : BitVec 1 := Scalar.cmpi .ne v174 c0_i32_95
  let v179 : BitVec 1 := Scalar.andi v178 v175
  let v180 : BitVec 32 := Scalar.addi v174 v173
  let v181 : BitVec 32 := Scalar.select v179 v180 v174
  let c1_i32_98 : BitVec 32 := 1#32
  let v182 : BitVec 1 := Scalar.cmpi .eq v181 c1_i32_98
  let v183 : BitVec 1 := Scalar.andi v157 v182
  let v184 : BitVec 32 := Scalar.extui v183
  let c0_i32_99 : BitVec 32 := 0#32
  let v185 : BitVec 1 := Scalar.cmpi .ne v184 c0_i32_99
  v185

def k0_mult23 (i : grid0.Coords) : BitVec 32 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_118 : BitVec 32 := 1024#32
  let v228 : BitVec 32 := Scalar.muli v45 c1024_i32_118
  v228
def k0_off20 (i : grid0.Coords) : Fin 3 → Nat :=
  let c0_121 : Index := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_118 : BitVec 32 := 1024#32
  let v228 : BitVec 32 := Scalar.muli v45 c1024_i32_118
  let v229 : BitVec 32 := v228
  let v233 : Index := Scalar.indexCast v229
  let c0_122 : Index := 0#32
  ![0, v233.toNat, 0]
def k0_off21 (i : grid0.Coords) : Fin 3 → Nat :=
  let c1_129 : Index := 1#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_118 : BitVec 32 := 1024#32
  let v228 : BitVec 32 := Scalar.muli v45 c1024_i32_118
  let v229 : BitVec 32 := v228
  let v243 : Index := Scalar.indexCast v229
  let c0_130 : Index := 0#32
  ![1, v243.toNat, 0]
def k0_mult24 (i : grid0.Coords) : BitVec 32 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_135 : BitVec 32 := 1#32
  let v250 : BitVec 32 := Scalar.subi v45 c1_i32_135
  let c1024_i32_136 : BitVec 32 := 1024#32
  let v251 : BitVec 32 := Scalar.muli v250 c1024_i32_136
  v251
def k0_off22 (i : grid0.Coords) : Fin 3 → Nat :=
  let c0_144 : Index := 0#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_135 : BitVec 32 := 1#32
  let v250 : BitVec 32 := Scalar.subi v45 c1_i32_135
  let c1024_i32_136 : BitVec 32 := 1024#32
  let v251 : BitVec 32 := Scalar.muli v250 c1024_i32_136
  let v252 : BitVec 32 := v251
  let v289 : Index := Scalar.indexCast v252
  let c0_145 : Index := 0#32
  ![0, v289.toNat, 0]
def k0_off23 (i : grid0.Coords) : Fin 3 → Nat :=
  let c1_163 : Index := 1#32
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1_i32_135 : BitVec 32 := 1#32
  let v250 : BitVec 32 := Scalar.subi v45 c1_i32_135
  let c1024_i32_136 : BitVec 32 := 1024#32
  let v251 : BitVec 32 := Scalar.muli v250 c1024_i32_136
  let v252 : BitVec 32 := v251
  let v340 : Index := Scalar.indexCast v252
  let c0_164 : Index := 0#32
  ![1, v340.toNat, 0]
def k0_mult25 : BitVec 32 :=
  let c0_i32_175 : BitVec 32 := 0#32
  c0_i32_175
def k0_mult26 (i : grid0.Coords) : BitVec 32 :=
  let arg1 : BitVec 32 := BitVec.ofNat 32 (i 1).val
  let c512_i32 : BitVec 32 := 512#32
  let v28 : BitVec 32 := Scalar.muli arg1 c512_i32
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c1024_i32 : BitVec 32 := 1024#32
  let c0_i32_15 : BitVec 32 := 0#32
  let v35 : BitVec 1 := Scalar.cmpi .sgt c1024_i32 c0_i32_15
  let v36 : BitVec 32 := Scalar.extui v35
  let c0_i32_16 : BitVec 32 := 0#32
  let v37 : BitVec 1 := Scalar.cmpi .slt c1024_i32 c0_i32_16
  let v38 : BitVec 32 := Scalar.extui v37
  let v39 : BitVec 32 := Scalar.subi v36 v38
  let v40 : BitVec 1 := Scalar.cmpi .ne v34 v39
  let v41 : BitVec 32 := Scalar.remsi v28 c1024_i32
  let c0_i32_17 : BitVec 32 := 0#32
  let v42 : BitVec 1 := Scalar.cmpi .ne v41 c0_i32_17
  let v43 : BitVec 1 := Scalar.andi v40 v42
  let v29 : BitVec 32 := Scalar.divsi v28 c1024_i32
  let c1_i32_18 : BitVec 32 := 1#32
  let v44 : BitVec 32 := Scalar.subi v29 c1_i32_18
  let v45 : BitVec 32 := Scalar.select v43 v44 v29
  let c1024_i32_192 : BitVec 32 := 1024#32
  let v376 : BitVec 32 := Scalar.muli v45 c1024_i32_192
  v376
def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : BitVec 32 := Scalar.addi v17 arg1
  let c6_i32_4 : BitVec 32 := 6#32
  let c0_i32_5 : BitVec 32 := 0#32
  let v19 : BitVec 1 := Scalar.cmpi .eq c6_i32_4 c0_i32_5
  let c1_i32_6 : BitVec 32 := 1#32
  let v20 : BitVec 32 := Scalar.select v19 c1_i32_6 c6_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi c0_i32_10 v28
  let c0_i32_11 : BitVec 32 := 0#32
  ![v18.toNat, v29.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let c1_i32_4 : BitVec 32 := 1#32
  let v18 : BitVec 32 := Scalar.addi arg1 c1_i32_4
  let c15_i32 : BitVec 32 := 15#32
  let v19 : BitVec 32 := Scalar.minsi v18 c15_i32
  let v20 : BitVec 32 := Scalar.addi v17 v19
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi arg0 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.addi c0_i32_11 v30
  let c0_i32_12 : BitVec 32 := 0#32
  ![v20.toNat, v31.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32_10 : BitVec 32 := 6#32
  let v27 : BitVec 32 := Scalar.addi c6_i32_10 v26
  let c0_i32_11 : BitVec 32 := 0#32
  ![v16.toNat, v27.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c12_i32 : BitVec 32 := 12#32
  let v27 : BitVec 32 := Scalar.addi c12_i32 v26
  let c0_i32_10 : BitVec 32 := 0#32
  ![v16.toNat, v27.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : BitVec 32 := Scalar.addi v17 arg1
  let c6_i32_4 : BitVec 32 := 6#32
  let c0_i32_5 : BitVec 32 := 0#32
  let v19 : BitVec 1 := Scalar.cmpi .eq c6_i32_4 c0_i32_5
  let c1_i32_6 : BitVec 32 := 1#32
  let v20 : BitVec 32 := Scalar.select v19 c1_i32_6 c6_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8192x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S2x8192x12x128 : Shape := ⟨4, ![2, 8192, 12, 128]⟩
abbrev S16384x128 : Shape := ⟨2, ![16384, 128]⟩
abbrev S128 : Shape := ⟨1, ![128]⟩
abbrev S2x8192x128 : Shape := ⟨3, ![2, 8192, 128]⟩
abbrev S2x8192x12 : Shape := ⟨3, ![2, 8192, 12]⟩
abbrev S2x12x8192 : Shape := ⟨3, ![2, 12, 8192]⟩
abbrev S2x12x8192x8192 : Shape := ⟨4, ![2, 12, 8192, 8192]⟩
abbrev S_ : Shape := ⟨0, ![]⟩
abbrev S2x12x8192x1 : Shape := ⟨4, ![2, 12, 8192, 1]⟩
abbrev S2x12x1x8192 : Shape := ⟨4, ![2, 12, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x12x128x8192 : Shape := ⟨4, ![2, 12, 128, 8192]⟩
abbrev S2x8192x12x1 : Shape := ⟨4, ![2, 8192, 12, 1]⟩
abbrev S1x1x1x128 : Shape := ⟨4, ![1, 1, 1, 128]⟩
abbrev S16384x1536 : Shape := ⟨2, ![16384, 1536]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x12x128, .f32⟩
  | .hbm, ⟨1, _⟩ => ⟨S2x8192x12x128, .f32⟩
  | .hbm, ⟨2, _⟩ => ⟨S2x8192x12x128, .f32⟩
  | .hbm, ⟨3, _⟩ => ⟨S16384x128, .f32⟩
  | .hbm, ⟨4, _⟩ => ⟨S128, .f32⟩
  | .hbm, ⟨5, _⟩ => ⟨S2x8192x128, .f32⟩
  | .hbm, ⟨6, _⟩ => ⟨S2x8192x12, .f32⟩
  | .hbm, ⟨7, _⟩ => ⟨S2x12x8192, .f32⟩
  | .hbm, ⟨8, _⟩ => ⟨S2x12x8192x8192, .f32⟩
  | .hbm, ⟨9, _⟩ => ⟨S_, .f32⟩
  | .hbm, ⟨10, _⟩ => ⟨S2x12x8192x8192, .f32⟩
  | .hbm, ⟨11, _⟩ => ⟨S2x12x8192x8192, .f32⟩
  | .hbm, ⟨12, _⟩ => ⟨S2x12x8192x1, .f32⟩
  | .hbm, ⟨13, _⟩ => ⟨S2x12x8192x8192, .f32⟩
  | .hbm, ⟨14, _⟩ => ⟨S2x12x8192x8192, .f32⟩
  | .hbm, ⟨15, _⟩ => ⟨S2x12x1x8192, .f32⟩
  | .hbm, ⟨16, _⟩ => ⟨S2x12x8192x8192, .f32⟩
  | .hbm, ⟨17, _⟩ => ⟨S2x12x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S2x12x8192x8192, .i1⟩
  | .hbm, ⟨27, _⟩ => ⟨S2x12x8192x8192, .f32⟩
  | .hbm, ⟨28, _⟩ => ⟨S2x12x8192x8192, .f32⟩
  | .hbm, ⟨29, _⟩ => ⟨S_, .f32⟩
  | .hbm, ⟨30, _⟩ => ⟨S2x12x8192, .f32⟩
  | .hbm, ⟨31, _⟩ => ⟨S_, .f32⟩
  | .hbm, ⟨32, _⟩ => ⟨S2x12x8192, .f32⟩
  | .hbm, ⟨33, _⟩ => ⟨S2x12x8192, .f32⟩
  | .hbm, ⟨34, _⟩ => ⟨S2x12x8192x1, .f32⟩
  | .hbm, ⟨35, _⟩ => ⟨S2x12x8192x8192, .f32⟩
  | .hbm, ⟨36, _⟩ => ⟨S2x12x8192x8192, .f32⟩
  | .hbm, ⟨37, _⟩ => ⟨S2x12x8192x8192, .f32⟩
  | .hbm, ⟨38, _⟩ => ⟨S_, .f32⟩
  | .hbm, ⟨39, _⟩ => ⟨S2x12x8192, .f32⟩
  | .hbm, ⟨40, _⟩ => ⟨S2x12x8192x1, .f32⟩
  | .hbm, ⟨41, _⟩ => ⟨S2x12x8192x8192, .f32⟩
  | .hbm, ⟨42, _⟩ => ⟨S2x12x8192x8192, .f32⟩
  | .hbm, ⟨43, _⟩ => ⟨S2x12x128x8192, .f32⟩
  | .hbm, ⟨44, _⟩ => ⟨S2x8192x12x128, .f32⟩
  | .hbm, ⟨45, _⟩ => ⟨S2x8192x12x128, .f32⟩
  | .hbm, ⟨46, _⟩ => ⟨S_, .f32⟩
  | .hbm, ⟨47, _⟩ => ⟨S2x8192x12, .f32⟩
  | .hbm, ⟨48, _⟩ => ⟨S2x8192x12x1, .f32⟩
  | .hbm, ⟨49, _⟩ => ⟨S_, .f32⟩
  | .hbm, ⟨50, _⟩ => ⟨S2x8192x12x1, .f32⟩
  | .hbm, ⟨51, _⟩ => ⟨S2x8192x12x1, .f32⟩
  | .hbm, ⟨52, _⟩ => ⟨S_, .f32⟩
  | .hbm, ⟨53, _⟩ => ⟨S2x8192x12x1, .f32⟩
  | .hbm, ⟨54, _⟩ => ⟨S2x8192x12x1, .f32⟩
  | .hbm, ⟨55, _⟩ => ⟨S2x8192x12x1, .f32⟩
  | .hbm, ⟨56, _⟩ => ⟨S2x8192x12x128, .f32⟩
  | .hbm, ⟨57, _⟩ => ⟨S2x8192x12x128, .f32⟩
  | .hbm, ⟨58, _⟩ => ⟨S1x1x1x128, .f32⟩
  | .hbm, ⟨59, _⟩ => ⟨S2x8192x12x128, .f32⟩
  | .hbm, ⟨60, _⟩ => ⟨S2x8192x12x128, .f32⟩
  | .hbm, ⟨61, _⟩ => ⟨S16384x1536, .f32⟩
  | .hbm, ⟨62, _⟩ => ⟨S16384x1536, .bf16⟩
  | _, _ => ⟨S2x8192x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel2.lean ====
abbrev S2x8192x4096 : Shape := ⟨3, ![2, 8192, 4096]⟩
abbrev S4096x11008 : Shape := ⟨2, ![4096, 11008]⟩
abbrev S2x11008x4096 : Shape := ⟨3, ![2, 11008, 4096]⟩
abbrev S16384x4096 : Shape := ⟨2, ![16384, 4096]⟩
abbrev S16384x11008 : Shape := ⟨2, ![16384, 11008]⟩
abbrev S11008x4096 : Shape := ⟨2, ![11008, 4096]⟩
abbrev S2048x4096 : Shape := ⟨2, ![2048, 4096]⟩
abbrev S4096x256 : Shape := ⟨2, ![4096, 256]⟩
abbrev S1x32x4096 : Shape := ⟨3, ![1, 32, 4096]⟩
abbrev S2048x256 : Shape := ⟨2, ![2048, 256]⟩
abbrev S32x4096 : Shape := ⟨2, ![32, 4096]⟩

abbrev nBuf : Space → Nat
  | .hbm => 10
  | .vmem => 12
  | .smem => 0
  | _ => 0

abbrev bufTy : (tb : Table) → Fin (tcTables nBuf tb) → BufTy
  | .hbm, ⟨0, _⟩ => ⟨S2x8192x4096, .f32⟩
  | .hbm, ⟨1, _⟩ => ⟨S4096x11008, .f32⟩
  | .hbm, ⟨2, _⟩ => ⟨S4096x11008, .f32⟩
  | .hbm, ⟨3, _⟩ => ⟨S2x11008x4096, .f32⟩
  | .hbm, ⟨4, _⟩ => ⟨S16384x4096, .f32⟩
  | .hbm, ⟨5, _⟩ => ⟨S16384x4096, .bf16⟩
  | .hbm, ⟨6, _⟩ => ⟨S4096x11008, .bf16⟩
  | .hbm, ⟨7, _⟩ => ⟨S4096x11008, .bf16⟩
  | .hbm, ⟨8, _⟩ => ⟨S16384x11008, .bf16⟩
  | .hbm, ⟨9, _⟩ => ⟨S11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x32x4096, .f32⟩
  | .local _ .vmem, ⟨7, _⟩ => ⟨S1x32x4096, .f32⟩
  | .local _ .vmem, ⟨8, _⟩ => ⟨S2048x256, .bf16⟩
  | .local _ .vmem, ⟨9, _⟩ => ⟨S2048x256, .bf16⟩
  | .local _ .vmem, ⟨10, _⟩ => ⟨S32x4096, .bf16⟩
  | .local _ .vmem, ⟨11, _⟩ => ⟨S32x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c43_i32 : BitVec 32 := 43#32
  let v1 : BitVec 32 := Scalar.muli v0 c43_i32
  let v2 : BitVec 32 := Scalar.addi v1 arg1
  let c343_i32 : BitVec 32 := 343#32
  let v3 : BitVec 32 := Scalar.minsi v2 c343_i32
  let c1_i32 : BitVec 32 := 1#32
  let c0_i32_0 : BitVec 32 := 0#32
  let c0_i32_1 : BitVec 32 := 0#32
  ![c1_i32.toNat, v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c43_i32 : BitVec 32 := 43#32
  let v1 : BitVec 32 := Scalar.muli v0 c43_i32
  let v2 : BitVec 32 := Scalar.addi v1 arg1
  let c343_i32 : BitVec 32 := 343#32
  let v3 : BitVec 32 := Scalar.minsi v2 c343_i32
  let c0_i32_0 : BitVec 32 := 0#32
  let c0_i32_1 : BitVec 32 := 0#32
  ![v3.toNat, c0_i32_0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2x8192x4096 : Shape := ⟨3, ![2, 8192, 4096]⟩
abbrev S4096x11008 : Shape := ⟨2, ![4096, 11008]⟩
abbrev S2x11008x4096 : Shape := ⟨3, ![2, 11008, 4096]⟩
abbrev S2x8192x11008 : Shape := ⟨3, ![2, 8192, 11008]⟩
abbrev S_ : Shape := ⟨0, ![]⟩
abbrev S16384x11008 : Shape := ⟨2, ![16384, 11008]⟩
abbrev S1x11008x4096 : Shape := ⟨3, ![1, 11008, 4096]⟩
abbrev S11008x4096 : Shape := ⟨2, ![11008, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x11008, .f32⟩
  | .hbm, ⟨2, _⟩ => ⟨S4096x11008, .f32⟩
  | .hbm, ⟨3, _⟩ => ⟨S2x11008x4096, .f32⟩
  | .hbm, ⟨4, _⟩ => ⟨S2x8192x11008, .f32⟩
  | .hbm, ⟨5, _⟩ => ⟨S2x8192x11008, .f32⟩
  | .hbm, ⟨6, _⟩ => ⟨S2x8192x11008, .f32⟩
  | .hbm, ⟨7, _⟩ => ⟨S_, .f32⟩
  | .hbm, ⟨8, _⟩ => ⟨S2x8192x11008, .f32⟩
  | .hbm, ⟨9, _⟩ => ⟨S2x8192x11008, .f32⟩
  | .hbm, ⟨10, _⟩ => ⟨S_, .f32⟩
  | .hbm, ⟨11, _⟩ => ⟨S2x8192x11008, .f32⟩
  | .hbm, ⟨12, _⟩ => ⟨S2x8192x11008, .f32⟩
  | .hbm, ⟨13, _⟩ => ⟨S2x8192x11008, .f32⟩
  | .hbm, ⟨14, _⟩ => ⟨S2x8192x11008, .f32⟩
  | .hbm, ⟨15, _⟩ => ⟨S2x8192x11008, .f32⟩
  | .hbm, ⟨16, _⟩ => ⟨S16384x11008, .f32⟩
  | .hbm, ⟨17, _⟩ => ⟨S16384x11008, .bf16⟩
  | .hbm, ⟨18, _⟩ => ⟨S1x11008x4096, .f32⟩
  | .hbm, ⟨19, _⟩ => ⟨S11008x4096, .f32⟩
  | .hbm, ⟨20, _⟩ => ⟨S11008x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel3.lean ====
abbrev S2x8192x11008 : Shape := ⟨3, ![2, 8192, 11008]⟩
abbrev S11008x4096 : Shape := ⟨2, ![11008, 4096]⟩
abbrev S16384x11008 : Shape := ⟨2, ![16384, 11008]⟩
abbrev S16384x4096 : Shape := ⟨2, ![16384, 4096]⟩
abbrev S512x11008 : Shape := ⟨2, ![512, 11008]⟩
abbrev S11008x1024 : Shape := ⟨2, ![11008, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x8192x11008, .f32⟩
  | .hbm, ⟨1, _⟩ => ⟨S11008x4096, .f32⟩
  | .hbm, ⟨2, _⟩ => ⟨S16384x11008, .f32⟩
  | .hbm, ⟨3, _⟩ => ⟨S16384x11008, .bf16⟩
  | .hbm, ⟨4, _⟩ => ⟨S11008x4096, .bf16⟩
  | .hbm, ⟨5, _⟩ => ⟨S16384x4096, .bf16⟩
  | .local _ .vmem, ⟨0, _⟩ => ⟨S512x11008, .bf16⟩
  | .local _ .vmem, ⟨1, _⟩ => ⟨S512x11008, .bf16⟩
  | .local _ .vmem, ⟨2, _⟩ => ⟨S11008x1024, .bf16⟩
  | .local _ .vmem, ⟨3, _⟩ => ⟨S512x1024, .bf16⟩
  | .local _ .vmem, ⟨4, _⟩ => ⟨S512x1024, .bf16⟩
  | _, _ => ⟨S2x8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S11008x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x8192x11008 : Shape := ⟨3, ![2, 8192, 11008]⟩
abbrev S11008x4096 : Shape := ⟨2, ![11008, 4096]⟩
abbrev S2x8192x4096 : Shape := ⟨3, ![2, 8192, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2x8192x11008, .f32⟩
  | .hbm, ⟨1, _⟩ => ⟨S11008x4096, .f32⟩
  | .hbm, ⟨2, _⟩ => ⟨S2x8192x4096, .f32⟩
  | .hbm, ⟨3, _⟩ => ⟨S16384x4096, .f32⟩
  | .hbm, ⟨4, _⟩ => ⟨S16384x4096, .bf16⟩
  | _, _ => ⟨S2x8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S2x8192x4096 : Shape := ⟨3, ![2, 8192, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .f32⟩
  | .hbm, ⟨2, _⟩ => ⟨S4096, .f32⟩
  | .hbm, ⟨3, _⟩ => ⟨S16384x4096, .f32⟩
  | .hbm, ⟨4, _⟩ => ⟨S16384x4096, .bf16⟩
  | .hbm, ⟨5, _⟩ => ⟨S16384x4096, .f32⟩
  | .hbm, ⟨6, _⟩ => ⟨S1x4096, .f32⟩
  | .hbm, ⟨7, _⟩ => ⟨S1x4096, .f32⟩
  | .hbm, ⟨8, _⟩ => ⟨S16384x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2x8192x4096 : Shape := ⟨3, ![2, 8192, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .f32⟩
  | .hbm, ⟨2, _⟩ => ⟨S4096, .f32⟩
  | .hbm, ⟨3, _⟩ => ⟨S2x8192x4096, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x4096, .f32⟩
  | .hbm, ⟨15, _⟩ => ⟨S2x8192x4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | .hbm, ⟨19, _⟩ => ⟨S2x8192x4096, .f32⟩
  | .hbm, ⟨20, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S2x8192x4096 : Shape := ⟨3, ![2, 8192, 4096]⟩
abbrev S4096x7680 : Shape := ⟨2, ![4096, 7680]⟩
abbrev S2x4096x11008 : Shape := ⟨3, ![2, 4096, 11008]⟩
abbrev S16384x4096 : Shape := ⟨2, ![16384, 4096]⟩
abbrev S7680x4096 : Shape := ⟨2, ![7680, 4096]⟩
abbrev S16384x7680 : Shape := ⟨2, ![16384, 7680]⟩
abbrev S4096x11008 : Shape := ⟨2, ![4096, 11008]⟩
abbrev S1024x4096 : Shape := ⟨2, ![1024, 4096]⟩
abbrev S768x4096 : Shape := ⟨2, ![768, 4096]⟩
abbrev S1x32x11008 : Shape := ⟨3, ![1, 32, 11008]⟩
abbrev S1024x768 : Shape := ⟨2, ![1024, 768]⟩
abbrev S32x11008 : Shape := ⟨2, ![32, 11008]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S4096x7680, .f32⟩
  | .hbm, ⟨2, _⟩ => ⟨S2x4096x11008, .f32⟩
  | .hbm, ⟨3, _⟩ => ⟨S16384x4096, .f32⟩
  | .hbm, ⟨4, _⟩ => ⟨S16384x4096, .bf16⟩
  | .hbm, ⟨5, _⟩ => ⟨S7680x4096, .f32⟩
  | .hbm, ⟨6, _⟩ => ⟨S7680x4096, .bf16⟩
  | .hbm, ⟨7, _⟩ => ⟨S16384x7680, .bf16⟩
  | .hbm, ⟨8, _⟩ => ⟨S4096x11008, .bf16⟩
  | .local _ .vmem, ⟨0, _⟩ => ⟨S1024x4096, .bf16⟩
  | .local _ .vmem, ⟨1, _⟩ => ⟨S1024x4096, .bf16⟩
  | .local _ .vmem, ⟨2, _⟩ => ⟨S768x4096, .bf16⟩
  | .local _ .vmem, ⟨3, _⟩ => ⟨S768x4096, .bf16⟩
  | .local _ .vmem, ⟨4, _⟩ => ⟨S1x32x11008, .f32⟩
  | .local _ .vmem, ⟨5, _⟩ => ⟨S1x32x11008, .f32⟩
  | .local _ .vmem, ⟨6, _⟩ => ⟨S1024x768, .bf16⟩
  | .local _ .vmem, ⟨7, _⟩ => ⟨S1024x768, .bf16⟩
  | .local _ .vmem, ⟨8, _⟩ => ⟨S32x11008, .bf16⟩
  | .local _ .vmem, ⟨9, _⟩ => ⟨S32x11008, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c10_i32 : BitVec 32 := 10#32
  let v1 : BitVec 32 := Scalar.muli v0 c10_i32
  let v2 : BitVec 32 := Scalar.addi v1 arg1
  let c127_i32 : BitVec 32 := 127#32
  let v3 : BitVec 32 := Scalar.minsi v2 c127_i32
  let c1_i32 : BitVec 32 := 1#32
  let c0_i32_0 : BitVec 32 := 0#32
  let c0_i32_1 : BitVec 32 := 0#32
  ![c1_i32.toNat, v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c10_i32 : BitVec 32 := 10#32
  let v1 : BitVec 32 := Scalar.muli v0 c10_i32
  let v2 : BitVec 32 := Scalar.addi v1 arg1
  let c127_i32 : BitVec 32 := 127#32
  let v3 : BitVec 32 := Scalar.minsi v2 c127_i32
  let c0_i32_0 : BitVec 32 := 0#32
  let c0_i32_1 : BitVec 32 := 0#32
  ![v3.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x11008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x11008 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S2x8192x4096 : Shape := ⟨3, ![2, 8192, 4096]⟩
abbrev S4096x7680 : Shape := ⟨2, ![4096, 7680]⟩
abbrev S2x4096x11008 : Shape := ⟨3, ![2, 4096, 11008]⟩
abbrev S2x8192x7680 : Shape := ⟨3, ![2, 8192, 7680]⟩
abbrev S16384x7680 : Shape := ⟨2, ![16384, 7680]⟩
abbrev S1x4096x11008 : Shape := ⟨3, ![1, 4096, 11008]⟩
abbrev S4096x11008 : Shape := ⟨2, ![4096, 11008]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x7680, .f32⟩
  | .hbm, ⟨2, _⟩ => ⟨S2x4096x11008, .f32⟩
  | .hbm, ⟨3, _⟩ => ⟨S2x8192x7680, .f32⟩
  | .hbm, ⟨4, _⟩ => ⟨S16384x7680, .f32⟩
  | .hbm, ⟨5, _⟩ => ⟨S16384x7680, .bf16⟩
  | .hbm, ⟨6, _⟩ => ⟨S1x4096x11008, .f32⟩
  | .hbm, ⟨7, _⟩ => ⟨S4096x11008, .f32⟩
  | .hbm, ⟨8, _⟩ => ⟨S4096x11008, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2x8192x4096 : Shape := ⟨3, ![2, 8192, 4096]⟩
abbrev S4096x4608 : Shape := ⟨2, ![4096, 4608]⟩
abbrev S2x4096x4096 : Shape := ⟨3, ![2, 4096, 4096]⟩
abbrev S_ : Shape := ⟨0, ![]⟩
abbrev S1536 : Shape := ⟨1, ![1536]⟩
abbrev S3072 : Shape := ⟨1, ![3072]⟩
abbrev S4608 : Shape := ⟨1, ![4608]⟩
abbrev S1x4608 : Shape := ⟨2, ![1, 4608]⟩
abbrev S16384x4096 : Shape := ⟨2, ![16384, 4096]⟩
abbrev S4608x4096 : Shape := ⟨2, ![4608, 4096]⟩
abbrev S16384x4608 : Shape := ⟨2, ![16384, 4608]⟩
abbrev S4096x4096 : Shape := ⟨2, ![4096, 4096]⟩
abbrev S1024x4096 : Shape := ⟨2, ![1024, 4096]⟩
abbrev S768x4096 : Shape := ⟨2, ![768, 4096]⟩
abbrev S1x768 : Shape := ⟨2, ![1, 768]⟩
abbrev S1x64x4096 : Shape := ⟨3, ![1, 64, 4096]⟩
abbrev S1024x768 : Shape := ⟨2, ![1024, 768]⟩
abbrev S64x4096 : Shape := ⟨2, ![64, 4096]⟩

abbrev nBuf : Space → Nat
  | .hbm => 15
  | .vmem => 12
  | .smem => 0
  | _ => 0

abbrev bufTy : (tb : Table) → Fin (tcTables nBuf tb) → BufTy
  | .hbm, ⟨0, _⟩ => ⟨S2x8192x4096, .f32⟩
  | .hbm, ⟨1, _⟩ => ⟨S4096x4608, .f32⟩
  | .hbm, ⟨2, _⟩ => ⟨S2x4096x4096, .f32⟩
  | .hbm, ⟨3, _⟩ => ⟨S_, .f32⟩
  | .hbm, ⟨4, _⟩ => ⟨S1536, .f32⟩
  | .hbm, ⟨5, _⟩ => ⟨S_, .f32⟩
  | .hbm, ⟨6, _⟩ => ⟨S3072, .f32⟩
  | .hbm, ⟨7, _⟩ => ⟨S4608, .f32⟩
  | .hbm, ⟨8, _⟩ => ⟨S1x4608, .f32⟩
  | .hbm, ⟨9, _⟩ => ⟨S16384x4096, .f32⟩
  | .hbm, ⟨10, _⟩ => ⟨S16384x4096, .bf16⟩
  | .hbm, ⟨11, _⟩ => ⟨S4608x4096, .f32⟩
  | .hbm, ⟨12, _⟩ => ⟨S4608x4096, .bf16⟩
  | .hbm, ⟨13, _⟩ => ⟨S16384x4608, .bf16⟩
  | .hbm, ⟨14, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S768x4096, .bf16⟩
  | .local _ .vmem, ⟨3, _⟩ => ⟨S768x4096, .bf16⟩
  | .local _ .vmem, ⟨4, _⟩ => ⟨S1x768, .f32⟩
  | .local _ .vmem, ⟨5, _⟩ => ⟨S1x768, .f32⟩
  | .local _ .vmem, ⟨6, _⟩ => ⟨S1x64x4096, .f32⟩
  | .local _ .vmem, ⟨7, _⟩ => ⟨S1x64x4096, .f32⟩
  | .local _ .vmem, ⟨8, _⟩ => ⟨S1024x768, .bf16⟩
  | .local _ .vmem, ⟨9, _⟩ => ⟨S1024x768, .bf16⟩
  | .local _ .vmem, ⟨10, _⟩ => ⟨S64x4096, .bf16⟩
  | .local _ .vmem, ⟨11, _⟩ => ⟨S64x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.muli v0 c6_i32
  let v2 : BitVec 32 := Scalar.addi v1 arg1
  let c63_i32 : BitVec 32 := 63#32
  let v3 : BitVec 32 := Scalar.minsi v2 c63_i32
  let c1_i32 : BitVec 32 := 1#32
  let c0_i32_0 : BitVec 32 := 0#32
  let c0_i32_1 : BitVec 32 := 0#32
  ![c1_i32.toNat, v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.muli v0 c6_i32
  let v2 : BitVec 32 := Scalar.addi v1 arg1
  let c63_i32 : BitVec 32 := 63#32
  let v3 : BitVec 32 := Scalar.minsi v2 c63_i32
  let c0_i32_0 : BitVec 32 := 0#32
  let c0_i32_1 : BitVec 32 := 0#32
  ![v3.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2x8192x4096 : Shape := ⟨3, ![2, 8192, 4096]⟩
abbrev S4096x4608 : Shape := ⟨2, ![4096, 4608]⟩
abbrev S2x4096x4096 : Shape := ⟨3, ![2, 4096, 4096]⟩
abbrev S_ : Shape := ⟨0, ![]⟩
abbrev S1536 : Shape := ⟨1, ![1536]⟩
abbrev S3072 : Shape := ⟨1, ![3072]⟩
abbrev S4608 : Shape := ⟨1, ![4608]⟩
abbrev S2x8192x4608 : Shape := ⟨3, ![2, 8192, 4608]⟩
abbrev S1x1x4608 : Shape := ⟨3, ![1, 1, 4608]⟩
abbrev S16384x4608 : Shape := ⟨2, ![16384, 4608]⟩
abbrev S1x4096x4096 : Shape := ⟨3, ![1, 4096, 4096]⟩
abbrev S4096x4096 : Shape := ⟨2, ![4096, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x4608, .f32⟩
  | .hbm, ⟨2, _⟩ => ⟨S2x4096x4096, .f32⟩
  | .hbm, ⟨3, _⟩ => ⟨S_, .f32⟩
  | .hbm, ⟨4, _⟩ => ⟨S1536, .f32⟩
  | .hbm, ⟨5, _⟩ => ⟨S_, .f32⟩
  | .hbm, ⟨6, _⟩ => ⟨S3072, .f32⟩
  | .hbm, ⟨7, _⟩ => ⟨S4608, .f32⟩
  | .hbm, ⟨8, _⟩ => ⟨S2x8192x4608, .f32⟩
  | .hbm, ⟨9, _⟩ => ⟨S1x1x4608, .f32⟩
  | .hbm, ⟨10, _⟩ => ⟨S2x8192x4608, .f32⟩
  | .hbm, ⟨11, _⟩ => ⟨S2x8192x4608, .f32⟩
  | .hbm, ⟨12, _⟩ => ⟨S16384x4608, .f32⟩
  | .hbm, ⟨13, _⟩ => ⟨S16384x4608, .bf16⟩
  | .hbm, ⟨14, _⟩ => ⟨S1x4096x4096, .f32⟩
  | .hbm, ⟨15, _⟩ => ⟨S4096x4096, .f32⟩
  | .hbm, ⟨16, _⟩ => ⟨S4096x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel7.lean ====
abbrev S2x8192x4096 : Shape := ⟨3, ![2, 8192, 4096]⟩
abbrev S4096x1536 : Shape := ⟨2, ![4096, 1536]⟩
abbrev S16384x4096 : Shape := ⟨2, ![16384, 4096]⟩
abbrev S1536x4096 : Shape := ⟨2, ![1536, 4096]⟩
abbrev S16384x1536 : Shape := ⟨2, ![16384, 1536]⟩
abbrev S1024x4096 : Shape := ⟨2, ![1024, 4096]⟩
abbrev S768x4096 : Shape := ⟨2, ![768, 4096]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x4096, .f32⟩
  | .hbm, ⟨1, _⟩ => ⟨S4096x1536, .f32⟩
  | .hbm, ⟨2, _⟩ => ⟨S16384x4096, .f32⟩
  | .hbm, ⟨3, _⟩ => ⟨S16384x4096, .bf16⟩
  | .hbm, ⟨4, _⟩ => ⟨S1536x4096, .f32⟩
  | .hbm, ⟨5, _⟩ => ⟨S1536x4096, .bf16⟩
  | .hbm, ⟨6, _⟩ => ⟨S16384x1536, .bf16⟩
  | .local _ .vmem, ⟨0, _⟩ => ⟨S1024x4096, .bf16⟩
  | .local _ .vmem, ⟨1, _⟩ => ⟨S1024x4096, .bf16⟩
  | .local _ .vmem, ⟨2, _⟩ => ⟨S768x4096, .bf16⟩
  | .local _ .vmem, ⟨3, _⟩ => ⟨S768x4096, .bf16⟩
  | .local _ .vmem, ⟨4, _⟩ => ⟨S1024x768, .bf16⟩
  | .local _ .vmem, ⟨5, _⟩ => ⟨S1024x768, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x8192x4096 : Shape := ⟨3, ![2, 8192, 4096]⟩
abbrev S4096x1536 : Shape := ⟨2, ![4096, 1536]⟩
abbrev S2x8192x1536 : Shape := ⟨3, ![2, 8192, 1536]⟩
abbrev S16384x1536 : Shape := ⟨2, ![16384, 1536]⟩

abbrev nBuf : Space → Nat
  | .hbm => 5
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x1536, .f32⟩
  | .hbm, ⟨2, _⟩ => ⟨S2x8192x1536, .f32⟩
  | .hbm, ⟨3, _⟩ => ⟨S16384x1536, .f32⟩
  | .hbm, ⟨4, _⟩ => ⟨S16384x1536, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S2x8192x1536 : Shape := ⟨3, ![2, 8192, 1536]⟩
abbrev S2x8192x1024 : Shape := ⟨3, ![2, 8192, 1024]⟩
abbrev S4096x4096 : Shape := ⟨2, ![4096, 4096]⟩
abbrev S2x4096x11008 : Shape := ⟨3, ![2, 4096, 11008]⟩
abbrev S16384x1536 : Shape := ⟨2, ![16384, 1536]⟩
abbrev S16384x1024 : Shape := ⟨2, ![16384, 1024]⟩
abbrev S1536x4096 : Shape := ⟨2, ![1536, 4096]⟩
abbrev S1024x4096 : Shape := ⟨2, ![1024, 4096]⟩
abbrev S16384x4096 : Shape := ⟨2, ![16384, 4096]⟩
abbrev S4096x11008 : Shape := ⟨2, ![4096, 11008]⟩
abbrev S1024x1536 : Shape := ⟨2, ![1024, 1536]⟩
abbrev S1024x1024 : Shape := ⟨2, ![1024, 1024]⟩
abbrev S1536x1024 : Shape := ⟨2, ![1536, 1024]⟩
abbrev S1x64x11008 : Shape := ⟨3, ![1, 64, 11008]⟩
abbrev S64x11008 : Shape := ⟨2, ![64, 11008]⟩

abbrev nBuf : Space → Nat
  | .hbm => 17
  | .vmem => 18
  | .smem => 0
  | _ => 0

abbrev bufTy : (tb : Table) → Fin (tcTables nBuf tb) → BufTy
  | .hbm, ⟨0, _⟩ => ⟨S2x8192x1536, .f32⟩
  | .hbm, ⟨1, _⟩ => ⟨S2x8192x1024, .f32⟩
  | .hbm, ⟨2, _⟩ => ⟨S2x8192x1536, .f32⟩
  | .hbm, ⟨3, _⟩ => ⟨S4096x4096, .f32⟩
  | .hbm, ⟨4, _⟩ => ⟨S2x4096x11008, .f32⟩
  | .hbm, ⟨5, _⟩ => ⟨S4096x4096, .bf16⟩
  | .hbm, ⟨6, _⟩ => ⟨S16384x1536, .f32⟩
  | .hbm, ⟨7, _⟩ => ⟨S16384x1536, .bf16⟩
  | .hbm, ⟨8, _⟩ => ⟨S16384x1024, .f32⟩
  | .hbm, ⟨9, _⟩ => ⟨S16384x1024, .bf16⟩
  | .hbm, ⟨10, _⟩ => ⟨S16384x1536, .f32⟩
  | .hbm, ⟨11, _⟩ => ⟨S16384x1536, .bf16⟩
  | .hbm, ⟨12, _⟩ => ⟨S1536x4096, .bf16⟩
  | .hbm, ⟨13, _⟩ => ⟨S1024x4096, .bf16⟩
  | .hbm, ⟨14, _⟩ => ⟨S1536x4096, .bf16⟩
  | .hbm, ⟨15, _⟩ => ⟨S16384x4096, .bf16⟩
  | .hbm, ⟨16, _⟩ => ⟨S4096x11008, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1536, .bf16⟩
  | .local _ .vmem, ⟨5, _⟩ => ⟨S1024x1536, .bf16⟩
  | .local _ .vmem, ⟨6, _⟩ => ⟨S1536x1024, .bf16⟩
  | .local _ .vmem, ⟨7, _⟩ => ⟨S1536x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1536x1024, .bf16⟩
  | .local _ .vmem, ⟨11, _⟩ => ⟨S1536x1024, .bf16⟩
  | .local _ .vmem, ⟨12, _⟩ => ⟨S1x64x11008, .f32⟩
  | .local _ .vmem, ⟨13, _⟩ => ⟨S1x64x11008, .f32⟩
  | .local _ .vmem, ⟨14, _⟩ => ⟨S1024x1024, .bf16⟩
  | .local _ .vmem, ⟨15, _⟩ => ⟨S1024x1024, .bf16⟩
  | .local _ .vmem, ⟨16, _⟩ => ⟨S64x11008, .bf16⟩
  | .local _ .vmem, ⟨17, _⟩ => ⟨S64x11008, .bf16⟩
  | _, _ => ⟨S2x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.muli v0 c4_i32
  let v2 : BitVec 32 := Scalar.addi v1 arg1
  let c63_i32 : BitVec 32 := 63#32
  let v3 : BitVec 32 := Scalar.minsi v2 c63_i32
  let c1_i32 : BitVec 32 := 1#32
  let c0_i32_0 : BitVec 32 := 0#32
  let c0_i32_1 : BitVec 32 := 0#32
  ![c1_i32.toNat, v3.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.muli v0 c4_i32
  let v2 : BitVec 32 := Scalar.addi v1 arg1
  let c63_i32 : BitVec 32 := 63#32
  let v3 : BitVec 32 := Scalar.minsi v2 c63_i32
  let c0_i32_0 : BitVec 32 := 0#32
  let c0_i32_1 : BitVec 32 := 0#32
  ![v3.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1536x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x64x11008 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x11008 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S2x8192x1536 : Shape := ⟨3, ![2, 8192, 1536]⟩
abbrev S2x8192x1024 : Shape := ⟨3, ![2, 8192, 1024]⟩
abbrev S4096x4096 : Shape := ⟨2, ![4096, 4096]⟩
abbrev S2x4096x11008 : Shape := ⟨3, ![2, 4096, 11008]⟩
abbrev S2x8192x4096 : Shape := ⟨3, ![2, 8192, 4096]⟩
abbrev S16384x4096 : Shape := ⟨2, ![16384, 4096]⟩
abbrev S1x4096x11008 : Shape := ⟨3, ![1, 4096, 11008]⟩
abbrev S4096x11008 : Shape := ⟨2, ![4096, 11008]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x1536, .f32⟩
  | .hbm, ⟨1, _⟩ => ⟨S2x8192x1024, .f32⟩
  | .hbm, ⟨2, _⟩ => ⟨S2x8192x1536, .f32⟩
  | .hbm, ⟨3, _⟩ => ⟨S4096x4096, .f32⟩
  | .hbm, ⟨4, _⟩ => ⟨S2x4096x11008, .f32⟩
  | .hbm, ⟨5, _⟩ => ⟨S2x8192x4096, .f32⟩
  | .hbm, ⟨6, _⟩ => ⟨S2x8192x4096, .f32⟩
  | .hbm, ⟨7, _⟩ => ⟨S16384x4096, .f32⟩
  | .hbm, ⟨8, _⟩ => ⟨S16384x4096, .bf16⟩
  | .hbm, ⟨9, _⟩ => ⟨S1x4096x11008, .f32⟩
  | .hbm, ⟨10, _⟩ => ⟨S4096x11008, .f32⟩
  | .hbm, ⟨11, _⟩ => ⟨S4096x11008, .bf16⟩
  | _, _ => ⟨S2x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel9.lean ====
abbrev S2x8192x4096 : Shape := ⟨3, ![2, 8192, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .f32⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S16384x4096, .bf16⟩
  | .hbm, ⟨6, _⟩ => ⟨S16384x4096, .f32⟩
  | .hbm, ⟨7, _⟩ => ⟨S1x4096, .f32⟩
  | .hbm, ⟨8, _⟩ => ⟨S1x4096, .f32⟩
  | .hbm, ⟨9, _⟩ => ⟨S16384x4096, .f32⟩
  | .hbm, ⟨10, _⟩ => ⟨S16384x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S2x8192x4096 : Shape := ⟨3, ![2, 8192, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .f32⟩
  | .hbm, ⟨2, _⟩ => ⟨S4096, .f32⟩
  | .hbm, ⟨3, _⟩ => ⟨S4096, .f32⟩
  | .hbm, ⟨4, _⟩ => ⟨S2x8192x4096, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x4096, .f32⟩
  | .hbm, ⟨16, _⟩ => ⟨S2x8192x4096, .f32⟩
  | .hbm, ⟨17, _⟩ => ⟨S1x1x4096, .f32⟩
  | .hbm, ⟨18, _⟩ => ⟨S2x8192x4096, .f32⟩
  | .hbm, ⟨19, _⟩ => ⟨S2x8192x4096, .f32⟩
  | .hbm, ⟨20, _⟩ => ⟨S2x8192x4096, .f32⟩
  | .hbm, ⟨21, _⟩ => ⟨S2x8192x4096, .f32⟩
  | .hbm, ⟨22, _⟩ => ⟨S_, .f32⟩
  | .hbm, ⟨23, _⟩ => ⟨S2x8192, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1, .f32⟩
  | .hbm, ⟨32, _⟩ => ⟨S2x8192x4096, .f32⟩
  | .hbm, ⟨33, _⟩ => ⟨S2x8192x4096, .f32⟩
  | .hbm, ⟨34, _⟩ => ⟨S1x1x4096, .f32⟩
  | .hbm, ⟨35, _⟩ => ⟨S2x8192x4096, .f32⟩
  | .hbm, ⟨36, _⟩ => ⟨S2x8192x4096, .f32⟩
  | .hbm, ⟨37, _⟩ => ⟨S16384x4096, .f32⟩
  | .hbm, ⟨38, _⟩ => ⟨S16384x4096, .f32⟩
  | .hbm, ⟨39, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel10.lean ====
abbrev S2x8192x4096 : Shape := ⟨3, ![2, 8192, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2x8192x4096 : Shape := ⟨3, ![2, 8192, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x8192x4096, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x4096, .f32⟩
  | .hbm, ⟨14, _⟩ => ⟨S2x8192x4096, .f32⟩
  | .hbm, ⟨15, _⟩ => ⟨S1x1x4096, .f32⟩
  | .hbm, ⟨16, _⟩ => ⟨S2x8192x4096, .f32⟩
  | .hbm, ⟨17, _⟩ => ⟨S2x8192x4096, .f32⟩
  | .hbm, ⟨18, _⟩ => ⟨S16384x4096, .f32⟩
  | .hbm, ⟨19, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel11.lean ====
abbrev S2x8192x7680 : Shape := ⟨3, ![2, 8192, 7680]⟩
abbrev S3x1024 : Shape := ⟨2, ![3, 1024]⟩
abbrev S16384x7680 : Shape := ⟨2, ![16384, 7680]⟩
abbrev S16384x1024 : Shape := ⟨2, ![16384, 1024]⟩
abbrev S1024x1024 : Shape := ⟨2, ![1024, 1024]⟩
abbrev S1032x1024 : Shape := ⟨2, ![1032, 1024]⟩
abbrev S8x1024 : Shape := ⟨2, ![8, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2x8192x7680, .f32⟩
  | .hbm, ⟨1, _⟩ => ⟨S3x1024, .f32⟩
  | .hbm, ⟨2, _⟩ => ⟨S16384x7680, .f32⟩
  | .hbm, ⟨3, _⟩ => ⟨S16384x7680, .bf16⟩
  | .hbm, ⟨4, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S3x1024, .f32⟩
  | .local _ .vmem, ⟨7, _⟩ => ⟨S1024x1024, .bf16⟩
  | .local _ .vmem, ⟨8, _⟩ => ⟨S1024x1024, .bf16⟩
  | .local _ .vmem, ⟨9, _⟩ => ⟨S1032x1024, .f32⟩
  | _, _ => ⟨S2x8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S2x8192x7680 : Shape := ⟨3, ![2, 8192, 7680]⟩
abbrev S3x1024 : Shape := ⟨2, ![3, 1024]⟩
abbrev S2x8192x1024 : Shape := ⟨3, ![2, 8192, 1024]⟩
abbrev S2x8192x4608 : Shape := ⟨3, ![2, 8192, 4608]⟩
abbrev S_ : Shape := ⟨0, ![]⟩
abbrev S2x8194x1024 : Shape := ⟨3, ![2, 8194, 1024]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x7680, .f32⟩
  | .hbm, ⟨1, _⟩ => ⟨S3x1024, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S2x8192x4608, .f32⟩
  | .hbm, ⟨6, _⟩ => ⟨S2x8192x1024, .f32⟩
  | .hbm, ⟨7, _⟩ => ⟨S_, .i32⟩
  | .hbm, ⟨8, _⟩ => ⟨S_, .f32⟩
  | .hbm, ⟨9, _⟩ => ⟨S2x8194x1024, .f32⟩
  | .hbm, ⟨10, _⟩ => ⟨S1x1024, .f32⟩
  | .hbm, ⟨11, _⟩ => ⟨S1024, .f32⟩
  | .hbm, ⟨12, _⟩ => ⟨S2x8192x1024, .f32⟩
  | .hbm, ⟨13, _⟩ => ⟨S1x1x1024, .f32⟩
  | .hbm, ⟨14, _⟩ => ⟨S2x8192x1024, .f32⟩
  | .hbm, ⟨15, _⟩ => ⟨S2x8192x1024, .f32⟩
  | .hbm, ⟨16, _⟩ => ⟨S1x1024, .f32⟩
  | .hbm, ⟨17, _⟩ => ⟨S1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S1x1024, .f32⟩
  | .hbm, ⟨24, _⟩ => ⟨S1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S16384x1024, .f32⟩
  | .hbm, ⟨32, _⟩ => ⟨S16384x1024, .bf16⟩
  | _, _ => ⟨S2x8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Kernel12.lean ====
abbrev S2x8192x4096 : Shape := ⟨3, ![2, 8192, 4096]⟩
abbrev S4096x128 : Shape := ⟨2, ![4096, 128]⟩
abbrev S128 : Shape := ⟨1, ![128]⟩
abbrev S16384x4096 : Shape := ⟨2, ![16384, 4096]⟩
abbrev S128x4096 : Shape := ⟨2, ![128, 4096]⟩
abbrev S128x1 : Shape := ⟨2, ![128, 1]⟩
abbrev S128x16384 : Shape := ⟨2, ![128, 16384]⟩
abbrev S512x4096 : Shape := ⟨2, ![512, 4096]⟩
abbrev S128x512 : Shape := ⟨2, ![128, 512]⟩
abbrev S512x512 : Shape := ⟨2, ![512, 512]⟩
abbrev S128x1536 : Shape := ⟨2, ![128, 1536]⟩
abbrev S1536x512 : Shape := ⟨2, ![1536, 512]⟩

abbrev nBuf : Space → Nat
  | .hbm => 11
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S4096x128, .f32⟩
  | .hbm, ⟨2, _⟩ => ⟨S128, .f32⟩
  | .hbm, ⟨3, _⟩ => ⟨S128, .f32⟩
  | .hbm, ⟨4, _⟩ => ⟨S16384x4096, .f32⟩
  | .hbm, ⟨5, _⟩ => ⟨S16384x4096, .bf16⟩
  | .hbm, ⟨6, _⟩ => ⟨S128x4096, .f32⟩
  | .hbm, ⟨7, _⟩ => ⟨S128x4096, .bf16⟩
  | .hbm, ⟨8, _⟩ => ⟨S128x1, .f32⟩
  | .hbm, ⟨9, _⟩ => ⟨S128x1, .f32⟩
  | .hbm, ⟨10, _⟩ => ⟨S128x16384, .f32⟩
  | .local _ .vmem, ⟨0, _⟩ => ⟨S128x4096, .bf16⟩
  | .local _ .vmem, ⟨1, _⟩ => ⟨S512x4096, .bf16⟩
  | .local _ .vmem, ⟨2, _⟩ => ⟨S512x4096, .bf16⟩
  | .local _ .vmem, ⟨3, _⟩ => ⟨S128x1, .f32⟩
  | .local _ .vmem, ⟨4, _⟩ => ⟨S128x1, .f32⟩
  | .local _ .vmem, ⟨5, _⟩ => ⟨S128x512, .f32⟩
  | .local _ .vmem, ⟨6, _⟩ => ⟨S128x512, .f32⟩
  | .local _ .vmem, ⟨7, _⟩ => ⟨S128x1, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S2x8192x4096 : Shape := ⟨3, ![2, 8192, 4096]⟩
abbrev S4096x128 : Shape := ⟨2, ![4096, 128]⟩
abbrev S128 : Shape := ⟨1, ![128]⟩
abbrev S2x8192x128 : Shape := ⟨3, ![2, 8192, 128]⟩
abbrev S1x1x128 : Shape := ⟨3, ![1, 1, 128]⟩
abbrev S_ : Shape := ⟨0, ![]⟩
abbrev S2x128x64x128 : Shape := ⟨4, ![2, 128, 64, 128]⟩
abbrev S16384x128 : Shape := ⟨2, ![16384, 128]⟩
abbrev S128x16384 : Shape := ⟨2, ![128, 16384]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x128, .f32⟩
  | .hbm, ⟨2, _⟩ => ⟨S128, .f32⟩
  | .hbm, ⟨3, _⟩ => ⟨S128, .f32⟩
  | .hbm, ⟨4, _⟩ => ⟨S2x8192x128, .f32⟩
  | .hbm, ⟨5, _⟩ => ⟨S1x1x128, .f32⟩
  | .hbm, ⟨6, _⟩ => ⟨S2x8192x128, .f32⟩
  | .hbm, ⟨7, _⟩ => ⟨S2x8192x128, .f32⟩
  | .hbm, ⟨8, _⟩ => ⟨S2x8192x128, .f32⟩
  | .hbm, ⟨9, _⟩ => ⟨S_, .f32⟩
  | .hbm, ⟨10, _⟩ => ⟨S2x8192x128, .f32⟩
  | .hbm, ⟨11, _⟩ => ⟨S2x8192x128, .f32⟩
  | .hbm, ⟨12, _⟩ => ⟨S2x8192x128, .f32⟩
  | .hbm, ⟨13, _⟩ => ⟨S2x8192x128, .f32⟩
  | .hbm, ⟨14, _⟩ => ⟨S2x8192x128, .i1⟩
  | .hbm, ⟨15, _⟩ => ⟨S2x8192x128, .f32⟩
  | .hbm, ⟨16, _⟩ => ⟨S2x8192x128, .f32⟩
  | .hbm, ⟨17, _⟩ => ⟨S2x8192x128, .f32⟩
  | .hbm, ⟨18, _⟩ => ⟨S2x8192x128, .f32⟩
  | .hbm, ⟨19, _⟩ => ⟨S2x8192x128, .f32⟩
  | .hbm, ⟨20, _⟩ => ⟨S2x8192x128, .f32⟩
  | .hbm, ⟨21, _⟩ => ⟨S2x8192x128, .f32⟩
  | .hbm, ⟨22, _⟩ => ⟨S2x8192x128, .f32⟩
  | .hbm, ⟨23, _⟩ => ⟨S2x8192x128, .f32⟩
  | .hbm, ⟨24, _⟩ => ⟨S_, .f32⟩
  | .hbm, ⟨25, _⟩ => ⟨S_, .f32⟩
  | .hbm, ⟨26, _⟩ => ⟨S2x8192x128, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S2x8192x128, .f32⟩
  | .hbm, ⟨31, _⟩ => ⟨S2x8192x128, .f32⟩
  | .hbm, ⟨32, _⟩ => ⟨S2x8192x128, .f32⟩
  | .hbm, ⟨33, _⟩ => ⟨S2x8192x128, .f32⟩
  | .hbm, ⟨34, _⟩ => ⟨S2x8192x128, .i1⟩
  | .hbm, ⟨35, _⟩ => ⟨S2x8192x128, .f32⟩
  | .hbm, ⟨36, _⟩ => ⟨S2x8192x128, .f32⟩
  | .hbm, ⟨37, _⟩ => ⟨S2x8192x128, .f32⟩
  | .hbm, ⟨38, _⟩ => ⟨S2x8192x128, .f32⟩
  | .hbm, ⟨39, _⟩ => ⟨S2x8192x128, .f32⟩
  | .hbm, ⟨40, _⟩ => ⟨S2x8192x128, .f32⟩
  | .hbm, ⟨41, _⟩ => ⟨S2x8192x128, .f32⟩
  | .hbm, ⟨42, _⟩ => ⟨S2x8192x128, .f32⟩
  | .hbm, ⟨43, _⟩ => ⟨S1x1x128, .f32⟩
  | .hbm, ⟨44, _⟩ => ⟨S2x8192x128, .f32⟩
  | .hbm, ⟨45, _⟩ => ⟨S2x8192x128, .f32⟩
  | .hbm, ⟨46, _⟩ => ⟨S2x128x64x128, .f32⟩
  | .hbm, ⟨47, _⟩ => ⟨S_, .f32⟩
  | .hbm, ⟨48, _⟩ => ⟨S_, .f32⟩
  | .hbm, ⟨49, _⟩ => ⟨S2x128x64x128, .f32⟩
  | .hbm, ⟨50, _⟩ => ⟨S2x8192x128, .f32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S2x8192x128, .f32⟩
  | .hbm, ⟨59, _⟩ => ⟨S2x8192x128, .f32⟩
  | .hbm, ⟨60, _⟩ => ⟨S_, .f32⟩
  | .hbm, ⟨61, _⟩ => ⟨S2x8192x128, .f32⟩
  | .hbm, ⟨62, _⟩ => ⟨S2x8192x128, .f32⟩
  | .hbm, ⟨63, _⟩ => ⟨S_, .f32⟩
  | .hbm, ⟨64, _⟩ => ⟨S2x8192x128, .f32⟩
  | .hbm, ⟨65, _⟩ => ⟨S2x8192x128, .f32⟩
  | .hbm, ⟨66, _⟩ => ⟨S2x8192x128, .i1⟩
  | .hbm, ⟨67, _⟩ => ⟨S2x8192x128, .f32⟩
  | .hbm, ⟨68, _⟩ => ⟨S2x8192x128, .i1⟩
  | .hbm, ⟨69, _⟩ => ⟨S2x8192x128, .f32⟩
  | .hbm, ⟨70, _⟩ => ⟨S16384x128, .f32⟩
  | .hbm, ⟨71, _⟩ => ⟨S128x16384, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v4 : Ref sig .tc := ⟨.hbm, 23, rfl⟩
abbrev main_call1_call0_cst : Ref sig .tc := ⟨.hbm, 24, rfl⟩
abbrev main_call1_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call2_cst : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_call3_call0_cst : Ref sig .tc := ⟨.hbm, 47, rfl⟩
abbrev main_call3_call0_v0 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_c : Ref sig .tc := ⟨.hbm, 52, rfl⟩
abbrev main_v16 : Ref sig .tc := ⟨.hbm, 53, rfl⟩
abbrev main_v17 : Ref sig .tc := ⟨.hbm, 54, rfl⟩
abbrev main_c_0 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst : Ref sig .tc := ⟨.hbm, 60, rfl⟩
abbrev main_v22 : Ref sig .tc := ⟨.hbm, 61, rfl⟩
abbrev main_v23 : Ref sig .tc := ⟨.hbm, 62, rfl⟩
abbrev main_cst_1 : Ref sig .tc := ⟨.hbm, 63, rfl⟩
abbrev main_v24 : Ref sig .tc := ⟨.hbm, 64, rfl⟩
abbrev main_v25 : Ref sig .tc := ⟨.hbm, 65, rfl⟩
abbrev main_call4_v0 : Ref sig .tc := ⟨.hbm, 66, rfl⟩
abbrev main_v26 : Ref sig .tc := ⟨.hbm, 67, rfl⟩
abbrev main_call5_v0 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== Proof.Runs.lean ====
/- The body's run, a case of its conditions at a time: from any contents it ends, holds its blocks, and leaves its six operands as they were. -/
module

public import proofs.«01_k».proof.Proof.Gen.KernelIdeal.Points
public import proofs.«01_k».proof.Proof.Gen.KernelIdeal.Skeleton
public import Idealize.ShloMosaic.Lib.Pipeline.FrameBody
public import Idealize.ShloMosaic.Lib.Exec
public import Idealize.ShloMosaic.Lib.Tactic
public import Idealize.ShloMosaic.Lib.LoopRemainder
public import Idealize.ShloMosaic.Lib.Tactic.Stretches

@[expose] public section

set_option maxRecDepth 16384

noncomputable section

namespace Cert.KernelIdeal.Gen.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
theorem runB (𝒱 : Variants) (c : Dev nD)
    (arg2 : Memref sig .tc .vmem S512x256 .bf16) (harg2 : arg2.IsWhole) (arg3 : Memref sig .tc .vmem S512x256 .bf16) (harg3 : arg3.IsWhole) (arg4 : Memref sig .tc .vmem S1x128 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x128 .f32) (harg7 : arg7.IsWhole) (arg8 : Memref sig .tc .vmem S512x256 .bf16) (harg8 : arg8.IsWhole) (arg9 : Memref sig .tc .vmem S2x8192x256 .bf16) (harg9 : arg9.IsWhole) (arg10 : Memref sig .tc .vmem S2x8192x256 .bf16) (harg10 : arg10.IsWhole) (arg11 : Memref sig .tc .vmem S2x512x128 .f32) (harg11 : arg11.IsWhole) (arg12 : Memref sig .tc .vmem S2x512x256 .f32) (harg12 : arg12.IsWhole) (arg13 : Memref sig .tc .vmem S2x512x1024 .f32) (harg13 : arg13.IsWhole) (arg14 : Memref sig .tc .vmem S2x512x1024 .f32) (harg14 : arg14.IsWhole) (arg15 : Memref sig .tc .vmem S2x512x1024 .f32) (harg15 : arg15.IsWhole)
    (i : grid0.Coords)
    (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F))
    (hc1 : ¬ (k0_cond1 i = 1#1)) (hc2 : (k0_cond2 i = 1#1)) (hc3 : ¬ (k0_cond3 i = 1#1)) (hc4 : (k0_cond4 i = 1#1)) (hc5 : ¬ (k0_cond5 i = 1#1)) (hc6 : ¬ (k0_cond6 i = 1#1)) (hc7 : ¬ (k0_cond7 i = 1#1)) (hc8 : ¬ (k0_cond8 i = 1#1)) (hc9 : ¬ (k0_cond9 i = 1#1))
     :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
    ⊢ (wp frame (wpE (defs₀ (F := F)) 𝒱 (c : Thread nD τ) none) Set.univ (cc0_fox_attention i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(∃ f8' f9' f10' f11' f12' f13' f14' f15', (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15'))) : sProp 𝕄) := by
  rw [cc0_fox_attention_eq_skeleton]
  unfold cc0_fox_attention_skel
  iintro ⟨H2, H3, H4, H5, H6, H7, H8, H9, H10, H11, H12, H13, H14, H15⟩
  sl_exec
  sl_for (fun _ _ => iprop(∃ (g9 : arg9.view.ty.Contents (Elt F)) (g10 : arg10.view.ty.Contents (Elt F)) (g11 : arg11.view.ty.Contents (Elt F)) (g12 : arg12.view.ty.Contents (Elt F)) (g14 : arg14.view.ty.Contents (Elt F)) (g15 : arg15.view.ty.Contents (Elt F)), (arg2.view.loc (c : Thread nD τ) ↦[arg2.view.set]{fullShare} f2) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg14.view.loc (c : Thread nD τ) ↦[arg14.view.set]{fullShare} g14) ∗ (arg15.view.loc (c : Thread nD τ) ↦[arg15.view.set]{fullShare} g15))) $$ [H2 H9 H10 H11 H12 H14 H15]
  · intro k acc
    iintro ⟨%g9, %g10, %g11, %g12, %g14, %g15, H2, H9, H10, H11, H12, H14, H15⟩
    sl_exec
    sl_step
    iexists _, _, _, _, _, _
    iframe
  · iexists _, _, _, _, _, _
    iframe
  iintro %acc2 ⟨%g9, %g10, %g11, %g12, %g14, %g15, H2, H9, H10, H11, H12, H14, H15⟩
  sl_exec

  sl_step
  iexists _, _, _, _, _, _, _, _
  iframe

set_option maxHeartbeats 8000000 in
theorem runC (𝒱 : Variants) (c : Dev nD)
    (arg2 : Memref sig .tc .vmem S512x256 .bf16) (harg2 : arg2.IsWhole) (arg3 : Memref sig .tc .vmem S512x256 .bf16) (harg3 : arg3.IsWhole) (arg4 : Memref sig .tc .vmem S1x128 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x128 .f32) (harg7 : arg7.IsWhole) (arg8 : Memref sig .tc .vmem S512x256 .bf16) (harg8 : arg8.IsWhole) (arg9 : Memref sig .tc .vmem S2x8192x256 .bf16) (harg9 : arg9.IsWhole) (arg10 : Memref sig .tc .vmem S2x8192x256 .bf16) (harg10 : arg10.IsWhole) (arg11 : Memref sig .tc .vmem S2x512x128 .f32) (harg11 : arg11.IsWhole) (arg12 : Memref sig .tc .vmem S2x512x256 .f32) (harg12 : arg12.IsWhole) (arg13 : Memref sig .tc .vmem S2x512x1024 .f32) (harg13 : arg13.IsWhole) (arg14 : Memref sig .tc .vmem S2x512x1024 .f32) (harg14 : arg14.IsWhole) (arg15 : Memref sig .tc .vmem S2x512x1024 .f32) (harg15 : arg15.IsWhole)
    (i : grid0.Coords)
    (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F))
    (hc1 : ¬ (k0_cond1 i = 1#1)) (hc2 : (k0_cond2 i = 1#1)) (hc3 : ¬ (k0_cond3 i = 1#1)) (hc4 : ¬ (k0_cond4 i = 1#1)) (hc5 : (k0_cond5 i = 1#1)) (hc6 : (k0_cond6 i = 1#1)) (hc7 : ¬ (k0_cond7 i = 1#1)) (hc8 : ¬ (k0_cond8 i = 1#1)) (hc9 : ¬ (k0_cond9 i = 1#1))
     :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
    ⊢ (wp frame (wpE (defs₀ (F := F)) 𝒱 (c : Thread nD τ) none) Set.univ (cc0_fox_attention i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(∃ f8' f9' f10' f11' f12' f13' f14' f15', (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15'))) : sProp 𝕄) := by
  rw [cc0_fox_attention_eq_skeleton]
  unfold cc0_fox_attention_skel
  iintro ⟨H2, H3, H4, H5, H6, H7, H8, H9, H10, H11, H12, H13, H14, H15⟩
  sl_exec
  sl_for (fun _ _ => iprop(∃ (g9 : arg9.view.ty.Contents (Elt F)) (g10 : arg10.view.ty.Contents (Elt F)) (g11 : arg11.view.ty.Contents (Elt F)) (g12 : arg12.view.ty.Contents (Elt F)) (g14 : arg14.view.ty.Contents (Elt F)) (g15 : arg15.view.ty.Contents (Elt F)), (arg2.view.loc (c : Thread nD τ) ↦[arg2.view.set]{fullShare} f2) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg14.view.loc (c : Thread nD τ) ↦[arg14.view.set]{fullShare} g14) ∗ (arg15.view.loc (c : Thread nD τ) ↦[arg15.view.set]{fullShare} g15))) $$ [H2 H9 H10 H11 H12 H14 H15]
  · intro k acc
    iintro ⟨%g9, %g10, %g11, %g12, %g14, %g15, H2, H9, H10, H11, H12, H14, H15⟩
    sl_exec
    sl_step
    iexists _, _, _, _, _, _
    iframe
  · iexists _, _, _, _, _, _
    iframe
  iintro %acc2 ⟨%g9, %g10, %g11, %g12, %g14, %g15, H2, H9, H10, H11, H12, H14, H15⟩
  sl_exec

  sl_step
  iexists _, _, _, _, _, _, _, _
  iframe

set_option maxHeartbeats 8000000 in
theorem runE (𝒱 : Variants) (c : Dev nD)
    (arg2 : Memref sig .tc .vmem S512x256 .bf16) (harg2 : arg2.IsWhole) (arg3 : Memref sig .tc .vmem S512x256 .bf16) (harg3 : arg3.IsWhole) (arg4 : Memref sig .tc .vmem S1x128 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x128 .f32) (harg7 : arg7.IsWhole) (arg8 : Memref sig .tc .vmem S512x256 .bf16) (harg8 : arg8.IsWhole) (arg9 : Memref sig .tc .vmem S2x8192x256 .bf16) (harg9 : arg9.IsWhole) (arg10 : Memref sig .tc .vmem S2x8192x256 .bf16) (harg10 : arg10.IsWhole) (arg11 : Memref sig .tc .vmem S2x512x128 .f32) (harg11 : arg11.IsWhole) (arg12 : Memref sig .tc .vmem S2x512x256 .f32) (harg12 : arg12.IsWhole) (arg13 : Memref sig .tc .vmem S2x512x1024 .f32) (harg13 : arg13.IsWhole) (arg14 : Memref sig .tc .vmem S2x512x1024 .f32) (harg14 : arg14.IsWhole) (arg15 : Memref sig .tc .vmem S2x512x1024 .f32) (harg15 : arg15.IsWhole)
    (i : grid0.Coords)
    (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F))
    (hc1 : ¬ (k0_cond1 i = 1#1)) (hc2 : ¬ (k0_cond2 i = 1#1)) (hc3 : ¬ (k0_cond3 i = 1#1)) (hc4 : ¬ (k0_cond4 i = 1#1)) (hc5 : (k0_cond5 i = 1#1)) (hc6 : ¬ (k0_cond6 i = 1#1)) (hc7 : ¬ (k0_cond7 i = 1#1)) (hc8 : (k0_cond8 i = 1#1)) (hc9 : ¬ (k0_cond9 i = 1#1))
     :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
    ⊢ (wp frame (wpE (defs₀ (F := F)) 𝒱 (c : Thread nD τ) none) Set.univ (cc0_fox_attention i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(∃ f8' f9' f10' f11' f12' f13' f14' f15', (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15'))) : sProp 𝕄) := by
  rw [cc0_fox_attention_eq_skeleton]
  unfold cc0_fox_attention_skel
  iintro ⟨H2, H3, H4, H5, H6, H7, H8, H9, H10, H11, H12, H13, H14, H15⟩
  sl_exec
  sl_for (fun _ _ => iprop(∃ (g9 : arg9.view.ty.Contents (Elt F)) (g10 : arg10.view.ty.Contents (Elt F)) (g11 : arg11.view.ty.Contents (Elt F)) (g12 : arg12.view.ty.Contents (Elt F)) (g14 : arg14.view.ty.Contents (Elt F)) (g15 : arg15.view.ty.Contents (Elt F)), (arg2.view.loc (c : Thread nD τ) ↦[arg2.view.set]{fullShare} f2) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg14.view.loc (c : Thread nD τ) ↦[arg14.view.set]{fullShare} g14) ∗ (arg15.view.loc (c : Thread nD τ) ↦[arg15.view.set]{fullShare} g15))) $$ [H2 H9 H10 H11 H12 H14 H15]
  · intro k acc
    iintro ⟨%g9, %g10, %g11, %g12, %g14, %g15, H2, H9, H10, H11, H12, H14, H15⟩
    sl_exec
    sl_step
    iexists _, _, _, _, _, _
    iframe
  · iexists _, _, _, _, _, _
    iframe
  iintro %acc2 ⟨%g9, %g10, %g11, %g12, %g14, %g15, H2, H9, H10, H11, H12, H14, H15⟩
  sl_exec

  sl_step
  iexists _, _, _, _, _, _, _, _
  iframe

set_option maxHeartbeats 8000000 in
theorem runF (𝒱 : Variants) (c : Dev nD)
    (arg2 : Memref sig .tc .vmem S512x256 .bf16) (harg2 : arg2.IsWhole) (arg3 : Memref sig .tc .vmem S512x256 .bf16) (harg3 : arg3.IsWhole) (arg4 : Memref sig .tc .vmem S1x128 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x128 .f32) (harg7 : arg7.IsWhole) (arg8 : Memref sig .tc .vmem S512x256 .bf16) (harg8 : arg8.IsWhole) (arg9 : Memref sig .tc .vmem S2x8192x256 .bf16) (harg9 : arg9.IsWhole) (arg10 : Memref sig .tc .vmem S2x8192x256 .bf16) (harg10 : arg10.IsWhole) (arg11 : Memref sig .tc .vmem S2x512x128 .f32) (harg11 : arg11.IsWhole) (arg12 : Memref sig .tc .vmem S2x512x256 .f32) (harg12 : arg12.IsWhole) (arg13 : Memref sig .tc .vmem S2x512x1024 .f32) (harg13 : arg13.IsWhole) (arg14 : Memref sig .tc .vmem S2x512x1024 .f32) (harg14 : arg14.IsWhole) (arg15 : Memref sig .tc .vmem S2x512x1024 .f32) (harg15 : arg15.IsWhole)
    (i : grid0.Coords)
    (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F))
    (hc1 : ¬ (k0_cond1 i = 1#1)) (hc2 : ¬ (k0_cond2 i = 1#1)) (hc3 : ¬ (k0_cond3 i = 1#1)) (hc4 : ¬ (k0_cond4 i = 1#1)) (hc5 : (k0_cond5 i = 1#1)) (hc6 : ¬ (k0_cond6 i = 1#1)) (hc7 : ¬ (k0_cond7 i = 1#1)) (hc8 : ¬ (k0_cond8 i = 1#1)) (hc9 : (k0_cond9 i = 1#1))
     :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
    ⊢ (wp frame (wpE (defs₀ (F := F)) 𝒱 (c : Thread nD τ) none) Set.univ (cc0_fox_attention i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(∃ f8' f9' f10' f11' f12' f13' f14' f15', (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15'))) : sProp 𝕄) := by
  rw [cc0_fox_attention_eq_skeleton]
  unfold cc0_fox_attention_skel
  iintro ⟨H2, H3, H4, H5, H6, H7, H8, H9, H10, H11, H12, H13, H14, H15⟩
  sl_exec
  sl_for (fun _ _ => iprop(∃ (g9 : arg9.view.ty.Contents (Elt F)) (g10 : arg10.view.ty.Contents (Elt F)) (g11 : arg11.view.ty.Contents (Elt F)) (g12 : arg12.view.ty.Contents (Elt F)) (g14 : arg14.view.ty.Contents (Elt F)) (g15 : arg15.view.ty.Contents (Elt F)), (arg2.view.loc (c : Thread nD τ) ↦[arg2.view.set]{fullShare} f2) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg14.view.loc (c : Thread nD τ) ↦[arg14.view.set]{fullShare} g14) ∗ (arg15.view.loc (c : Thread nD τ) ↦[arg15.view.set]{fullShare} g15))) $$ [H2 H9 H10 H11 H12 H14 H15]
  · intro k acc
    iintro ⟨%g9, %g10, %g11, %g12, %g14, %g15, H2, H9, H10, H11, H12, H14, H15⟩
    sl_exec
    sl_step
    iexists _, _, _, _, _, _
    iframe
  · iexists _, _, _, _, _, _
    iframe
  iintro %acc2 ⟨%g9, %g10, %g11, %g12, %g14, %g15, H2, H9, H10, H11, H12, H14, H15⟩
  sl_exec

  sl_step
  iexists _, _, _, _, _, _, _, _
  iframe

set_option maxHeartbeats 8000000 in
theorem runG (𝒱 : Variants) (c : Dev nD)
    (arg2 : Memref sig .tc .vmem S512x256 .bf16) (harg2 : arg2.IsWhole) (arg3 : Memref sig .tc .vmem S512x256 .bf16) (harg3 : arg3.IsWhole) (arg4 : Memref sig .tc .vmem S1x128 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x128 .f32) (harg7 : arg7.IsWhole) (arg8 : Memref sig .tc .vmem S512x256 .bf16) (harg8 : arg8.IsWhole) (arg9 : Memref sig .tc .vmem S2x8192x256 .bf16) (harg9 : arg9.IsWhole) (arg10 : Memref sig .tc .vmem S2x8192x256 .bf16) (harg10 : arg10.IsWhole) (arg11 : Memref sig .tc .vmem S2x512x128 .f32) (harg11 : arg11.IsWhole) (arg12 : Memref sig .tc .vmem S2x512x256 .f32) (harg12 : arg12.IsWhole) (arg13 : Memref sig .tc .vmem S2x512x1024 .f32) (harg13 : arg13.IsWhole) (arg14 : Memref sig .tc .vmem S2x512x1024 .f32) (harg14 : arg14.IsWhole) (arg15 : Memref sig .tc .vmem S2x512x1024 .f32) (harg15 : arg15.IsWhole)
    (i : grid0.Coords)
    (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F))
    (hc1 : ¬ (k0_cond1 i = 1#1)) (hc2 : ¬ (k0_cond2 i = 1#1)) (hc3 : ¬ (k0_cond3 i = 1#1)) (hc4 : ¬ (k0_cond4 i = 1#1)) (hc5 : (k0_cond5 i = 1#1)) (hc6 : (k0_cond6 i = 1#1)) (hc7 : ¬ (k0_cond7 i = 1#1)) (hc8 : ¬ (k0_cond8 i = 1#1)) (hc9 : ¬ (k0_cond9 i = 1#1))
     :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
    ⊢ (wp frame (wpE (defs₀ (F := F)) 𝒱 (c : Thread nD τ) none) Set.univ (cc0_fox_attention i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(∃ f8' f9' f10' f11' f12' f13' f14' f15', (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15'))) : sProp 𝕄) := by
  rw [cc0_fox_attention_eq_skeleton]
  unfold cc0_fox_attention_skel
  iintro ⟨H2, H3, H4, H5, H6, H7, H8, H9, H10, H11, H12, H13, H14, H15⟩
  sl_exec
  sl_for (fun _ _ => iprop(∃ (g9 : arg9.view.ty.Contents (Elt F)) (g10 : arg10.view.ty.Contents (Elt F)) (g11 : arg11.view.ty.Contents (Elt F)) (g12 : arg12.view.ty.Contents (Elt F)) (g14 : arg14.view.ty.Contents (Elt F)) (g15 : arg15.view.ty.Contents (Elt F)), (arg2.view.loc (c : Thread nD τ) ↦[arg2.view.set]{fullShare} f2) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg14.view.loc (c : Thread nD τ) ↦[arg14.view.set]{fullShare} g14) ∗ (arg15.view.loc (c : Thread nD τ) ↦[arg15.view.set]{fullShare} g15))) $$ [H2 H9 H10 H11 H12 H14 H15]
  · intro k acc
    iintro ⟨%g9, %g10, %g11, %g12, %g14, %g15, H2, H9, H10, H11, H12, H14, H15⟩
    sl_exec
    sl_step
    iexists _, _, _, _, _, _
    iframe
  · iexists _, _, _, _, _, _
    iframe
  iintro %acc2 ⟨%g9, %g10, %g11, %g12, %g14, %g15, H2, H9, H10, H11, H12, H14, H15⟩
  sl_exec

  sl_step
  iexists _, _, _, _, _, _, _, _
  iframe

set_option maxHeartbeats 8000000 in
theorem runH (𝒱 : Variants) (c : Dev nD)
    (arg2 : Memref sig .tc .vmem S512x256 .bf16) (harg2 : arg2.IsWhole) (arg3 : Memref sig .tc .vmem S512x256 .bf16) (harg3 : arg3.IsWhole) (arg4 : Memref sig .tc .vmem S1x128 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x128 .f32) (harg7 : arg7.IsWhole) (arg8 : Memref sig .tc .vmem S512x256 .bf16) (harg8 : arg8.IsWhole) (arg9 : Memref sig .tc .vmem S2x8192x256 .bf16) (harg9 : arg9.IsWhole) (arg10 : Memref sig .tc .vmem S2x8192x256 .bf16) (harg10 : arg10.IsWhole) (arg11 : Memref sig .tc .vmem S2x512x128 .f32) (harg11 : arg11.IsWhole) (arg12 : Memref sig .tc .vmem S2x512x256 .f32) (harg12 : arg12.IsWhole) (arg13 : Memref sig .tc .vmem S2x512x1024 .f32) (harg13 : arg13.IsWhole) (arg14 : Memref sig .tc .vmem S2x512x1024 .f32) (harg14 : arg14.IsWhole) (arg15 : Memref sig .tc .vmem S2x512x1024 .f32) (harg15 : arg15.IsWhole)
    (i : grid0.Coords)
    (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F))
    (hc1 : ¬ (k0_cond1 i = 1#1)) (hc2 : ¬ (k0_cond2 i = 1#1)) (hc3 : ¬ (k0_cond3 i = 1#1)) (hc4 : ¬ (k0_cond4 i = 1#1)) (hc5 : (k0_cond5 i = 1#1)) (hc6 : ¬ (k0_cond6 i = 1#1)) (hc7 : (k0_cond7 i = 1#1)) (hc8 : ¬ (k0_cond8 i = 1#1)) (hc9 : ¬ (k0_cond9 i = 1#1))
     :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
    ⊢ (wp frame (wpE (defs₀ (F := F)) 𝒱 (c : Thread nD τ) none) Set.univ (cc0_fox_attention i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(∃ f8' f9' f10' f11' f12' f13' f14' f15', (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15'))) : sProp 𝕄) := by
  rw [cc0_fox_attention_eq_skeleton]
  unfold cc0_fox_attention_skel
  iintro ⟨H2, H3, H4, H5, H6, H7, H8, H9, H10, H11, H12, H13, H14, H15⟩
  sl_exec
  sl_for (fun _ _ => iprop(∃ (g9 : arg9.view.ty.Contents (Elt F)) (g10 : arg10.view.ty.Contents (Elt F)) (g11 : arg11.view.ty.Contents (Elt F)) (g12 : arg12.view.ty.Contents (Elt F)) (g14 : arg14.view.ty.Contents (Elt F)) (g15 : arg15.view.ty.Contents (Elt F)), (arg2.view.loc (c : Thread nD τ) ↦[arg2.view.set]{fullShare} f2) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg14.view.loc (c : Thread nD τ) ↦[arg14.view.set]{fullShare} g14) ∗ (arg15.view.loc (c : Thread nD τ) ↦[arg15.view.set]{fullShare} g15))) $$ [H2 H9 H10 H11 H12 H14 H15]
  · intro k acc
    iintro ⟨%g9, %g10, %g11, %g12, %g14, %g15, H2, H9, H10, H11, H12, H14, H15⟩
    sl_exec
    sl_step
    iexists _, _, _, _, _, _
    iframe
  · iexists _, _, _, _, _, _
    iframe
  iintro %acc2 ⟨%g9, %g10, %g11, %g12, %g14, %g15, H2, H9, H10, H11, H12, H14, H15⟩
  sl_exec

  sl_step
  iexists _, _, _, _, _, _, _, _
  iframe

set_option maxHeartbeats 8000000 in
theorem runA (𝒱 : Variants) (c : Dev nD)
    (arg2 : Memref sig .tc .vmem S512x256 .bf16) (harg2 : arg2.IsWhole) (arg3 : Memref sig .tc .vmem S512x256 .bf16) (harg3 : arg3.IsWhole) (arg4 : Memref sig .tc .vmem S1x128 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x128 .f32) (harg7 : arg7.IsWhole) (arg8 : Memref sig .tc .vmem S512x256 .bf16) (harg8 : arg8.IsWhole) (arg9 : Memref sig .tc .vmem S2x8192x256 .bf16) (harg9 : arg9.IsWhole) (arg10 : Memref sig .tc .vmem S2x8192x256 .bf16) (harg10 : arg10.IsWhole) (arg11 : Memref sig .tc .vmem S2x512x128 .f32) (harg11 : arg11.IsWhole) (arg12 : Memref sig .tc .vmem S2x512x256 .f32) (harg12 : arg12.IsWhole) (arg13 : Memref sig .tc .vmem S2x512x1024 .f32) (harg13 : arg13.IsWhole) (arg14 : Memref sig .tc .vmem S2x512x1024 .f32) (harg14 : arg14.IsWhole) (arg15 : Memref sig .tc .vmem S2x512x1024 .f32) (harg15 : arg15.IsWhole)
    (i : grid0.Coords)
    (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F))
    (hc1 : (k0_cond1 i = 1#1)) (hc2 : (k0_cond2 i = 1#1)) (hc3 : (k0_cond3 i = 1#1)) (hc4 : ¬ (k0_cond4 i = 1#1)) (hc5 : ¬ (k0_cond5 i = 1#1)) (hc6 : ¬ (k0_cond6 i = 1#1)) (hc7 : ¬ (k0_cond7 i = 1#1)) (hc8 : ¬ (k0_cond8 i = 1#1)) (hc9 : ¬ (k0_cond9 i = 1#1))
     :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
    ⊢ (wp frame (wpE (defs₀ (F := F)) 𝒱 (c : Thread nD τ) none) Set.univ (cc0_fox_attention i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(∃ f8' f9' f10' f11' f12' f13' f14' f15', (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15'))) : sProp 𝕄) := by
  rw [cc0_fox_attention_eq_skeleton]
  unfold cc0_fox_attention_skel
  iintro ⟨H2, H3, H4, H5, H6, H7, H8, H9, H10, H11, H12, H13, H14, H15⟩
  sl_exec
  sl_for (fun _ _ => iprop(∃ (g9 : arg9.view.ty.Contents (Elt F)) (g10 : arg10.view.ty.Contents (Elt F)) (g11 : arg11.view.ty.Contents (Elt F)), (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11))) $$ [H5 H6 H7 H9 H10 H11]
  · intro k acc
    iintro ⟨%g9, %g10, %g11, H5, H6, H7, H9, H10, H11⟩
    sl_exec
    sl_step
    iexists _, _, _
    iframe
  · iexists _, _, _
    iframe
  iintro %acc ⟨%g9, %g10, %g11, H5, H6, H7, H9, H10, H11⟩
  sl_exec
  sl_for (fun _ _ => iprop(∃ (g9 : arg9.view.ty.Contents (Elt F)) (g10 : arg10.view.ty.Contents (Elt F)) (g11 : arg11.view.ty.Contents (Elt F)) (g12 : arg12.view.ty.Contents (Elt F)) (g14 : arg14.view.ty.Contents (Elt F)) (g15 : arg15.view.ty.Contents (Elt F)), (arg2.view.loc (c : Thread nD τ) ↦[arg2.view.set]{fullShare} f2) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg14.view.loc (c : Thread nD τ) ↦[arg14.view.set]{fullShare} g14) ∗ (arg15.view.loc (c : Thread nD τ) ↦[arg15.view.set]{fullShare} g15))) $$ [H2 H9 H10 H11 H12 H14 H15]
  · intro k acc
    iintro ⟨%g9, %g10, %g11, %g12, %g14, %g15, H2, H9, H10, H11, H12, H14, H15⟩
    sl_exec
    sl_step
    iexists _, _, _, _, _, _
    iframe
  · iexists _, _, _, _, _, _
    iframe
  iintro %acc2 ⟨%g9, %g10, %g11, %g12, %g14, %g15, H2, H9, H10, H11, H12, H14, H15⟩
  sl_exec

  sl_step
  iexists _, _, _, _, _, _, _, _
  iframe

end Cert.KernelIdeal.Gen.Hand

end
-- ==== Proof.Body.lean ====
/- The body's obligation at every point, and the frame run: the kernel ends, faults nowhere and leaves its arguments unchanged. -/
module

public import proofs.«01_k».proof.Proof.Runs
public import proofs.«01_k».proof.Proof.Gen.KernelIdeal.Frame
public import Idealize.ShloMosaic.Lib.Exec
public import Idealize.ShloMosaic.Lib.Tactic
public import Idealize.ShloMosaic.Lib.LoopRemainder
public import Idealize.ShloMosaic.Lib.Tactic.Stretches

@[expose] public section

set_option maxRecDepth 16384

noncomputable section

namespace Cert.KernelIdeal.Gen.Hand

open Idealize.ShloMosaic.Pipeline (Dat Cfg Window BodyObligation BodyObligationLoose cellOf)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem cond1_iff : ∀ i : grid0.Coords, k0_cond1 i = 1#1 ↔ (i 1).val = 0 := by decide +kernel
theorem cond2_iff : ∀ i : grid0.Coords, k0_cond2 i = 1#1 ↔ (i 1).val ≤ 2 := by decide +kernel
theorem cond3_iff : ∀ i : grid0.Coords, k0_cond3 i = 1#1 ↔ (i 1).val = 0 := by decide +kernel
theorem cond4_iff : ∀ i : grid0.Coords, k0_cond4 i = 1#1 ↔ (i 1).val = 1 := by decide +kernel
theorem cond5_iff : ∀ i : grid0.Coords, k0_cond5 i = 1#1 ↔ 2 ≤ (i 1).val := by decide +kernel
theorem cond6_iff : ∀ i : grid0.Coords, k0_cond6 i = 1#1 ↔ (i 1).val % 4 = 2 := by decide +kernel
theorem cond7_iff : ∀ i : grid0.Coords, k0_cond7 i = 1#1 ↔ (i 1).val % 4 = 3 := by decide +kernel
theorem cond8_iff : ∀ i : grid0.Coords, k0_cond8 i = 1#1 ↔ (4 ≤ (i 1).val ∧ (i 1).val % 4 = 0) := by decide +kernel
theorem cond9_iff : ∀ i : grid0.Coords, k0_cond9 i = 1#1 ↔ (5 ≤ (i 1).val ∧ (i 1).val % 4 = 1) := by decide +kernel

/-- Which of the body's conditions hold at a point: one of seven cases. -/
theorem conds_cases (i : grid0.Coords) : ((k0_cond1 i = 1#1) ∧ (k0_cond2 i = 1#1) ∧ (k0_cond3 i = 1#1) ∧ ¬ (k0_cond4 i = 1#1) ∧ ¬ (k0_cond5 i = 1#1) ∧ ¬ (k0_cond6 i = 1#1) ∧ ¬ (k0_cond7 i = 1#1) ∧ ¬ (k0_cond8 i = 1#1) ∧ ¬ (k0_cond9 i = 1#1)) ∨ (¬ (k0_cond1 i = 1#1) ∧ (k0_cond2 i = 1#1) ∧ ¬ (k0_cond3 i = 1#1) ∧ (k0_cond4 i = 1#1) ∧ ¬ (k0_cond5 i = 1#1) ∧ ¬ (k0_cond6 i = 1#1) ∧ ¬ (k0_cond7 i = 1#1) ∧ ¬ (k0_cond8 i = 1#1) ∧ ¬ (k0_cond9 i = 1#1)) ∨ (¬ (k0_cond1 i = 1#1) ∧ (k0_cond2 i = 1#1) ∧ ¬ (k0_cond3 i = 1#1) ∧ ¬ (k0_cond4 i = 1#1) ∧ (k0_cond5 i = 1#1) ∧ (k0_cond6 i = 1#1) ∧ ¬ (k0_cond7 i = 1#1) ∧ ¬ (k0_cond8 i = 1#1) ∧ ¬ (k0_cond9 i = 1#1)) ∨ (¬ (k0_cond1 i = 1#1) ∧ ¬ (k0_cond2 i = 1#1) ∧ ¬ (k0_cond3 i = 1#1) ∧ ¬ (k0_cond4 i = 1#1) ∧ (k0_cond5 i = 1#1) ∧ ¬ (k0_cond6 i = 1#1) ∧ ¬ (k0_cond7 i = 1#1) ∧ (k0_cond8 i = 1#1) ∧ ¬ (k0_cond9 i = 1#1)) ∨ (¬ (k0_cond1 i = 1#1) ∧ ¬ (k0_cond2 i = 1#1) ∧ ¬ (k0_cond3 i = 1#1) ∧ ¬ (k0_cond4 i = 1#1) ∧ (k0_cond5 i = 1#1) ∧ ¬ (k0_cond6 i = 1#1) ∧ ¬ (k0_cond7 i = 1#1) ∧ ¬ (k0_cond8 i = 1#1) ∧ (k0_cond9 i = 1#1)) ∨ (¬ (k0_cond1 i = 1#1) ∧ ¬ (k0_cond2 i = 1#1) ∧ ¬ (k0_cond3 i = 1#1) ∧ ¬ (k0_cond4 i = 1#1) ∧ (k0_cond5 i = 1#1) ∧ (k0_cond6 i = 1#1) ∧ ¬ (k0_cond7 i = 1#1) ∧ ¬ (k0_cond8 i = 1#1) ∧ ¬ (k0_cond9 i = 1#1)) ∨ (¬ (k0_cond1 i = 1#1) ∧ ¬ (k0_cond2 i = 1#1) ∧ ¬ (k0_cond3 i = 1#1) ∧ ¬ (k0_cond4 i = 1#1) ∧ (k0_cond5 i = 1#1) ∧ ¬ (k0_cond6 i = 1#1) ∧ (k0_cond7 i = 1#1) ∧ ¬ (k0_cond8 i = 1#1) ∧ ¬ (k0_cond9 i = 1#1)) := by
  have h : (i 1).val < 16 := (i 1).isLt
  simp only [cond1_iff, cond2_iff, cond3_iff, cond4_iff, cond5_iff, cond6_iff, cond7_iff, cond8_iff, cond9_iff]
  generalize (i 1).val = n at *
  rcases (show n = 0 ∨ n = 1 ∨ n = 2 ∨ (4 ≤ n ∧ n % 4 = 0) ∨ (5 ≤ n ∧ n % 4 = 1) ∨ (6 ≤ n ∧ n % 4 = 2) ∨ n % 4 = 3 by omega) with h | h | h | h | h | h | h
  · refine .inl ⟨?_, ?_, ?_, ?_, ?_, ?_, ?_, ?_, ?_⟩ <;> omega
  · refine .inr (.inl ⟨?_, ?_, ?_, ?_, ?_, ?_, ?_, ?_, ?_⟩) <;> omega
  · refine .inr (.inr (.inl ⟨?_, ?_, ?_, ?_, ?_, ?_, ?_, ?_, ?_⟩)) <;> omega
  · refine .inr (.inr (.inr (.inl ⟨?_, ?_, ?_, ?_, ?_, ?_, ?_, ?_, ?_⟩))) <;> omega
  · refine .inr (.inr (.inr (.inr (.inl ⟨?_, ?_, ?_, ?_, ?_, ?_, ?_, ?_, ?_⟩)))) <;> omega
  · refine .inr (.inr (.inr (.inr (.inr (.inl ⟨?_, ?_, ?_, ?_, ?_, ?_, ?_, ?_, ?_⟩))))) <;> omega
  · refine .inr (.inr (.inr (.inr (.inr (.inr (⟨?_, ?_, ?_, ?_, ?_, ?_, ?_, ?_, ?_⟩)))))) <;> omega

theorem run_all (𝒱 : Variants) (c : Dev nD)
    (arg2 : Memref sig .tc .vmem S512x256 .bf16) (harg2 : arg2.IsWhole) (arg3 : Memref sig .tc .vmem S512x256 .bf16) (harg3 : arg3.IsWhole) (arg4 : Memref sig .tc .vmem S1x128 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x128 .f32) (harg7 : arg7.IsWhole) (arg8 : Memref sig .tc .vmem S512x256 .bf16) (harg8 : arg8.IsWhole) (arg9 : Memref sig .tc .vmem S2x8192x256 .bf16) (harg9 : arg9.IsWhole) (arg10 : Memref sig .tc .vmem S2x8192x256 .bf16) (harg10 : arg10.IsWhole) (arg11 : Memref sig .tc .vmem S2x512x128 .f32) (harg11 : arg11.IsWhole) (arg12 : Memref sig .tc .vmem S2x512x256 .f32) (harg12 : arg12.IsWhole) (arg13 : Memref sig .tc .vmem S2x512x1024 .f32) (harg13 : arg13.IsWhole) (arg14 : Memref sig .tc .vmem S2x512x1024 .f32) (harg14 : arg14.IsWhole) (arg15 : Memref sig .tc .vmem S2x512x1024 .f32) (harg15 : arg15.IsWhole)
    (i : grid0.Coords)
    (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))
    ⊢ (wp frame (wpE (defs₀ (F := F)) 𝒱 (c : Thread nD τ) none) Set.univ (cc0_fox_attention i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(∃ f8' f9' f10' f11' f12' f13' f14' f15', (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8') ∗ (arg9.view.loc (c : Thread nD τ) ↦[arg9.view.set]{fullShare} f9') ∗ (arg10.view.loc (c : Thread nD τ) ↦[arg10.view.set]{fullShare} f10') ∗ (arg11.view.loc (c : Thread nD τ) ↦[arg11.view.set]{fullShare} f11') ∗ (arg12.view.loc (c : Thread nD τ) ↦[arg12.view.set]{fullShare} f12') ∗ (arg13.view.loc (c : Thread nD τ) ↦[arg13.view.set]{fullShare} f13') ∗ (arg14.view.loc (c : Thread nD τ) ↦[arg14.view.set]{fullShare} f14') ∗ (arg15.view.loc (c : Thread nD τ) ↦[arg15.view.set]{fullShare} f15'))) : sProp 𝕄) := by
  rcases conds_cases i with ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩ | ⟨h1, h2, h3, h4, h5, h6, h7, h8, h9⟩
  · exact runA 𝒱 c arg2 harg2 arg3 harg3 arg4 harg4 arg5 harg5 arg6 harg6 arg7 harg7 arg8 harg8 arg9 harg9 arg10 harg10 arg11 harg11 arg12 harg12 arg13 harg13 arg14 harg14 arg15 harg15 i f2 f3 f4 f5 f6 f7 f8 f9 f10 f11 f12 f13 f14 f15 h1 h2 h3 h4 h5 h6 h7 h8 h9
  · exact runB 𝒱 c arg2 harg2 arg3 harg3 arg4 harg4 arg5 harg5 arg6 harg6 arg7 harg7 arg8 harg8 arg9 harg9 arg10 harg10 arg11 harg11 arg12 harg12 arg13 harg13 arg14 harg14 arg15 harg15 i f2 f3 f4 f5 f6 f7 f8 f9 f10 f11 f12 f13 f14 f15 h1 h2 h3 h4 h5 h6 h7 h8 h9
  · exact runC 𝒱 c arg2 harg2 arg3 harg3 arg4 harg4 arg5 harg5 arg6 harg6 arg7 harg7 arg8 harg8 arg9 harg9 arg10 harg10 arg11 harg11 arg12 harg12 arg13 harg13 arg14 harg14 arg15 harg15 i f2 f3 f4 f5 f6 f7 f8 f9 f10 f11 f12 f13 f14 f15 h1 h2 h3 h4 h5 h6 h7 h8 h9
  · exact runE 𝒱 c arg2 harg2 arg3 harg3 arg4 harg4 arg5 harg5 arg6 harg6 arg7 harg7 arg8 harg8 arg9 harg9 arg10 harg10 arg11 harg11 arg12 harg12 arg13 harg13 arg14 harg14 arg15 harg15 i f2 f3 f4 f5 f6 f7 f8 f9 f10 f11 f12 f13 f14 f15 h1 h2 h3 h4 h5 h6 h7 h8 h9
  · exact runF 𝒱 c arg2 harg2 arg3 harg3 arg4 harg4 arg5 harg5 arg6 harg6 arg7 harg7 arg8 harg8 arg9 harg9 arg10 harg10 arg11 harg11 arg12 harg12 arg13 harg13 arg14 harg14 arg15 harg15 i f2 f3 f4 f5 f6 f7 f8 f9 f10 f11 f12 f13 f14 f15 h1 h2 h3 h4 h5 h6 h7 h8 h9
  · exact runG 𝒱 c arg2 harg2 arg3 harg3 arg4 harg4 arg5 harg5 arg6 harg6 arg7 harg7 arg8 harg8 arg9 harg9 arg10 harg10 arg11 harg11 arg12 harg12 arg13 harg13 arg14 harg14 arg15 harg15 i f2 f3 f4 f5 f6 f7 f8 f9 f10 f11 f12 f13 f14 f15 h1 h2 h3 h4 h5 h6 h7 h8 h9
  · exact runH 𝒱 c arg2 harg2 arg3 harg3 arg4 harg4 arg5 harg5 arg6 harg6 arg7 harg7 arg8 harg8 arg9 harg9 arg10 harg10 arg11 harg11 arg12 harg12 arg13 harg13 arg14 harg14 arg15 harg15 i f2 f3 f4 f5 f6 f7 f8 f9 f10 f11 f12 f13 f14 f15 h1 h2 h3 h4 h5 h6 h7 h8 h9

/-- The body over its blocks: the six operands at their contents, the rest at any. -/
theorem run_owns (𝒱 : Variants) (c : Dev nD)
    (arg2 : Memref sig .tc .vmem S512x256 .bf16) (harg2 : arg2.IsWhole) (arg3 : Memref sig .tc .vmem S512x256 .bf16) (harg3 : arg3.IsWhole) (arg4 : Memref sig .tc .vmem S1x128 .f32) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x128 .f32) (harg7 : arg7.IsWhole) (arg8 : Memref sig .tc .vmem S512x256 .bf16) (harg8 : arg8.IsWhole) (arg9 : Memref sig .tc .vmem S2x8192x256 .bf16) (harg9 : arg9.IsWhole) (arg10 : Memref sig .tc .vmem S2x8192x256 .bf16) (harg10 : arg10.IsWhole) (arg11 : Memref sig .tc .vmem S2x512x128 .f32) (harg11 : arg11.IsWhole) (arg12 : Memref sig .tc .vmem S2x512x256 .f32) (harg12 : arg12.IsWhole) (arg13 : Memref sig .tc .vmem S2x512x1024 .f32) (harg13 : arg13.IsWhole) (arg14 : Memref sig .tc .vmem S2x512x1024 .f32) (harg14 : arg14.IsWhole) (arg15 : Memref sig .tc .vmem S2x512x1024 .f32) (harg15 : arg15.IsWhole)
    (i : grid0.Coords)
    (x2 : S512x256.Idx → Elt F .bf16) (x3 : S512x256.Idx → Elt F .bf16) (x4 : S1x128.Idx → Elt F .f32) (x5 x6 : S8192x256.Idx → Elt F .bf16) (x7 : S8192x128.Idx → Elt F .f32) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X))
    ⊢ (wp frame (wpE (defs₀ (F := F)) 𝒱 (c : Thread nD τ) none) Set.univ (cc0_fox_attention i arg2 harg2 arg3 harg3 arg4 harg4 arg5 harg5 arg6 harg6 arg7 harg7 arg8 harg8 arg9 harg9 arg10 harg10 arg11 harg11 arg12 harg12 arg13 harg13 arg14 harg14 arg15 harg15)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X))) : sProp 𝕄) := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%x8, %f8, -, H8⟩, ⟨%x9, %f9, -, H9⟩, ⟨%x10, %f10, -, H10⟩, ⟨%x11, %f11, -, H11⟩, ⟨%x12, %f12, -, H12⟩, ⟨%x13, %f13, -, H13⟩, ⟨%x14, %f14, -, H14⟩, ⟨%x15, %f15, -, H15⟩⟩
  ihave HH := (run_all 𝒱 c arg2 harg2 arg3 harg3 arg4 harg4 arg5 harg5 arg6 harg6 arg7 harg7 arg8 harg8 arg9 harg9 arg10 harg10 arg11 harg11 arg12 harg12 arg13 harg13 arg14 harg14 arg15 harg15 i f2 f3 f4 f5 f6 f7 f8 f9 f10 f11 f12 f13 f14 f15) $$ [H2 H3 H4 H5 H6 H7 H8 H9 H10 H11 H12 H13 H14 H15]
  · iframe
  iapply wp_wand $$ HH
  iintro %u ⟨%g8, %g9, %g10, %g11, %g12, %g13, %g14, %g15, H2, H3, H4, H5, H6, H7, H8, H9, H10, H11, H12, H13, H14, H15⟩
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists _, g8; isplitr; swap; · iexact H8
    ipureintro; rfl
  isplitl [H9]
  · iexists _, g9; isplitr; swap; · iexact H9
    ipureintro; rfl
  isplitl [H10]
  · iexists _, g10; isplitr; swap; · iexact H10
    ipureintro; rfl
  isplitl [H11]
  · iexists _, g11; isplitr; swap; · iexact H11
    ipureintro; rfl
  isplitl [H12]
  · iexists _, g12; isplitr; swap; · iexact H12
    ipureintro; rfl
  isplitl [H13]
  · iexists _, g13; isplitr; swap; · iexact H13
    ipureintro; rfl
  isplitl [H14]
  · iexists _, g14; isplitr; swap; · iexact H14
    ipureintro; rfl
  iexists _, g15; isplitr; swap; · iexact H15
  ipureintro; rfl

/-- The output's contents are not named here. -/
def forgets0 : Fin 7 → Bool := fun | 6 => true | _ => false

variable (m : (ℓ : Loc nD τ sig) → Buf (Elt F) ℓ) (ρ : Dev nD → PrngReg)

/-- The arrays as the region finds them, each operand's block left in place, the scratch at any contents between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed (cfg := cfg0) 6 t
  Φ _ := Pipeline.ΦA spec0 c
  q := Pipeline.shareOf spec0
  owed _ := 0

theorem A_eq (c : Dev nD) (w : Fin cfg0.W) : (dats m 0 c).A w = V m c (Pipeline.arrRef spec0 w) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, owns (c : Thread nD τ) (st0_6 t) fullShare X))

theorem PhiA_eq (c : Dev nD) : (Pipeline.ΦA spec0 c : sProp 𝕄)
    = iprop(((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X)) ∗ ∃ r, prngReg c r) := by
  unfold Pipeline.ΦA
  rw [scopedRest0_eq]
  simp only [owns_whole]
  try rfl

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl)]
  iintro ⟨⟨⟨S0, S1, S2, S3, S4, S5, S6⟩, Hg⟩, HO, ⟨%d0, H0⟩, ⟨%d1, H1⟩, ⟨%d2, H2⟩, ⟨%d3, H3⟩, ⟨%d4, H4⟩, ⟨%d5, H5⟩, H6⟩
  ihave HH := (run_owns Variants.none c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (grid0.coords t) (iblk m c 0 t) (iblk m c 1 t) (iblk m c 2 t) (iblk m c 3 t) (iblk m c 4 t) (iblk m c 5 t)) $$ [H0 H1 H2 H3 H4 H5 H6 S0 S1 S2 S3 S4 S5 S6]
  · iframe
  iapply wp_wand $$ HH
  iintro %u ⟨H0, H1, H2, H3, H4, H5, H6, S0, S1, S2, S3, S4, S5, S6⟩
  isplitl [S0 S1 S2 S3 S4 S5 S6 Hg]
  · isplitr [Hg]; swap; · iexact Hg
    iframe
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at a point. -/
theorem defs₀_row (t : Fin cfg0.N) : defs₀ (F := F) .tc cfg0.body (cfg0.bodyArgs t (cfg0.slots t)) = bodyAt0 t := by
  unfold defs₀; rw [Defs.onTc_tc]

/-- The body's obligation. -/
theorem body_obligation (c : Dev nD) :
    BodyObligationLoose (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every fair run ends, with every array but the output as it was and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => body_obligation m c) (hq := fun _ _ _ => rfl)
    (howed := fun _ _ => rfl) (V := V m) (hmain := hmain m Variants.none) (hA := A_eq m)
    (hΦ := fun _ _ => rfl)

/-- The frame. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 5 rfl).trans ((A_eq m c 5).trans (V_main_arg3 m c)),
      ((h.1 c).2 main_arg4 (Pipeline.mem_restRefs_of main_arg4 (by decide) (by decide))).trans (V_main_arg4 m c)⟩, h.2⟩) (run_main m ρ)

end Cert.KernelIdeal.Gen.Hand

end
-- ==== Proof.RefRun.lean ====
/- The reference's run: a straight line of host operations, which leaves its arguments as they were. -/
module

public import proofs.«01_k».proof.Proof.Gen.ReferenceIdeal
public import Idealize.ShloMosaic.Lib.Quiescent
public import Idealize.ShloMosaic.Lib.StableHlo.Run

@[expose] public section

set_option maxRecDepth 16384

noncomputable section

namespace Cert.ReferenceIdeal.Gen.Hand

open Cert.ReferenceIdeal Cert.ReferenceIdeal.Gen
open Idealize.ShloMosaic Idealize.SL.Sem Idealize.ShloMosaic.StableHlo Idealize.ShloMosaic.TcCoe

variable {F : FTy → Type} [FloatOps F]

/-- The reference's operations, in order. -/
abbrev ops : List (HloOp τ sig (Elt F)) :=
  [ StableHlo.reshape main_arg3 main_v0 (rfl : (.f32 : EltTy) = .f32) shapeCasts_S16384x128_S2x8192x128,
    StableHlo.unary main_v0 main_v1 ((extractStridedSlice S2x8192x12 ![0, 0, 0] · slices_S2x8192x128_S2x8192x12_0_0_0) : (⟨S2x8192x128, .f32⟩ : BufTy).Contents (Elt F) → (⟨S2x8192x12, .f32⟩ : BufTy).Contents (Elt F)),
    StableHlo.unary main_v1 main_v2 ((transpose S2x12x8192 [0, 2, 1] · transposes_S2x8192x12_S2x12x8192_0_2_1) : (⟨S2x8192x12, .f32⟩ : BufTy).Contents (Elt F) → (⟨S2x12x8192, .f32⟩ : BufTy).Contents (Elt F)),
    StableHlo.binary main_arg0 main_arg1 main_v3 ((fun l r => Host.dotGeneral dot_S2x8192x12x128_S2x8192x12x128_S2x12x8192x8192_3_3_1_1_02_02 none l r) : (⟨S2x8192x12x128, .f32⟩ : BufTy).Contents (Elt F) → (⟨S2x8192x12x128, .f32⟩ : BufTy).Contents (Elt F) → (⟨S2x12x8192x8192, .f32⟩ : BufTy).Contents (Elt F)),
    StableHlo.nullary main_cst (constant S_ .f32 0x3DB504F3#32),
    StableHlo.unary main_cst main_v4 (broadcastInDim S2x12x8192x8192 ![] bcast_S_S2x12x8192x8192 : (⟨S_, .f32⟩ : BufTy).Contents (Elt F) → (⟨S2x12x8192x8192, .f32⟩ : BufTy).Contents (Elt F)),
    StableHlo.binary main_v3 main_v4 main_v5 (mulf : (⟨S2x12x8192x8192, .f32⟩ : BufTy).Contents (Elt F) → (⟨S2x12x8192x8192, .f32⟩ : BufTy).Contents (Elt F) → (⟨S2x12x8192x8192, .f32⟩ : BufTy).Contents (Elt F)),
    StableHlo.unary main_v2 main_v6 (broadcastInDim S2x12x8192x1 ![0, 1, 2] bcast_S2x12x8192_S2x12x8192x1_0_1_2 : (⟨S2x12x8192, .f32⟩ : BufTy).Contents (Elt F) → (⟨S2x12x8192x1, .f32⟩ : BufTy).Contents (Elt F)),
    StableHlo.unary main_v6 main_v7 (broadcastInDim S2x12x8192x8192 ![0, 1, 2, 3] bcast_S2x12x8192x1_S2x12x8192x8192_0_1_2_3 : (⟨S2x12x8192x1, .f32⟩ : BufTy).Contents (Elt F) → (⟨S2x12x8192x8192, .f32⟩ : BufTy).Contents (Elt F)),
    StableHlo.binary main_v5 main_v7 main_v8 (addf : (⟨S2x12x8192x8192, .f32⟩ : BufTy).Contents (Elt F) → (⟨S2x12x8192x8192, .f32⟩ : BufTy).Contents (Elt F) → (⟨S2x12x8192x8192, .f32⟩ : BufTy).Contents (Elt F)),
    StableHlo.unary main_v2 main_v9 (broadcastInDim S2x12x1x8192 ![0, 1, 3] bcast_S2x12x8192_S2x12x1x8192_0_1_3 : (⟨S2x12x8192, .f32⟩ : BufTy).Contents (Elt F) → (⟨S2x12x1x8192, .f32⟩ : BufTy).Contents (Elt F)),
    StableHlo.unary main_v9 main_v10 (broadcastInDim S2x12x8192x8192 ![0, 1, 2, 3] bcast_S2x12x1x8192_S2x12x8192x8192_0_1_2_3 : (⟨S2x12x1x8192, .f32⟩ : BufTy).Contents (Elt F) → (⟨S2x12x8192x8192, .f32⟩ : BufTy).Contents (Elt F)),
    StableHlo.binary main_v8 main_v10 main_v11 (subf : (⟨S2x12x8192x8192, .f32⟩ : BufTy).Contents (Elt F) → (⟨S2x12x8192x8192, .f32⟩ : BufTy).Contents (Elt F) → (⟨S2x12x8192x8192, .f32⟩ : BufTy).Contents (Elt F)),
    StableHlo.nullary main_v12 (iotaInDim S8192 32 0),
    StableHlo.unary main_v12 main_v13 (broadcastInDim S1x8192 ![1] bcast_S8192_S1x8192_1 : (⟨S8192, .i32⟩ : BufTy).Contents (Elt F) → (⟨S1x8192, .i32⟩ : BufTy).Contents (Elt F)),
    StableHlo.unary main_v12 main_v14 (broadcastInDim S8192x1 ![0] bcast_S8192_S8192x1_0 : (⟨S8192, .i32⟩ : BufTy).Contents (Elt F) → (⟨S8192x1, .i32⟩ : BufTy).Contents (Elt F)),
    StableHlo.unary main_v13 main_v15 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v14 main_v16 (broadcastInDim S8192x8192 ![0, 1] bcast_S8192x1_S8192x8192_0_1 : (⟨S8192x1, .i32⟩ : BufTy).Contents (Elt F) → (⟨S8192x8192, .i32⟩ : BufTy).Contents (Elt F)),
    StableHlo.binary main_v15 main_v16 main_v17 (cmpi .sle : (⟨S8192x8192, .i32⟩ : BufTy).Contents (Elt F) → (⟨S8192x8192, .i32⟩ : BufTy).Contents (Elt F) → (⟨S8192x8192, .i1⟩ : BufTy).Contents (Elt F)),
    StableHlo.nullary main_cst_0 (constant S_ .f32 0xFF800000#32),
    StableHlo.TRef.unary (.of main_cst_0 : StableHlo.TRef sig ⟨S_, .f32⟩) (main_call0).v0 id,
    StableHlo.TRef.unary (.of main_v17 : StableHlo.TRef sig ⟨S8192x8192, .i1⟩) main_call0.v1 (broadcastInDim S2x12x8192x8192 ![2, 3] bcast_S8192x8192_S2x12x8192x8192_2_3),
    StableHlo.TRef.unary main_call0.v0 main_call0.v2 (broadcastInDim S2x12x8192x8192 ![] bcast_S_S2x12x8192x8192),
    StableHlo.TRef.ternary main_call0.v1 (.of main_v11 : StableHlo.TRef sig ⟨S2x12x8192x8192, .f32⟩) main_call0.v2 main_call0.v3 select,
    StableHlo.nullary main_cst_1 (constant S_ .f32 0xFF800000#32),
    StableHlo.binary main_v18 main_cst_1 main_v19 ((fun x v => Host.reduce FloatOps.maximumf x v reducesTo_S2x12x8192x8192_S2x12x8192_d3 h_S_) : (⟨S2x12x8192x8192, .f32⟩ : BufTy).Contents (Elt F) → (⟨S_, .f32⟩ : BufTy).Contents (Elt F) → (⟨S2x12x8192, .f32⟩ : BufTy).Contents (Elt F)),
    StableHlo.nullary main_cst_2 (constant S_ .f32 0xFF800000#32),
    StableHlo.unary main_cst_2 main_v20 (broadcastInDim S2x12x8192 ![] bcast_S_S2x12x8192 : (⟨S_, .f32⟩ : BufTy).Contents (Elt F) → (⟨S2x12x8192, .f32⟩ : BufTy).Contents (Elt F)),
    StableHlo.binary main_v20 main_v19 main_v21 (maximumf : (⟨S2x12x8192, .f32⟩ : BufTy).Contents (Elt F) → (⟨S2x12x8192, .f32⟩ : BufTy).Contents (Elt F) → (⟨S2x12x8192, .f32⟩ : BufTy).Contents (Elt F)),
    StableHlo.unary main_v21 main_v22 (broadcastInDim S2x12x8192x1 ![0, 1, 2] bcast_S2x12x8192_S2x12x8192x1_0_1_2 : (⟨S2x12x8192, .f32⟩ : BufTy).Contents (Elt F) → (⟨S2x12x8192x1, .f32⟩ : BufTy).Contents (Elt F)),
    StableHlo.unary main_v22 main_v23 (broadcastInDim S2x12x8192x8192 ![0, 1, 2, 3] bcast_S2x12x8192x1_S2x12x8192x8192_0_1_2_3 : (⟨S2x12x8192x1, .f32⟩ : BufTy).Contents (Elt F) → (⟨S2x12x8192x8192, .f32⟩ : BufTy).Contents (Elt F)),
    StableHlo.binary main_v18 main_v23 main_v24 (subf : (⟨S2x12x8192x8192, .f32⟩ : BufTy).Contents (Elt F) → (⟨S2x12x8192x8192, .f32⟩ : BufTy).Contents (Elt F) → (⟨S2x12x8192x8192, .f32⟩ : BufTy).Contents (Elt F)),
    StableHlo.unary main_v24 main_v25 (Host.exp : (⟨S2x12x8192x8192, .f32⟩ : BufTy).Contents (Elt F) → (⟨S2x12x8192x8192, .f32⟩ : BufTy).Contents (Elt F)),
    StableHlo.nullary main_cst_3 (constant S_ .f32 0x00000000#32),
    StableHlo.binary main_v25 main_cst_3 main_v26 ((fun x v => Host.reduceAdd x v reducesTo_S2x12x8192x8192_S2x12x8192_d3 h_S_) : (⟨S2x12x8192x8192, .f32⟩ : BufTy).Contents (Elt F) → (⟨S_, .f32⟩ : BufTy).Contents (Elt F) → (⟨S2x12x8192, .f32⟩ : BufTy).Contents (Elt F)),
    StableHlo.unary main_v26 main_v27 (broadcastInDim S2x12x8192x1 ![0, 1, 2] bcast_S2x12x8192_S2x12x8192x1_0_1_2 : (⟨S2x12x8192, .f32⟩ : BufTy).Contents (Elt F) → (⟨S2x12x8192x1, .f32⟩ : BufTy).Contents (Elt F)),
    StableHlo.unary main_v27 main_v28 (broadcastInDim S2x12x8192x8192 ![0, 1, 2, 3] bcast_S2x12x8192x1_S2x12x8192x8192_0_1_2_3 : (⟨S2x12x8192x1, .f32⟩ : BufTy).Contents (Elt F) → (⟨S2x12x8192x8192, .f32⟩ : BufTy).Contents (Elt F)),
    StableHlo.binary main_v25 main_v28 main_v29 (Host.divf : (⟨S2x12x8192x8192, .f32⟩ : BufTy).Contents (Elt F) → (⟨S2x12x8192x8192, .f32⟩ : BufTy).Contents (Elt F) → (⟨S2x12x8192x8192, .f32⟩ : BufTy).Contents (Elt F)),
    StableHlo.binary main_arg2 main_v29 main_v30 ((fun l r => Host.dotGeneral dot_S2x8192x12x128_S2x12x8192x8192_S2x12x128x8192_1_3_3_2_02_01 none l r) : (⟨S2x8192x12x128, .f32⟩ : BufTy).Contents (Elt F) → (⟨S2x12x8192x8192, .f32⟩ : BufTy).Contents (Elt F) → (⟨S2x12x128x8192, .f32⟩ : BufTy).Contents (Elt F)),
    StableHlo.unary main_v30 main_v31 ((transpose S2x8192x12x128 [0, 3, 1, 2] · transposes_S2x12x128x8192_S2x8192x12x128_0_3_1_2) : (⟨S2x12x128x8192, .f32⟩ : BufTy).Contents (Elt F) → (⟨S2x8192x12x128, .f32⟩ : BufTy).Contents (Elt F)),
    StableHlo.binary main_v31 main_v31 main_v32 (mulf : (⟨S2x8192x12x128, .f32⟩ : BufTy).Contents (Elt F) → (⟨S2x8192x12x128, .f32⟩ : BufTy).Contents (Elt F) → (⟨S2x8192x12x128, .f32⟩ : BufTy).Contents (Elt F)),
    StableHlo.nullary main_cst_4 (constant S_ .f32 0x00000000#32),
    StableHlo.binary main_v32 main_cst_4 main_v33 ((fun x v => Host.reduceAdd x v reducesTo_S2x8192x12x128_S2x8192x12_d3 h_S_) : (⟨S2x8192x12x128, .f32⟩ : BufTy).Contents (Elt F) → (⟨S_, .f32⟩ : BufTy).Contents (Elt F) → (⟨S2x8192x12, .f32⟩ : BufTy).Contents (Elt F)),
    StableHlo.unary main_v33 main_v34 (broadcastInDim S2x8192x12x1 ![0, 1, 2] bcast_S2x8192x12_S2x8192x12x1_0_1_2 : (⟨S2x8192x12, .f32⟩ : BufTy).Contents (Elt F) → (⟨S2x8192x12x1, .f32⟩ : BufTy).Contents (Elt F)),
    StableHlo.nullary main_cst_5 (constant S_ .f32 0x43000000#32),
    StableHlo.unary main_cst_5 main_v35 (broadcastInDim S2x8192x12x1 ![] bcast_S_S2x8192x12x1 : (⟨S_, .f32⟩ : BufTy).Contents (Elt F) → (⟨S2x8192x12x1, .f32⟩ : BufTy).Contents (Elt F)),
    StableHlo.binary main_v34 main_v35 main_v36 (Host.divf : (⟨S2x8192x12x1, .f32⟩ : BufTy).Contents (Elt F) → (⟨S2x8192x12x1, .f32⟩ : BufTy).Contents (Elt F) → (⟨S2x8192x12x1, .f32⟩ : BufTy).Contents (Elt F)),
    StableHlo.nullary main_cst_6 (constant S_ .f32 0x358637BD#32),
    StableHlo.unary main_cst_6 main_v37 (broadcastInDim S2x8192x12x1 ![] bcast_S_S2x8192x12x1 : (⟨S_, .f32⟩ : BufTy).Contents (Elt F) → (⟨S2x8192x12x1, .f32⟩ : BufTy).Contents (Elt F)),
    StableHlo.binary main_v36 main_v37 main_v38 (addf : (⟨S2x8192x12x1, .f32⟩ : BufTy).Contents (Elt F) → (⟨S2x8192x12x1, .f32⟩ : BufTy).Contents (Elt F) → (⟨S2x8192x12x1, .f32⟩ : BufTy).Contents (Elt F)),
    StableHlo.unary main_v38 main_v39 (Host.rsqrt : (⟨S2x8192x12x1, .f32⟩ : BufTy).Contents (Elt F) → (⟨S2x8192x12x1, .f32⟩ : BufTy).Contents (Elt F)),
    StableHlo.unary main_v39 main_v40 (broadcastInDim S2x8192x12x128 ![0, 1, 2, 3] bcast_S2x8192x12x1_S2x8192x12x128_0_1_2_3 : (⟨S2x8192x12x1, .f32⟩ : BufTy).Contents (Elt F) → (⟨S2x8192x12x128, .f32⟩ : BufTy).Contents (Elt F)),
    StableHlo.binary main_v31 main_v40 main_v41 (mulf : (⟨S2x8192x12x128, .f32⟩ : BufTy).Contents (Elt F) → (⟨S2x8192x12x128, .f32⟩ : BufTy).Contents (Elt F) → (⟨S2x8192x12x128, .f32⟩ : BufTy).Contents (Elt F)),
    StableHlo.unary main_arg4 main_v42 (broadcastInDim S1x1x1x128 ![3] bcast_S128_S1x1x1x128_3 : (⟨S128, .f32⟩ : BufTy).Contents (Elt F) → (⟨S1x1x1x128, .f32⟩ : BufTy).Contents (Elt F)),
    StableHlo.unary main_v42 main_v43 (broadcastInDim S2x8192x12x128 ![0, 1, 2, 3] bcast_S1x1x1x128_S2x8192x12x128_0_1_2_3 : (⟨S1x1x1x128, .f32⟩ : BufTy).Contents (Elt F) → (⟨S2x8192x12x128, .f32⟩ : BufTy).Contents (Elt F)),
    StableHlo.binary main_v41 main_v43 main_v44 (mulf : (⟨S2x8192x12x128, .f32⟩ : BufTy).Contents (Elt F) → (⟨S2x8192x12x128, .f32⟩ : BufTy).Contents (Elt F) → (⟨S2x8192x12x128, .f32⟩ : BufTy).Contents (Elt F)),
    StableHlo.reshape main_v44 main_v45 (rfl : (.f32 : EltTy) = .f32) shapeCasts_S2x8192x12x128_S16384x1536,
    StableHlo.unary main_v45 main_v46 ((truncf .bf16 · bitsLt_bf16_f32) : (⟨S16384x1536, .f32⟩ : BufTy).Contents (Elt F) → (⟨S16384x1536, .bf16⟩ : BufTy).Contents (Elt F)) ]

set_option maxHeartbeats 4000000 in
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem arg0_eq (X : Valuation τ sig (Elt F)) : after ops X (main_arg0 : DevRef τ sig) = X (main_arg0 : DevRef τ sig) := by
  simp only [after_cons, after_nil]
  rfl

theorem arg1_eq (X : Valuation τ sig (Elt F)) : after ops X (main_arg1 : DevRef τ sig) = X (main_arg1 : DevRef τ sig) := by
  simp only [after_cons, after_nil]
  rfl

theorem arg2_eq (X : Valuation τ sig (Elt F)) : after ops X (main_arg2 : DevRef τ sig) = X (main_arg2 : DevRef τ sig) := by
  simp only [after_cons, after_nil]
  rfl

theorem arg3_eq (X : Valuation τ sig (Elt F)) : after ops X (main_arg3 : DevRef τ sig) = X (main_arg3 : DevRef τ sig) := by
  simp only [after_cons, after_nil]
  rfl

theorem arg4_eq (X : Valuation τ sig (Elt F)) : after ops X (main_arg4 : DevRef τ sig) = X (main_arg4 : DevRef τ sig) := by
  simp only [after_cons, after_nil]
  rfl

/-- The frame. -/
theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h c main_arg0).trans (arg0_eq _), (h c main_arg1).trans (arg1_eq _), (h c main_arg2).trans (arg2_eq _),
    (h c main_arg3).trans (arg3_eq _), (h c main_arg4).trans (arg4_eq _)⟩, Idealize.ShloMosaic.sem_eq_zero_of_no_sems (by decide) r.2⟩) (run_main m ρ)

end Cert.ReferenceIdeal.Gen.Hand

end
-- ==== Proof.Mm.lean ====
/- The product of two matrices read at an index, and casts between one and two leading axes. -/
module

public import Idealize.ShloMosaic.Lib.Pipeline.Value
public import Idealize.ShloMosaic.Lib.ValueIdx
public import Idealize.ShloMosaic.PureOps.Ideal.Laws

@[expose] public section

noncomputable section

namespace Cert.Proof.Mm

open Idealize.ShloMosaic Idealize.ShloMosaic.ValueIdx

/-- A product with one contracted axis, read at an index: the accumulator there plus the sum over that axis. -/
theorem matmul_sum {sl sr so : Shape} {φ₁ φ₂ : FTy} (D : DotDims sl sr so) (n : ℕ) (hr : D.contr.rank = 1)
    (hs : D.contr.size ⟨0, by omega⟩ = n) (a : FVec Ideal sl φ₁) (b : FVec Ideal sr φ₂) (acc : FVec Ideal so .f32) (j : so.Idx)
    (L : Fin n → sl.Idx) (R : Fin n → sr.Idx) (hL : ∀ k, D.lhsIdx j ((contrEquiv1 D n hr hs).symm k) = L k)
    (hR : ∀ k, D.rhsIdx j ((contrEquiv1 D n hr hs).symm k) = R k) :
    FloatOps.matmul D none a b acc j = acc j + ∑ k : Fin n, a (L k) * b (R k) := by
  rw [Ideal.matmul_apply, ← Equiv.sum_comp (contrEquiv1 D n hr hs).symm]
  refine congrArg (acc j + ·) (Finset.sum_congr rfl fun k _ => ?_)
  rw [hL k, hR k]

/-- A product of a matrix and a matrix, rows by columns, with a zero accumulator. -/
theorem rows_cols {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (h1 : ∀ i q, (D.lhsIdx i q 0).val = (i 0).val) (h2 : ∀ i q, (D.lhsIdx i q 1).val = (q ⟨0, by omega⟩).val)
    (h3 : ∀ i q, (D.rhsIdx i q 0).val = (q ⟨0, by omega⟩).val) (h4 : ∀ i q, (D.rhsIdx i q 1).val = (i 1).val)
    (a : FVec Ideal ⟨2, ![M, K]⟩ φ₁) (b : FVec Ideal ⟨2, ![K, N]⟩ φ₂) (acc : FVec Ideal ⟨2, ![M, N]⟩ .f32) (hz : ∀ j, acc j = 0)
    (j : (⟨2, ![M, N]⟩ : Shape).Idx) :
    FloatOps.matmul D none a b acc j = ∑ k : Fin K, a (ix2 (j 0) k) * b (ix2 k (j 1)) := by
  rw [matmul_sum D K hr hs a b acc j (fun k => ix2 (j 0) k) (fun k => ix2 k (j 1)), hz, zero_add]
  · intro k
    have hk := contrEquiv1_symm_val D K hr hs k
    funext a; refine Fin.ext ?_
    match a with
    | ⟨0, _⟩ => exact h1 _ _
    | ⟨1, _⟩ => exact (h2 _ _).trans hk
  · intro k
    have hk := contrEquiv1_symm_val D K hr hs k
    funext a; refine Fin.ext ?_
    match a with
    | ⟨0, _⟩ => exact (h3 _ _).trans hk
    | ⟨1, _⟩ => exact h4 _ _

/-- A product of a matrix and a matrix given by its rows, rows by rows, with a zero accumulator. -/
theorem rows_rows {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (h1 : ∀ i q, (D.lhsIdx i q 0).val = (i 0).val) (h2 : ∀ i q, (D.lhsIdx i q 1).val = (q ⟨0, by omega⟩).val)
    (h3 : ∀ i q, (D.rhsIdx i q 0).val = (i 1).val) (h4 : ∀ i q, (D.rhsIdx i q 1).val = (q ⟨0, by omega⟩).val)
    (a : FVec Ideal ⟨2, ![M, K]⟩ φ₁) (b : FVec Ideal ⟨2, ![N, K]⟩ φ₂) (acc : FVec Ideal ⟨2, ![M, N]⟩ .f32) (hz : ∀ j, acc j = 0)
    (j : (⟨2, ![M, N]⟩ : Shape).Idx) :
    FloatOps.matmul D none a b acc j = ∑ k : Fin K, a (ix2 (j 0) k) * b (ix2 (j 1) k) := by
  rw [matmul_sum D K hr hs a b acc j (fun k => ix2 (j 0) k) (fun k => ix2 (j 1) k), hz, zero_add]
  · intro k
    have hk := contrEquiv1_symm_val D K hr hs k
    funext a; refine Fin.ext ?_
    match a with
    | ⟨0, _⟩ => exact h1 _ _
    | ⟨1, _⟩ => exact (h2 _ _).trans hk
  · intro k
    have hk := contrEquiv1_symm_val D K hr hs k
    funext a; refine Fin.ext ?_
    match a with
    | ⟨0, _⟩ => exact h3 _ _
    | ⟨1, _⟩ => exact (h4 _ _).trans hk

/-- The zero word is zero. -/
theorem zero_word (s : Shape) (j : s.Idx) : constant (F := Ideal) s .f32 0x00000000#32 j = 0 := by
  show Ideal.ofBits .f32 0x00000000#32 = 0
  simp [Ideal.ofBits, Ideal.ieee]

/-- The word of one is one. -/
theorem one_word : Ideal.ofBits .f32 0x3F800000#32 = 1 := by
  simp [Ideal.ofBits, Ideal.ieee]
  rw [← EReal.coe_mul]
  norm_num

/-- Joining the two leading axes of an array: row `r` of the joined array is row `r % b` of part `r / b`. -/
theorem join_apply {A : Type} {n b d : ℕ} (x : (⟨3, ![n, b, d]⟩ : Shape).Idx → A) {T : ℕ} (h : (⟨3, ![n, b, d]⟩ : Shape).ShapeCasts ⟨2, ![T, d]⟩)
    (i : Fin T) (k : Fin d) (p : Fin n) (q : Fin b) (hpq : i.val = p.val * b + q.val) :
    shapeCast ⟨2, ![T, d]⟩ x h (ix2 i k) = x (ix3 p q k) := by
  refine shapeCast_apply x h _ _ ?_
  rw [Shape.rowMajor_val_three, Shape.rowMajor_val_two]
  show (p.val * b + q.val) * d + k.val = i.val * d + k.val
  rw [hpq]

end Cert.Proof.Mm

end
-- ==== Proof.Val2.lean ====
/- The gated product of the feed-forward, and the weight it casts on the way: what the call leaves in its two output arrays. -/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Mm
public import proofs.«01_k».proof.Defs
public import Idealize.ShloMosaic.Lib.ValueLayout

@[expose] public section

set_option maxRecDepth 16384

noncomputable section

namespace Cert.Kernel2Ideal.Hand

open Cert.Kernel2Ideal Cert.Kernel2Ideal.Gen Cert.Kernel2Ideal.Value Cert.Proof.Mm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zz : (![0, 0] : Fin 2 → Nat) = fun _ => 0 := by funext a; match a with | ⟨0, _⟩ => rfl | ⟨1, _⟩ => rfl

theorem zzz : (![0, 0, 0] : Fin 3 → Nat) = fun _ => 0 := by funext a; match a with | ⟨0, _⟩ => rfl | ⟨1, _⟩ => rfl | ⟨2, _⟩ => rfl

/-- Operand 1 as the launch finds it. -/
abbrev X1 (c : Dev nD) : FVec Ideal S16384x4096 .bf16 := V (F := Ideal) m c main_v1

/-- That operand is the argument with its two leading axes joined. -/
theorem V_main_v1 (c : Dev nD) : V (F := Ideal) m c main_v1 = (truncf (F := Ideal) .bf16 (shapeCast S16384x4096 (m ((c : Thread nD τ).loc main_arg0) : FVec Ideal S2x8192x4096 .f32) shapeCasts_S2x8192x4096_S16384x4096 : FVec Ideal S16384x4096 .f32) bitsLt_bf16_f32 : FVec Ideal S16384x4096 .bf16) := by
  show StableHlo.after hostOps0 (fun b => m (c, b)) main_v1 = _
  after_results <;> rfl

theorem X1_apply (c : Dev nD) (r : Fin 16384) (q : Fin 4096) : X1 m c (ix2 r q)
    = m ((c : Thread nD τ).loc main_arg0) (ix3 (⟨r.val / 8192, by have := r.isLt; omega⟩ : Fin 2) (⟨r.val % 8192, by omega⟩ : Fin 8192) q) := by
  unfold X1
  rw [V_main_v1]
  exact join_apply (m ((c : Thread nD τ).loc main_arg0)) _ r q _ _ (by show r.val = r.val / 8192 * 8192 + r.val % 8192; omega)

/-- Operand 2 as the launch finds it. -/
abbrev X2 (c : Dev nD) : FVec Ideal S4096x11008 .bf16 := V (F := Ideal) m c main_v2

/-- That operand is the argument. -/
theorem V_main_v2 (c : Dev nD) : V (F := Ideal) m c main_v2 = (truncf (F := Ideal) .bf16 (m ((c : Thread nD τ).loc main_arg1) : FVec Ideal S4096x11008 .f32) bitsLt_bf16_f32 : FVec Ideal S4096x11008 .bf16) := by
  show StableHlo.after hostOps0 (fun b => m (c, b)) main_v2 = _
  after_results <;> rfl

theorem X2_apply (c : Dev nD) (q : Fin 4096) (s : Fin 11008) : X2 m c (ix2 q s) = m ((c : Thread nD τ).loc main_arg1) (ix2 q s) := by
  unfold X2
  rw [V_main_v2]
  rfl

/-- Operand 3 as the launch finds it. -/
abbrev X3 (c : Dev nD) : FVec Ideal S4096x11008 .bf16 := V (F := Ideal) m c main_v3

/-- That operand is the argument. -/
theorem V_main_v3 (c : Dev nD) : V (F := Ideal) m c main_v3 = (truncf (F := Ideal) .bf16 (m ((c : Thread nD τ).loc main_arg2) : FVec Ideal S4096x11008 .f32) bitsLt_bf16_f32 : FVec Ideal S4096x11008 .bf16) := by
  show StableHlo.after hostOps0 (fun b => m (c, b)) main_v3 = _
  after_results <;> rfl

theorem X3_apply (c : Dev nD) (q : Fin 4096) (s : Fin 11008) : X3 m c (ix2 q s) = m ((c : Thread nD τ).loc main_arg2) (ix2 q s) := by
  unfold X3
  rw [V_main_v3]
  rfl

/-- The windows' block indices, point by point. -/
theorem idx_facts : ∀ t : Fin cfg0.N, win0_0.index t 0 = win0_4.index t 0 ∧ win0_0.index t 1 = 0 ∧ win0_1.index t 0 = 0 ∧ win0_1.index t 1 = win0_4.index t 1 ∧ win0_2.index t 0 = 0 ∧ win0_2.index t 1 = win0_4.index t 1 ∧ win0_4.index t 0 < 8 ∧ win0_4.index t 1 < 43 :=
  (by decide +kernel : ∀ t : Fin grid0.N, win0_0.index t 0 = win0_4.index t 0 ∧ win0_0.index t 1 = 0 ∧ win0_1.index t 0 = 0 ∧ win0_1.index t 1 = win0_4.index t 1 ∧ win0_2.index t 0 = 0 ∧ win0_2.index t 1 = win0_4.index t 1 ∧ win0_4.index t 0 < 8 ∧ win0_4.index t 1 < 43)

/-- Every block of window 4 is some point's. -/
theorem idx_onto : ∀ (p : Fin 8) (q : Fin 43), ∃ t : Fin cfg0.N, win0_4.index t 0 = p.val ∧ win0_4.index t 1 = q.val :=
  (by decide +kernel : ∀ (p : Fin 8) (q : Fin 43), ∃ t : Fin grid0.N, win0_4.index t 0 = p.val ∧ win0_4.index t 1 = q.val)

/-- Window 0's block at a point. -/
abbrev B0 (c : Dev nD) (t : Fin cfg0.N) : FVec Ideal S2048x4096 .bf16 := iblk m c 0 t

/-- Window 0's block at a point, read at an index. -/
theorem read_0 (c : Dev nD) (t : Fin cfg0.N) (y : S2048x4096.Idx) (i : S16384x4096.Idx)
    (h0 : (i 0).val = win0_0.index t 0 * 2048 + (y 0).val) (h1 : (i 1).val = win0_0.index t 1 * 4096 + (y 1).val) :
    B0 m c t y = X1 m c i := by
  show V m c main_v1 (((cfg0.win 0).blk t).view.emb y) = V m c main_v1 i
  refine congrArg _ (funext fun a => Fin.ext ?_)
  match a with
  | ⟨0, _⟩ => show win0_0.index t 0 * 2048 + 1 * (y 0).val = (i 0).val; omega
  | ⟨1, _⟩ => show win0_0.index t 1 * 4096 + 1 * (y 1).val = (i 1).val; omega

/-- Window 1's block at a point. -/
abbrev B1 (c : Dev nD) (t : Fin cfg0.N) : FVec Ideal S4096x256 .bf16 := iblk m c 1 t

/-- Window 1's block at a point, read at an index. -/
theorem read_1 (c : Dev nD) (t : Fin cfg0.N) (y : S4096x256.Idx) (i : S4096x11008.Idx)
    (h0 : (i 0).val = win0_1.index t 0 * 4096 + (y 0).val) (h1 : (i 1).val = win0_1.index t 1 * 256 + (y 1).val) :
    B1 m c t y = X2 m c i := by
  show V m c main_v2 (((cfg0.win 1).blk t).view.emb y) = V m c main_v2 i
  refine congrArg _ (funext fun a => Fin.ext ?_)
  match a with
  | ⟨0, _⟩ => show win0_1.index t 0 * 4096 + 1 * (y 0).val = (i 0).val; omega
  | ⟨1, _⟩ => show win0_1.index t 1 * 256 + 1 * (y 1).val = (i 1).val; omega

/-- Window 2's block at a point. -/
abbrev B2 (c : Dev nD) (t : Fin cfg0.N) : FVec Ideal S4096x256 .bf16 := iblk m c 2 t

/-- Window 2's block at a point, read at an index. -/
theorem read_2 (c : Dev nD) (t : Fin cfg0.N) (y : S4096x256.Idx) (i : S4096x11008.Idx)
    (h0 : (i 0).val = win0_2.index t 0 * 4096 + (y 0).val) (h1 : (i 1).val = win0_2.index t 1 * 256 + (y 1).val) :
    B2 m c t y = X3 m c i := by
  show V m c main_v3 (((cfg0.win 2).blk t).view.emb y) = V m c main_v3 i
  refine congrArg _ (funext fun a => Fin.ext ?_)
  match a with
  | ⟨0, _⟩ => show win0_2.index t 0 * 4096 + 1 * (y 0).val = (i 0).val; omega
  | ⟨1, _⟩ => show win0_2.index t 1 * 256 + 1 * (y 1).val = (i 1).val; omega

/-- A product of two blocks at an index. -/
theorem prod (a : FVec Ideal S2048x4096 .bf16) (b : FVec Ideal S4096x256 .bf16) (y : S2048x256.Idx) :
    matmul (F := Ideal) dot_S2048x4096_S4096x256_S2048x256_1_0_0_1_n_n none a b (constant S2048x256 .f32 0x00000000#32) y = ∑ k : Fin 4096, a (ix2 (y 0) k) * b (ix2 k (y 1)) := by
  exact rows_cols (φ₁ := .bf16) (φ₂ := .bf16) dot_S2048x4096_S4096x256_S2048x256_1_0_0_1_n_n rfl rfl
    (fun i q => by
      unfold DotDims.lhsIdx
      rw [dif_neg (by decide), dif_pos (by decide)]; rfl)
    (fun i q => dot_S2048x4096_S4096x256_S2048x256_1_0_0_1_n_n.lhsIdx_val_of_single rfl i q)
    (fun i q => dot_S2048x4096_S4096x256_S2048x256_1_0_0_1_n_n.rhsIdx_val_of_single rfl i q)
    (fun i q => by
      unfold DotDims.rhsIdx
      rw [dif_neg (by decide), dif_pos (by decide)]; rfl)
    a b _ (zero_word _) y

/-- The body's result at an index of its block: the gate's product times its logistic, times the other product. -/
theorem pay_apply (a : Vec Ideal S2048x4096 .bf16) (b d : Vec Ideal S4096x256 .bf16) (y : S2048x256.Idx) :
    k0_pay2 (F := Ideal) a b d y = (∑ k : Fin 4096, a (ix2 (y 0) k) * b (ix2 k (y 1))) * Ideal.logistic (∑ k : Fin 4096, a (ix2 (y 0) k) * b (ix2 k (y 1)))
      * ∑ k : Fin 4096, a (ix2 (y 0) k) * d (ix2 k (y 1)) := by
  unfold k0_pay2
  simp only [shapeCast_self]
  rw [truncf_apply, mulf_apply, mulf_apply]
  show (_ * Ideal.logistic _) * _ = _
  rw [prod, prod]

/-- The first output array after the run: the reference's result of the same arguments. -/
def G (c : Dev nD) : S16384x11008.Idx → Elt Ideal .bf16 :=
  Cert.Reference2Ideal.Read.val_main_v5 (F := Ideal) (m ((c : Thread nD τ).loc main_arg0)) (m ((c : Thread nD τ).loc main_arg1)) (m ((c : Thread nD τ).loc main_arg2))

/-- The reference's product at a row and a column of the joined array, in the operands the launch finds. -/
theorem dot_gate (c : Dev nD) (r : Fin 16384) (s : Fin 11008) :
    Cert.Reference2Ideal.Read.val_main_v0 (F := Ideal) (m ((c : Thread nD τ).loc main_arg0)) (m ((c : Thread nD τ).loc main_arg1)) (Cert.Reference2Ideal.Read.idx_main_v4 (ix2 r s)) = ∑ k : Fin 4096, X1 m c (ix2 r k) * X2 m c (ix2 k s) := by
  have hr : r.val < 16384 := r.isLt
  have hs : s.val < 11008 := s.isLt
  rw [Cert.Reference2Ideal.Read.val_main_v0_apply]
  refine Finset.sum_congr rfl fun k _ => ?_
  rw [X1_apply, X2_apply]
  refine congrArg₂ (· * ·) (congrArg (m ((c : Thread nD τ).loc main_arg0)) (funext fun a => Fin.ext ?_)) (congrArg (m ((c : Thread nD τ).loc main_arg1)) (funext fun a => Fin.ext ?_))
  · match a with
    | ⟨0, _⟩ => show (r.val * 11008 + s.val) / 90177536 = r.val / 8192; omega
    | ⟨1, _⟩ => show (r.val * 11008 + s.val) / 11008 % 8192 = r.val % 8192; omega
    | ⟨2, _⟩ => rfl
  · match a with
    | ⟨0, _⟩ => rfl
    | ⟨1, _⟩ => show (r.val * 11008 + s.val) % 11008 = s.val; omega

/-- The reference's product at a row and a column of the joined array, in the operands the launch finds. -/
theorem dot_up (c : Dev nD) (r : Fin 16384) (s : Fin 11008) :
    Cert.Reference2Ideal.Read.val_main_v2 (F := Ideal) (m ((c : Thread nD τ).loc main_arg0)) (m ((c : Thread nD τ).loc main_arg2)) (Cert.Reference2Ideal.Read.idx_main_v4 (ix2 r s)) = ∑ k : Fin 4096, X1 m c (ix2 r k) * X3 m c (ix2 k s) := by
  have hr : r.val < 16384 := r.isLt
  have hs : s.val < 11008 := s.isLt
  rw [Cert.Reference2Ideal.Read.val_main_v2_apply]
  refine Finset.sum_congr rfl fun k _ => ?_
  rw [X1_apply, X3_apply]
  refine congrArg₂ (· * ·) (congrArg (m ((c : Thread nD τ).loc main_arg0)) (funext fun a => Fin.ext ?_)) (congrArg (m ((c : Thread nD τ).loc main_arg2)) (funext fun a => Fin.ext ?_))
  · match a with
    | ⟨0, _⟩ => show (r.val * 11008 + s.val) / 90177536 = r.val / 8192; omega
    | ⟨1, _⟩ => show (r.val * 11008 + s.val) / 11008 % 8192 = r.val % 8192; omega
    | ⟨2, _⟩ => rfl
  · match a with
    | ⟨0, _⟩ => rfl
    | ⟨1, _⟩ => show (r.val * 11008 + s.val) % 11008 = s.val; omega

/-- `G` at a row and a column. -/
theorem G_apply (c : Dev nD) (r : Fin 16384) (s : Fin 11008) :
    G m c (ix2 r s) = (∑ k : Fin 4096, X1 m c (ix2 r k) * X2 m c (ix2 k s)) * Ideal.logistic (∑ k : Fin 4096, X1 m c (ix2 r k) * X2 m c (ix2 k s))
      * ∑ k : Fin 4096, X1 m c (ix2 r k) * X3 m c (ix2 k s) := by
  unfold G
  rw [Cert.Reference2Ideal.Read.val_main_v5_apply, Ideal.truncf_def, Cert.Reference2Ideal.Read.val_main_v4_apply, Cert.Reference2Ideal.Read.val_main_v3_apply, Cert.Reference2Ideal.Read.val_main_v1_apply, Cert.Reference2Ideal.Read.val_main_call0_v5_apply, Cert.Reference2Ideal.Read.val_main_call0_v4_apply,
    Cert.Reference2Ideal.Read.val_main_call0_cst_0_apply, Cert.Reference2Ideal.Read.val_main_call0_v3_apply, Cert.Reference2Ideal.Read.val_main_call0_v2_apply, Cert.Reference2Ideal.Read.val_main_call0_cst_apply, Cert.Reference2Ideal.Read.val_main_call0_v1_apply, Cert.Reference2Ideal.Read.val_main_call0_v0_apply,
    dot_gate m c r s, dot_up m c r s]
  show (_ * Ideal.div (Ideal.ofBits .f32 0x3F800000#32) (Ideal.ofBits .f32 0x3F800000#32 + Ideal.exp (-_))) * _ = _
  rw [one_word]
  rfl

/-- A product over two windows' blocks at a point is the product over their arrays, at the output block's row and column. -/
theorem sum_gate (c : Dev nD) (t : Fin cfg0.N) (y : S2048x256.Idx) (h0 : win0_4.index t 0 * 2048 + (y 0).val < 16384) (h1 : win0_4.index t 1 * 256 + (y 1).val < 11008) :
    (∑ k : Fin 4096, B0 m c t (ix2 (y 0) k) * B1 m c t (ix2 k (y 1)))
      = ∑ k : Fin 4096, X1 m c (ix2 (⟨win0_4.index t 0 * 2048 + (y 0).val, by omega⟩ : Fin 16384) k) * X2 m c (ix2 k (⟨win0_4.index t 1 * 256 + (y 1).val, by omega⟩ : Fin 11008)) := by
  obtain ⟨e0, e1, e2, e3, e4, e5, l0, l1⟩ := idx_facts t
  refine Finset.sum_congr rfl fun k _ => ?_
  have hk : k.val < 4096 := k.isLt
  rw [read_0 m c t _ (ix2 (⟨win0_4.index t 0 * 2048 + (y 0).val, by omega⟩ : Fin 16384) k) (by show win0_4.index t 0 * 2048 + (y 0).val = win0_0.index t 0 * 2048 + (y 0).val; omega) (by show k.val = win0_0.index t 1 * 4096 + k.val; omega),
    read_1 m c t _ (ix2 k (⟨win0_4.index t 1 * 256 + (y 1).val, by omega⟩ : Fin 11008)) (by show k.val = win0_1.index t 0 * 4096 + k.val; omega) (by show win0_4.index t 1 * 256 + (y 1).val = win0_1.index t 1 * 256 + (y 1).val; omega)]

/-- A product over two windows' blocks at a point is the product over their arrays, at the output block's row and column. -/
theorem sum_up (c : Dev nD) (t : Fin cfg0.N) (y : S2048x256.Idx) (h0 : win0_4.index t 0 * 2048 + (y 0).val < 16384) (h1 : win0_4.index t 1 * 256 + (y 1).val < 11008) :
    (∑ k : Fin 4096, B0 m c t (ix2 (y 0) k) * B2 m c t (ix2 k (y 1)))
      = ∑ k : Fin 4096, X1 m c (ix2 (⟨win0_4.index t 0 * 2048 + (y 0).val, by omega⟩ : Fin 16384) k) * X3 m c (ix2 k (⟨win0_4.index t 1 * 256 + (y 1).val, by omega⟩ : Fin 11008)) := by
  obtain ⟨e0, e1, e2, e3, e4, e5, l0, l1⟩ := idx_facts t
  refine Finset.sum_congr rfl fun k _ => ?_
  have hk : k.val < 4096 := k.isLt
  rw [read_0 m c t _ (ix2 (⟨win0_4.index t 0 * 2048 + (y 0).val, by omega⟩ : Fin 16384) k) (by show win0_4.index t 0 * 2048 + (y 0).val = win0_0.index t 0 * 2048 + (y 0).val; omega) (by show k.val = win0_0.index t 1 * 4096 + k.val; omega),
    read_2 m c t _ (ix2 k (⟨win0_4.index t 1 * 256 + (y 1).val, by omega⟩ : Fin 11008)) (by show k.val = win0_2.index t 0 * 4096 + k.val; omega) (by show win0_4.index t 1 * 256 + (y 1).val = win0_2.index t 1 * 256 + (y 1).val; omega)]

/-- What a point writes back is its block of `G`. -/
theorem flushed_eq (c : Dev nD) (t : Fin cfg0.N) :
    (dats m 0 c).flushed 4 t = ((cfg0.win 4).blk t).view.read (Elt Ideal) (G m c) := by
  obtain ⟨e0, e1, e2, e3, e4, e5, l0, l1⟩ := idx_facts t
  rw [flushed4]
  funext y
  have hy0 : (y 0).val < 2048 := (y 0).isLt
  have hy1 : (y 1).val < 256 := (y 1).isLt
  show out0_4 (iblk m c 0 t) (iblk m c 1 t) (iblk m c 2 t) (iblk m c 3 t) y = G m c (((cfg0.win 4).blk t).view.emb y)
  unfold out0_4
  rw [View.canon_unit_zero zz, View.ld_unit_zero zz, View.ld_unit_zero zz, View.ld_unit_zero zz]
  rw [pay_apply]
  have hj : ((cfg0.win 4).blk t).view.emb y = (ix2 (⟨win0_4.index t 0 * 2048 + (y 0).val, by omega⟩ : Fin 16384) (⟨win0_4.index t 1 * 256 + (y 1).val, by omega⟩ : Fin 11008) : S16384x11008.Idx) := by
    funext a; refine Fin.ext ?_
    match a with
    | ⟨0, _⟩ => show win0_4.index t 0 * 2048 + 1 * (y 0).val = win0_4.index t 0 * 2048 + (y 0).val; omega
    | ⟨1, _⟩ => show win0_4.index t 1 * 256 + 1 * (y 1).val = win0_4.index t 1 * 256 + (y 1).val; omega
  rw [hj]
  rw [G_apply]
  have eg := sum_gate m c t y (by omega) (by omega)
  have eu := sum_up m c t y (by omega) (by omega)
  exact congrArg₂ (· * ·) (congrArg₂ (fun a b => a * Ideal.logistic b) eg eg) eu

theorem mem_blk (t : Fin cfg0.N) (i : S16384x11008.Idx) :
    i ∈ ((cfg0.win 4).blk t).view.set ↔ ∀ a, win0_4.index t a * S2048x256.size a ≤ (i a).val ∧ (i a).val < win0_4.index t a * S2048x256.size a + S2048x256.size a := by
  show i ∈ ((View.whole main_v4_0).slice (win0_4.rect t)).set ↔ _
  rw [View.set_slice_whole, Rect.mem_set_unit]

/-- The array after the run is `G`. -/
theorem final (c : Dev nD) : (dats m 0 c).arrAt 4 cfg0.N = G m c := by
  refine (dats m 0 c).arrAt_eq_of_cover 4 (G m c) (fun t _ => flushed_eq m c t) fun i => ?_
  have h0 : (i 0).val < 16384 := (i 0).isLt
  have h1 : (i 1).val < 11008 := (i 1).isLt
  obtain ⟨t, e0, e1⟩ := idx_onto ⟨(i 0).val / 2048, by omega⟩ ⟨(i 1).val / 256, by omega⟩
  have e0' : win0_4.index t 0 = (i 0).val / 2048 := e0
  have e1' : win0_4.index t 1 = (i 1).val / 256 := e1
  refine ⟨t, flush0_4 t, (mem_blk t i).mpr fun a => ?_⟩
  match a with
  | ⟨0, _⟩ => show win0_4.index t 0 * 2048 ≤ (i 0).val ∧ (i 0).val < win0_4.index t 0 * 2048 + 2048; omega
  | ⟨1, _⟩ => show win0_4.index t 1 * 256 ≤ (i 1).val ∧ (i 1).val < win0_4.index t 1 * 256 + 256; omega

/-- The carried windows' block indices, point by point. -/
theorem idx_factsW : ∀ t : Fin cfg0.N, win0_3.index t 0 = 1 ∧ win0_3.index t 1 = win0_5.index t 0 ∧ win0_3.index t 2 = 0 ∧ win0_5.index t 0 < 344 ∧ win0_5.index t 1 = 0 :=
  (by decide +kernel : ∀ t : Fin grid0.N, win0_3.index t 0 = 1 ∧ win0_3.index t 1 = win0_5.index t 0 ∧ win0_3.index t 2 = 0 ∧ win0_5.index t 0 < 344 ∧ win0_5.index t 1 = 0)

/-- Every block of window 5 is some point's. -/
theorem idx_ontoW : ∀ (p : Fin 344) (q : Fin 1), ∃ t : Fin cfg0.N, win0_5.index t 0 = p.val ∧ win0_5.index t 1 = q.val :=
  (by decide +kernel : ∀ (p : Fin 344) (q : Fin 1), ∃ t : Fin grid0.N, win0_5.index t 0 = p.val ∧ win0_5.index t 1 = q.val)

/-- The carried array after the run: layer one of the argument. -/
def GW (c : Dev nD) : S11008x4096.Idx → Elt Ideal .bf16 :=
  Cert.Reference2Ideal.Read.val_main_v8 (F := Ideal) (m ((c : Thread nD τ).loc main_arg3))

theorem GW_apply (c : Dev nD) (r : Fin 11008) (s : Fin 4096) : GW m c (ix2 r s) = m ((c : Thread nD τ).loc main_arg3) (ix3 (1 : Fin 2) r s) := by
  have hr : r.val < 11008 := r.isLt
  have hs : s.val < 4096 := s.isLt
  unfold GW
  rw [Cert.Reference2Ideal.Read.val_main_v8_apply, Ideal.truncf_def, Cert.Reference2Ideal.Read.val_main_v7_apply, Cert.Reference2Ideal.Read.val_main_v6_apply]
  refine congrArg (m ((c : Thread nD τ).loc main_arg3)) (funext fun a => Fin.ext ?_)
  match a with
  | ⟨0, _⟩ => rfl
  | ⟨1, _⟩ => show (r.val * 4096 + s.val) / 4096 % 11008 = r.val; omega
  | ⟨2, _⟩ => show (r.val * 4096 + s.val) % 4096 = s.val; omega

/-- Window 3's block at a point, read at an index. -/
theorem read_3 (c : Dev nD) (t : Fin cfg0.N) (y : S1x32x4096.Idx) (i : S2x11008x4096.Idx)
    (h0 : (i 0).val = win0_3.index t 0 * 1 + (y 0).val) (h1 : (i 1).val = win0_3.index t 1 * 32 + (y 1).val) (h2 : (i 2).val = win0_3.index t 2 * 4096 + (y 2).val) :
    iblk m c 3 t y = V m c main_arg3 i := by
  show V m c main_arg3 (((cfg0.win 3).blk t).view.emb y) = V m c main_arg3 i
  refine congrArg _ (funext fun a => Fin.ext ?_)
  match a with
  | ⟨0, _⟩ => show win0_3.index t 0 * 1 + 1 * (y 0).val = (i 0).val; omega
  | ⟨1, _⟩ => show win0_3.index t 1 * 32 + 1 * (y 1).val = (i 1).val; omega
  | ⟨2, _⟩ => show win0_3.index t 2 * 4096 + 1 * (y 2).val = (i 2).val; omega

/-- What a point writes back to the carried window is its block of `GW`. -/
theorem flushed_eqW (c : Dev nD) (t : Fin cfg0.N) :
    (dats m 0 c).flushed 5 t = ((cfg0.win 5).blk t).view.read (Elt Ideal) (GW m c) := by
  obtain ⟨e0, e1, e2, l0, e3⟩ := idx_factsW t
  rw [flushed5]
  funext y
  have hy0 : (y 0).val < 32 := (y 0).isLt
  have hy1 : (y 1).val < 4096 := (y 1).isLt
  show out0_5 (iblk m c 0 t) (iblk m c 1 t) (iblk m c 2 t) (iblk m c 3 t) y = GW m c (((cfg0.win 5).blk t).view.emb y)
  unfold out0_5
  rw [View.ld_unit_zero zzz]
  refine (canon5_eq _ _).trans ?_
  have hj : ((cfg0.win 5).blk t).view.emb y = (ix2 (⟨win0_5.index t 0 * 32 + (y 0).val, by omega⟩ : Fin 11008) (⟨win0_5.index t 1 * 4096 + (y 1).val, by omega⟩ : Fin 4096) : S11008x4096.Idx) := by
    funext a; refine Fin.ext ?_
    match a with
    | ⟨0, _⟩ => show win0_5.index t 0 * 32 + 1 * (y 0).val = win0_5.index t 0 * 32 + (y 0).val; omega
    | ⟨1, _⟩ => show win0_5.index t 1 * 4096 + 1 * (y 1).val = win0_5.index t 1 * 4096 + (y 1).val; omega
  rw [hj]
  rw [GW_apply]
  show iblk m c 3 t (ix5_0 y) = _
  rw [read_3 m c t _ (ix3 (1 : Fin 2) (⟨win0_5.index t 0 * 32 + (y 0).val, by omega⟩ : Fin 11008) (⟨win0_5.index t 1 * 4096 + (y 1).val, by omega⟩ : Fin 4096))
    (by show 1 = win0_3.index t 0 * 1 + 0; omega) (by show win0_5.index t 0 * 32 + (y 0).val = win0_3.index t 1 * 32 + (y 0).val; omega)
    (by show win0_5.index t 1 * 4096 + (y 1).val = win0_3.index t 2 * 4096 + (y 1).val; omega), V_main_arg3]

theorem mem_blkW (t : Fin cfg0.N) (i : S11008x4096.Idx) :
    i ∈ ((cfg0.win 5).blk t).view.set ↔ ∀ a, win0_5.index t a * S32x4096.size a ≤ (i a).val ∧ (i a).val < win0_5.index t a * S32x4096.size a + S32x4096.size a := by
  show i ∈ ((View.whole main_v4_1).slice (win0_5.rect t)).set ↔ _
  rw [View.set_slice_whole, Rect.mem_set_unit]

/-- The array after the run is `GW`. -/
theorem finalW (c : Dev nD) : (dats m 0 c).arrAt 5 cfg0.N = GW m c := by
  refine (dats m 0 c).arrAt_eq_of_cover 5 (GW m c) (fun t _ => flushed_eqW m c t) fun i => ?_
  have h0 : (i 0).val < 11008 := (i 0).isLt
  have h1 : (i 1).val < 4096 := (i 1).isLt
  obtain ⟨t, e0, e1⟩ := idx_ontoW ⟨(i 0).val / 32, by omega⟩ ⟨(i 1).val / 4096, by omega⟩
  have e0' : win0_5.index t 0 = (i 0).val / 32 := e0
  have e1' : win0_5.index t 1 = (i 1).val / 4096 := e1
  refine ⟨t, flush0_5 t, (mem_blkW t i).mpr fun a => ?_⟩
  match a with
  | ⟨0, _⟩ => show win0_5.index t 0 * 32 ≤ (i 0).val ∧ (i 0).val < win0_5.index t 0 * 32 + 32; omega
  | ⟨1, _⟩ => show win0_5.index t 1 * 4096 ≤ (i 1).val ∧ (i 1).val < win0_5.index t 1 * 4096 + 4096; omega

/-- The call over the reals and the reference leave the same arrays. -/
theorem algebraic : Cert.algebraic_Kernel2Ideal_Reference2Ideal (hKernel2Ideal := Cert.Kernel2Ideal.Gen.facts) (hReference2Ideal := Cert.Reference2Ideal.Gen.facts) := by
  intro m g m' g' _ hargs
  refine ⟨fun c => G m c, fun c => GW m c, ?_, ?_⟩
  · refine (θ_run _ _ _).mono (fun r h c => ?_) (run_blocks (F := Ideal) m g)
    obtain ⟨h0, h1, h2⟩ := h c
    exact ⟨h0.trans (final m c), h1.trans (finalW m c), h2⟩
  · refine (θ_run _ _ _).mono (fun r h c => ?_) (Cert.Reference2Ideal.Value.run (F := Ideal) m' g')
    obtain ⟨a0, a1, a2, a3⟩ := hargs c
    obtain ⟨h0, h1, h2⟩ := h c
    refine ⟨h0.trans ?_, h1.trans ?_, h2⟩
    · rw [a0, a1, a2]; rfl
    · rw [a3]; rfl

end Cert.Kernel2Ideal.Hand

end
-- ==== Proof.Val3.lean ====
/- The product of the feed-forward's down projection: what the call leaves in its output array. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Mm
public import proofs.«01_k».proof.Defs

@[expose] public section

set_option maxRecDepth 16384

noncomputable section

namespace Cert.Kernel3Ideal.Hand

open Cert.Kernel3Ideal Cert.Kernel3Ideal.Gen Cert.Kernel3Ideal.Value Cert.Proof.Mm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The left operand as the launch finds it. -/
abbrev X1 (c : Dev nD) : FVec Ideal S16384x11008 .bf16 := V (F := Ideal) m c main_v1

/-- The right operand as the launch finds it. -/
abbrev X2 (c : Dev nD) : FVec Ideal S11008x4096 .bf16 := V (F := Ideal) m c main_v2

/-- The left operand is the argument with its two leading axes joined. -/
theorem V_main_v1 (c : Dev nD) : V (F := Ideal) m c main_v1 = (truncf (F := Ideal) .bf16 (shapeCast S16384x11008 (m ((c : Thread nD τ).loc main_arg0) : FVec Ideal S2x8192x11008 .f32) shapeCasts_S2x8192x11008_S16384x11008 : FVec Ideal S16384x11008 .f32) bitsLt_bf16_f32 : FVec Ideal S16384x11008 .bf16) := by
  show StableHlo.after hostOps0 (fun b => m (c, b)) main_v1 = _
  after_results <;> rfl

/-- The right operand is the argument. -/
theorem V_main_v2 (c : Dev nD) : V (F := Ideal) m c main_v2 = (truncf (F := Ideal) .bf16 (m ((c : Thread nD τ).loc main_arg1) : FVec Ideal S11008x4096 .f32) bitsLt_bf16_f32 : FVec Ideal S11008x4096 .bf16) := by
  show StableHlo.after hostOps0 (fun b => m (c, b)) main_v2 = _
  after_results <;> rfl

/-- The windows' block indices, point by point. -/
theorem idx_facts : ∀ t : Fin cfg0.N, win0_0.index t 0 = win0_2.index t 0 ∧ win0_0.index t 1 = 0 ∧ win0_1.index t 0 = 0
    ∧ win0_1.index t 1 = win0_2.index t 1 ∧ win0_2.index t 0 < 32 ∧ win0_2.index t 1 < 4 :=
  (by decide +kernel : ∀ t : Fin grid0.N, win0_0.index t 0 = win0_2.index t 0 ∧ win0_0.index t 1 = 0 ∧ win0_1.index t 0 = 0
    ∧ win0_1.index t 1 = win0_2.index t 1 ∧ win0_2.index t 0 < 32 ∧ win0_2.index t 1 < 4)

/-- Every block of the output is some point's. -/
theorem idx_onto : ∀ (p : Fin 32) (q : Fin 4), ∃ t : Fin cfg0.N, win0_2.index t 0 = p.val ∧ win0_2.index t 1 = q.val :=
  (by decide +kernel : ∀ (p : Fin 32) (q : Fin 4), ∃ t : Fin grid0.N, win0_2.index t 0 = p.val ∧ win0_2.index t 1 = q.val)

/-- Window 0's block at a point, read at an index. -/
theorem read_0 (c : Dev nD) (t : Fin cfg0.N) (y : S512x11008.Idx) (i : S16384x11008.Idx)
    (h0 : (i 0).val = win0_0.index t 0 * 512 + (y 0).val) (h1 : (i 1).val = win0_0.index t 1 * 11008 + (y 1).val) :
    iblk m c 0 t y = X1 m c i := by
  show V m c main_v1 (((cfg0.win 0).blk t).view.emb y) = X1 m c i
  refine congrArg _ (funext fun a => Fin.ext ?_)
  match a with
  | ⟨0, _⟩ => show win0_0.index t 0 * 512 + 1 * (y 0).val = (i 0).val; omega
  | ⟨1, _⟩ => show win0_0.index t 1 * 11008 + 1 * (y 1).val = (i 1).val; omega

/-- Window 1's block at a point, read at an index. -/
theorem read_1 (c : Dev nD) (t : Fin cfg0.N) (y : S11008x1024.Idx) (i : S11008x4096.Idx)
    (h0 : (i 0).val = win0_1.index t 0 * 11008 + (y 0).val) (h1 : (i 1).val = win0_1.index t 1 * 1024 + (y 1).val) :
    iblk m c 1 t y = X2 m c i := by
  show V m c main_v2 (((cfg0.win 1).blk t).view.emb y) = X2 m c i
  refine congrArg _ (funext fun a => Fin.ext ?_)
  match a with
  | ⟨0, _⟩ => show win0_1.index t 0 * 11008 + 1 * (y 0).val = (i 0).val; omega
  | ⟨1, _⟩ => show win0_1.index t 1 * 1024 + 1 * (y 1).val = (i 1).val; omega

/-- The body's product at an index of its block. -/
theorem pay_apply (a : Vec Ideal S512x11008 .bf16) (b : Vec Ideal S11008x1024 .bf16) (y : S512x1024.Idx) :
    k0_pay1 (F := Ideal) a b y = ∑ k : Fin 11008, a (ix2 (y 0) k) * b (ix2 k (y 1)) := by
  unfold k0_pay1
  simp only [shapeCast_self]
  exact rows_cols (φ₁ := .bf16) (φ₂ := .bf16) dot_S512x11008_S11008x1024_S512x1024_1_0_0_1_n_n rfl rfl
    (fun i q => by
      unfold DotDims.lhsIdx
      rw [dif_neg (by decide), dif_pos (by decide)]; rfl)
    (fun i q => dot_S512x11008_S11008x1024_S512x1024_1_0_0_1_n_n.lhsIdx_val_of_single rfl i q)
    (fun i q => dot_S512x11008_S11008x1024_S512x1024_1_0_0_1_n_n.rhsIdx_val_of_single rfl i q)
    (fun i q => by
      unfold DotDims.rhsIdx
      rw [dif_neg (by decide), dif_pos (by decide)]; rfl)
    a b _ (zero_word _) y

/-- The output array after the run: the reference's result of the same arguments. -/
def G (c : Dev nD) : S16384x4096.Idx → Elt Ideal .bf16 :=
  Cert.Reference3Ideal.Read.val_main_v2 (F := Ideal) (m ((c : Thread nD τ).loc main_arg0)) (m ((c : Thread nD τ).loc main_arg1))

/-- `G` at a row and a column: the sum over the contracted axis, of the operands as the launch finds them. -/
theorem G_apply (c : Dev nD) (r : Fin 16384) (s : Fin 4096) :
    G m c (ix2 r s) = ∑ k : Fin 11008, X1 m c (ix2 r k) * X2 m c (ix2 k s) := by
  have hr : r.val < 16384 := r.isLt
  have hs : s.val < 4096 := s.isLt
  unfold G
  rw [Cert.Reference3Ideal.Read.val_main_v2_apply, Ideal.truncf_def, Cert.Reference3Ideal.Read.val_main_v1_apply, Cert.Reference3Ideal.Read.val_main_v0_apply]
  refine Finset.sum_congr rfl fun k _ => ?_
  unfold X1 X2
  rw [V_main_v1, V_main_v2]
  refine congrArg₂ (· * ·) (Eq.symm ?_) (Eq.symm ?_)
  · exact (join_apply (m ((c : Thread nD τ).loc main_arg0)) _ r k (⟨r.val / 8192, by omega⟩ : Fin 2) (⟨r.val % 8192, by omega⟩ : Fin 8192) (by show r.val = r.val / 8192 * 8192 + r.val % 8192; omega)).trans
      (congrArg (m ((c : Thread nD τ).loc main_arg0)) (funext fun a => Fin.ext (by
        match a with
        | ⟨0, _⟩ => show r.val / 8192 = (r.val * 4096 + s.val) / 33554432; omega
        | ⟨1, _⟩ => show r.val % 8192 = (r.val * 4096 + s.val) / 4096 % 8192; omega
        | ⟨2, _⟩ => rfl)))
  · refine congrArg (m ((c : Thread nD τ).loc main_arg1)) (funext fun a => Fin.ext ?_)
    match a with
    | ⟨0, _⟩ => rfl
    | ⟨1, _⟩ => show s.val = (r.val * 4096 + s.val) % 4096; omega

theorem zz : (![0, 0] : Fin 2 → Nat) = fun _ => 0 := by funext a; match a with | ⟨0, _⟩ => rfl | ⟨1, _⟩ => rfl

/-- What a point writes back is its block of `G`. -/
theorem flushed_eq (c : Dev nD) (t : Fin cfg0.N) :
    (dats m 0 c).flushed 2 t = ((cfg0.win 2).blk t).view.read (Elt Ideal) (G m c) := by
  obtain ⟨e0, e1, e2, e3, l0, l1⟩ := idx_facts t
  rw [flushed2]
  funext y
  have hy0 : (y 0).val < 512 := (y 0).isLt
  have hy1 : (y 1).val < 1024 := (y 1).isLt
  show out0_2 (iblk m c 0 t) (iblk m c 1 t) y = G m c (((cfg0.win 2).blk t).view.emb y)
  unfold out0_2
  rw [View.canon_unit_zero zz, View.ld_unit_zero zz, View.ld_unit_zero zz]
  rw [pay_apply]
  have hj : ((cfg0.win 2).blk t).view.emb y = (ix2 (⟨win0_2.index t 0 * 512 + (y 0).val, by omega⟩ : Fin 16384) (⟨win0_2.index t 1 * 1024 + (y 1).val, by omega⟩ : Fin 4096) : S16384x4096.Idx) := by
    funext a; refine Fin.ext ?_
    match a with
    | ⟨0, _⟩ => show win0_2.index t 0 * 512 + 1 * (y 0).val = win0_2.index t 0 * 512 + (y 0).val; omega
    | ⟨1, _⟩ => show win0_2.index t 1 * 1024 + 1 * (y 1).val = win0_2.index t 1 * 1024 + (y 1).val; omega
  rw [hj]
  rw [G_apply]
  refine Finset.sum_congr rfl fun k _ => ?_
  have hk : k.val < 11008 := k.isLt
  rw [read_0 m c t _ (ix2 (⟨win0_2.index t 0 * 512 + (y 0).val, by omega⟩ : Fin 16384) k) (by show win0_2.index t 0 * 512 + (y 0).val = win0_0.index t 0 * 512 + (y 0).val; omega) (by show k.val = win0_0.index t 1 * 11008 + k.val; omega),
    read_1 m c t _ (ix2 k (⟨win0_2.index t 1 * 1024 + (y 1).val, by omega⟩ : Fin 4096)) (by show k.val = win0_1.index t 0 * 11008 + k.val; omega) (by show win0_2.index t 1 * 1024 + (y 1).val = win0_1.index t 1 * 1024 + (y 1).val; omega)]

theorem mem_blk (t : Fin cfg0.N) (i : S16384x4096.Idx) :
    i ∈ ((cfg0.win 2).blk t).view.set ↔ ∀ a, win0_2.index t a * S512x1024.size a ≤ (i a).val ∧ (i a).val < win0_2.index t a * S512x1024.size a + S512x1024.size a := by
  show i ∈ ((View.whole main_v3).slice (win0_2.rect t)).set ↔ _
  rw [View.set_slice_whole, Rect.mem_set_unit]

/-- The array after the run is `G`. -/
theorem final (c : Dev nD) : (dats m 0 c).arrAt 2 cfg0.N = G m c := by
  refine (dats m 0 c).arrAt_eq_of_cover 2 (G m c) (fun t _ => flushed_eq m c t) fun i => ?_
  have h0 : (i 0).val < 16384 := (i 0).isLt
  have h1 : (i 1).val < 4096 := (i 1).isLt
  obtain ⟨t, e0, e1⟩ := idx_onto ⟨(i 0).val / 512, by omega⟩ ⟨(i 1).val / 1024, by omega⟩
  have e0' : win0_2.index t 0 = (i 0).val / 512 := e0
  have e1' : win0_2.index t 1 = (i 1).val / 1024 := e1
  refine ⟨t, flush0_2 t, (mem_blk t i).mpr fun a => ?_⟩
  match a with
  | ⟨0, _⟩ => show win0_2.index t 0 * 512 ≤ (i 0).val ∧ (i 0).val < win0_2.index t 0 * 512 + 512; omega
  | ⟨1, _⟩ => show win0_2.index t 1 * 1024 ≤ (i 1).val ∧ (i 1).val < win0_2.index t 1 * 1024 + 1024; omega

/-- The call over the reals and the reference leave the same array. -/
theorem algebraic : Cert.algebraic_Kernel3Ideal_Reference3Ideal (hKernel3Ideal := Cert.Kernel3Ideal.Gen.facts) (hReference3Ideal := Cert.Reference3Ideal.Gen.facts) := by
  intro m g m' g' _ hargs
  refine ⟨fun c => G m c, ?_, ?_⟩
  · refine (θ_run _ _ _).mono (fun r h c => ?_) (run_blocks (F := Ideal) m g)
    obtain ⟨h0, h1⟩ := h c
    exact ⟨h0.trans (final m c), h1⟩
  · refine (θ_run _ _ _).mono (fun r h c => ?_) (Cert.Reference3Ideal.Value.run (F := Ideal) m' g')
    obtain ⟨a0, a1⟩ := hargs c
    obtain ⟨h0, h1⟩ := h c
    refine ⟨h0.trans ?_, h1⟩
    rw [a0, a1]
    rfl

end Cert.Kernel3Ideal.Hand

end
-- ==== Proof.Val4.lean ====
/- The final normalisation and residual: what the call leaves in its output array. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Mm
public import proofs.«01_k».proof.Defs
public import Idealize.ShloMosaic.Lib.ValueLayout

@[expose] public section

set_option maxRecDepth 16384

noncomputable section

namespace Cert.Kernel4Ideal.Hand

open Cert.Kernel4Ideal Cert.Kernel4Ideal.Gen Cert.Kernel4Ideal.Value Cert.Proof.Mm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zz : (![0, 0] : Fin 2 → Nat) = fun _ => 0 := by funext a; match a with | ⟨0, _⟩ => rfl | ⟨1, _⟩ => rfl

theorem zzz : (![0, 0, 0] : Fin 3 → Nat) = fun _ => 0 := by funext a; match a with | ⟨0, _⟩ => rfl | ⟨1, _⟩ => rfl | ⟨2, _⟩ => rfl

/-- Operand 1 as the launch finds it. -/
abbrev X1 (c : Dev nD) : FVec Ideal S16384x4096 .bf16 := V (F := Ideal) m c main_v1

/-- That operand is the argument with its two leading axes joined. -/
theorem V_main_v1 (c : Dev nD) : V (F := Ideal) m c main_v1 = (truncf (F := Ideal) .bf16 (shapeCast S16384x4096 (m ((c : Thread nD τ).loc main_arg0) : FVec Ideal S2x8192x4096 .f32) shapeCasts_S2x8192x4096_S16384x4096 : FVec Ideal S16384x4096 .f32) bitsLt_bf16_f32 : FVec Ideal S16384x4096 .bf16) := by
  show StableHlo.after hostOps0 (fun b => m (c, b)) main_v1 = _
  after_results <;> rfl

theorem X1_apply (c : Dev nD) (r : Fin 16384) (q : Fin 4096) : X1 m c (ix2 r q)
    = m ((c : Thread nD τ).loc main_arg0) (ix3 (⟨r.val / 8192, by have := r.isLt; omega⟩ : Fin 2) (⟨r.val % 8192, by omega⟩ : Fin 8192) q) := by
  unfold X1
  rw [V_main_v1]
  exact join_apply (m ((c : Thread nD τ).loc main_arg0)) _ r q _ _ (by show r.val = r.val / 8192 * 8192 + r.val % 8192; omega)

/-- Operand 2 as the launch finds it. -/
abbrev X2 (c : Dev nD) : FVec Ideal S16384x4096 .f32 := V (F := Ideal) m c main_v2

/-- The residual is the argument with its two leading axes joined. -/
theorem V_main_v2 (c : Dev nD) : V (F := Ideal) m c main_v2 = (shapeCast S16384x4096 (m ((c : Thread nD τ).loc main_arg1) : FVec Ideal S2x8192x4096 .f32) shapeCasts_S2x8192x4096_S16384x4096 : FVec Ideal S16384x4096 .f32) := by
  show StableHlo.after hostOps0 (fun b => m (c, b)) main_v2 = _
  after_results <;> rfl

theorem X2_apply (c : Dev nD) (r : Fin 16384) (q : Fin 4096) : X2 m c (ix2 r q)
    = (m ((c : Thread nD τ).loc main_arg1)) (ix3 (⟨r.val / 8192, by have := r.isLt; omega⟩ : Fin 2) (⟨r.val % 8192, by omega⟩ : Fin 8192) q) := by
  unfold X2
  rw [V_main_v2]
  exact join_apply (m ((c : Thread nD τ).loc main_arg1)) _ r q _ _ (by show r.val = r.val / 8192 * 8192 + r.val % 8192; omega)

/-- A position of a vector. -/
abbrev one (s : Fin 4096) : S4096.Idx := fun a => match a with | ⟨0, _⟩ => s

/-- Operand 3 as the launch finds it. -/
abbrev X3 (c : Dev nD) : FVec Ideal S1x4096 .f32 := V (F := Ideal) m c main_v4

/-- The gain is the argument as one row. -/
theorem V_main_v4 (c : Dev nD) : V (F := Ideal) m c main_v4 = (shapeCast S1x4096 ((m ((c : Thread nD τ).loc main_arg2)) : FVec Ideal S4096 .f32) shapeCasts_S4096_S1x4096 : FVec Ideal S1x4096 .f32) := by
  show StableHlo.after hostOps0 (fun b => m (c, b)) main_v4 = _
  after_results <;> rfl

theorem X3_apply (c : Dev nD) (s : Fin 4096) : X3 m c (ix2 (0 : Fin 1) s) = (m ((c : Thread nD τ).loc main_arg2)) (one s) := by
  unfold X3
  rw [V_main_v4]
  exact shapeCast_apply (s := S4096) ((m ((c : Thread nD τ).loc main_arg2)) : FVec Ideal S4096 .f32) _ _ (one s) (by show (S4096.rowMajor (one s)).val = (S1x4096.rowMajor (ix2 (0 : Fin 1) s)).val; rw [Shape.rowMajor_val_one, Shape.rowMajor_val_two]; show s.val = 0 * 4096 + s.val; omega)

/-- The windows' block indices, point by point. -/
theorem idx_facts : ∀ t : Fin cfg0.N, win0_0.index t 0 = win0_4.index t 0 ∧ win0_0.index t 1 = 0 ∧ win0_1.index t 0 = win0_4.index t 0 ∧ win0_1.index t 1 = 0 ∧ win0_2.index t 0 = 0 ∧ win0_2.index t 1 = 0 ∧ win0_4.index t 0 < 64 ∧ win0_4.index t 1 = 0 :=
  (by decide +kernel : ∀ t : Fin grid0.N, win0_0.index t 0 = win0_4.index t 0 ∧ win0_0.index t 1 = 0 ∧ win0_1.index t 0 = win0_4.index t 0 ∧ win0_1.index t 1 = 0 ∧ win0_2.index t 0 = 0 ∧ win0_2.index t 1 = 0 ∧ win0_4.index t 0 < 64 ∧ win0_4.index t 1 = 0)

/-- Every block of window 4 is some point's. -/
theorem idx_onto : ∀ (p : Fin 64) (q : Fin 1), ∃ t : Fin cfg0.N, win0_4.index t 0 = p.val ∧ win0_4.index t 1 = q.val :=
  (by decide +kernel : ∀ (p : Fin 64) (q : Fin 1), ∃ t : Fin grid0.N, win0_4.index t 0 = p.val ∧ win0_4.index t 1 = q.val)

/-- Window 0's block at a point. -/
abbrev B0 (c : Dev nD) (t : Fin cfg0.N) : FVec Ideal S256x4096 .bf16 := iblk m c 0 t

/-- Window 0's block at a point, read at an index. -/
theorem read_0 (c : Dev nD) (t : Fin cfg0.N) (y : S256x4096.Idx) (i : S16384x4096.Idx)
    (h0 : (i 0).val = win0_0.index t 0 * 256 + (y 0).val) (h1 : (i 1).val = win0_0.index t 1 * 4096 + (y 1).val) :
    B0 m c t y = X1 m c i := by
  show V m c main_v1 (((cfg0.win 0).blk t).view.emb y) = V m c main_v1 i
  refine congrArg _ (funext fun a => Fin.ext ?_)
  match a with
  | ⟨0, _⟩ => show win0_0.index t 0 * 256 + 1 * (y 0).val = (i 0).val; omega
  | ⟨1, _⟩ => show win0_0.index t 1 * 4096 + 1 * (y 1).val = (i 1).val; omega

/-- Window 1's block at a point. -/
abbrev B1 (c : Dev nD) (t : Fin cfg0.N) : FVec Ideal S256x4096 .f32 := iblk m c 1 t

/-- Window 1's block at a point, read at an index. -/
theorem read_1 (c : Dev nD) (t : Fin cfg0.N) (y : S256x4096.Idx) (i : S16384x4096.Idx)
    (h0 : (i 0).val = win0_1.index t 0 * 256 + (y 0).val) (h1 : (i 1).val = win0_1.index t 1 * 4096 + (y 1).val) :
    B1 m c t y = X2 m c i := by
  show V m c main_v2 (((cfg0.win 1).blk t).view.emb y) = V m c main_v2 i
  refine congrArg _ (funext fun a => Fin.ext ?_)
  match a with
  | ⟨0, _⟩ => show win0_1.index t 0 * 256 + 1 * (y 0).val = (i 0).val; omega
  | ⟨1, _⟩ => show win0_1.index t 1 * 4096 + 1 * (y 1).val = (i 1).val; omega

/-- Window 2's block at a point. -/
abbrev B2 (c : Dev nD) (t : Fin cfg0.N) : FVec Ideal S1x4096 .f32 := iblk m c 2 t

/-- Window 2's block at a point, read at an index. -/
theorem read_2 (c : Dev nD) (t : Fin cfg0.N) (y : S1x4096.Idx) (i : S1x4096.Idx)
    (h0 : (i 0).val = win0_2.index t 0 * 1 + (y 0).val) (h1 : (i 1).val = win0_2.index t 1 * 4096 + (y 1).val) :
    B2 m c t y = X3 m c i := by
  show V m c main_v4 (((cfg0.win 2).blk t).view.emb y) = V m c main_v4 i
  refine congrArg _ (funext fun a => Fin.ext ?_)
  match a with
  | ⟨0, _⟩ => show win0_2.index t 0 * 1 + 1 * (y 0).val = (i 0).val; omega
  | ⟨1, _⟩ => show win0_2.index t 1 * 4096 + 1 * (y 1).val = (i 1).val; omega

/-- A row's normalised entry with its gain, added to the residual: `x` the entry, `q` the row's sum of squares. -/
def cell (h x q g : EReal) : EReal :=
  h + x * Ideal.rsqrt (Ideal.div q (Ideal.ofBits .f32 0x45800000#32) + Ideal.ofBits .f32 0x358637BD#32) * g

/-- The body's result at an index of its block. -/
theorem E_apply (h : Vec Ideal S256x4096 .f32) (x : Vec Ideal S256x4096 .bf16) (g : Vec Ideal S1x4096 .f32) (y : S256x4096.Idx) :
    E4 (F := Ideal) h x g y = cell (h y) (x y) (∑ k : Fin 4096, (x (ix2 (y 0) k) : EReal) * x (ix2 (y 0) k)) (g (ix2 (0 : Fin 1) (y 1))) := by
  unfold E4
  simp only [shapeCast_self]
  have hy : ix4_0 y = y := funext fun a => Fin.ext (by match a with | ⟨0, _⟩ => rfl | ⟨1, _⟩ => rfl)
  have hy' : ix4_1 y = y := hy
  have hg : ix4_3 y = (ix2 (0 : Fin 1) (y 1) : S1x4096.Idx) := funext fun a => Fin.ext (by match a with | ⟨0, _⟩ => rfl | ⟨1, _⟩ => rfl)
  have hk : ∀ k : Fin 4096, reduces_S256x4096_S256.lift (ix4_2 y) k = (ix2 (y 0) k : S256x4096.Idx) := fun k => funext fun a => Fin.ext (by
    match a with | ⟨0, _⟩ => rfl | ⟨1, _⟩ => rfl)
  rw [hy, hy', hg]
  unfold cell
  refine (congrArg (fun q => h y + (x y : EReal) * Ideal.rsqrt (Ideal.div q (Ideal.ofBits .f32 0x45800000#32) + Ideal.ofBits .f32 0x358637BD#32) * g (ix2 (0 : Fin 1) (y 1)))
    ((Ideal.multiReduction_add_single (mulf (extf .f32 x bitsLt_bf16_f32) (extf .f32 x bitsLt_bf16_f32)) 0x00000000#32 reduces_S256x4096_S256 (.inl rfl) rfl (ix4_2 y)).trans
      (Finset.sum_congr rfl fun k _ => ?_) : _ = ∑ k : Fin 4096, (x (ix2 (y 0) k) : EReal) * x (ix2 (y 0) k)))
  show (x (reduces_S256x4096_S256.lift (ix4_2 y) k) : EReal) * x (reduces_S256x4096_S256.lift (ix4_2 y) k) = _
  exact congrArg₂ (fun a b : EReal => a * b) (congrArg x (hk k)) (congrArg x (hk k))

/-- The output array after the run: the reference's result of the same arguments. -/
def G (c : Dev nD) : S16384x4096.Idx → Elt Ideal .f32 :=
  Cert.Reference4Ideal.Read.val_main_v14 (F := Ideal) (m ((c : Thread nD τ).loc main_arg0)) (m ((c : Thread nD τ).loc main_arg1)) (m ((c : Thread nD τ).loc main_arg2))

/-- `G` at a row and a column. -/
theorem G_apply (c : Dev nD) (r : Fin 16384) (s : Fin 4096) :
    G m c (ix2 r s) = cell (X2 m c (ix2 r s)) (X1 m c (ix2 r s)) (∑ k : Fin 4096, X1 m c (ix2 r k) * X1 m c (ix2 r k)) (X3 m c (ix2 (0 : Fin 1) s)) := by
  have hr : r.val < 16384 := r.isLt
  have hs : s.val < 4096 := s.isLt
  have hi : Cert.Reference4Ideal.Read.idx_main_v14 (ix2 r s) = (ix3 (⟨r.val / 8192, by omega⟩ : Fin 2) (⟨r.val % 8192, by omega⟩ : Fin 8192) s : S2x8192x4096.Idx) := funext fun a => Fin.ext (by
    match a with
    | ⟨0, _⟩ => show (r.val * 4096 + s.val) / 33554432 = r.val / 8192; omega
    | ⟨1, _⟩ => show (r.val * 4096 + s.val) / 4096 % 8192 = r.val % 8192; omega
    | ⟨2, _⟩ => show (r.val * 4096 + s.val) % 4096 = s.val; omega)
  unfold G
  rw [Cert.Reference4Ideal.Read.val_main_v14_apply, hi]
  simp only [Cert.Reference4Ideal.Read.val_main_v13_apply, Cert.Reference4Ideal.Read.val_main_v12_apply, Cert.Reference4Ideal.Read.val_main_v11_apply, Cert.Reference4Ideal.Read.val_main_v10_apply, Cert.Reference4Ideal.Read.val_main_v9_apply, Cert.Reference4Ideal.Read.val_main_v8_apply, Cert.Reference4Ideal.Read.val_main_v7_apply, Cert.Reference4Ideal.Read.val_main_v6_apply,
    Cert.Reference4Ideal.Read.val_main_v5_apply, Cert.Reference4Ideal.Read.val_main_v4_apply, Cert.Reference4Ideal.Read.val_main_v3_apply, Cert.Reference4Ideal.Read.val_main_v2_apply, Cert.Reference4Ideal.Read.val_main_v1_apply, Cert.Reference4Ideal.Read.val_main_v0_apply, Cert.Reference4Ideal.Read.val_main_cst_apply, Cert.Reference4Ideal.Read.val_main_cst_0_apply, Cert.Reference4Ideal.Read.val_main_cst_1_apply]
  rw [X2_apply, X1_apply, X3_apply]
  unfold cell
  show _ + _ * Ideal.rsqrt (Ideal.div (Ideal.ofBits .f32 0x00000000#32 + _) _ + _) * _ = _
  rw [show Ideal.ofBits .f32 0x00000000#32 = 0 from by simp [Ideal.ofBits, Ideal.ieee], zero_add]
  refine congrArg₂ (· + ·) rfl (congrArg₂ (· * ·) (congrArg₂ (· * ·) rfl (congrArg (fun q => Ideal.rsqrt (Ideal.div q (Ideal.ofBits .f32 0x45800000#32) + Ideal.ofBits .f32 0x358637BD#32)) (Finset.sum_congr rfl fun k _ => ?_))) ?_)
  · have hk : Cert.Reference4Ideal.Read.idx_main_v1 (Cert.Reference4Ideal.Read.idx_main_v2 (Cert.Reference4Ideal.Read.idx_main_v8 (ix3 (⟨r.val / 8192, by omega⟩ : Fin 2) (⟨r.val % 8192, by omega⟩ : Fin 8192) s : S2x8192x4096.Idx))) k = (ix3 (⟨r.val / 8192, by omega⟩ : Fin 2) (⟨r.val % 8192, by omega⟩ : Fin 8192) k : S2x8192x4096.Idx) := funext fun a => Fin.ext (by
      match a with
      | ⟨0, _⟩ => rfl
      | ⟨1, _⟩ => rfl
      | ⟨2, _⟩ => rfl)
    rw [hk, X1_apply]
    rfl
  · exact congrArg (m ((c : Thread nD τ).loc main_arg2)) (funext fun a => Fin.ext (by match a with | ⟨0, _⟩ => rfl))

/-- What a point writes back is its block of `G`. -/
theorem flushed_eq (c : Dev nD) (t : Fin cfg0.N) :
    (dats m 0 c).flushed 4 t = ((cfg0.win 4).blk t).view.read (Elt Ideal) (G m c) := by
  obtain ⟨e0, e1, e2, e3, e4, e5, l0, l1⟩ := idx_facts t
  rw [flushed4]
  funext y
  have hy0 : (y 0).val < 256 := (y 0).isLt
  have hy1 : (y 1).val < 4096 := (y 1).isLt
  show out0_4 (iblk m c 0 t) (iblk m c 1 t) (iblk m c 2 t) (iblk m c 3 t) y = G m c (((cfg0.win 4).blk t).view.emb y)
  unfold out0_4
  rw [View.ld_unit_zero zz, View.ld_unit_zero zz, View.ld_unit_zero zz]
  refine (canon4_eq _ _ _ _).trans ?_
  rw [E_apply]
  have hj : ((cfg0.win 4).blk t).view.emb y = (ix2 (⟨win0_4.index t 0 * 256 + (y 0).val, by omega⟩ : Fin 16384) (⟨win0_4.index t 1 * 4096 + (y 1).val, by omega⟩ : Fin 4096) : S16384x4096.Idx) := by
    funext a; refine Fin.ext ?_
    match a with
    | ⟨0, _⟩ => show win0_4.index t 0 * 256 + 1 * (y 0).val = win0_4.index t 0 * 256 + (y 0).val; omega
    | ⟨1, _⟩ => show win0_4.index t 1 * 4096 + 1 * (y 1).val = win0_4.index t 1 * 4096 + (y 1).val; omega
  rw [hj]
  rw [G_apply]
  have h2 : B1 m c t y = X2 m c (ix2 (⟨win0_4.index t 0 * 256 + (y 0).val, by omega⟩ : Fin 16384) (⟨win0_4.index t 1 * 4096 + (y 1).val, by omega⟩ : Fin 4096)) :=
    read_1 m c t _ _ (by show win0_4.index t 0 * 256 + (y 0).val = win0_1.index t 0 * 256 + (y 0).val; omega) (by show win0_4.index t 1 * 4096 + (y 1).val = win0_1.index t 1 * 4096 + (y 1).val; omega)
  have h1 : B0 m c t y = X1 m c (ix2 (⟨win0_4.index t 0 * 256 + (y 0).val, by omega⟩ : Fin 16384) (⟨win0_4.index t 1 * 4096 + (y 1).val, by omega⟩ : Fin 4096)) :=
    read_0 m c t _ _ (by show win0_4.index t 0 * 256 + (y 0).val = win0_0.index t 0 * 256 + (y 0).val; omega) (by show win0_4.index t 1 * 4096 + (y 1).val = win0_0.index t 1 * 4096 + (y 1).val; omega)
  have h3 : B2 m c t (ix2 (0 : Fin 1) (y 1)) = X3 m c (ix2 (0 : Fin 1) (⟨win0_4.index t 1 * 4096 + (y 1).val, by omega⟩ : Fin 4096)) :=
    read_2 m c t _ _ (by show 0 = win0_2.index t 0 * 1 + 0; omega) (by show win0_4.index t 1 * 4096 + (y 1).val = win0_2.index t 1 * 4096 + (y 1).val; omega)
  have hq : (∑ k : Fin 4096, B0 m c t (ix2 (y 0) k) * B0 m c t (ix2 (y 0) k)) = ∑ k : Fin 4096, X1 m c (ix2 (⟨win0_4.index t 0 * 256 + (y 0).val, by omega⟩ : Fin 16384) k) * X1 m c (ix2 (⟨win0_4.index t 0 * 256 + (y 0).val, by omega⟩ : Fin 16384) k) := by
    refine Finset.sum_congr rfl fun k _ => ?_
    have hk : k.val < 4096 := k.isLt
    rw [read_0 m c t _ (ix2 (⟨win0_4.index t 0 * 256 + (y 0).val, by omega⟩ : Fin 16384) k) (by show win0_4.index t 0 * 256 + (y 0).val = win0_0.index t 0 * 256 + (y 0).val; omega) (by show k.val = win0_0.index t 1 * 4096 + k.val; omega)]
  show cell (B1 m c t y) (B0 m c t y) (∑ k : Fin 4096, B0 m c t (ix2 (y 0) k) * B0 m c t (ix2 (y 0) k)) (B2 m c t (ix2 (0 : Fin 1) (y 1))) = _
  rw [h1, h2, h3, hq]

theorem mem_blk (t : Fin cfg0.N) (i : S16384x4096.Idx) :
    i ∈ ((cfg0.win 4).blk t).view.set ↔ ∀ a, win0_4.index t a * S256x4096.size a ≤ (i a).val ∧ (i a).val < win0_4.index t a * S256x4096.size a + S256x4096.size a := by
  show i ∈ ((View.whole main_v5).slice (win0_4.rect t)).set ↔ _
  rw [View.set_slice_whole, Rect.mem_set_unit]

/-- The array after the run is `G`. -/
theorem final (c : Dev nD) : (dats m 0 c).arrAt 4 cfg0.N = G m c := by
  refine (dats m 0 c).arrAt_eq_of_cover 4 (G m c) (fun t _ => flushed_eq m c t) fun i => ?_
  have h0 : (i 0).val < 16384 := (i 0).isLt
  have h1 : (i 1).val < 4096 := (i 1).isLt
  obtain ⟨t, e0, e1⟩ := idx_onto ⟨(i 0).val / 256, by omega⟩ ⟨(i 1).val / 4096, by omega⟩
  have e0' : win0_4.index t 0 = (i 0).val / 256 := e0
  have e1' : win0_4.index t 1 = (i 1).val / 4096 := e1
  refine ⟨t, flush0_4 t, (mem_blk t i).mpr fun a => ?_⟩
  match a with
  | ⟨0, _⟩ => show win0_4.index t 0 * 256 ≤ (i 0).val ∧ (i 0).val < win0_4.index t 0 * 256 + 256; omega
  | ⟨1, _⟩ => show win0_4.index t 1 * 4096 ≤ (i 1).val ∧ (i 1).val < win0_4.index t 1 * 4096 + 4096; omega

/-- The call over the reals and the reference leave the same arrays. -/
theorem algebraic : Cert.algebraic_Kernel4Ideal_Reference4Ideal (hKernel4Ideal := Cert.Kernel4Ideal.Gen.facts) (hReference4Ideal := Cert.Reference4Ideal.Gen.facts) := by
  intro m g m' g' _ hargs
  refine ⟨fun c => G m c, ?_, ?_⟩
  · refine (θ_run _ _ _).mono (fun r h c => ?_) (run_blocks (F := Ideal) m g)
    obtain ⟨h0, h1⟩ := h c
    exact ⟨h0.trans (final m c), h1⟩
  · refine (θ_run _ _ _).mono (fun r h c => ?_) (Cert.Reference4Ideal.Value.run (F := Ideal) m' g')
    obtain ⟨a0, a1, a2⟩ := hargs c
    obtain ⟨h0, h1⟩ := h c
    refine ⟨h0.trans ?_, h1⟩
    rw [a0, a1, a2]; rfl

end Cert.Kernel4Ideal.Hand

end
-- ==== Proof.Val5.lean ====
/- The second part of the input projection, and the weight it casts on the way: what the call leaves in its two output arrays. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Mm
public import proofs.«01_k».proof.Defs
public import Idealize.ShloMosaic.Lib.ValueLayout

@[expose] public section

set_option maxRecDepth 16384

noncomputable section

namespace Cert.Kernel5Ideal.Hand

open Cert.Kernel5Ideal Cert.Kernel5Ideal.Gen Cert.Kernel5Ideal.Value Cert.Proof.Mm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zz : (![0, 0] : Fin 2 → Nat) = fun _ => 0 := by funext a; match a with | ⟨0, _⟩ => rfl | ⟨1, _⟩ => rfl

theorem zzz : (![0, 0, 0] : Fin 3 → Nat) = fun _ => 0 := by funext a; match a with | ⟨0, _⟩ => rfl | ⟨1, _⟩ => rfl | ⟨2, _⟩ => rfl

/-- Operand 1 as the launch finds it. -/
abbrev X1 (c : Dev nD) : FVec Ideal S16384x4096 .bf16 := V (F := Ideal) m c main_v1

/-- That operand is the argument with its two leading axes joined. -/
theorem V_main_v1 (c : Dev nD) : V (F := Ideal) m c main_v1 = (truncf (F := Ideal) .bf16 (shapeCast S16384x4096 (m ((c : Thread nD τ).loc main_arg0) : FVec Ideal S2x8192x4096 .f32) shapeCasts_S2x8192x4096_S16384x4096 : FVec Ideal S16384x4096 .f32) bitsLt_bf16_f32 : FVec Ideal S16384x4096 .bf16) := by
  show StableHlo.after hostOps0 (fun b => m (c, b)) main_v1 = _
  after_results <;> rfl

theorem X1_apply (c : Dev nD) (r : Fin 16384) (q : Fin 4096) : X1 m c (ix2 r q)
    = m ((c : Thread nD τ).loc main_arg0) (ix3 (⟨r.val / 8192, by have := r.isLt; omega⟩ : Fin 2) (⟨r.val % 8192, by omega⟩ : Fin 8192) q) := by
  unfold X1
  rw [V_main_v1]
  exact join_apply (m ((c : Thread nD τ).loc main_arg0)) _ r q _ _ (by show r.val = r.val / 8192 * 8192 + r.val % 8192; omega)

/-- Operand 2 as the launch finds it. -/
abbrev X2 (c : Dev nD) : FVec Ideal S7680x4096 .bf16 := V (F := Ideal) m c main_v3

/-- That operand is the argument transposed. -/
theorem V_main_v3 (c : Dev nD) : V (F := Ideal) m c main_v3 = (truncf (F := Ideal) .bf16 (transpose S7680x4096 [1, 0] (m ((c : Thread nD τ).loc main_arg1) : FVec Ideal S4096x7680 .f32) transposes_S4096x7680_S7680x4096_1_0 : FVec Ideal S7680x4096 .f32) bitsLt_bf16_f32 : FVec Ideal S7680x4096 .bf16) := by
  show StableHlo.after hostOps0 (fun b => m (c, b)) main_v3 = _
  after_results <;> rfl

theorem X2_apply (c : Dev nD) (q : Fin 4096) (s : Fin 7680) : X2 m c (ix2 s q) = m ((c : Thread nD τ).loc main_arg1) (ix2 q s) := by
  unfold X2
  rw [V_main_v3]
  exact transpose_ix2_apply (m ((c : Thread nD τ).loc main_arg1)) _ _ _

/-- The windows' block indices, point by point. -/
theorem idx_facts : ∀ t : Fin cfg0.N, win0_0.index t 0 = win0_3.index t 0 ∧ win0_0.index t 1 = 0 ∧ win0_1.index t 0 = win0_3.index t 1 ∧ win0_1.index t 1 = 0 ∧ win0_3.index t 0 < 16 ∧ win0_3.index t 1 < 10 :=
  (by decide +kernel : ∀ t : Fin grid0.N, win0_0.index t 0 = win0_3.index t 0 ∧ win0_0.index t 1 = 0 ∧ win0_1.index t 0 = win0_3.index t 1 ∧ win0_1.index t 1 = 0 ∧ win0_3.index t 0 < 16 ∧ win0_3.index t 1 < 10)

/-- Every block of window 3 is some point's. -/
theorem idx_onto : ∀ (p : Fin 16) (q : Fin 10), ∃ t : Fin cfg0.N, win0_3.index t 0 = p.val ∧ win0_3.index t 1 = q.val :=
  (by decide +kernel : ∀ (p : Fin 16) (q : Fin 10), ∃ t : Fin grid0.N, win0_3.index t 0 = p.val ∧ win0_3.index t 1 = q.val)

/-- Window 0's block at a point. -/
abbrev B0 (c : Dev nD) (t : Fin cfg0.N) : FVec Ideal S1024x4096 .bf16 := iblk m c 0 t

/-- Window 0's block at a point, read at an index. -/
theorem read_0 (c : Dev nD) (t : Fin cfg0.N) (y : S1024x4096.Idx) (i : S16384x4096.Idx)
    (h0 : (i 0).val = win0_0.index t 0 * 1024 + (y 0).val) (h1 : (i 1).val = win0_0.index t 1 * 4096 + (y 1).val) :
    B0 m c t y = X1 m c i := by
  show V m c main_v1 (((cfg0.win 0).blk t).view.emb y) = V m c main_v1 i
  refine congrArg _ (funext fun a => Fin.ext ?_)
  match a with
  | ⟨0, _⟩ => show win0_0.index t 0 * 1024 + 1 * (y 0).val = (i 0).val; omega
  | ⟨1, _⟩ => show win0_0.index t 1 * 4096 + 1 * (y 1).val = (i 1).val; omega

/-- Window 1's block at a point. -/
abbrev B1 (c : Dev nD) (t : Fin cfg0.N) : FVec Ideal S768x4096 .bf16 := iblk m c 1 t

/-- Window 1's block at a point, read at an index. -/
theorem read_1 (c : Dev nD) (t : Fin cfg0.N) (y : S768x4096.Idx) (i : S7680x4096.Idx)
    (h0 : (i 0).val = win0_1.index t 0 * 768 + (y 0).val) (h1 : (i 1).val = win0_1.index t 1 * 4096 + (y 1).val) :
    B1 m c t y = X2 m c i := by
  show V m c main_v3 (((cfg0.win 1).blk t).view.emb y) = V m c main_v3 i
  refine congrArg _ (funext fun a => Fin.ext ?_)
  match a with
  | ⟨0, _⟩ => show win0_1.index t 0 * 768 + 1 * (y 0).val = (i 0).val; omega
  | ⟨1, _⟩ => show win0_1.index t 1 * 4096 + 1 * (y 1).val = (i 1).val; omega

/-- A product of two blocks at an index. -/
theorem prod (a : FVec Ideal S1024x4096 .bf16) (b : FVec Ideal S768x4096 .bf16) (y : S1024x768.Idx) :
    matmul (F := Ideal) dot_S1024x4096_S768x4096_S1024x768_1_1_0_0_n_n none a b (constant S1024x768 .f32 0x00000000#32) y = ∑ k : Fin 4096, a (ix2 (y 0) k) * b (ix2 (y 1) k) := by
  exact rows_rows (φ₁ := .bf16) (φ₂ := .bf16) dot_S1024x4096_S768x4096_S1024x768_1_1_0_0_n_n rfl rfl
    (fun i q => by
      unfold DotDims.lhsIdx
      rw [dif_neg (by decide), dif_pos (by decide)]; rfl)
    (fun i q => dot_S1024x4096_S768x4096_S1024x768_1_1_0_0_n_n.lhsIdx_val_of_single rfl i q)
    (fun i q => by
      unfold DotDims.rhsIdx
      rw [dif_neg (by decide), dif_pos (by decide)]; rfl)
    (fun i q => dot_S1024x4096_S768x4096_S1024x768_1_1_0_0_n_n.rhsIdx_val_of_single rfl i q)
    a b _ (zero_word _) y

/-- The body's result at an index of its block. -/
theorem pay_apply (a : Vec Ideal S1024x4096 .bf16) (b : Vec Ideal S768x4096 .bf16) (y : S1024x768.Idx) :
    k0_pay2 (F := Ideal) a b y = ∑ k : Fin 4096, a (ix2 (y 0) k) * b (ix2 (y 1) k) := by
  unfold k0_pay2
  simp only [shapeCast_self]
  exact prod a b y

/-- The output array after the run: the reference's result of the same arguments. -/
def G (c : Dev nD) : S16384x7680.Idx → Elt Ideal .bf16 :=
  Cert.Reference5Ideal.Read.val_main_v2 (F := Ideal) (m ((c : Thread nD τ).loc main_arg0)) (m ((c : Thread nD τ).loc main_arg1))

/-- The reference's product at a row and a column of the joined array, in the operands the launch finds. -/
theorem dot_eq (c : Dev nD) (r : Fin 16384) (s : Fin 7680) :
    Cert.Reference5Ideal.Read.val_main_v0 (F := Ideal) (m ((c : Thread nD τ).loc main_arg0)) (m ((c : Thread nD τ).loc main_arg1)) (Cert.Reference5Ideal.Read.idx_main_v1 (ix2 r s)) = ∑ k : Fin 4096, X1 m c (ix2 r k) * X2 m c (ix2 s k) := by
  have hr : r.val < 16384 := r.isLt
  have hs : s.val < 7680 := s.isLt
  rw [Cert.Reference5Ideal.Read.val_main_v0_apply]
  refine Finset.sum_congr rfl fun k _ => ?_
  rw [X1_apply, X2_apply]
  refine congrArg₂ (· * ·) (congrArg (m ((c : Thread nD τ).loc main_arg0)) (funext fun a => Fin.ext ?_)) (congrArg (m ((c : Thread nD τ).loc main_arg1)) (funext fun a => Fin.ext ?_))
  · match a with
    | ⟨0, _⟩ => show (r.val * 7680 + s.val) / 62914560 = r.val / 8192; omega
    | ⟨1, _⟩ => show (r.val * 7680 + s.val) / 7680 % 8192 = r.val % 8192; omega
    | ⟨2, _⟩ => rfl
  · match a with
    | ⟨0, _⟩ => rfl
    | ⟨1, _⟩ => show (r.val * 7680 + s.val) % 7680 = s.val; omega

/-- `G` at a row and a column. -/
theorem G_apply (c : Dev nD) (r : Fin 16384) (s : Fin 7680) : G m c (ix2 r s) = ∑ k : Fin 4096, X1 m c (ix2 r k) * X2 m c (ix2 s k) := by
  unfold G
  rw [Cert.Reference5Ideal.Read.val_main_v2_apply, Ideal.truncf_def, Cert.Reference5Ideal.Read.val_main_v1_apply]
  exact dot_eq m c r s

/-- A product over two windows' blocks at a point is the product over their arrays, at the output block's row and column. -/
theorem sum_eq (c : Dev nD) (t : Fin cfg0.N) (y : S1024x768.Idx) (h0 : win0_3.index t 0 * 1024 + (y 0).val < 16384) (h1 : win0_3.index t 1 * 768 + (y 1).val < 7680) :
    (∑ k : Fin 4096, B0 m c t (ix2 (y 0) k) * B1 m c t (ix2 (y 1) k))
      = ∑ k : Fin 4096, X1 m c (ix2 (⟨win0_3.index t 0 * 1024 + (y 0).val, by omega⟩ : Fin 16384) k) * X2 m c (ix2 (⟨win0_3.index t 1 * 768 + (y 1).val, by omega⟩ : Fin 7680) k) := by
  obtain ⟨e0, e1, e2, e3, l0, l1⟩ := idx_facts t
  refine Finset.sum_congr rfl fun k _ => ?_
  have hk : k.val < 4096 := k.isLt
  rw [read_0 m c t _ (ix2 (⟨win0_3.index t 0 * 1024 + (y 0).val, by omega⟩ : Fin 16384) k) (by show win0_3.index t 0 * 1024 + (y 0).val = win0_0.index t 0 * 1024 + (y 0).val; omega) (by show k.val = win0_0.index t 1 * 4096 + k.val; omega),
    read_1 m c t _ (ix2 (⟨win0_3.index t 1 * 768 + (y 1).val, by omega⟩ : Fin 7680) k) (by show win0_3.index t 1 * 768 + (y 1).val = win0_1.index t 0 * 768 + (y 1).val; omega) (by show k.val = win0_1.index t 1 * 4096 + k.val; omega)]

/-- What a point writes back is its block of `G`. -/
theorem flushed_eq (c : Dev nD) (t : Fin cfg0.N) :
    (dats m 0 c).flushed 3 t = ((cfg0.win 3).blk t).view.read (Elt Ideal) (G m c) := by
  obtain ⟨e0, e1, e2, e3, l0, l1⟩ := idx_facts t
  rw [flushed3]
  funext y
  have hy0 : (y 0).val < 1024 := (y 0).isLt
  have hy1 : (y 1).val < 768 := (y 1).isLt
  show out0_3 (iblk m c 0 t) (iblk m c 1 t) (iblk m c 2 t) y = G m c (((cfg0.win 3).blk t).view.emb y)
  unfold out0_3
  rw [View.canon_unit_zero zz, View.ld_unit_zero zz, View.ld_unit_zero zz]
  rw [pay_apply]
  have hj : ((cfg0.win 3).blk t).view.emb y = (ix2 (⟨win0_3.index t 0 * 1024 + (y 0).val, by omega⟩ : Fin 16384) (⟨win0_3.index t 1 * 768 + (y 1).val, by omega⟩ : Fin 7680) : S16384x7680.Idx) := by
    funext a; refine Fin.ext ?_
    match a with
    | ⟨0, _⟩ => show win0_3.index t 0 * 1024 + 1 * (y 0).val = win0_3.index t 0 * 1024 + (y 0).val; omega
    | ⟨1, _⟩ => show win0_3.index t 1 * 768 + 1 * (y 1).val = win0_3.index t 1 * 768 + (y 1).val; omega
  rw [hj]
  rw [G_apply]
  exact sum_eq m c t y (by omega) (by omega)

theorem mem_blk (t : Fin cfg0.N) (i : S16384x7680.Idx) :
    i ∈ ((cfg0.win 3).blk t).view.set ↔ ∀ a, win0_3.index t a * S1024x768.size a ≤ (i a).val ∧ (i a).val < win0_3.index t a * S1024x768.size a + S1024x768.size a := by
  show i ∈ ((View.whole main_v4_0).slice (win0_3.rect t)).set ↔ _
  rw [View.set_slice_whole, Rect.mem_set_unit]

/-- The array after the run is `G`. -/
theorem final (c : Dev nD) : (dats m 0 c).arrAt 3 cfg0.N = G m c := by
  refine (dats m 0 c).arrAt_eq_of_cover 3 (G m c) (fun t _ => flushed_eq m c t) fun i => ?_
  have h0 : (i 0).val < 16384 := (i 0).isLt
  have h1 : (i 1).val < 7680 := (i 1).isLt
  obtain ⟨t, e0, e1⟩ := idx_onto ⟨(i 0).val / 1024, by omega⟩ ⟨(i 1).val / 768, by omega⟩
  have e0' : win0_3.index t 0 = (i 0).val / 1024 := e0
  have e1' : win0_3.index t 1 = (i 1).val / 768 := e1
  refine ⟨t, flush0_3 t, (mem_blk t i).mpr fun a => ?_⟩
  match a with
  | ⟨0, _⟩ => show win0_3.index t 0 * 1024 ≤ (i 0).val ∧ (i 0).val < win0_3.index t 0 * 1024 + 1024; omega
  | ⟨1, _⟩ => show win0_3.index t 1 * 768 ≤ (i 1).val ∧ (i 1).val < win0_3.index t 1 * 768 + 768; omega

/-- The carried windows' block indices, point by point. -/
theorem idx_factsW : ∀ t : Fin cfg0.N, win0_2.index t 0 = 1 ∧ win0_2.index t 1 = win0_4.index t 0 ∧ win0_2.index t 2 = 0 ∧ win0_4.index t 0 < 128 ∧ win0_4.index t 1 = 0 :=
  (by decide +kernel : ∀ t : Fin grid0.N, win0_2.index t 0 = 1 ∧ win0_2.index t 1 = win0_4.index t 0 ∧ win0_2.index t 2 = 0 ∧ win0_4.index t 0 < 128 ∧ win0_4.index t 1 = 0)

/-- Every block of window 4 is some point's. -/
theorem idx_ontoW : ∀ (p : Fin 128) (q : Fin 1), ∃ t : Fin cfg0.N, win0_4.index t 0 = p.val ∧ win0_4.index t 1 = q.val ∧ (cfg0.win 4).flush t = true :=
  (by decide +kernel : ∀ (p : Fin 128) (q : Fin 1), ∃ t : Fin grid0.N, win0_4.index t 0 = p.val ∧ win0_4.index t 1 = q.val ∧ win0_4.flush t = true)

/-- The carried array after the run: layer one of the argument. -/
def GW (c : Dev nD) : S4096x11008.Idx → Elt Ideal .bf16 :=
  Cert.Reference5Ideal.Read.val_main_v5 (F := Ideal) (m ((c : Thread nD τ).loc main_arg2))

theorem GW_apply (c : Dev nD) (r : Fin 4096) (s : Fin 11008) : GW m c (ix2 r s) = m ((c : Thread nD τ).loc main_arg2) (ix3 (1 : Fin 2) r s) := by
  have hr : r.val < 4096 := r.isLt
  have hs : s.val < 11008 := s.isLt
  unfold GW
  rw [Cert.Reference5Ideal.Read.val_main_v5_apply, Ideal.truncf_def, Cert.Reference5Ideal.Read.val_main_v4_apply, Cert.Reference5Ideal.Read.val_main_v3_apply]
  refine congrArg (m ((c : Thread nD τ).loc main_arg2)) (funext fun a => Fin.ext ?_)
  match a with
  | ⟨0, _⟩ => rfl
  | ⟨1, _⟩ => show (r.val * 11008 + s.val) / 11008 % 4096 = r.val; omega
  | ⟨2, _⟩ => show (r.val * 11008 + s.val) % 11008 = s.val; omega

/-- Window 2's block at a point, read at an index. -/
theorem read_2 (c : Dev nD) (t : Fin cfg0.N) (y : S1x32x11008.Idx) (i : S2x4096x11008.Idx)
    (h0 : (i 0).val = win0_2.index t 0 * 1 + (y 0).val) (h1 : (i 1).val = win0_2.index t 1 * 32 + (y 1).val) (h2 : (i 2).val = win0_2.index t 2 * 11008 + (y 2).val) :
    iblk m c 2 t y = V m c main_arg2 i := by
  show V m c main_arg2 (((cfg0.win 2).blk t).view.emb y) = V m c main_arg2 i
  refine congrArg _ (funext fun a => Fin.ext ?_)
  match a with
  | ⟨0, _⟩ => show win0_2.index t 0 * 1 + 1 * (y 0).val = (i 0).val; omega
  | ⟨1, _⟩ => show win0_2.index t 1 * 32 + 1 * (y 1).val = (i 1).val; omega
  | ⟨2, _⟩ => show win0_2.index t 2 * 11008 + 1 * (y 2).val = (i 2).val; omega

/-- What a point writes back to the carried window is its block of `GW`. -/
theorem flushed_eqW (c : Dev nD) (t : Fin cfg0.N) :
    (dats m 0 c).flushed 4 t = ((cfg0.win 4).blk t).view.read (Elt Ideal) (GW m c) := by
  obtain ⟨e0, e1, e2, l0, e3⟩ := idx_factsW t
  rw [flushed4]
  funext y
  have hy0 : (y 0).val < 32 := (y 0).isLt
  have hy1 : (y 1).val < 11008 := (y 1).isLt
  show out0_4 (iblk m c 0 t) (iblk m c 1 t) (iblk m c 2 t) y = GW m c (((cfg0.win 4).blk t).view.emb y)
  unfold out0_4
  rw [View.ld_unit_zero zzz]
  refine (canon4_eq _ _).trans ?_
  have hj : ((cfg0.win 4).blk t).view.emb y = (ix2 (⟨win0_4.index t 0 * 32 + (y 0).val, by omega⟩ : Fin 4096) (⟨win0_4.index t 1 * 11008 + (y 1).val, by omega⟩ : Fin 11008) : S4096x11008.Idx) := by
    funext a; refine Fin.ext ?_
    match a with
    | ⟨0, _⟩ => show win0_4.index t 0 * 32 + 1 * (y 0).val = win0_4.index t 0 * 32 + (y 0).val; omega
    | ⟨1, _⟩ => show win0_4.index t 1 * 11008 + 1 * (y 1).val = win0_4.index t 1 * 11008 + (y 1).val; omega
  rw [hj]
  rw [GW_apply]
  show iblk m c 2 t (ix4_0 y) = _
  rw [read_2 m c t _ (ix3 (1 : Fin 2) (⟨win0_4.index t 0 * 32 + (y 0).val, by omega⟩ : Fin 4096) (⟨win0_4.index t 1 * 11008 + (y 1).val, by omega⟩ : Fin 11008))
    (by show 1 = win0_2.index t 0 * 1 + 0; omega) (by show win0_4.index t 0 * 32 + (y 0).val = win0_2.index t 1 * 32 + (y 0).val; omega)
    (by show win0_4.index t 1 * 11008 + (y 1).val = win0_2.index t 2 * 11008 + (y 1).val; omega), V_main_arg2]

theorem mem_blkW (t : Fin cfg0.N) (i : S4096x11008.Idx) :
    i ∈ ((cfg0.win 4).blk t).view.set ↔ ∀ a, win0_4.index t a * S32x11008.size a ≤ (i a).val ∧ (i a).val < win0_4.index t a * S32x11008.size a + S32x11008.size a := by
  show i ∈ ((View.whole main_v4_1).slice (win0_4.rect t)).set ↔ _
  rw [View.set_slice_whole, Rect.mem_set_unit]

/-- The array after the run is `GW`. -/
theorem finalW (c : Dev nD) : (dats m 0 c).arrAt 4 cfg0.N = GW m c := by
  refine (dats m 0 c).arrAt_eq_of_cover 4 (GW m c) (fun t _ => flushed_eqW m c t) fun i => ?_
  have h0 : (i 0).val < 4096 := (i 0).isLt
  have h1 : (i 1).val < 11008 := (i 1).isLt
  obtain ⟨t, e0, e1, ef⟩ := idx_ontoW ⟨(i 0).val / 32, by omega⟩ ⟨(i 1).val / 11008, by omega⟩
  have e0' : win0_4.index t 0 = (i 0).val / 32 := e0
  have e1' : win0_4.index t 1 = (i 1).val / 11008 := e1
  refine ⟨t, ef, (mem_blkW t i).mpr fun a => ?_⟩
  match a with
  | ⟨0, _⟩ => show win0_4.index t 0 * 32 ≤ (i 0).val ∧ (i 0).val < win0_4.index t 0 * 32 + 32; omega
  | ⟨1, _⟩ => show win0_4.index t 1 * 11008 ≤ (i 1).val ∧ (i 1).val < win0_4.index t 1 * 11008 + 11008; omega

/-- The call over the reals and the reference leave the same arrays. -/
theorem algebraic : Cert.algebraic_Kernel5Ideal_Reference5Ideal (hKernel5Ideal := Cert.Kernel5Ideal.Gen.facts) (hReference5Ideal := Cert.Reference5Ideal.Gen.facts) := by
  intro m g m' g' _ hargs
  refine ⟨fun c => G m c, fun c => GW m c, ?_, ?_⟩
  · refine (θ_run _ _ _).mono (fun r h c => ?_) (run_blocks (F := Ideal) m g)
    obtain ⟨h0, h1, h2⟩ := h c
    exact ⟨h0.trans (final m c), h1.trans (finalW m c), h2⟩
  · refine (θ_run _ _ _).mono (fun r h c => ?_) (Cert.Reference5Ideal.Value.run (F := Ideal) m' g')
    obtain ⟨a0, a1, a2⟩ := hargs c
    obtain ⟨h0, h1, h2⟩ := h c
    refine ⟨h0.trans ?_, h1.trans ?_, h2⟩
    · rw [a0, a1]; rfl
    · rw [a2]; rfl

end Cert.Kernel5Ideal.Hand

end
-- ==== Proof.Val6.lean ====
/- The first part of the input projection with its columns scaled, and the weight it casts on the way: what the call leaves in its two output arrays. -/
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Mm
public import proofs.«01_k».proof.Defs
public import Idealize.ShloMosaic.Lib.ValueLayout

@[expose] public section

set_option maxRecDepth 16384

noncomputable section

namespace Cert.Kernel6Ideal.Hand

open Cert.Kernel6Ideal Cert.Kernel6Ideal.Gen Cert.Kernel6Ideal.Value Cert.Proof.Mm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zz : (![0, 0] : Fin 2 → Nat) = fun _ => 0 := by funext a; match a with | ⟨0, _⟩ => rfl | ⟨1, _⟩ => rfl

theorem zzz : (![0, 0, 0] : Fin 3 → Nat) = fun _ => 0 := by funext a; match a with | ⟨0, _⟩ => rfl | ⟨1, _⟩ => rfl | ⟨2, _⟩ => rfl

/-- Operand 1 as the launch finds it. -/
abbrev X1 (c : Dev nD) : FVec Ideal S16384x4096 .bf16 := V (F := Ideal) m c main_v5

/-- That operand is the argument with its two leading axes joined. -/
theorem V_main_v5 (c : Dev nD) : V (F := Ideal) m c main_v5 = (truncf (F := Ideal) .bf16 (shapeCast S16384x4096 (m ((c : Thread nD τ).loc main_arg0) : FVec Ideal S2x8192x4096 .f32) shapeCasts_S2x8192x4096_S16384x4096 : FVec Ideal S16384x4096 .f32) bitsLt_bf16_f32 : FVec Ideal S16384x4096 .bf16) := by
  show StableHlo.after hostOps0 (fun b => m (c, b)) main_v5 = _
  after_results <;> rfl

theorem X1_apply (c : Dev nD) (r : Fin 16384) (q : Fin 4096) : X1 m c (ix2 r q)
    = m ((c : Thread nD τ).loc main_arg0) (ix3 (⟨r.val / 8192, by have := r.isLt; omega⟩ : Fin 2) (⟨r.val % 8192, by omega⟩ : Fin 8192) q) := by
  unfold X1
  rw [V_main_v5]
  exact join_apply (m ((c : Thread nD τ).loc main_arg0)) _ r q _ _ (by show r.val = r.val / 8192 * 8192 + r.val % 8192; omega)

/-- Operand 2 as the launch finds it. -/
abbrev X2 (c : Dev nD) : FVec Ideal S4608x4096 .bf16 := V (F := Ideal) m c main_v7

/-- That operand is the argument transposed. -/
theorem V_main_v7 (c : Dev nD) : V (F := Ideal) m c main_v7 = (truncf (F := Ideal) .bf16 (transpose S4608x4096 [1, 0] (m ((c : Thread nD τ).loc main_arg1) : FVec Ideal S4096x4608 .f32) transposes_S4096x4608_S4608x4096_1_0 : FVec Ideal S4608x4096 .f32) bitsLt_bf16_f32 : FVec Ideal S4608x4096 .bf16) := by
  show StableHlo.after hostOps0 (fun b => m (c, b)) main_v7 = _
  after_results <;> rfl

theorem X2_apply (c : Dev nD) (q : Fin 4096) (s : Fin 4608) : X2 m c (ix2 s q) = m ((c : Thread nD τ).loc main_arg1) (ix2 q s) := by
  unfold X2
  rw [V_main_v7]
  exact transpose_ix2_apply (m ((c : Thread nD τ).loc main_arg1)) _ _ _

/-- Operand 3 as the launch finds it. -/
abbrev X3 (c : Dev nD) : FVec Ideal S1x4608 .f32 := V (F := Ideal) m c main_v3

/-- The column factors: the reference's own vector of factors as one row. -/
theorem V_main_v3 (c : Dev nD) : V (F := Ideal) m c main_v3 = (shapeCast S1x4608 (Cert.Reference6Ideal.Read.val_main_v2 (F := Ideal) : FVec Ideal S4608 .f32) shapeCasts_S4608_S1x4608 : FVec Ideal S1x4608 .f32) := by
  show StableHlo.after hostOps0 (fun b => m (c, b)) main_v3 = _
  after_results <;> rfl

theorem X3_apply (c : Dev nD) (s : Fin 4608) : X3 m c (ix2 (0 : Fin 1) s) = Cert.Reference6Ideal.Read.val_main_v2 (F := Ideal) (fun a => match a with | ⟨0, _⟩ => s) := by
  unfold X3
  rw [V_main_v3]
  exact shapeCast_apply (Cert.Reference6Ideal.Read.val_main_v2 (F := Ideal) : FVec Ideal S4608 .f32) _ _ _ (by rw [Shape.rowMajor_val_one, Shape.rowMajor_val_two]; show s.val = 0 * 4608 + s.val; omega)

/-- The windows' block indices, point by point. -/
theorem idx_facts : ∀ t : Fin cfg0.N, win0_0.index t 0 = win0_4.index t 0 ∧ win0_0.index t 1 = 0 ∧ win0_1.index t 0 = win0_4.index t 1 ∧ win0_1.index t 1 = 0 ∧ win0_2.index t 0 = 0 ∧ win0_2.index t 1 = win0_4.index t 1 ∧ win0_4.index t 0 < 16 ∧ win0_4.index t 1 < 6 :=
  (by decide +kernel : ∀ t : Fin grid0.N, win0_0.index t 0 = win0_4.index t 0 ∧ win0_0.index t 1 = 0 ∧ win0_1.index t 0 = win0_4.index t 1 ∧ win0_1.index t 1 = 0 ∧ win0_2.index t 0 = 0 ∧ win0_2.index t 1 = win0_4.index t 1 ∧ win0_4.index t 0 < 16 ∧ win0_4.index t 1 < 6)

/-- Every block of window 4 is some point's. -/
theorem idx_onto : ∀ (p : Fin 16) (q : Fin 6), ∃ t : Fin cfg0.N, win0_4.index t 0 = p.val ∧ win0_4.index t 1 = q.val :=
  (by decide +kernel : ∀ (p : Fin 16) (q : Fin 6), ∃ t : Fin grid0.N, win0_4.index t 0 = p.val ∧ win0_4.index t 1 = q.val)

/-- Window 0's block at a point. -/
abbrev B0 (c : Dev nD) (t : Fin cfg0.N) : FVec Ideal S1024x4096 .bf16 := iblk m c 0 t

/-- Window 0's block at a point, read at an index. -/
theorem read_0 (c : Dev nD) (t : Fin cfg0.N) (y : S1024x4096.Idx) (i : S16384x4096.Idx)
    (h0 : (i 0).val = win0_0.index t 0 * 1024 + (y 0).val) (h1 : (i 1).val = win0_0.index t 1 * 4096 + (y 1).val) :
    B0 m c t y = X1 m c i := by
  show V m c main_v5 (((cfg0.win 0).blk t).view.emb y) = V m c main_v5 i
  refine congrArg _ (funext fun a => Fin.ext ?_)
  match a with
  | ⟨0, _⟩ => show win0_0.index t 0 * 1024 + 1 * (y 0).val = (i 0).val; omega
  | ⟨1, _⟩ => show win0_0.index t 1 * 4096 + 1 * (y 1).val = (i 1).val; omega

/-- Window 1's block at a point. -/
abbrev B1 (c : Dev nD) (t : Fin cfg0.N) : FVec Ideal S768x4096 .bf16 := iblk m c 1 t

/-- Window 1's block at a point, read at an index. -/
theorem read_1 (c : Dev nD) (t : Fin cfg0.N) (y : S768x4096.Idx) (i : S4608x4096.Idx)
    (h0 : (i 0).val = win0_1.index t 0 * 768 + (y 0).val) (h1 : (i 1).val = win0_1.index t 1 * 4096 + (y 1).val) :
    B1 m c t y = X2 m c i := by
  show V m c main_v7 (((cfg0.win 1).blk t).view.emb y) = V m c main_v7 i
  refine congrArg _ (funext fun a => Fin.ext ?_)
  match a with
  | ⟨0, _⟩ => show win0_1.index t 0 * 768 + 1 * (y 0).val = (i 0).val; omega
  | ⟨1, _⟩ => show win0_1.index t 1 * 4096 + 1 * (y 1).val = (i 1).val; omega

/-- Window 2's block at a point. -/
abbrev B2 (c : Dev nD) (t : Fin cfg0.N) : FVec Ideal S1x768 .f32 := iblk m c 2 t

/-- Window 2's block at a point, read at an index. -/
theorem read_2 (c : Dev nD) (t : Fin cfg0.N) (y : S1x768.Idx) (i : S1x4608.Idx)
    (h0 : (i 0).val = win0_2.index t 0 * 1 + (y 0).val) (h1 : (i 1).val = win0_2.index t 1 * 768 + (y 1).val) :
    B2 m c t y = X3 m c i := by
  show V m c main_v3 (((cfg0.win 2).blk t).view.emb y) = V m c main_v3 i
  refine congrArg _ (funext fun a => Fin.ext ?_)
  match a with
  | ⟨0, _⟩ => show win0_2.index t 0 * 1 + 1 * (y 0).val = (i 0).val; omega
  | ⟨1, _⟩ => show win0_2.index t 1 * 768 + 1 * (y 1).val = (i 1).val; omega

/-- A product of two blocks at an index. -/
theorem prod (a : FVec Ideal S1024x4096 .bf16) (b : FVec Ideal S768x4096 .bf16) (y : S1024x768.Idx) :
    matmul (F := Ideal) dot_S1024x4096_S768x4096_S1024x768_1_1_0_0_n_n none a b (constant S1024x768 .f32 0x00000000#32) y = ∑ k : Fin 4096, a (ix2 (y 0) k) * b (ix2 (y 1) k) := by
  exact rows_rows (φ₁ := .bf16) (φ₂ := .bf16) dot_S1024x4096_S768x4096_S1024x768_1_1_0_0_n_n rfl rfl
    (fun i q => by
      unfold DotDims.lhsIdx
      rw [dif_neg (by decide), dif_pos (by decide)]; rfl)
    (fun i q => dot_S1024x4096_S768x4096_S1024x768_1_1_0_0_n_n.lhsIdx_val_of_single rfl i q)
    (fun i q => by
      unfold DotDims.rhsIdx
      rw [dif_neg (by decide), dif_pos (by decide)]; rfl)
    (fun i q => dot_S1024x4096_S768x4096_S1024x768_1_1_0_0_n_n.rhsIdx_val_of_single rfl i q)
    a b _ (zero_word _) y

/-- The body's result at an index of its block: the product times the column's factor. -/
theorem pay_apply (a : Vec Ideal S1024x4096 .bf16) (b : Vec Ideal S768x4096 .bf16) (s : Vec Ideal S1x768 .f32) (y : S1024x768.Idx) :
    k0_pay2 (F := Ideal) a b s y = (∑ k : Fin 4096, a (ix2 (y 0) k) * b (ix2 (y 1) k)) * s (ix2 (0 : Fin 1) (y 1)) := by
  unfold k0_pay2
  simp only [shapeCast_self]
  rw [truncf_apply, mulf_apply, prod]
  refine congrArg (_ * ·) ?_
  exact broadcastTo_apply s _ y (ix2 (0 : Fin 1) (y 1)) (fun a => match a with
    | ⟨0, _⟩ => by show 0 = if (1 : Nat) = 1 then 0 else (y 0).val; rw [if_pos rfl]
    | ⟨1, _⟩ => by show (y 1).val = if (768 : Nat) = 1 then 0 else (y 1).val; rw [if_neg (by decide)])

/-- The first output array after the run: the reference's result of the same arguments. -/
def G (c : Dev nD) : S16384x4608.Idx → Elt Ideal .bf16 :=
  Cert.Reference6Ideal.Read.val_main_v8 (F := Ideal) (m ((c : Thread nD τ).loc main_arg0)) (m ((c : Thread nD τ).loc main_arg1))

/-- The reference's product at a row and a column of the joined array, in the operands the launch finds. -/
theorem dot_eq (c : Dev nD) (r : Fin 16384) (s : Fin 4608) :
    Cert.Reference6Ideal.Read.val_main_v3 (F := Ideal) (m ((c : Thread nD τ).loc main_arg0)) (m ((c : Thread nD τ).loc main_arg1)) (Cert.Reference6Ideal.Read.idx_main_v7 (ix2 r s)) = ∑ k : Fin 4096, X1 m c (ix2 r k) * X2 m c (ix2 s k) := by
  have hr : r.val < 16384 := r.isLt
  have hs : s.val < 4608 := s.isLt
  rw [Cert.Reference6Ideal.Read.val_main_v3_apply]
  refine Finset.sum_congr rfl fun k _ => ?_
  rw [X1_apply, X2_apply]
  refine congrArg₂ (· * ·) (congrArg (m ((c : Thread nD τ).loc main_arg0)) (funext fun a => Fin.ext ?_)) (congrArg (m ((c : Thread nD τ).loc main_arg1)) (funext fun a => Fin.ext ?_))
  · match a with
    | ⟨0, _⟩ => show (r.val * 4608 + s.val) / 37748736 = r.val / 8192; omega
    | ⟨1, _⟩ => show (r.val * 4608 + s.val) / 4608 % 8192 = r.val % 8192; omega
    | ⟨2, _⟩ => rfl
  · match a with
    | ⟨0, _⟩ => rfl
    | ⟨1, _⟩ => show (r.val * 4608 + s.val) % 4608 = s.val; omega

/-- `G` at a row and a column. -/
theorem G_apply (c : Dev nD) (r : Fin 16384) (s : Fin 4608) : G m c (ix2 r s) = (∑ k : Fin 4096, X1 m c (ix2 r k) * X2 m c (ix2 s k)) * X3 m c (ix2 (0 : Fin 1) s) := by
  have hr : r.val < 16384 := r.isLt
  have hs : s.val < 4608 := s.isLt
  unfold G
  rw [Cert.Reference6Ideal.Read.val_main_v8_apply, Ideal.truncf_def, Cert.Reference6Ideal.Read.val_main_v7_apply, Cert.Reference6Ideal.Read.val_main_v6_apply, Cert.Reference6Ideal.Read.val_main_v5_apply, Cert.Reference6Ideal.Read.val_main_v4_apply, dot_eq m c r s, X3_apply]
  show _ * _ = _
  refine congrArg (_ * ·) (congrArg (Cert.Reference6Ideal.Read.val_main_v2 (F := Ideal)) (funext fun a => Fin.ext ?_))
  match a with
  | ⟨0, _⟩ => show (r.val * 4608 + s.val) % 4608 = s.val; omega

/-- A product over two windows' blocks at a point is the product over their arrays, at the output block's row and column. -/
theorem sum_eq (c : Dev nD) (t : Fin cfg0.N) (y : S1024x768.Idx) (h0 : win0_4.index t 0 * 1024 + (y 0).val < 16384) (h1 : win0_4.index t 1 * 768 + (y 1).val < 4608) :
    (∑ k : Fin 4096, B0 m c t (ix2 (y 0) k) * B1 m c t (ix2 (y 1) k))
      = ∑ k : Fin 4096, X1 m c (ix2 (⟨win0_4.index t 0 * 1024 + (y 0).val, by omega⟩ : Fin 16384) k) * X2 m c (ix2 (⟨win0_4.index t 1 * 768 + (y 1).val, by omega⟩ : Fin 4608) k) := by
  obtain ⟨e0, e1, e2, e3, e4, e5, l0, l1⟩ := idx_facts t
  refine Finset.sum_congr rfl fun k _ => ?_
  have hk : k.val < 4096 := k.isLt
  rw [read_0 m c t _ (ix2 (⟨win0_4.index t 0 * 1024 + (y 0).val, by omega⟩ : Fin 16384) k) (by show win0_4.index t 0 * 1024 + (y 0).val = win0_0.index t 0 * 1024 + (y 0).val; omega) (by show k.val = win0_0.index t 1 * 4096 + k.val; omega),
    read_1 m c t _ (ix2 (⟨win0_4.index t 1 * 768 + (y 1).val, by omega⟩ : Fin 4608) k) (by show win0_4.index t 1 * 768 + (y 1).val = win0_1.index t 0 * 768 + (y 1).val; omega) (by show k.val = win0_1.index t 1 * 4096 + k.val; omega)]

/-- What a point writes back is its block of `G`. -/
theorem flushed_eq (c : Dev nD) (t : Fin cfg0.N) :
    (dats m 0 c).flushed 4 t = ((cfg0.win 4).blk t).view.read (Elt Ideal) (G m c) := by
  obtain ⟨e0, e1, e2, e3, e4, e5, l0, l1⟩ := idx_facts t
  rw [flushed4]
  funext y
  have hy0 : (y 0).val < 1024 := (y 0).isLt
  have hy1 : (y 1).val < 768 := (y 1).isLt
  show out0_4 (iblk m c 0 t) (iblk m c 1 t) (iblk m c 2 t) (iblk m c 3 t) y = G m c (((cfg0.win 4).blk t).view.emb y)
  unfold out0_4
  rw [View.canon_unit_zero zz, View.ld_unit_zero zz, View.ld_unit_zero zz, View.ld_unit_zero zz]
  rw [pay_apply]
  have hj : ((cfg0.win 4).blk t).view.emb y = (ix2 (⟨win0_4.index t 0 * 1024 + (y 0).val, by omega⟩ : Fin 16384) (⟨win0_4.index t 1 * 768 + (y 1).val, by omega⟩ : Fin 4608) : S16384x4608.Idx) := by
    funext a; refine Fin.ext ?_
    match a with
    | ⟨0, _⟩ => show win0_4.index t 0 * 1024 + 1 * (y 0).val = win0_4.index t 0 * 1024 + (y 0).val; omega
    | ⟨1, _⟩ => show win0_4.index t 1 * 768 + 1 * (y 1).val = win0_4.index t 1 * 768 + (y 1).val; omega
  rw [hj]
  rw [G_apply]
  exact congrArg₂ (· * ·) (sum_eq m c t y (by omega) (by omega)) (read_2 m c t _ _ (by show 0 = win0_2.index t 0 * 1 + 0; omega) (by show win0_4.index t 1 * 768 + (y 1).val = win0_2.index t 1 * 768 + (y 1).val; omega))

theorem mem_blk (t : Fin cfg0.N) (i : S16384x4608.Idx) :
    i ∈ ((cfg0.win 4).blk t).view.set ↔ ∀ a, win0_4.index t a * S1024x768.size a ≤ (i a).val ∧ (i a).val < win0_4.index t a * S1024x768.size a + S1024x768.size a := by
  show i ∈ ((View.whole main_v8_0).slice (win0_4.rect t)).set ↔ _
  rw [View.set_slice_whole, Rect.mem_set_unit]

/-- The array after the run is `G`. -/
theorem final (c : Dev nD) : (dats m 0 c).arrAt 4 cfg0.N = G m c := by
  refine (dats m 0 c).arrAt_eq_of_cover 4 (G m c) (fun t _ => flushed_eq m c t) fun i => ?_
  have h0 : (i 0).val < 16384 := (i 0).isLt
  have h1 : (i 1).val < 4608 := (i 1).isLt
  obtain ⟨t, e0, e1⟩ := idx_onto ⟨(i 0).val / 1024, by omega⟩ ⟨(i 1).val / 768, by omega⟩
  have e0' : win0_4.index t 0 = (i 0).val / 1024 := e0
  have e1' : win0_4.index t 1 = (i 1).val / 768 := e1
  refine ⟨t, flush0_4 t, (mem_blk t i).mpr fun a => ?_⟩
  match a with
  | ⟨0, _⟩ => show win0_4.index t 0 * 1024 ≤ (i 0).val ∧ (i 0).val < win0_4.index t 0 * 1024 + 1024; omega
  | ⟨1, _⟩ => show win0_4.index t 1 * 768 ≤ (i 1).val ∧ (i 1).val < win0_4.index t 1 * 768 + 768; omega

/-- The carried windows' block indices, point by point. -/
theorem idx_factsW : ∀ t : Fin cfg0.N, win0_3.index t 0 = 1 ∧ win0_3.index t 1 = win0_5.index t 0 ∧ win0_3.index t 2 = 0 ∧ win0_5.index t 0 < 64 ∧ win0_5.index t 1 = 0 :=
  (by decide +kernel : ∀ t : Fin grid0.N, win0_3.index t 0 = 1 ∧ win0_3.index t 1 = win0_5.index t 0 ∧ win0_3.index t 2 = 0 ∧ win0_5.index t 0 < 64 ∧ win0_5.index t 1 = 0)

/-- Every block of window 5 is some point's. -/
theorem idx_ontoW : ∀ (p : Fin 64) (q : Fin 1), ∃ t : Fin cfg0.N, win0_5.index t 0 = p.val ∧ win0_5.index t 1 = q.val ∧ (cfg0.win 5).flush t = true :=
  (by decide +kernel : ∀ (p : Fin 64) (q : Fin 1), ∃ t : Fin grid0.N, win0_5.index t 0 = p.val ∧ win0_5.index t 1 = q.val ∧ win0_5.flush t = true)

/-- The carried array after the run: layer one of the argument. -/
def GW (c : Dev nD) : S4096x4096.Idx → Elt Ideal .bf16 :=
  Cert.Reference6Ideal.Read.val_main_v11 (F := Ideal) (m ((c : Thread nD τ).loc main_arg2))

theorem GW_apply (c : Dev nD) (r : Fin 4096) (s : Fin 4096) : GW m c (ix2 r s) = m ((c : Thread nD τ).loc main_arg2) (ix3 (1 : Fin 2) r s) := by
  have hr : r.val < 4096 := r.isLt
  have hs : s.val < 4096 := s.isLt
  unfold GW
  rw [Cert.Reference6Ideal.Read.val_main_v11_apply, Ideal.truncf_def, Cert.Reference6Ideal.Read.val_main_v10_apply, Cert.Reference6Ideal.Read.val_main_v9_apply]
  refine congrArg (m ((c : Thread nD τ).loc main_arg2)) (funext fun a => Fin.ext ?_)
  match a with
  | ⟨0, _⟩ => rfl
  | ⟨1, _⟩ => show (r.val * 4096 + s.val) / 4096 % 4096 = r.val; omega
  | ⟨2, _⟩ => show (r.val * 4096 + s.val) % 4096 = s.val; omega

/-- Window 3's block at a point, read at an index. -/
theorem read_3 (c : Dev nD) (t : Fin cfg0.N) (y : S1x64x4096.Idx) (i : S2x4096x4096.Idx)
    (h0 : (i 0).val = win0_3.index t 0 * 1 + (y 0).val) (h1 : (i 1).val = win0_3.index t 1 * 64 + (y 1).val) (h2 : (i 2).val = win0_3.index t 2 * 4096 + (y 2).val) :
    iblk m c 3 t y = V m c main_arg2 i := by
  show V m c main_arg2 (((cfg0.win 3).blk t).view.emb y) = V m c main_arg2 i
  refine congrArg _ (funext fun a => Fin.ext ?_)
  match a with
  | ⟨0, _⟩ => show win0_3.index t 0 * 1 + 1 * (y 0).val = (i 0).val; omega
  | ⟨1, _⟩ => show win0_3.index t 1 * 64 + 1 * (y 1).val = (i 1).val; omega
  | ⟨2, _⟩ => show win0_3.index t 2 * 4096 + 1 * (y 2).val = (i 2).val; omega

/-- What a point writes back to the carried window is its block of `GW`. -/
theorem flushed_eqW (c : Dev nD) (t : Fin cfg0.N) :
    (dats m 0 c).flushed 5 t = ((cfg0.win 5).blk t).view.read (Elt Ideal) (GW m c) := by
  obtain ⟨e0, e1, e2, l0, e3⟩ := idx_factsW t
  rw [flushed5]
  funext y
  have hy0 : (y 0).val < 64 := (y 0).isLt
  have hy1 : (y 1).val < 4096 := (y 1).isLt
  show out0_5 (iblk m c 0 t) (iblk m c 1 t) (iblk m c 2 t) (iblk m c 3 t) y = GW m c (((cfg0.win 5).blk t).view.emb y)
  unfold out0_5
  rw [View.ld_unit_zero zzz]
  refine (canon5_eq _ _).trans ?_
  have hj : ((cfg0.win 5).blk t).view.emb y = (ix2 (⟨win0_5.index t 0 * 64 + (y 0).val, by omega⟩ : Fin 4096) (⟨win0_5.index t 1 * 4096 + (y 1).val, by omega⟩ : Fin 4096) : S4096x4096.Idx) := by
    funext a; refine Fin.ext ?_
    match a with
    | ⟨0, _⟩ => show win0_5.index t 0 * 64 + 1 * (y 0).val = win0_5.index t 0 * 64 + (y 0).val; omega
    | ⟨1, _⟩ => show win0_5.index t 1 * 4096 + 1 * (y 1).val = win0_5.index t 1 * 4096 + (y 1).val; omega
  rw [hj]
  rw [GW_apply]
  show iblk m c 3 t (ix5_0 y) = _
  rw [read_3 m c t _ (ix3 (1 : Fin 2) (⟨win0_5.index t 0 * 64 + (y 0).val, by omega⟩ : Fin 4096) (⟨win0_5.index t 1 * 4096 + (y 1).val, by omega⟩ : Fin 4096))
    (by show 1 = win0_3.index t 0 * 1 + 0; omega) (by show win0_5.index t 0 * 64 + (y 0).val = win0_3.index t 1 * 64 + (y 0).val; omega)
    (by show win0_5.index t 1 * 4096 + (y 1).val = win0_3.index t 2 * 4096 + (y 1).val; omega), V_main_arg2]

theorem mem_blkW (t : Fin cfg0.N) (i : S4096x4096.Idx) :
    i ∈ ((cfg0.win 5).blk t).view.set ↔ ∀ a, win0_5.index t a * S64x4096.size a ≤ (i a).val ∧ (i a).val < win0_5.index t a * S64x4096.size a + S64x4096.size a := by
  show i ∈ ((View.whole main_v8_1).slice (win0_5.rect t)).set ↔ _
  rw [View.set_slice_whole, Rect.mem_set_unit]

/-- The array after the run is `GW`. -/
theorem finalW (c : Dev nD) : (dats m 0 c).arrAt 5 cfg0.N = GW m c := by
  refine (dats m 0 c).arrAt_eq_of_cover 5 (GW m c) (fun t _ => flushed_eqW m c t) fun i => ?_
  have h0 : (i 0).val < 4096 := (i 0).isLt
  have h1 : (i 1).val < 4096 := (i 1).isLt
  obtain ⟨t, e0, e1, ef⟩ := idx_ontoW ⟨(i 0).val / 64, by omega⟩ ⟨(i 1).val / 4096, by omega⟩
  have e0' : win0_5.index t 0 = (i 0).val / 64 := e0
  have e1' : win0_5.index t 1 = (i 1).val / 4096 := e1
  refine ⟨t, ef, (mem_blkW t i).mpr fun a => ?_⟩
  match a with
  | ⟨0, _⟩ => show win0_5.index t 0 * 64 ≤ (i 0).val ∧ (i 0).val < win0_5.index t 0 * 64 + 64; omega
  | ⟨1, _⟩ => show win0_5.index t 1 * 4096 ≤ (i 1).val ∧ (i 1).val < win0_5.index t 1 * 4096 + 4096; omega

/-- The call over the reals and the reference leave the same arrays. -/
theorem algebraic : Cert.algebraic_Kernel6Ideal_Reference6Ideal (hKernel6Ideal := Cert.Kernel6Ideal.Gen.facts) (hReference6Ideal := Cert.Reference6Ideal.Gen.facts) := by
  intro m g m' g' _ hargs
  refine ⟨fun c => G m c, fun c => GW m c, ?_, ?_⟩
  · refine (θ_run _ _ _).mono (fun r h c => ?_) (run_blocks (F := Ideal) m g)
    obtain ⟨h0, h1, h2⟩ := h c
    exact ⟨h0.trans (final m c), h1.trans (finalW m c), h2⟩
  · refine (θ_run _ _ _).mono (fun r h c => ?_) (Cert.Reference6Ideal.Value.run (F := Ideal) m' g')
    obtain ⟨a0, a1, a2⟩ := hargs c
    obtain ⟨h0, h1, h2⟩ := h c
    refine ⟨h0.trans ?_, h1.trans ?_, h2⟩
    · rw [a0, a1]; rfl
    · rw [a2]; rfl

end Cert.Kernel6Ideal.Hand

end
-- ==== Proof.Val7.lean ====
/- The third part of the input projection: what the call leaves in its output array. -/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Mm
public import proofs.«01_k».proof.Defs
public import Idealize.ShloMosaic.Lib.ValueLayout

@[expose] public section

set_option maxRecDepth 16384

noncomputable section

namespace Cert.Kernel7Ideal.Hand

open Cert.Kernel7Ideal Cert.Kernel7Ideal.Gen Cert.Kernel7Ideal.Value Cert.Proof.Mm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zz : (![0, 0] : Fin 2 → Nat) = fun _ => 0 := by funext a; match a with | ⟨0, _⟩ => rfl | ⟨1, _⟩ => rfl

theorem zzz : (![0, 0, 0] : Fin 3 → Nat) = fun _ => 0 := by funext a; match a with | ⟨0, _⟩ => rfl | ⟨1, _⟩ => rfl | ⟨2, _⟩ => rfl

/-- Operand 1 as the launch finds it. -/
abbrev X1 (c : Dev nD) : FVec Ideal S16384x4096 .bf16 := V (F := Ideal) m c main_v1

/-- That operand is the argument with its two leading axes joined. -/
theorem V_main_v1 (c : Dev nD) : V (F := Ideal) m c main_v1 = (truncf (F := Ideal) .bf16 (shapeCast S16384x4096 (m ((c : Thread nD τ).loc main_arg0) : FVec Ideal S2x8192x4096 .f32) shapeCasts_S2x8192x4096_S16384x4096 : FVec Ideal S16384x4096 .f32) bitsLt_bf16_f32 : FVec Ideal S16384x4096 .bf16) := by
  show StableHlo.after hostOps0 (fun b => m (c, b)) main_v1 = _
  after_results <;> rfl

theorem X1_apply (c : Dev nD) (r : Fin 16384) (q : Fin 4096) : X1 m c (ix2 r q)
    = m ((c : Thread nD τ).loc main_arg0) (ix3 (⟨r.val / 8192, by have := r.isLt; omega⟩ : Fin 2) (⟨r.val % 8192, by omega⟩ : Fin 8192) q) := by
  unfold X1
  rw [V_main_v1]
  exact join_apply (m ((c : Thread nD τ).loc main_arg0)) _ r q _ _ (by show r.val = r.val / 8192 * 8192 + r.val % 8192; omega)

/-- Operand 2 as the launch finds it. -/
abbrev X2 (c : Dev nD) : FVec Ideal S1536x4096 .bf16 := V (F := Ideal) m c main_v3

/-- That operand is the argument transposed. -/
theorem V_main_v3 (c : Dev nD) : V (F := Ideal) m c main_v3 = (truncf (F := Ideal) .bf16 (transpose S1536x4096 [1, 0] (m ((c : Thread nD τ).loc main_arg1) : FVec Ideal S4096x1536 .f32) transposes_S4096x1536_S1536x4096_1_0 : FVec Ideal S1536x4096 .f32) bitsLt_bf16_f32 : FVec Ideal S1536x4096 .bf16) := by
  show StableHlo.after hostOps0 (fun b => m (c, b)) main_v3 = _
  after_results <;> rfl

theorem X2_apply (c : Dev nD) (q : Fin 4096) (s : Fin 1536) : X2 m c (ix2 s q) = m ((c : Thread nD τ).loc main_arg1) (ix2 q s) := by
  unfold X2
  rw [V_main_v3]
  exact transpose_ix2_apply (m ((c : Thread nD τ).loc main_arg1)) _ _ _

/-- The windows' block indices, point by point. -/
theorem idx_facts : ∀ t : Fin cfg0.N, win0_0.index t 0 = win0_2.index t 0 ∧ win0_0.index t 1 = 0 ∧ win0_1.index t 0 = win0_2.index t 1 ∧ win0_1.index t 1 = 0 ∧ win0_2.index t 0 < 16 ∧ win0_2.index t 1 < 2 :=
  (by decide +kernel : ∀ t : Fin grid0.N, win0_0.index t 0 = win0_2.index t 0 ∧ win0_0.index t 1 = 0 ∧ win0_1.index t 0 = win0_2.index t 1 ∧ win0_1.index t 1 = 0 ∧ win0_2.index t 0 < 16 ∧ win0_2.index t 1 < 2)

/-- Every block of window 2 is some point's. -/
theorem idx_onto : ∀ (p : Fin 16) (q : Fin 2), ∃ t : Fin cfg0.N, win0_2.index t 0 = p.val ∧ win0_2.index t 1 = q.val :=
  (by decide +kernel : ∀ (p : Fin 16) (q : Fin 2), ∃ t : Fin grid0.N, win0_2.index t 0 = p.val ∧ win0_2.index t 1 = q.val)

/-- Window 0's block at a point. -/
abbrev B0 (c : Dev nD) (t : Fin cfg0.N) : FVec Ideal S1024x4096 .bf16 := iblk m c 0 t

/-- Window 0's block at a point, read at an index. -/
theorem read_0 (c : Dev nD) (t : Fin cfg0.N) (y : S1024x4096.Idx) (i : S16384x4096.Idx)
    (h0 : (i 0).val = win0_0.index t 0 * 1024 + (y 0).val) (h1 : (i 1).val = win0_0.index t 1 * 4096 + (y 1).val) :
    B0 m c t y = X1 m c i := by
  show V m c main_v1 (((cfg0.win 0).blk t).view.emb y) = V m c main_v1 i
  refine congrArg _ (funext fun a => Fin.ext ?_)
  match a with
  | ⟨0, _⟩ => show win0_0.index t 0 * 1024 + 1 * (y 0).val = (i 0).val; omega
  | ⟨1, _⟩ => show win0_0.index t 1 * 4096 + 1 * (y 1).val = (i 1).val; omega

/-- Window 1's block at a point. -/
abbrev B1 (c : Dev nD) (t : Fin cfg0.N) : FVec Ideal S768x4096 .bf16 := iblk m c 1 t

/-- Window 1's block at a point, read at an index. -/
theorem read_1 (c : Dev nD) (t : Fin cfg0.N) (y : S768x4096.Idx) (i : S1536x4096.Idx)
    (h0 : (i 0).val = win0_1.index t 0 * 768 + (y 0).val) (h1 : (i 1).val = win0_1.index t 1 * 4096 + (y 1).val) :
    B1 m c t y = X2 m c i := by
  show V m c main_v3 (((cfg0.win 1).blk t).view.emb y) = V m c main_v3 i
  refine congrArg _ (funext fun a => Fin.ext ?_)
  match a with
  | ⟨0, _⟩ => show win0_1.index t 0 * 768 + 1 * (y 0).val = (i 0).val; omega
  | ⟨1, _⟩ => show win0_1.index t 1 * 4096 + 1 * (y 1).val = (i 1).val; omega

/-- A product of two blocks at an index. -/
theorem prod (a : FVec Ideal S1024x4096 .bf16) (b : FVec Ideal S768x4096 .bf16) (y : S1024x768.Idx) :
    matmul (F := Ideal) dot_S1024x4096_S768x4096_S1024x768_1_1_0_0_n_n none a b (constant S1024x768 .f32 0x00000000#32) y = ∑ k : Fin 4096, a (ix2 (y 0) k) * b (ix2 (y 1) k) := by
  exact rows_rows (φ₁ := .bf16) (φ₂ := .bf16) dot_S1024x4096_S768x4096_S1024x768_1_1_0_0_n_n rfl rfl
    (fun i q => by
      unfold DotDims.lhsIdx
      rw [dif_neg (by decide), dif_pos (by decide)]; rfl)
    (fun i q => dot_S1024x4096_S768x4096_S1024x768_1_1_0_0_n_n.lhsIdx_val_of_single rfl i q)
    (fun i q => by
      unfold DotDims.rhsIdx
      rw [dif_neg (by decide), dif_pos (by decide)]; rfl)
    (fun i q => dot_S1024x4096_S768x4096_S1024x768_1_1_0_0_n_n.rhsIdx_val_of_single rfl i q)
    a b _ (zero_word _) y

/-- The body's result at an index of its block. -/
theorem pay_apply (a : Vec Ideal S1024x4096 .bf16) (b : Vec Ideal S768x4096 .bf16) (y : S1024x768.Idx) :
    k0_pay1 (F := Ideal) a b y = ∑ k : Fin 4096, a (ix2 (y 0) k) * b (ix2 (y 1) k) := by
  unfold k0_pay1
  simp only [shapeCast_self]
  exact prod a b y

/-- The output array after the run: the reference's result of the same arguments. -/
def G (c : Dev nD) : S16384x1536.Idx → Elt Ideal .bf16 :=
  Cert.Reference7Ideal.Read.val_main_v2 (F := Ideal) (m ((c : Thread nD τ).loc main_arg0)) (m ((c : Thread nD τ).loc main_arg1))

/-- The reference's product at a row and a column of the joined array, in the operands the launch finds. -/
theorem dot_eq (c : Dev nD) (r : Fin 16384) (s : Fin 1536) :
    Cert.Reference7Ideal.Read.val_main_v0 (F := Ideal) (m ((c : Thread nD τ).loc main_arg0)) (m ((c : Thread nD τ).loc main_arg1)) (Cert.Reference7Ideal.Read.idx_main_v1 (ix2 r s)) = ∑ k : Fin 4096, X1 m c (ix2 r k) * X2 m c (ix2 s k) := by
  have hr : r.val < 16384 := r.isLt
  have hs : s.val < 1536 := s.isLt
  rw [Cert.Reference7Ideal.Read.val_main_v0_apply]
  refine Finset.sum_congr rfl fun k _ => ?_
  rw [X1_apply, X2_apply]
  refine congrArg₂ (· * ·) (congrArg (m ((c : Thread nD τ).loc main_arg0)) (funext fun a => Fin.ext ?_)) (congrArg (m ((c : Thread nD τ).loc main_arg1)) (funext fun a => Fin.ext ?_))
  · match a with
    | ⟨0, _⟩ => show (r.val * 1536 + s.val) / 12582912 = r.val / 8192; omega
    | ⟨1, _⟩ => show (r.val * 1536 + s.val) / 1536 % 8192 = r.val % 8192; omega
    | ⟨2, _⟩ => rfl
  · match a with
    | ⟨0, _⟩ => rfl
    | ⟨1, _⟩ => show (r.val * 1536 + s.val) % 1536 = s.val; omega

/-- `G` at a row and a column. -/
theorem G_apply (c : Dev nD) (r : Fin 16384) (s : Fin 1536) : G m c (ix2 r s) = ∑ k : Fin 4096, X1 m c (ix2 r k) * X2 m c (ix2 s k) := by
  unfold G
  rw [Cert.Reference7Ideal.Read.val_main_v2_apply, Ideal.truncf_def, Cert.Reference7Ideal.Read.val_main_v1_apply]
  exact dot_eq m c r s

/-- A product over two windows' blocks at a point is the product over their arrays, at the output block's row and column. -/
theorem sum_eq (c : Dev nD) (t : Fin cfg0.N) (y : S1024x768.Idx) (h0 : win0_2.index t 0 * 1024 + (y 0).val < 16384) (h1 : win0_2.index t 1 * 768 + (y 1).val < 1536) :
    (∑ k : Fin 4096, B0 m c t (ix2 (y 0) k) * B1 m c t (ix2 (y 1) k))
      = ∑ k : Fin 4096, X1 m c (ix2 (⟨win0_2.index t 0 * 1024 + (y 0).val, by omega⟩ : Fin 16384) k) * X2 m c (ix2 (⟨win0_2.index t 1 * 768 + (y 1).val, by omega⟩ : Fin 1536) k) := by
  obtain ⟨e0, e1, e2, e3, l0, l1⟩ := idx_facts t
  refine Finset.sum_congr rfl fun k _ => ?_
  have hk : k.val < 4096 := k.isLt
  rw [read_0 m c t _ (ix2 (⟨win0_2.index t 0 * 1024 + (y 0).val, by omega⟩ : Fin 16384) k) (by show win0_2.index t 0 * 1024 + (y 0).val = win0_0.index t 0 * 1024 + (y 0).val; omega) (by show k.val = win0_0.index t 1 * 4096 + k.val; omega),
    read_1 m c t _ (ix2 (⟨win0_2.index t 1 * 768 + (y 1).val, by omega⟩ : Fin 1536) k) (by show win0_2.index t 1 * 768 + (y 1).val = win0_1.index t 0 * 768 + (y 1).val; omega) (by show k.val = win0_1.index t 1 * 4096 + k.val; omega)]

/-- What a point writes back is its block of `G`. -/
theorem flushed_eq (c : Dev nD) (t : Fin cfg0.N) :
    (dats m 0 c).flushed 2 t = ((cfg0.win 2).blk t).view.read (Elt Ideal) (G m c) := by
  obtain ⟨e0, e1, e2, e3, l0, l1⟩ := idx_facts t
  rw [flushed2]
  funext y
  have hy0 : (y 0).val < 1024 := (y 0).isLt
  have hy1 : (y 1).val < 768 := (y 1).isLt
  show out0_2 (iblk m c 0 t) (iblk m c 1 t) y = G m c (((cfg0.win 2).blk t).view.emb y)
  unfold out0_2
  rw [View.canon_unit_zero zz, View.ld_unit_zero zz, View.ld_unit_zero zz]
  rw [pay_apply]
  have hj : ((cfg0.win 2).blk t).view.emb y = (ix2 (⟨win0_2.index t 0 * 1024 + (y 0).val, by omega⟩ : Fin 16384) (⟨win0_2.index t 1 * 768 + (y 1).val, by omega⟩ : Fin 1536) : S16384x1536.Idx) := by
    funext a; refine Fin.ext ?_
    match a with
    | ⟨0, _⟩ => show win0_2.index t 0 * 1024 + 1 * (y 0).val = win0_2.index t 0 * 1024 + (y 0).val; omega
    | ⟨1, _⟩ => show win0_2.index t 1 * 768 + 1 * (y 1).val = win0_2.index t 1 * 768 + (y 1).val; omega
  rw [hj]
  rw [G_apply]
  exact sum_eq m c t y (by omega) (by omega)

theorem mem_blk (t : Fin cfg0.N) (i : S16384x1536.Idx) :
    i ∈ ((cfg0.win 2).blk t).view.set ↔ ∀ a, win0_2.index t a * S1024x768.size a ≤ (i a).val ∧ (i a).val < win0_2.index t a * S1024x768.size a + S1024x768.size a := by
  show i ∈ ((View.whole main_v4).slice (win0_2.rect t)).set ↔ _
  rw [View.set_slice_whole, Rect.mem_set_unit]

/-- The array after the run is `G`. -/
theorem final (c : Dev nD) : (dats m 0 c).arrAt 2 cfg0.N = G m c := by
  refine (dats m 0 c).arrAt_eq_of_cover 2 (G m c) (fun t _ => flushed_eq m c t) fun i => ?_
  have h0 : (i 0).val < 16384 := (i 0).isLt
  have h1 : (i 1).val < 1536 := (i 1).isLt
  obtain ⟨t, e0, e1⟩ := idx_onto ⟨(i 0).val / 1024, by omega⟩ ⟨(i 1).val / 768, by omega⟩
  have e0' : win0_2.index t 0 = (i 0).val / 1024 := e0
  have e1' : win0_2.index t 1 = (i 1).val / 768 := e1
  refine ⟨t, flush0_2 t, (mem_blk t i).mpr fun a => ?_⟩
  match a with
  | ⟨0, _⟩ => show win0_2.index t 0 * 1024 ≤ (i 0).val ∧ (i 0).val < win0_2.index t 0 * 1024 + 1024; omega
  | ⟨1, _⟩ => show win0_2.index t 1 * 768 ≤ (i 1).val ∧ (i 1).val < win0_2.index t 1 * 768 + 768; omega

/-- The call over the reals and the reference leave the same arrays. -/
theorem algebraic : Cert.algebraic_Kernel7Ideal_Reference7Ideal (hKernel7Ideal := Cert.Kernel7Ideal.Gen.facts) (hReference7Ideal := Cert.Reference7Ideal.Gen.facts) := by
  intro m g m' g' _ hargs
  refine ⟨fun c => G m c, ?_, ?_⟩
  · refine (θ_run _ _ _).mono (fun r h c => ?_) (run_blocks (F := Ideal) m g)
    obtain ⟨h0, h1⟩ := h c
    exact ⟨h0.trans (final m c), h1⟩
  · refine (θ_run _ _ _).mono (fun r h c => ?_) (Cert.Reference7Ideal.Value.run (F := Ideal) m' g')
    obtain ⟨a0, a1⟩ := hargs c
    obtain ⟨h0, h1⟩ := h c
    refine ⟨h0.trans ?_, h1⟩
    rw [a0, a1]; rfl

end Cert.Kernel7Ideal.Hand

end
-- ==== Proof.Val8.lean ====
/- The output projection of the three branches, and the weight it casts on the way: what the call leaves in its two output arrays. -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Mm
public import proofs.«01_k».proof.Defs
public import Idealize.ShloMosaic.Lib.ValueLayout

@[expose] public section

set_option maxRecDepth 16384

noncomputable section

namespace Cert.Kernel8Ideal.Hand

open Cert.Kernel8Ideal Cert.Kernel8Ideal.Gen Cert.Kernel8Ideal.Value Cert.Proof.Mm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zz : (![0, 0] : Fin 2 → Nat) = fun _ => 0 := by funext a; match a with | ⟨0, _⟩ => rfl | ⟨1, _⟩ => rfl

theorem zzz : (![0, 0, 0] : Fin 3 → Nat) = fun _ => 0 := by funext a; match a with | ⟨0, _⟩ => rfl | ⟨1, _⟩ => rfl | ⟨2, _⟩ => rfl

/-- Operand 1 as the launch finds it. -/
abbrev X1 (c : Dev nD) : FVec Ideal S16384x1536 .bf16 := V (F := Ideal) m c main_v2

/-- That operand is the argument with its two leading axes joined. -/
theorem V_main_v2 (c : Dev nD) : V (F := Ideal) m c main_v2 = (truncf (F := Ideal) .bf16 (shapeCast S16384x1536 (m ((c : Thread nD τ).loc main_arg0) : FVec Ideal S2x8192x1536 .f32) shapeCasts_S2x8192x1536_S16384x1536 : FVec Ideal S16384x1536 .f32) bitsLt_bf16_f32 : FVec Ideal S16384x1536 .bf16) := by
  show StableHlo.after hostOps0 (fun b => m (c, b)) main_v2 = _
  after_results <;> rfl

theorem X1_apply (c : Dev nD) (r : Fin 16384) (q : Fin 1536) : X1 m c (ix2 r q)
    = m ((c : Thread nD τ).loc main_arg0) (ix3 (⟨r.val / 8192, by have := r.isLt; omega⟩ : Fin 2) (⟨r.val % 8192, by omega⟩ : Fin 8192) q) := by
  unfold X1
  rw [V_main_v2]
  exact join_apply (m ((c : Thread nD τ).loc main_arg0)) _ r q _ _ (by show r.val = r.val / 8192 * 8192 + r.val % 8192; omega)

/-- Operand 2 as the launch finds it. -/
abbrev X2 (c : Dev nD) : FVec Ideal S16384x1024 .bf16 := V (F := Ideal) m c main_v4

/-- That operand is the argument with its two leading axes joined. -/
theorem V_main_v4 (c : Dev nD) : V (F := Ideal) m c main_v4 = (truncf (F := Ideal) .bf16 (shapeCast S16384x1024 (m ((c : Thread nD τ).loc main_arg1) : FVec Ideal S2x8192x1024 .f32) shapeCasts_S2x8192x1024_S16384x1024 : FVec Ideal S16384x1024 .f32) bitsLt_bf16_f32 : FVec Ideal S16384x1024 .bf16) := by
  show StableHlo.after hostOps0 (fun b => m (c, b)) main_v4 = _
  after_results <;> rfl

theorem X2_apply (c : Dev nD) (r : Fin 16384) (q : Fin 1024) : X2 m c (ix2 r q)
    = m ((c : Thread nD τ).loc main_arg1) (ix3 (⟨r.val / 8192, by have := r.isLt; omega⟩ : Fin 2) (⟨r.val % 8192, by omega⟩ : Fin 8192) q) := by
  unfold X2
  rw [V_main_v4]
  exact join_apply (m ((c : Thread nD τ).loc main_arg1)) _ r q _ _ (by show r.val = r.val / 8192 * 8192 + r.val % 8192; omega)

/-- Operand 3 as the launch finds it. -/
abbrev X3 (c : Dev nD) : FVec Ideal S16384x1536 .bf16 := V (F := Ideal) m c main_v6

/-- That operand is the argument with its two leading axes joined. -/
theorem V_main_v6 (c : Dev nD) : V (F := Ideal) m c main_v6 = (truncf (F := Ideal) .bf16 (shapeCast S16384x1536 (m ((c : Thread nD τ).loc main_arg2) : FVec Ideal S2x8192x1536 .f32) shapeCasts_S2x8192x1536_S16384x1536 : FVec Ideal S16384x1536 .f32) bitsLt_bf16_f32 : FVec Ideal S16384x1536 .bf16) := by
  show StableHlo.after hostOps0 (fun b => m (c, b)) main_v6 = _
  after_results <;> rfl

theorem X3_apply (c : Dev nD) (r : Fin 16384) (q : Fin 1536) : X3 m c (ix2 r q)
    = m ((c : Thread nD τ).loc main_arg2) (ix3 (⟨r.val / 8192, by have := r.isLt; omega⟩ : Fin 2) (⟨r.val % 8192, by omega⟩ : Fin 8192) q) := by
  unfold X3
  rw [V_main_v6]
  exact join_apply (m ((c : Thread nD τ).loc main_arg2)) _ r q _ _ (by show r.val = r.val / 8192 * 8192 + r.val % 8192; omega)

/-- Operand 4 as the launch finds it. -/
abbrev X4 (c : Dev nD) : FVec Ideal S1536x4096 .bf16 := V (F := Ideal) m c main_v7

/-- That operand is the weight's rows from 0. -/
theorem V_main_v7 (c : Dev nD) : V (F := Ideal) m c main_v7 = (extractStridedSlice S1536x4096 ![0, 0] (truncf (F := Ideal) .bf16 ((m ((c : Thread nD τ).loc main_arg3)) : FVec Ideal S4096x4096 .f32) bitsLt_bf16_f32 : FVec Ideal S4096x4096 .bf16) slices_S4096x4096_S1536x4096_0_0 : FVec Ideal S1536x4096 .bf16) := by
  show StableHlo.after hostOps0 (fun b => m (c, b)) main_v7 = _
  after_results <;> rfl

theorem X4_apply (c : Dev nD) (q : Fin 1536) (s : Fin 4096) (k : Fin 4096) (hk : k.val = 0 + q.val) : X4 m c (ix2 q s) = (m ((c : Thread nD τ).loc main_arg3)) (ix2 k s) := by
  unfold X4
  rw [V_main_v7]
  exact (extractStridedSlice_apply _ _ _ _ (ix2 k s : S4096x4096.Idx) (fun a => match a with
    | ⟨0, _⟩ => hk
    | ⟨1, _⟩ => by show s.val = 0 + s.val; omega)).trans rfl

/-- Operand 5 as the launch finds it. -/
abbrev X5 (c : Dev nD) : FVec Ideal S1024x4096 .bf16 := V (F := Ideal) m c main_v8

/-- That operand is the weight's rows from 1536. -/
theorem V_main_v8 (c : Dev nD) : V (F := Ideal) m c main_v8 = (extractStridedSlice S1024x4096 ![1536, 0] (truncf (F := Ideal) .bf16 ((m ((c : Thread nD τ).loc main_arg3)) : FVec Ideal S4096x4096 .f32) bitsLt_bf16_f32 : FVec Ideal S4096x4096 .bf16) slices_S4096x4096_S1024x4096_1536_0 : FVec Ideal S1024x4096 .bf16) := by
  show StableHlo.after hostOps0 (fun b => m (c, b)) main_v8 = _
  after_results <;> rfl

theorem X5_apply (c : Dev nD) (q : Fin 1024) (s : Fin 4096) (k : Fin 4096) (hk : k.val = 1536 + q.val) : X5 m c (ix2 q s) = (m ((c : Thread nD τ).loc main_arg3)) (ix2 k s) := by
  unfold X5
  rw [V_main_v8]
  exact (extractStridedSlice_apply _ _ _ _ (ix2 k s : S4096x4096.Idx) (fun a => match a with
    | ⟨0, _⟩ => hk
    | ⟨1, _⟩ => by show s.val = 0 + s.val; omega)).trans rfl

/-- Operand 6 as the launch finds it. -/
abbrev X6 (c : Dev nD) : FVec Ideal S1536x4096 .bf16 := V (F := Ideal) m c main_v9

/-- That operand is the weight's rows from 2560. -/
theorem V_main_v9 (c : Dev nD) : V (F := Ideal) m c main_v9 = (extractStridedSlice S1536x4096 ![2560, 0] (truncf (F := Ideal) .bf16 ((m ((c : Thread nD τ).loc main_arg3)) : FVec Ideal S4096x4096 .f32) bitsLt_bf16_f32 : FVec Ideal S4096x4096 .bf16) slices_S4096x4096_S1536x4096_2560_0 : FVec Ideal S1536x4096 .bf16) := by
  show StableHlo.after hostOps0 (fun b => m (c, b)) main_v9 = _
  after_results <;> rfl

theorem X6_apply (c : Dev nD) (q : Fin 1536) (s : Fin 4096) (k : Fin 4096) (hk : k.val = 2560 + q.val) : X6 m c (ix2 q s) = (m ((c : Thread nD τ).loc main_arg3)) (ix2 k s) := by
  unfold X6
  rw [V_main_v9]
  exact (extractStridedSlice_apply _ _ _ _ (ix2 k s : S4096x4096.Idx) (fun a => match a with
    | ⟨0, _⟩ => hk
    | ⟨1, _⟩ => by show s.val = 0 + s.val; omega)).trans rfl

/-- The windows' block indices, point by point. -/
theorem idx_facts : ∀ t : Fin cfg0.N, win0_0.index t 0 = win0_7.index t 0 ∧ win0_0.index t 1 = 0 ∧ win0_1.index t 0 = win0_7.index t 0 ∧ win0_1.index t 1 = 0 ∧ win0_2.index t 0 = win0_7.index t 0 ∧ win0_2.index t 1 = 0 ∧ win0_3.index t 0 = 0 ∧ win0_3.index t 1 = win0_7.index t 1 ∧ win0_4.index t 0 = 0 ∧ win0_4.index t 1 = win0_7.index t 1 ∧ win0_5.index t 0 = 0 ∧ win0_5.index t 1 = win0_7.index t 1 ∧ win0_7.index t 0 < 16 ∧ win0_7.index t 1 < 4 :=
  (by decide +kernel : ∀ t : Fin grid0.N, win0_0.index t 0 = win0_7.index t 0 ∧ win0_0.index t 1 = 0 ∧ win0_1.index t 0 = win0_7.index t 0 ∧ win0_1.index t 1 = 0 ∧ win0_2.index t 0 = win0_7.index t 0 ∧ win0_2.index t 1 = 0 ∧ win0_3.index t 0 = 0 ∧ win0_3.index t 1 = win0_7.index t 1 ∧ win0_4.index t 0 = 0 ∧ win0_4.index t 1 = win0_7.index t 1 ∧ win0_5.index t 0 = 0 ∧ win0_5.index t 1 = win0_7.index t 1 ∧ win0_7.index t 0 < 16 ∧ win0_7.index t 1 < 4)

/-- Every block of window 7 is some point's. -/
theorem idx_onto : ∀ (p : Fin 16) (q : Fin 4), ∃ t : Fin cfg0.N, win0_7.index t 0 = p.val ∧ win0_7.index t 1 = q.val :=
  (by decide +kernel : ∀ (p : Fin 16) (q : Fin 4), ∃ t : Fin grid0.N, win0_7.index t 0 = p.val ∧ win0_7.index t 1 = q.val)

/-- Window 0's block at a point. -/
abbrev B0 (c : Dev nD) (t : Fin cfg0.N) : FVec Ideal S1024x1536 .bf16 := iblk m c 0 t

/-- Window 0's block at a point, read at an index. -/
theorem read_0 (c : Dev nD) (t : Fin cfg0.N) (y : S1024x1536.Idx) (i : S16384x1536.Idx)
    (h0 : (i 0).val = win0_0.index t 0 * 1024 + (y 0).val) (h1 : (i 1).val = win0_0.index t 1 * 1536 + (y 1).val) :
    B0 m c t y = X1 m c i := by
  show V m c main_v2 (((cfg0.win 0).blk t).view.emb y) = V m c main_v2 i
  refine congrArg _ (funext fun a => Fin.ext ?_)
  match a with
  | ⟨0, _⟩ => show win0_0.index t 0 * 1024 + 1 * (y 0).val = (i 0).val; omega
  | ⟨1, _⟩ => show win0_0.index t 1 * 1536 + 1 * (y 1).val = (i 1).val; omega

/-- Window 1's block at a point. -/
abbrev B1 (c : Dev nD) (t : Fin cfg0.N) : FVec Ideal S1024x1024 .bf16 := iblk m c 1 t

/-- Window 1's block at a point, read at an index. -/
theorem read_1 (c : Dev nD) (t : Fin cfg0.N) (y : S1024x1024.Idx) (i : S16384x1024.Idx)
    (h0 : (i 0).val = win0_1.index t 0 * 1024 + (y 0).val) (h1 : (i 1).val = win0_1.index t 1 * 1024 + (y 1).val) :
    B1 m c t y = X2 m c i := by
  show V m c main_v4 (((cfg0.win 1).blk t).view.emb y) = V m c main_v4 i
  refine congrArg _ (funext fun a => Fin.ext ?_)
  match a with
  | ⟨0, _⟩ => show win0_1.index t 0 * 1024 + 1 * (y 0).val = (i 0).val; omega
  | ⟨1, _⟩ => show win0_1.index t 1 * 1024 + 1 * (y 1).val = (i 1).val; omega

/-- Window 2's block at a point. -/
abbrev B2 (c : Dev nD) (t : Fin cfg0.N) : FVec Ideal S1024x1536 .bf16 := iblk m c 2 t

/-- Window 2's block at a point, read at an index. -/
theorem read_2 (c : Dev nD) (t : Fin cfg0.N) (y : S1024x1536.Idx) (i : S16384x1536.Idx)
    (h0 : (i 0).val = win0_2.index t 0 * 1024 + (y 0).val) (h1 : (i 1).val = win0_2.index t 1 * 1536 + (y 1).val) :
    B2 m c t y = X3 m c i := by
  show V m c main_v6 (((cfg0.win 2).blk t).view.emb y) = V m c main_v6 i
  refine congrArg _ (funext fun a => Fin.ext ?_)
  match a with
  | ⟨0, _⟩ => show win0_2.index t 0 * 1024 + 1 * (y 0).val = (i 0).val; omega
  | ⟨1, _⟩ => show win0_2.index t 1 * 1536 + 1 * (y 1).val = (i 1).val; omega

/-- Window 3's block at a point. -/
abbrev B3 (c : Dev nD) (t : Fin cfg0.N) : FVec Ideal S1536x1024 .bf16 := iblk m c 3 t

/-- Window 3's block at a point, read at an index. -/
theorem read_3 (c : Dev nD) (t : Fin cfg0.N) (y : S1536x1024.Idx) (i : S1536x4096.Idx)
    (h0 : (i 0).val = win0_3.index t 0 * 1536 + (y 0).val) (h1 : (i 1).val = win0_3.index t 1 * 1024 + (y 1).val) :
    B3 m c t y = X4 m c i := by
  show V m c main_v7 (((cfg0.win 3).blk t).view.emb y) = V m c main_v7 i
  refine congrArg _ (funext fun a => Fin.ext ?_)
  match a with
  | ⟨0, _⟩ => show win0_3.index t 0 * 1536 + 1 * (y 0).val = (i 0).val; omega
  | ⟨1, _⟩ => show win0_3.index t 1 * 1024 + 1 * (y 1).val = (i 1).val; omega

/-- Window 4's block at a point. -/
abbrev B4 (c : Dev nD) (t : Fin cfg0.N) : FVec Ideal S1024x1024 .bf16 := iblk m c 4 t

/-- Window 4's block at a point, read at an index. -/
theorem read_4 (c : Dev nD) (t : Fin cfg0.N) (y : S1024x1024.Idx) (i : S1024x4096.Idx)
    (h0 : (i 0).val = win0_4.index t 0 * 1024 + (y 0).val) (h1 : (i 1).val = win0_4.index t 1 * 1024 + (y 1).val) :
    B4 m c t y = X5 m c i := by
  show V m c main_v8 (((cfg0.win 4).blk t).view.emb y) = V m c main_v8 i
  refine congrArg _ (funext fun a => Fin.ext ?_)
  match a with
  | ⟨0, _⟩ => show win0_4.index t 0 * 1024 + 1 * (y 0).val = (i 0).val; omega
  | ⟨1, _⟩ => show win0_4.index t 1 * 1024 + 1 * (y 1).val = (i 1).val; omega

/-- Window 5's block at a point. -/
abbrev B5 (c : Dev nD) (t : Fin cfg0.N) : FVec Ideal S1536x1024 .bf16 := iblk m c 5 t

/-- Window 5's block at a point, read at an index. -/
theorem read_5 (c : Dev nD) (t : Fin cfg0.N) (y : S1536x1024.Idx) (i : S1536x4096.Idx)
    (h0 : (i 0).val = win0_5.index t 0 * 1536 + (y 0).val) (h1 : (i 1).val = win0_5.index t 1 * 1024 + (y 1).val) :
    B5 m c t y = X6 m c i := by
  show V m c main_v9 (((cfg0.win 5).blk t).view.emb y) = V m c main_v9 i
  refine congrArg _ (funext fun a => Fin.ext ?_)
  match a with
  | ⟨0, _⟩ => show win0_5.index t 0 * 1536 + 1 * (y 0).val = (i 0).val; omega
  | ⟨1, _⟩ => show win0_5.index t 1 * 1024 + 1 * (y 1).val = (i 1).val; omega

/-- A product of two blocks at an index. -/
theorem prod_long (a : FVec Ideal S1024x1536 .bf16) (b : FVec Ideal S1536x1024 .bf16) (y : S1024x1024.Idx) :
    matmul (F := Ideal) dot_S1024x1536_S1536x1024_S1024x1024_1_0_0_1_n_n none a b (constant S1024x1024 .f32 0x00000000#32) y = ∑ k : Fin 1536, a (ix2 (y 0) k) * b (ix2 k (y 1)) := by
  exact rows_cols (φ₁ := .bf16) (φ₂ := .bf16) dot_S1024x1536_S1536x1024_S1024x1024_1_0_0_1_n_n rfl rfl
    (fun i q => by
      unfold DotDims.lhsIdx
      rw [dif_neg (by decide), dif_pos (by decide)]; rfl)
    (fun i q => dot_S1024x1536_S1536x1024_S1024x1024_1_0_0_1_n_n.lhsIdx_val_of_single rfl i q)
    (fun i q => dot_S1024x1536_S1536x1024_S1024x1024_1_0_0_1_n_n.rhsIdx_val_of_single rfl i q)
    (fun i q => by
      unfold DotDims.rhsIdx
      rw [dif_neg (by decide), dif_pos (by decide)]; rfl)
    a b _ (zero_word _) y

/-- A product of two blocks at an index. -/
theorem prod_short (a : FVec Ideal S1024x1024 .bf16) (b : FVec Ideal S1024x1024 .bf16) (y : S1024x1024.Idx) :
    matmul (F := Ideal) dot_S1024x1024_S1024x1024_S1024x1024_1_0_0_1_n_n none a b (constant S1024x1024 .f32 0x00000000#32) y = ∑ k : Fin 1024, a (ix2 (y 0) k) * b (ix2 k (y 1)) := by
  exact rows_cols (φ₁ := .bf16) (φ₂ := .bf16) dot_S1024x1024_S1024x1024_S1024x1024_1_0_0_1_n_n rfl rfl
    (fun i q => by
      unfold DotDims.lhsIdx
      rw [dif_neg (by decide), dif_pos (by decide)]; rfl)
    (fun i q => dot_S1024x1024_S1024x1024_S1024x1024_1_0_0_1_n_n.lhsIdx_val_of_single rfl i q)
    (fun i q => dot_S1024x1024_S1024x1024_S1024x1024_1_0_0_1_n_n.rhsIdx_val_of_single rfl i q)
    (fun i q => by
      unfold DotDims.rhsIdx
      rw [dif_neg (by decide), dif_pos (by decide)]; rfl)
    a b _ (zero_word _) y

/-- The body's result at an index of its block: the three branches' products added. -/
theorem pay_apply (a : Vec Ideal S1024x1536 .bf16) (b : Vec Ideal S1536x1024 .bf16) (d e : Vec Ideal S1024x1024 .bf16) (f : Vec Ideal S1024x1536 .bf16) (g : Vec Ideal S1536x1024 .bf16) (y : S1024x1024.Idx) :
    k0_pay2 (F := Ideal) a b d e f g y = (∑ k : Fin 1536, a (ix2 (y 0) k) * b (ix2 k (y 1))) + (∑ k : Fin 1024, d (ix2 (y 0) k) * e (ix2 k (y 1)))
      + ∑ k : Fin 1536, f (ix2 (y 0) k) * g (ix2 k (y 1)) := by
  unfold k0_pay2
  simp only [shapeCast_self]
  rw [truncf_apply]
  show (matmul _ _ _ _ _ _ + matmul _ _ _ _ _ _) + matmul _ _ _ _ _ _ = _
  rw [prod_long, prod_long, prod_short]

/-- The first output array after the run: the reference's result of the same arguments. -/
def G (c : Dev nD) : S16384x4096.Idx → Elt Ideal .bf16 :=
  Cert.Reference8Ideal.Read.val_main_v3 (F := Ideal) (m ((c : Thread nD τ).loc main_arg0)) (m ((c : Thread nD τ).loc main_arg1)) (m ((c : Thread nD τ).loc main_arg2)) (m ((c : Thread nD τ).loc main_arg3))

/-- The branches side by side, read in branch 1. -/
theorem cat_1 (c : Dev nD) (r : Fin 16384) (s : Fin 4096) (q : Fin 1536) (k : Fin 4096) (hk : k.val = 0 + q.val) :
    Cert.Reference8Ideal.Read.val_main_v0 (F := Ideal) (m ((c : Thread nD τ).loc main_arg0)) (m ((c : Thread nD τ).loc main_arg1)) (m ((c : Thread nD τ).loc main_arg2)) (Cert.Reference8Ideal.Read.lidx_main_v1 (Cert.Reference8Ideal.Read.idx_main_v2 (ix2 r s)) k) = X1 m c (ix2 r q) := by
  have hr : r.val < 16384 := r.isLt
  have hs : s.val < 4096 := s.isLt
  rw [X1_apply]
  unfold Cert.Reference8Ideal.Read.val_main_v0
  refine concatenate_apply_piece (t := Cert.Reference8Ideal.S2x8192x4096) (2 : Fin 3) [⟨S2x8192x1536, ((m ((c : Thread nD τ).loc main_arg0)) : FVec Ideal S2x8192x1536 .f32)⟩, ⟨S2x8192x1024, ((m ((c : Thread nD τ).loc main_arg1)) : FVec Ideal S2x8192x1024 .f32)⟩, ⟨S2x8192x1536, ((m ((c : Thread nD τ).loc main_arg2)) : FVec Ideal S2x8192x1536 .f32)⟩] _ _ 0 (show 0 < 3 from by decide) S2x8192x1536 _ rfl rfl 0 rfl _ ?_ ?_
  · intro b hb
    match b with
    | ⟨0, _⟩ => show r.val / 8192 = (r.val * 4096 + s.val) / 33554432; omega
    | ⟨1, _⟩ => show r.val % 8192 = (r.val * 4096 + s.val) / 4096 % 8192; omega
    | ⟨2, _⟩ => exact absurd rfl hb
  · show 0 + q.val = k.val; omega

/-- The branches side by side, read in branch 2. -/
theorem cat_2 (c : Dev nD) (r : Fin 16384) (s : Fin 4096) (q : Fin 1024) (k : Fin 4096) (hk : k.val = 1536 + q.val) :
    Cert.Reference8Ideal.Read.val_main_v0 (F := Ideal) (m ((c : Thread nD τ).loc main_arg0)) (m ((c : Thread nD τ).loc main_arg1)) (m ((c : Thread nD τ).loc main_arg2)) (Cert.Reference8Ideal.Read.lidx_main_v1 (Cert.Reference8Ideal.Read.idx_main_v2 (ix2 r s)) k) = X2 m c (ix2 r q) := by
  have hr : r.val < 16384 := r.isLt
  have hs : s.val < 4096 := s.isLt
  rw [X2_apply]
  unfold Cert.Reference8Ideal.Read.val_main_v0
  refine concatenate_apply_piece (t := Cert.Reference8Ideal.S2x8192x4096) (2 : Fin 3) [⟨S2x8192x1536, ((m ((c : Thread nD τ).loc main_arg0)) : FVec Ideal S2x8192x1536 .f32)⟩, ⟨S2x8192x1024, ((m ((c : Thread nD τ).loc main_arg1)) : FVec Ideal S2x8192x1024 .f32)⟩, ⟨S2x8192x1536, ((m ((c : Thread nD τ).loc main_arg2)) : FVec Ideal S2x8192x1536 .f32)⟩] _ _ 1 (show 1 < 3 from by decide) S2x8192x1024 _ rfl rfl 1536 rfl _ ?_ ?_
  · intro b hb
    match b with
    | ⟨0, _⟩ => show r.val / 8192 = (r.val * 4096 + s.val) / 33554432; omega
    | ⟨1, _⟩ => show r.val % 8192 = (r.val * 4096 + s.val) / 4096 % 8192; omega
    | ⟨2, _⟩ => exact absurd rfl hb
  · show 1536 + q.val = k.val; omega

/-- The branches side by side, read in branch 3. -/
theorem cat_3 (c : Dev nD) (r : Fin 16384) (s : Fin 4096) (q : Fin 1536) (k : Fin 4096) (hk : k.val = 2560 + q.val) :
    Cert.Reference8Ideal.Read.val_main_v0 (F := Ideal) (m ((c : Thread nD τ).loc main_arg0)) (m ((c : Thread nD τ).loc main_arg1)) (m ((c : Thread nD τ).loc main_arg2)) (Cert.Reference8Ideal.Read.lidx_main_v1 (Cert.Reference8Ideal.Read.idx_main_v2 (ix2 r s)) k) = X3 m c (ix2 r q) := by
  have hr : r.val < 16384 := r.isLt
  have hs : s.val < 4096 := s.isLt
  rw [X3_apply]
  unfold Cert.Reference8Ideal.Read.val_main_v0
  refine concatenate_apply_piece (t := Cert.Reference8Ideal.S2x8192x4096) (2 : Fin 3) [⟨S2x8192x1536, ((m ((c : Thread nD τ).loc main_arg0)) : FVec Ideal S2x8192x1536 .f32)⟩, ⟨S2x8192x1024, ((m ((c : Thread nD τ).loc main_arg1)) : FVec Ideal S2x8192x1024 .f32)⟩, ⟨S2x8192x1536, ((m ((c : Thread nD τ).loc main_arg2)) : FVec Ideal S2x8192x1536 .f32)⟩] _ _ 2 (show 2 < 3 from by decide) S2x8192x1536 _ rfl rfl 2560 rfl _ ?_ ?_
  · intro b hb
    match b with
    | ⟨0, _⟩ => show r.val / 8192 = (r.val * 4096 + s.val) / 33554432; omega
    | ⟨1, _⟩ => show r.val % 8192 = (r.val * 4096 + s.val) / 4096 % 8192; omega
    | ⟨2, _⟩ => exact absurd rfl hb
  · show 2560 + q.val = k.val; omega

/-- A sum over the joined axis, branch by branch. -/
theorem sum_split (f : Fin 4096 → EReal) : ∑ k, f k = (∑ q : Fin 1536, f ⟨0 + q.val, by have := q.isLt; omega⟩) + (∑ q : Fin 1024, f ⟨1536 + q.val, by have := q.isLt; omega⟩)
    + ∑ q : Fin 1536, f ⟨2560 + q.val, by have := q.isLt; omega⟩ := by
  refine (Fin.sum_univ_add (a := 2560) (b := 1536) f).trans (congrArg₂ (· + ·) ?_ rfl)
  refine (Fin.sum_univ_add (a := 1536) (b := 1024) _).trans (congrArg₂ (· + ·) ?_ rfl)
  exact Finset.sum_congr rfl fun q _ => congrArg f (Fin.ext (by show q.val = 0 + q.val; omega))

/-- `G` at a row and a column. -/
theorem G_apply (c : Dev nD) (r : Fin 16384) (s : Fin 4096) :
    G m c (ix2 r s) = (∑ k : Fin 1536, X1 m c (ix2 r k) * X4 m c (ix2 k s)) + (∑ k : Fin 1024, X2 m c (ix2 r k) * X5 m c (ix2 k s)) + ∑ k : Fin 1536, X3 m c (ix2 r k) * X6 m c (ix2 k s) := by
  have hs : s.val < 4096 := s.isLt
  have hw : ∀ k : Fin 4096, Cert.Reference8Ideal.Read.ridx_main_v1 (Cert.Reference8Ideal.Read.idx_main_v2 (ix2 r s)) k = ix2 k s := fun k => funext fun a => Fin.ext (by
    match a with
    | ⟨0, _⟩ => rfl
    | ⟨1, _⟩ => show (r.val * 4096 + s.val) % 4096 = s.val; omega)
  unfold G
  rw [Cert.Reference8Ideal.Read.val_main_v3_apply, Ideal.truncf_def, Cert.Reference8Ideal.Read.val_main_v2_apply, Cert.Reference8Ideal.Read.val_main_v1_apply, sum_split]
  refine congrArg₂ (· + ·) (congrArg₂ (· + ·) (Finset.sum_congr rfl fun q _ => ?_) (Finset.sum_congr rfl fun q _ => ?_)) (Finset.sum_congr rfl fun q _ => ?_)
  · rw [cat_1 m c r s q _ rfl, X4_apply m c q s ⟨0 + q.val, by have := q.isLt; omega⟩ rfl, hw]
  · rw [cat_2 m c r s q _ rfl, X5_apply m c q s ⟨1536 + q.val, by have := q.isLt; omega⟩ rfl, hw]
  · rw [cat_3 m c r s q _ rfl, X6_apply m c q s ⟨2560 + q.val, by have := q.isLt; omega⟩ rfl, hw]

/-- A product over two windows' blocks at a point is the product over their arrays, at the output block's row and column. -/
theorem sum_1 (c : Dev nD) (t : Fin cfg0.N) (y : S1024x1024.Idx) (h0 : win0_7.index t 0 * 1024 + (y 0).val < 16384) (h1 : win0_7.index t 1 * 1024 + (y 1).val < 4096) :
    (∑ k : Fin 1536, B0 m c t (ix2 (y 0) k) * B3 m c t (ix2 k (y 1)))
      = ∑ k : Fin 1536, X1 m c (ix2 (⟨win0_7.index t 0 * 1024 + (y 0).val, by omega⟩ : Fin 16384) k) * X4 m c (ix2 k (⟨win0_7.index t 1 * 1024 + (y 1).val, by omega⟩ : Fin 4096)) := by
  obtain ⟨e0, e1, e2, e3, e4, e5, e6, e7, e8, e9, e10, e11, l0, l1⟩ := idx_facts t
  refine Finset.sum_congr rfl fun k _ => ?_
  have hk : k.val < 1536 := k.isLt
  rw [read_0 m c t _ (ix2 (⟨win0_7.index t 0 * 1024 + (y 0).val, by omega⟩ : Fin 16384) k) (by show win0_7.index t 0 * 1024 + (y 0).val = win0_0.index t 0 * 1024 + (y 0).val; omega) (by show k.val = win0_0.index t 1 * 1536 + k.val; omega),
    read_3 m c t _ (ix2 k (⟨win0_7.index t 1 * 1024 + (y 1).val, by omega⟩ : Fin 4096)) (by show k.val = win0_3.index t 0 * 1536 + k.val; omega) (by show win0_7.index t 1 * 1024 + (y 1).val = win0_3.index t 1 * 1024 + (y 1).val; omega)]

/-- A product over two windows' blocks at a point is the product over their arrays, at the output block's row and column. -/
theorem sum_2 (c : Dev nD) (t : Fin cfg0.N) (y : S1024x1024.Idx) (h0 : win0_7.index t 0 * 1024 + (y 0).val < 16384) (h1 : win0_7.index t 1 * 1024 + (y 1).val < 4096) :
    (∑ k : Fin 1024, B1 m c t (ix2 (y 0) k) * B4 m c t (ix2 k (y 1)))
      = ∑ k : Fin 1024, X2 m c (ix2 (⟨win0_7.index t 0 * 1024 + (y 0).val, by omega⟩ : Fin 16384) k) * X5 m c (ix2 k (⟨win0_7.index t 1 * 1024 + (y 1).val, by omega⟩ : Fin 4096)) := by
  obtain ⟨e0, e1, e2, e3, e4, e5, e6, e7, e8, e9, e10, e11, l0, l1⟩ := idx_facts t
  refine Finset.sum_congr rfl fun k _ => ?_
  have hk : k.val < 1024 := k.isLt
  rw [read_1 m c t _ (ix2 (⟨win0_7.index t 0 * 1024 + (y 0).val, by omega⟩ : Fin 16384) k) (by show win0_7.index t 0 * 1024 + (y 0).val = win0_1.index t 0 * 1024 + (y 0).val; omega) (by show k.val = win0_1.index t 1 * 1024 + k.val; omega),
    read_4 m c t _ (ix2 k (⟨win0_7.index t 1 * 1024 + (y 1).val, by omega⟩ : Fin 4096)) (by show k.val = win0_4.index t 0 * 1024 + k.val; omega) (by show win0_7.index t 1 * 1024 + (y 1).val = win0_4.index t 1 * 1024 + (y 1).val; omega)]

/-- A product over two windows' blocks at a point is the product over their arrays, at the output block's row and column. -/
theorem sum_3 (c : Dev nD) (t : Fin cfg0.N) (y : S1024x1024.Idx) (h0 : win0_7.index t 0 * 1024 + (y 0).val < 16384) (h1 : win0_7.index t 1 * 1024 + (y 1).val < 4096) :
    (∑ k : Fin 1536, B2 m c t (ix2 (y 0) k) * B5 m c t (ix2 k (y 1)))
      = ∑ k : Fin 1536, X3 m c (ix2 (⟨win0_7.index t 0 * 1024 + (y 0).val, by omega⟩ : Fin 16384) k) * X6 m c (ix2 k (⟨win0_7.index t 1 * 1024 + (y 1).val, by omega⟩ : Fin 4096)) := by
  obtain ⟨e0, e1, e2, e3, e4, e5, e6, e7, e8, e9, e10, e11, l0, l1⟩ := idx_facts t
  refine Finset.sum_congr rfl fun k _ => ?_
  have hk : k.val < 1536 := k.isLt
  rw [read_2 m c t _ (ix2 (⟨win0_7.index t 0 * 1024 + (y 0).val, by omega⟩ : Fin 16384) k) (by show win0_7.index t 0 * 1024 + (y 0).val = win0_2.index t 0 * 1024 + (y 0).val; omega) (by show k.val = win0_2.index t 1 * 1536 + k.val; omega),
    read_5 m c t _ (ix2 k (⟨win0_7.index t 1 * 1024 + (y 1).val, by omega⟩ : Fin 4096)) (by show k.val = win0_5.index t 0 * 1536 + k.val; omega) (by show win0_7.index t 1 * 1024 + (y 1).val = win0_5.index t 1 * 1024 + (y 1).val; omega)]

/-- What a point writes back is its block of `G`. -/
theorem flushed_eq (c : Dev nD) (t : Fin cfg0.N) :
    (dats m 0 c).flushed 7 t = ((cfg0.win 7).blk t).view.read (Elt Ideal) (G m c) := by
  obtain ⟨e0, e1, e2, e3, e4, e5, e6, e7, e8, e9, e10, e11, l0, l1⟩ := idx_facts t
  rw [flushed7]
  funext y
  have hy0 : (y 0).val < 1024 := (y 0).isLt
  have hy1 : (y 1).val < 1024 := (y 1).isLt
  show out0_7 (iblk m c 0 t) (iblk m c 1 t) (iblk m c 2 t) (iblk m c 3 t) (iblk m c 4 t) (iblk m c 5 t) (iblk m c 6 t) y = G m c (((cfg0.win 7).blk t).view.emb y)
  unfold out0_7
  rw [View.canon_unit_zero zz, View.ld_unit_zero zz, View.ld_unit_zero zz, View.ld_unit_zero zz, View.ld_unit_zero zz, View.ld_unit_zero zz, View.ld_unit_zero zz]
  rw [pay_apply]
  have hj : ((cfg0.win 7).blk t).view.emb y = (ix2 (⟨win0_7.index t 0 * 1024 + (y 0).val, by omega⟩ : Fin 16384) (⟨win0_7.index t 1 * 1024 + (y 1).val, by omega⟩ : Fin 4096) : S16384x4096.Idx) := by
    funext a; refine Fin.ext ?_
    match a with
    | ⟨0, _⟩ => show win0_7.index t 0 * 1024 + 1 * (y 0).val = win0_7.index t 0 * 1024 + (y 0).val; omega
    | ⟨1, _⟩ => show win0_7.index t 1 * 1024 + 1 * (y 1).val = win0_7.index t 1 * 1024 + (y 1).val; omega
  rw [hj]
  rw [G_apply]
  have s1 := sum_1 m c t y (by omega) (by omega)
  have s2 := sum_2 m c t y (by omega) (by omega)
  have s3 := sum_3 m c t y (by omega) (by omega)
  exact congrArg₂ (· + ·) (congrArg₂ (· + ·) s1 s2) s3

theorem mem_blk (t : Fin cfg0.N) (i : S16384x4096.Idx) :
    i ∈ ((cfg0.win 7).blk t).view.set ↔ ∀ a, win0_7.index t a * S1024x1024.size a ≤ (i a).val ∧ (i a).val < win0_7.index t a * S1024x1024.size a + S1024x1024.size a := by
  show i ∈ ((View.whole main_v10_0).slice (win0_7.rect t)).set ↔ _
  rw [View.set_slice_whole, Rect.mem_set_unit]

/-- The array after the run is `G`. -/
theorem final (c : Dev nD) : (dats m 0 c).arrAt 7 cfg0.N = G m c := by
  refine (dats m 0 c).arrAt_eq_of_cover 7 (G m c) (fun t _ => flushed_eq m c t) fun i => ?_
  have h0 : (i 0).val < 16384 := (i 0).isLt
  have h1 : (i 1).val < 4096 := (i 1).isLt
  obtain ⟨t, e0, e1⟩ := idx_onto ⟨(i 0).val / 1024, by omega⟩ ⟨(i 1).val / 1024, by omega⟩
  have e0' : win0_7.index t 0 = (i 0).val / 1024 := e0
  have e1' : win0_7.index t 1 = (i 1).val / 1024 := e1
  refine ⟨t, flush0_7 t, (mem_blk t i).mpr fun a => ?_⟩
  match a with
  | ⟨0, _⟩ => show win0_7.index t 0 * 1024 ≤ (i 0).val ∧ (i 0).val < win0_7.index t 0 * 1024 + 1024; omega
  | ⟨1, _⟩ => show win0_7.index t 1 * 1024 ≤ (i 1).val ∧ (i 1).val < win0_7.index t 1 * 1024 + 1024; omega

/-- The carried windows' block indices, point by point. -/
theorem idx_factsW : ∀ t : Fin cfg0.N, win0_6.index t 0 = 1 ∧ win0_6.index t 1 = win0_8.index t 0 ∧ win0_6.index t 2 = 0 ∧ win0_8.index t 0 < 64 ∧ win0_8.index t 1 = 0 :=
  (by decide +kernel : ∀ t : Fin grid0.N, win0_6.index t 0 = 1 ∧ win0_6.index t 1 = win0_8.index t 0 ∧ win0_6.index t 2 = 0 ∧ win0_8.index t 0 < 64 ∧ win0_8.index t 1 = 0)

/-- Every block of window 8 is some point's. -/
theorem idx_ontoW : ∀ (p : Fin 64) (q : Fin 1), ∃ t : Fin cfg0.N, win0_8.index t 0 = p.val ∧ win0_8.index t 1 = q.val :=
  (by decide +kernel : ∀ (p : Fin 64) (q : Fin 1), ∃ t : Fin grid0.N, win0_8.index t 0 = p.val ∧ win0_8.index t 1 = q.val)

/-- The carried array after the run: layer one of the argument. -/
def GW (c : Dev nD) : S4096x11008.Idx → Elt Ideal .bf16 :=
  Cert.Reference8Ideal.Read.val_main_v6 (F := Ideal) (m ((c : Thread nD τ).loc main_arg4))

theorem GW_apply (c : Dev nD) (r : Fin 4096) (s : Fin 11008) : GW m c (ix2 r s) = m ((c : Thread nD τ).loc main_arg4) (ix3 (1 : Fin 2) r s) := by
  have hr : r.val < 4096 := r.isLt
  have hs : s.val < 11008 := s.isLt
  unfold GW
  rw [Cert.Reference8Ideal.Read.val_main_v6_apply, Ideal.truncf_def, Cert.Reference8Ideal.Read.val_main_v5_apply, Cert.Reference8Ideal.Read.val_main_v4_apply]
  refine congrArg (m ((c : Thread nD τ).loc main_arg4)) (funext fun a => Fin.ext ?_)
  match a with
  | ⟨0, _⟩ => rfl
  | ⟨1, _⟩ => show (r.val * 11008 + s.val) / 11008 % 4096 = r.val; omega
  | ⟨2, _⟩ => show (r.val * 11008 + s.val) % 11008 = s.val; omega

/-- Window 6's block at a point, read at an index. -/
theorem read_6 (c : Dev nD) (t : Fin cfg0.N) (y : S1x64x11008.Idx) (i : S2x4096x11008.Idx)
    (h0 : (i 0).val = win0_6.index t 0 * 1 + (y 0).val) (h1 : (i 1).val = win0_6.index t 1 * 64 + (y 1).val) (h2 : (i 2).val = win0_6.index t 2 * 11008 + (y 2).val) :
    iblk m c 6 t y = V m c main_arg4 i := by
  show V m c main_arg4 (((cfg0.win 6).blk t).view.emb y) = V m c main_arg4 i
  refine congrArg _ (funext fun a => Fin.ext ?_)
  match a with
  | ⟨0, _⟩ => show win0_6.index t 0 * 1 + 1 * (y 0).val = (i 0).val; omega
  | ⟨1, _⟩ => show win0_6.index t 1 * 64 + 1 * (y 1).val = (i 1).val; omega
  | ⟨2, _⟩ => show win0_6.index t 2 * 11008 + 1 * (y 2).val = (i 2).val; omega

/-- What a point writes back to the carried window is its block of `GW`. -/
theorem flushed_eqW (c : Dev nD) (t : Fin cfg0.N) :
    (dats m 0 c).flushed 8 t = ((cfg0.win 8).blk t).view.read (Elt Ideal) (GW m c) := by
  obtain ⟨e0, e1, e2, l0, e3⟩ := idx_factsW t
  rw [flushed8]
  funext y
  have hy0 : (y 0).val < 64 := (y 0).isLt
  have hy1 : (y 1).val < 11008 := (y 1).isLt
  show out0_8 (iblk m c 0 t) (iblk m c 1 t) (iblk m c 2 t) (iblk m c 3 t) (iblk m c 4 t) (iblk m c 5 t) (iblk m c 6 t) y = GW m c (((cfg0.win 8).blk t).view.emb y)
  unfold out0_8
  rw [View.ld_unit_zero zzz]
  refine (canon8_eq _ _).trans ?_
  have hj : ((cfg0.win 8).blk t).view.emb y = (ix2 (⟨win0_8.index t 0 * 64 + (y 0).val, by omega⟩ : Fin 4096) (⟨win0_8.index t 1 * 11008 + (y 1).val, by omega⟩ : Fin 11008) : S4096x11008.Idx) := by
    funext a; refine Fin.ext ?_
    match a with
    | ⟨0, _⟩ => show win0_8.index t 0 * 64 + 1 * (y 0).val = win0_8.index t 0 * 64 + (y 0).val; omega
    | ⟨1, _⟩ => show win0_8.index t 1 * 11008 + 1 * (y 1).val = win0_8.index t 1 * 11008 + (y 1).val; omega
  rw [hj]
  rw [GW_apply]
  show iblk m c 6 t (ix8_0 y) = _
  rw [read_6 m c t _ (ix3 (1 : Fin 2) (⟨win0_8.index t 0 * 64 + (y 0).val, by omega⟩ : Fin 4096) (⟨win0_8.index t 1 * 11008 + (y 1).val, by omega⟩ : Fin 11008))
    (by show 1 = win0_6.index t 0 * 1 + 0; omega) (by show win0_8.index t 0 * 64 + (y 0).val = win0_6.index t 1 * 64 + (y 0).val; omega)
    (by show win0_8.index t 1 * 11008 + (y 1).val = win0_6.index t 2 * 11008 + (y 1).val; omega), V_main_arg4]

theorem mem_blkW (t : Fin cfg0.N) (i : S4096x11008.Idx) :
    i ∈ ((cfg0.win 8).blk t).view.set ↔ ∀ a, win0_8.index t a * S64x11008.size a ≤ (i a).val ∧ (i a).val < win0_8.index t a * S64x11008.size a + S64x11008.size a := by
  show i ∈ ((View.whole main_v10_1).slice (win0_8.rect t)).set ↔ _
  rw [View.set_slice_whole, Rect.mem_set_unit]

/-- The array after the run is `GW`. -/
theorem finalW (c : Dev nD) : (dats m 0 c).arrAt 8 cfg0.N = GW m c := by
  refine (dats m 0 c).arrAt_eq_of_cover 8 (GW m c) (fun t _ => flushed_eqW m c t) fun i => ?_
  have h0 : (i 0).val < 4096 := (i 0).isLt
  have h1 : (i 1).val < 11008 := (i 1).isLt
  obtain ⟨t, e0, e1⟩ := idx_ontoW ⟨(i 0).val / 64, by omega⟩ ⟨(i 1).val / 11008, by omega⟩
  have e0' : win0_8.index t 0 = (i 0).val / 64 := e0
  have e1' : win0_8.index t 1 = (i 1).val / 11008 := e1
  refine ⟨t, flush0_8 t, (mem_blkW t i).mpr fun a => ?_⟩
  match a with
  | ⟨0, _⟩ => show win0_8.index t 0 * 64 ≤ (i 0).val ∧ (i 0).val < win0_8.index t 0 * 64 + 64; omega
  | ⟨1, _⟩ => show win0_8.index t 1 * 11008 ≤ (i 1).val ∧ (i 1).val < win0_8.index t 1 * 11008 + 11008; omega

/-- The call over the reals and the reference leave the same arrays. -/
theorem algebraic : Cert.algebraic_Kernel8Ideal_Reference8Ideal (hKernel8Ideal := Cert.Kernel8Ideal.Gen.facts) (hReference8Ideal := Cert.Reference8Ideal.Gen.facts) := by
  intro m g m' g' _ hargs
  refine ⟨fun c => G m c, fun c => GW m c, ?_, ?_⟩
  · refine (θ_run _ _ _).mono (fun r h c => ?_) (run_blocks (F := Ideal) m g)
    obtain ⟨h0, h1, h2⟩ := h c
    exact ⟨h0.trans (final m c), h1.trans (finalW m c), h2⟩
  · refine (θ_run _ _ _).mono (fun r h c => ?_) (Cert.Reference8Ideal.Value.run (F := Ideal) m' g')
    obtain ⟨a0, a1, a2, a3, a4⟩ := hargs c
    obtain ⟨h0, h1, h2⟩ := h c
    refine ⟨h0.trans ?_, h1.trans ?_, h2⟩
    · rw [a0, a1, a2, a3]; rfl
    · rw [a4]; rfl

end Cert.Kernel8Ideal.Hand

end
-- ==== Proof.Val9.lean ====
/- The normalisation, residual and next normalisation: what the call leaves in its two output arrays. -/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Mm
public import proofs.«01_k».proof.Defs
public import Idealize.ShloMosaic.Lib.ValueLayout

@[expose] public section

set_option maxRecDepth 16384

noncomputable section

namespace Cert.Kernel9Ideal.Hand

open Cert.Kernel9Ideal Cert.Kernel9Ideal.Gen Cert.Kernel9Ideal.Value Cert.Proof.Mm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zz : (![0, 0] : Fin 2 → Nat) = fun _ => 0 := by funext a; match a with | ⟨0, _⟩ => rfl | ⟨1, _⟩ => rfl

theorem zzz : (![0, 0, 0] : Fin 3 → Nat) = fun _ => 0 := by funext a; match a with | ⟨0, _⟩ => rfl | ⟨1, _⟩ => rfl | ⟨2, _⟩ => rfl

/-- Operand 1 as the launch finds it. -/
abbrev X1 (c : Dev nD) : FVec Ideal S16384x4096 .bf16 := V (F := Ideal) m c main_v1

/-- That operand is the argument with its two leading axes joined. -/
theorem V_main_v1 (c : Dev nD) : V (F := Ideal) m c main_v1 = (truncf (F := Ideal) .bf16 (shapeCast S16384x4096 (m ((c : Thread nD τ).loc main_arg0) : FVec Ideal S2x8192x4096 .f32) shapeCasts_S2x8192x4096_S16384x4096 : FVec Ideal S16384x4096 .f32) bitsLt_bf16_f32 : FVec Ideal S16384x4096 .bf16) := by
  show StableHlo.after hostOps0 (fun b => m (c, b)) main_v1 = _
  after_results <;> rfl

theorem X1_apply (c : Dev nD) (r : Fin 16384) (q : Fin 4096) : X1 m c (ix2 r q)
    = m ((c : Thread nD τ).loc main_arg0) (ix3 (⟨r.val / 8192, by have := r.isLt; omega⟩ : Fin 2) (⟨r.val % 8192, by omega⟩ : Fin 8192) q) := by
  unfold X1
  rw [V_main_v1]
  exact join_apply (m ((c : Thread nD τ).loc main_arg0)) _ r q _ _ (by show r.val = r.val / 8192 * 8192 + r.val % 8192; omega)

/-- Operand 2 as the launch finds it. -/
abbrev X2 (c : Dev nD) : FVec Ideal S16384x4096 .f32 := V (F := Ideal) m c main_v2

/-- The residual is the argument with its two leading axes joined. -/
theorem V_main_v2 (c : Dev nD) : V (F := Ideal) m c main_v2 = (shapeCast S16384x4096 (m ((c : Thread nD τ).loc main_arg1) : FVec Ideal S2x8192x4096 .f32) shapeCasts_S2x8192x4096_S16384x4096 : FVec Ideal S16384x4096 .f32) := by
  show StableHlo.after hostOps0 (fun b => m (c, b)) main_v2 = _
  after_results <;> rfl

theorem X2_apply (c : Dev nD) (r : Fin 16384) (q : Fin 4096) : X2 m c (ix2 r q)
    = (m ((c : Thread nD τ).loc main_arg1)) (ix3 (⟨r.val / 8192, by have := r.isLt; omega⟩ : Fin 2) (⟨r.val % 8192, by omega⟩ : Fin 8192) q) := by
  unfold X2
  rw [V_main_v2]
  exact join_apply (m ((c : Thread nD τ).loc main_arg1)) _ r q _ _ (by show r.val = r.val / 8192 * 8192 + r.val % 8192; omega)

/-- A position of a vector. -/
abbrev one (s : Fin 4096) : S4096.Idx := fun a => match a with | ⟨0, _⟩ => s

/-- Operand 3 as the launch finds it. -/
abbrev X3 (c : Dev nD) : FVec Ideal S1x4096 .f32 := V (F := Ideal) m c main_v4

/-- The gain is the argument as one row. -/
theorem V_main_v4 (c : Dev nD) : V (F := Ideal) m c main_v4 = (shapeCast S1x4096 ((m ((c : Thread nD τ).loc main_arg2)) : FVec Ideal S4096 .f32) shapeCasts_S4096_S1x4096 : FVec Ideal S1x4096 .f32) := by
  show StableHlo.after hostOps0 (fun b => m (c, b)) main_v4 = _
  after_results <;> rfl

theorem X3_apply (c : Dev nD) (s : Fin 4096) : X3 m c (ix2 (0 : Fin 1) s) = (m ((c : Thread nD τ).loc main_arg2)) (one s) := by
  unfold X3
  rw [V_main_v4]
  exact shapeCast_apply (s := S4096) ((m ((c : Thread nD τ).loc main_arg2)) : FVec Ideal S4096 .f32) _ _ (one s) (by show (S4096.rowMajor (one s)).val = (S1x4096.rowMajor (ix2 (0 : Fin 1) s)).val; rw [Shape.rowMajor_val_one, Shape.rowMajor_val_two]; show s.val = 0 * 4096 + s.val; omega)

/-- Operand 4 as the launch finds it. -/
abbrev X4 (c : Dev nD) : FVec Ideal S1x4096 .f32 := V (F := Ideal) m c main_v3

/-- The next gain is the argument as one row. -/
theorem V_main_v3 (c : Dev nD) : V (F := Ideal) m c main_v3 = (shapeCast S1x4096 ((m ((c : Thread nD τ).loc main_arg3)) : FVec Ideal S4096 .f32) shapeCasts_S4096_S1x4096 : FVec Ideal S1x4096 .f32) := by
  show StableHlo.after hostOps0 (fun b => m (c, b)) main_v3 = _
  after_results <;> rfl

theorem X4_apply (c : Dev nD) (s : Fin 4096) : X4 m c (ix2 (0 : Fin 1) s) = (m ((c : Thread nD τ).loc main_arg3)) (one s) := by
  unfold X4
  rw [V_main_v3]
  exact shapeCast_apply (s := S4096) ((m ((c : Thread nD τ).loc main_arg3)) : FVec Ideal S4096 .f32) _ _ (one s) (by show (S4096.rowMajor (one s)).val = (S1x4096.rowMajor (ix2 (0 : Fin 1) s)).val; rw [Shape.rowMajor_val_one, Shape.rowMajor_val_two]; show s.val = 0 * 4096 + s.val; omega)

/-- The windows' block indices, point by point. -/
theorem idx_facts : ∀ t : Fin cfg0.N, win0_0.index t 0 = win0_4.index t 0 ∧ win0_0.index t 1 = 0 ∧ win0_1.index t 0 = win0_4.index t 0 ∧ win0_1.index t 1 = 0 ∧ win0_2.index t 0 = 0 ∧ win0_2.index t 1 = 0 ∧ win0_3.index t 0 = 0 ∧ win0_3.index t 1 = 0 ∧ win0_5.index t 0 = win0_4.index t 0 ∧ win0_5.index t 1 = 0 ∧ win0_4.index t 0 < 64 ∧ win0_4.index t 1 = 0 :=
  (by decide +kernel : ∀ t : Fin grid0.N, win0_0.index t 0 = win0_4.index t 0 ∧ win0_0.index t 1 = 0 ∧ win0_1.index t 0 = win0_4.index t 0 ∧ win0_1.index t 1 = 0 ∧ win0_2.index t 0 = 0 ∧ win0_2.index t 1 = 0 ∧ win0_3.index t 0 = 0 ∧ win0_3.index t 1 = 0 ∧ win0_5.index t 0 = win0_4.index t 0 ∧ win0_5.index t 1 = 0 ∧ win0_4.index t 0 < 64 ∧ win0_4.index t 1 = 0)

/-- Every block of window 4 is some point's. -/
theorem idx_onto : ∀ (p : Fin 64) (q : Fin 1), ∃ t : Fin cfg0.N, win0_4.index t 0 = p.val ∧ win0_4.index t 1 = q.val :=
  (by decide +kernel : ∀ (p : Fin 64) (q : Fin 1), ∃ t : Fin grid0.N, win0_4.index t 0 = p.val ∧ win0_4.index t 1 = q.val)

/-- Every block of window 5 is some point's. -/
theorem idx_onto5 : ∀ (p : Fin 64) (q : Fin 1), ∃ t : Fin cfg0.N, win0_5.index t 0 = p.val ∧ win0_5.index t 1 = q.val :=
  (by decide +kernel : ∀ (p : Fin 64) (q : Fin 1), ∃ t : Fin grid0.N, win0_5.index t 0 = p.val ∧ win0_5.index t 1 = q.val)

/-- Window 0's block at a point. -/
abbrev B0 (c : Dev nD) (t : Fin cfg0.N) : FVec Ideal S256x4096 .bf16 := iblk m c 0 t

/-- Window 0's block at a point, read at an index. -/
theorem read_0 (c : Dev nD) (t : Fin cfg0.N) (y : S256x4096.Idx) (i : S16384x4096.Idx)
    (h0 : (i 0).val = win0_0.index t 0 * 256 + (y 0).val) (h1 : (i 1).val = win0_0.index t 1 * 4096 + (y 1).val) :
    B0 m c t y = X1 m c i := by
  show V m c main_v1 (((cfg0.win 0).blk t).view.emb y) = V m c main_v1 i
  refine congrArg _ (funext fun a => Fin.ext ?_)
  match a with
  | ⟨0, _⟩ => show win0_0.index t 0 * 256 + 1 * (y 0).val = (i 0).val; omega
  | ⟨1, _⟩ => show win0_0.index t 1 * 4096 + 1 * (y 1).val = (i 1).val; omega

/-- Window 1's block at a point. -/
abbrev B1 (c : Dev nD) (t : Fin cfg0.N) : FVec Ideal S256x4096 .f32 := iblk m c 1 t

/-- Window 1's block at a point, read at an index. -/
theorem read_1 (c : Dev nD) (t : Fin cfg0.N) (y : S256x4096.Idx) (i : S16384x4096.Idx)
    (h0 : (i 0).val = win0_1.index t 0 * 256 + (y 0).val) (h1 : (i 1).val = win0_1.index t 1 * 4096 + (y 1).val) :
    B1 m c t y = X2 m c i := by
  show V m c main_v2 (((cfg0.win 1).blk t).view.emb y) = V m c main_v2 i
  refine congrArg _ (funext fun a => Fin.ext ?_)
  match a with
  | ⟨0, _⟩ => show win0_1.index t 0 * 256 + 1 * (y 0).val = (i 0).val; omega
  | ⟨1, _⟩ => show win0_1.index t 1 * 4096 + 1 * (y 1).val = (i 1).val; omega

/-- Window 2's block at a point. -/
abbrev B2 (c : Dev nD) (t : Fin cfg0.N) : FVec Ideal S1x4096 .f32 := iblk m c 2 t

/-- Window 2's block at a point, read at an index. -/
theorem read_2 (c : Dev nD) (t : Fin cfg0.N) (y : S1x4096.Idx) (i : S1x4096.Idx)
    (h0 : (i 0).val = win0_2.index t 0 * 1 + (y 0).val) (h1 : (i 1).val = win0_2.index t 1 * 4096 + (y 1).val) :
    B2 m c t y = X3 m c i := by
  show V m c main_v4 (((cfg0.win 2).blk t).view.emb y) = V m c main_v4 i
  refine congrArg _ (funext fun a => Fin.ext ?_)
  match a with
  | ⟨0, _⟩ => show win0_2.index t 0 * 1 + 1 * (y 0).val = (i 0).val; omega
  | ⟨1, _⟩ => show win0_2.index t 1 * 4096 + 1 * (y 1).val = (i 1).val; omega

/-- Window 3's block at a point. -/
abbrev B3 (c : Dev nD) (t : Fin cfg0.N) : FVec Ideal S1x4096 .f32 := iblk m c 3 t

/-- Window 3's block at a point, read at an index. -/
theorem read_3 (c : Dev nD) (t : Fin cfg0.N) (y : S1x4096.Idx) (i : S1x4096.Idx)
    (h0 : (i 0).val = win0_3.index t 0 * 1 + (y 0).val) (h1 : (i 1).val = win0_3.index t 1 * 4096 + (y 1).val) :
    B3 m c t y = X4 m c i := by
  show V m c main_v3 (((cfg0.win 3).blk t).view.emb y) = V m c main_v3 i
  refine congrArg _ (funext fun a => Fin.ext ?_)
  match a with
  | ⟨0, _⟩ => show win0_3.index t 0 * 1 + 1 * (y 0).val = (i 0).val; omega
  | ⟨1, _⟩ => show win0_3.index t 1 * 4096 + 1 * (y 1).val = (i 1).val; omega

/-- A row's normalised entry with its gain, added to the residual: `x` the entry, `q` the row's sum of squares. -/
def cell (h x q g : EReal) : EReal :=
  h + x * Ideal.rsqrt (Ideal.div q (Ideal.ofBits .f32 0x45800000#32) + Ideal.ofBits .f32 0x358637BD#32) * g

/-- The body's result at an index of its block. -/
theorem E_apply (h : Vec Ideal S256x4096 .f32) (x : Vec Ideal S256x4096 .bf16) (g : Vec Ideal S1x4096 .f32) (y : S256x4096.Idx) :
    E4 (F := Ideal) h x g y = cell (h y) (x y) (∑ k : Fin 4096, (x (ix2 (y 0) k) : EReal) * x (ix2 (y 0) k)) (g (ix2 (0 : Fin 1) (y 1))) := by
  unfold E4
  simp only [shapeCast_self]
  have hy : ix4_0 y = y := funext fun a => Fin.ext (by match a with | ⟨0, _⟩ => rfl | ⟨1, _⟩ => rfl)
  have hy' : ix4_1 y = y := hy
  have hg : ix4_3 y = (ix2 (0 : Fin 1) (y 1) : S1x4096.Idx) := funext fun a => Fin.ext (by match a with | ⟨0, _⟩ => rfl | ⟨1, _⟩ => rfl)
  have hk : ∀ k : Fin 4096, reduces_S256x4096_S256.lift (ix4_2 y) k = (ix2 (y 0) k : S256x4096.Idx) := fun k => funext fun a => Fin.ext (by
    match a with | ⟨0, _⟩ => rfl | ⟨1, _⟩ => rfl)
  rw [hy, hy', hg]
  unfold cell
  refine (congrArg (fun q => h y + (x y : EReal) * Ideal.rsqrt (Ideal.div q (Ideal.ofBits .f32 0x45800000#32) + Ideal.ofBits .f32 0x358637BD#32) * g (ix2 (0 : Fin 1) (y 1)))
    ((Ideal.multiReduction_add_single (mulf (extf .f32 x bitsLt_bf16_f32) (extf .f32 x bitsLt_bf16_f32)) 0x00000000#32 reduces_S256x4096_S256 (.inl rfl) rfl (ix4_2 y)).trans
      (Finset.sum_congr rfl fun k _ => ?_) : _ = ∑ k : Fin 4096, (x (ix2 (y 0) k) : EReal) * x (ix2 (y 0) k)))
  show (x (reduces_S256x4096_S256.lift (ix4_2 y) k) : EReal) * x (reduces_S256x4096_S256.lift (ix4_2 y) k) = _
  exact congrArg₂ (fun a b : EReal => a * b) (congrArg x (hk k)) (congrArg x (hk k))

/-- The first result at a row and a column, of the operands. -/
def hrow (c : Dev nD) (r : Fin 16384) (s : Fin 4096) : EReal :=
  cell (X2 m c (ix2 r s)) (X1 m c (ix2 r s)) (∑ k : Fin 4096, X1 m c (ix2 r k) * X1 m c (ix2 r k)) (X3 m c (ix2 (0 : Fin 1) s))

/-- A row's normalised entry with the next gain: `h` the entry, `q` the row's sum of squares. -/
def cell5 (h q g : EReal) : EReal :=
  h * Ideal.rsqrt (Ideal.div q (Ideal.ofBits .f32 0x45800000#32) + Ideal.ofBits .f32 0x358637BD#32) * g

/-- The stored first result at an index of its block. -/
theorem pay1_apply (h : Vec Ideal S256x4096 .f32) (x : Vec Ideal S256x4096 .bf16) (g : Vec Ideal S1x4096 .f32) (y : S256x4096.Idx) :
    k0_pay1 (F := Ideal) x h g y = cell (h y) (x y) (∑ k : Fin 4096, (x (ix2 (y 0) k) : EReal) * x (ix2 (y 0) k)) (g (ix2 (0 : Fin 1) (y 1))) := by
  rw [piece4_0]
  have hy : r0_0.idx y = y := funext fun a => Fin.ext (by
    match a with
    | ⟨0, _⟩ => show 0 + 1 * (y 0).val = (y 0).val; omega
    | ⟨1, _⟩ => show 0 + 1 * (y 1).val = (y 1).val; omega)
  rw [hy]
  exact E_apply h x g y

/-- The second result at an index of its block, of the first. -/
theorem E5_apply (h : Vec Ideal S256x4096 .f32) (x : Vec Ideal S256x4096 .bf16) (g n : Vec Ideal S1x4096 .f32) (y : S256x4096.Idx) :
    E5 (F := Ideal) h x g n y = cell5 (k0_pay1 (F := Ideal) x h g y) (∑ k : Fin 4096, (k0_pay1 (F := Ideal) x h g (ix2 (y 0) k) : EReal) * k0_pay1 (F := Ideal) x h g (ix2 (y 0) k)) (n (ix2 (0 : Fin 1) (y 1))) := by
  have hE : E5 (F := Ideal) h x g n y = FloatOps.truncf .bf16 bitsLt_bf16_f32 (FloatOps.mulf (FloatOps.mulf (E4 (F := Ideal) h x g y) (FloatOps.rsqrt (FloatOps.addf (FloatOps.divf (multiReduction .add [1] S256 (mulf (k0_pay1 (F := Ideal) x h g) (k0_pay1 (F := Ideal) x h g)) 0x00000000#32 reduces_S256x4096_S256 (.inl rfl) rfl (ix5_4 y)) (Scalar.ofBits .f32 0x45800000#32)) (Scalar.ofBits .f32 0x358637BD#32)))) (n (ix5_5 y))) := by
    rw [lay4_0_eq h x g]
    try rfl
  have hg : ix5_5 y = (ix2 (0 : Fin 1) (y 1) : S1x4096.Idx) := funext fun a => Fin.ext (by match a with | ⟨0, _⟩ => rfl | ⟨1, _⟩ => rfl)
  have hk : ∀ k : Fin 4096, reduces_S256x4096_S256.lift (ix5_4 y) k = (ix2 (y 0) k : S256x4096.Idx) := fun k => funext fun a => Fin.ext (by
    match a with | ⟨0, _⟩ => rfl | ⟨1, _⟩ => rfl)
  rw [hE, hg, E_apply, ← pay1_apply]
  generalize k0_pay1 (F := Ideal) x h g = P
  unfold cell5
  refine (congrArg (fun q => (P y : EReal) * Ideal.rsqrt (Ideal.div q (Ideal.ofBits .f32 0x45800000#32) + Ideal.ofBits .f32 0x358637BD#32) * n (ix2 (0 : Fin 1) (y 1)))
    ((Ideal.multiReduction_add_single (mulf P P) 0x00000000#32 reduces_S256x4096_S256 (.inl rfl) rfl (ix5_4 y)).trans
      (Finset.sum_congr rfl fun k _ => ?_) : _ = ∑ k : Fin 4096, (P (ix2 (y 0) k) : EReal) * P (ix2 (y 0) k)))
  show (P (reduces_S256x4096_S256.lift (ix5_4 y) k) : EReal) * P (reduces_S256x4096_S256.lift (ix5_4 y) k) = _
  exact congrArg₂ (fun a b : EReal => a * b) (congrArg P (hk k)) (congrArg P (hk k))

/-- The first output array after the run: the reference's first result of the same arguments. -/
def G (c : Dev nD) : S16384x4096.Idx → Elt Ideal .f32 :=
  Cert.Reference9Ideal.Read.val_main_v27 (F := Ideal) (m ((c : Thread nD τ).loc main_arg0)) (m ((c : Thread nD τ).loc main_arg1)) (m ((c : Thread nD τ).loc main_arg2))

/-- The second output array after the run: the reference's second result of the same arguments. -/
def G5 (c : Dev nD) : S16384x4096.Idx → Elt Ideal .bf16 :=
  Cert.Reference9Ideal.Read.val_main_v29 (F := Ideal) (m ((c : Thread nD τ).loc main_arg0)) (m ((c : Thread nD τ).loc main_arg1)) (m ((c : Thread nD τ).loc main_arg2)) (m ((c : Thread nD τ).loc main_arg3))

/-- The reference's sum with the residual at a row and a column. -/
theorem H_apply (c : Dev nD) (r : Fin 16384) (s : Fin 4096) :
    Cert.Reference9Ideal.Read.val_main_v13 (F := Ideal) (m ((c : Thread nD τ).loc main_arg0)) (m ((c : Thread nD τ).loc main_arg1)) (m ((c : Thread nD τ).loc main_arg2)) (ix3 (⟨r.val / 8192, by have := r.isLt; omega⟩ : Fin 2) (⟨r.val % 8192, by have := r.isLt; omega⟩ : Fin 8192) s : S2x8192x4096.Idx) = hrow m c r s := by
  have hr : r.val < 16384 := r.isLt
  unfold hrow
  simp only [Cert.Reference9Ideal.Read.val_main_v13_apply, Cert.Reference9Ideal.Read.val_main_v12_apply, Cert.Reference9Ideal.Read.val_main_v11_apply, Cert.Reference9Ideal.Read.val_main_v10_apply, Cert.Reference9Ideal.Read.val_main_v9_apply, Cert.Reference9Ideal.Read.val_main_v8_apply, Cert.Reference9Ideal.Read.val_main_v7_apply, Cert.Reference9Ideal.Read.val_main_v6_apply, Cert.Reference9Ideal.Read.val_main_v5_apply, Cert.Reference9Ideal.Read.val_main_v4_apply, Cert.Reference9Ideal.Read.val_main_v3_apply, Cert.Reference9Ideal.Read.val_main_v2_apply, Cert.Reference9Ideal.Read.val_main_v1_apply, Cert.Reference9Ideal.Read.val_main_v0_apply, Cert.Reference9Ideal.Read.val_main_cst_apply, Cert.Reference9Ideal.Read.val_main_cst_0_apply, Cert.Reference9Ideal.Read.val_main_cst_1_apply]
  rw [X2_apply, X1_apply, X3_apply]
  unfold cell
  show _ + _ * Ideal.rsqrt (Ideal.div (Ideal.ofBits .f32 0x00000000#32 + _) _ + _) * _ = _
  rw [show Ideal.ofBits .f32 0x00000000#32 = 0 from by simp [Ideal.ofBits, Ideal.ieee], zero_add]
  refine congrArg₂ (· + ·) rfl (congrArg₂ (· * ·) (congrArg₂ (· * ·) rfl (congrArg (fun q => Ideal.rsqrt (Ideal.div q (Ideal.ofBits .f32 0x45800000#32) + Ideal.ofBits .f32 0x358637BD#32)) (Finset.sum_congr rfl fun k _ => ?_))) ?_)
  · have hk : Cert.Reference9Ideal.Read.idx_main_v1 (Cert.Reference9Ideal.Read.idx_main_v2 (Cert.Reference9Ideal.Read.idx_main_v8 (ix3 (⟨r.val / 8192, by omega⟩ : Fin 2) (⟨r.val % 8192, by omega⟩ : Fin 8192) s : S2x8192x4096.Idx))) k = (ix3 (⟨r.val / 8192, by omega⟩ : Fin 2) (⟨r.val % 8192, by omega⟩ : Fin 8192) k : S2x8192x4096.Idx) := funext fun a => Fin.ext (by
      match a with
      | ⟨0, _⟩ => rfl
      | ⟨1, _⟩ => rfl
      | ⟨2, _⟩ => rfl)
    rw [hk, X1_apply]
    rfl
  · exact congrArg (m ((c : Thread nD τ).loc main_arg2)) (funext fun a => Fin.ext (by match a with | ⟨0, _⟩ => rfl))

/-- `G` at a row and a column. -/
theorem G_apply (c : Dev nD) (r : Fin 16384) (s : Fin 4096) : G m c (ix2 r s) = hrow m c r s := by
  have hr : r.val < 16384 := r.isLt
  have hs : s.val < 4096 := s.isLt
  have hi : Cert.Reference9Ideal.Read.idx_main_v27 (ix2 r s) = (ix3 (⟨r.val / 8192, by omega⟩ : Fin 2) (⟨r.val % 8192, by omega⟩ : Fin 8192) s : S2x8192x4096.Idx) := funext fun a => Fin.ext (by
    match a with
    | ⟨0, _⟩ => show (r.val * 4096 + s.val) / 33554432 = r.val / 8192; omega
    | ⟨1, _⟩ => show (r.val * 4096 + s.val) / 4096 % 8192 = r.val % 8192; omega
    | ⟨2, _⟩ => show (r.val * 4096 + s.val) % 4096 = s.val; omega)
  unfold G
  rw [Cert.Reference9Ideal.Read.val_main_v27_apply, hi]
  exact H_apply m c r s

/-- `G5` at a row and a column. -/
theorem G5_apply (c : Dev nD) (r : Fin 16384) (s : Fin 4096) :
    G5 m c (ix2 r s) = cell5 (hrow m c r s) (∑ k : Fin 4096, hrow m c r k * hrow m c r k) (X4 m c (ix2 (0 : Fin 1) s)) := by
  have hr : r.val < 16384 := r.isLt
  have hs : s.val < 4096 := s.isLt
  have hi : Cert.Reference9Ideal.Read.idx_main_v28 (ix2 r s) = (ix3 (⟨r.val / 8192, by omega⟩ : Fin 2) (⟨r.val % 8192, by omega⟩ : Fin 8192) s : S2x8192x4096.Idx) := funext fun a => Fin.ext (by
    match a with
    | ⟨0, _⟩ => show (r.val * 4096 + s.val) / 33554432 = r.val / 8192; omega
    | ⟨1, _⟩ => show (r.val * 4096 + s.val) / 4096 % 8192 = r.val % 8192; omega
    | ⟨2, _⟩ => show (r.val * 4096 + s.val) % 4096 = s.val; omega)
  unfold G5
  rw [Cert.Reference9Ideal.Read.val_main_v29_apply, Ideal.truncf_def, Cert.Reference9Ideal.Read.val_main_v28_apply, hi]
  simp only [Cert.Reference9Ideal.Read.val_main_v26_apply, Cert.Reference9Ideal.Read.val_main_v25_apply, Cert.Reference9Ideal.Read.val_main_v24_apply, Cert.Reference9Ideal.Read.val_main_v23_apply, Cert.Reference9Ideal.Read.val_main_v22_apply, Cert.Reference9Ideal.Read.val_main_v21_apply, Cert.Reference9Ideal.Read.val_main_v20_apply, Cert.Reference9Ideal.Read.val_main_v19_apply, Cert.Reference9Ideal.Read.val_main_v18_apply, Cert.Reference9Ideal.Read.val_main_v17_apply, Cert.Reference9Ideal.Read.val_main_v16_apply, Cert.Reference9Ideal.Read.val_main_v15_apply, Cert.Reference9Ideal.Read.val_main_v14_apply, Cert.Reference9Ideal.Read.val_main_cst_2_apply, Cert.Reference9Ideal.Read.val_main_cst_3_apply, Cert.Reference9Ideal.Read.val_main_cst_4_apply]
  rw [H_apply, X4_apply]
  unfold cell5
  show _ * Ideal.rsqrt (Ideal.div (Ideal.ofBits .f32 0x00000000#32 + _) _ + _) * _ = _
  rw [show Ideal.ofBits .f32 0x00000000#32 = 0 from by simp [Ideal.ofBits, Ideal.ieee], zero_add]
  refine congrArg₂ (· * ·) (congrArg₂ (· * ·) rfl (congrArg (fun q => Ideal.rsqrt (Ideal.div q (Ideal.ofBits .f32 0x45800000#32) + Ideal.ofBits .f32 0x358637BD#32)) (Finset.sum_congr rfl fun k _ => ?_))) ?_
  · have hk : Cert.Reference9Ideal.Read.idx_main_v15 (Cert.Reference9Ideal.Read.idx_main_v16 (Cert.Reference9Ideal.Read.idx_main_v22 (ix3 (⟨r.val / 8192, by omega⟩ : Fin 2) (⟨r.val % 8192, by omega⟩ : Fin 8192) s : S2x8192x4096.Idx))) k = (ix3 (⟨r.val / 8192, by omega⟩ : Fin 2) (⟨r.val % 8192, by omega⟩ : Fin 8192) k : S2x8192x4096.Idx) := funext fun a => Fin.ext (by
      match a with
      | ⟨0, _⟩ => rfl
      | ⟨1, _⟩ => rfl
      | ⟨2, _⟩ => rfl)
    rw [hk, H_apply]
    rfl
  · exact congrArg (m ((c : Thread nD τ).loc main_arg3)) (funext fun a => Fin.ext (by match a with | ⟨0, _⟩ => rfl))

theorem hb (t : Fin cfg0.N) : win0_4.index t 0 < 64 := by
  obtain ⟨e0, e1, e2, e3, e4, e5, e6, e7, e8, e9, l0, l1⟩ := idx_facts t
  exact l0

/-- The stored first result at a point is the first result's rows of that point. -/
theorem point_eq (c : Dev nD) (t : Fin cfg0.N) (y : S256x4096.Idx) (r : Fin 16384) (s : Fin 4096)
    (hr : r.val = win0_4.index t 0 * 256 + (y 0).val) (hs : s.val = (y 1).val) :
    k0_pay1 (F := Ideal) (iblk m c 0 t) (iblk m c 1 t) (iblk m c 2 t) y = hrow m c r s := by
  obtain ⟨e0, e1, e2, e3, e4, e5, e6, e7, e8, e9, l0, l1⟩ := idx_facts t
  have hy0 : (y 0).val < 256 := (y 0).isLt
  have hy1 : (y 1).val < 4096 := (y 1).isLt
  refine (pay1_apply _ _ _ y).trans ?_
  have h2 : B1 m c t y = X2 m c (ix2 r s) :=
    read_1 m c t _ _ (by show r.val = win0_1.index t 0 * 256 + (y 0).val; omega) (by show s.val = win0_1.index t 1 * 4096 + (y 1).val; omega)
  have h1 : B0 m c t y = X1 m c (ix2 r s) :=
    read_0 m c t _ _ (by show r.val = win0_0.index t 0 * 256 + (y 0).val; omega) (by show s.val = win0_0.index t 1 * 4096 + (y 1).val; omega)
  have h3 : B2 m c t (ix2 (0 : Fin 1) (y 1)) = X3 m c (ix2 (0 : Fin 1) s) :=
    read_2 m c t _ _ (by show 0 = win0_2.index t 0 * 1 + 0; omega) (by show s.val = win0_2.index t 1 * 4096 + (y 1).val; omega)
  have hq : (∑ k : Fin 4096, B0 m c t (ix2 (y 0) k) * B0 m c t (ix2 (y 0) k)) = ∑ k : Fin 4096, X1 m c (ix2 r k) * X1 m c (ix2 r k) := by
    refine Finset.sum_congr rfl fun k _ => ?_
    have hk : k.val < 4096 := k.isLt
    rw [read_0 m c t _ (ix2 r k) (by show r.val = win0_0.index t 0 * 256 + (y 0).val; omega) (by show k.val = win0_0.index t 1 * 4096 + k.val; omega)]
  show cell (B1 m c t y) (B0 m c t y) (∑ k : Fin 4096, B0 m c t (ix2 (y 0) k) * B0 m c t (ix2 (y 0) k)) (B2 m c t (ix2 (0 : Fin 1) (y 1))) = _
  rw [h1, h2, h3, hq]
  rfl

/-- What a point writes back to the first array is its block of `G`. -/
theorem flushed_eq (c : Dev nD) (t : Fin cfg0.N) :
    (dats m 0 c).flushed 4 t = ((cfg0.win 4).blk t).view.read (Elt Ideal) (G m c) := by
  obtain ⟨e0, e1, e2, e3, e4, e5, e6, e7, e8, e9, l0, l1⟩ := idx_facts t
  rw [flushed4]
  funext y
  have hy0 : (y 0).val < 256 := (y 0).isLt
  have hy1 : (y 1).val < 4096 := (y 1).isLt
  show out0_4 (iblk m c 0 t) (iblk m c 1 t) (iblk m c 2 t) (iblk m c 3 t) y = G m c (((cfg0.win 4).blk t).view.emb y)
  unfold out0_4
  rw [View.ld_unit_zero zz, View.ld_unit_zero zz, View.ld_unit_zero zz]
  refine (canon4_eq _ _ _ _).trans ?_
  rw [E_apply, ← pay1_apply]
  have hj : ((cfg0.win 4).blk t).view.emb y = (ix2 (⟨win0_4.index t 0 * 256 + (y 0).val, by omega⟩ : Fin 16384) (⟨win0_4.index t 1 * 4096 + (y 1).val, by omega⟩ : Fin 4096) : S16384x4096.Idx) := by
    funext a; refine Fin.ext ?_
    match a with
    | ⟨0, _⟩ => show win0_4.index t 0 * 256 + 1 * (y 0).val = win0_4.index t 0 * 256 + (y 0).val; omega
    | ⟨1, _⟩ => show win0_4.index t 1 * 4096 + 1 * (y 1).val = win0_4.index t 1 * 4096 + (y 1).val; omega
  rw [hj]
  rw [G_apply]
  exact point_eq m c t y _ _ rfl (by show win0_4.index t 1 * 4096 + (y 1).val = (y 1).val; omega)

/-- What a point writes back to the second array is its block of `G5`. -/
theorem flushed_eq5 (c : Dev nD) (t : Fin cfg0.N) :
    (dats m 0 c).flushed 5 t = ((cfg0.win 5).blk t).view.read (Elt Ideal) (G5 m c) := by
  obtain ⟨e0, e1, e2, e3, e4, e5, e6, e7, e8, e9, l0, l1⟩ := idx_facts t
  rw [flushed5]
  funext y
  have hy0 : (y 0).val < 256 := (y 0).isLt
  have hy1 : (y 1).val < 4096 := (y 1).isLt
  show out0_5 (iblk m c 0 t) (iblk m c 1 t) (iblk m c 2 t) (iblk m c 3 t) y = G5 m c (((cfg0.win 5).blk t).view.emb y)
  unfold out0_5
  rw [View.ld_unit_zero zz, View.ld_unit_zero zz, View.ld_unit_zero zz, View.ld_unit_zero zz]
  refine (canon5_eq _ _ _ _ _).trans ?_
  rw [E5_apply]
  have hj : ((cfg0.win 5).blk t).view.emb y = (ix2 (⟨win0_5.index t 0 * 256 + (y 0).val, by omega⟩ : Fin 16384) (⟨win0_5.index t 1 * 4096 + (y 1).val, by omega⟩ : Fin 4096) : S16384x4096.Idx) := by
    funext a; refine Fin.ext ?_
    match a with
    | ⟨0, _⟩ => show win0_5.index t 0 * 256 + 1 * (y 0).val = win0_5.index t 0 * 256 + (y 0).val; omega
    | ⟨1, _⟩ => show win0_5.index t 1 * 4096 + 1 * (y 1).val = win0_5.index t 1 * 4096 + (y 1).val; omega
  rw [hj]
  rw [G5_apply]
  have hp : k0_pay1 (F := Ideal) (iblk m c 0 t) (iblk m c 1 t) (iblk m c 2 t) y = hrow m c (⟨win0_5.index t 0 * 256 + (y 0).val, by omega⟩ : Fin 16384) (⟨win0_5.index t 1 * 4096 + (y 1).val, by omega⟩ : Fin 4096) :=
    point_eq m c t y _ _ (by show win0_5.index t 0 * 256 + (y 0).val = _; omega) (by show win0_5.index t 1 * 4096 + (y 1).val = (y 1).val; omega)
  have hq : (∑ k : Fin 4096, (k0_pay1 (F := Ideal) (iblk m c 0 t) (iblk m c 1 t) (iblk m c 2 t) (ix2 (y 0) k) : EReal) * k0_pay1 (F := Ideal) (iblk m c 0 t) (iblk m c 1 t) (iblk m c 2 t) (ix2 (y 0) k))
      = ∑ k : Fin 4096, hrow m c (⟨win0_5.index t 0 * 256 + (y 0).val, by omega⟩ : Fin 16384) k * hrow m c (⟨win0_5.index t 0 * 256 + (y 0).val, by omega⟩ : Fin 16384) k := by
    refine Finset.sum_congr rfl fun k _ => ?_
    rw [point_eq m c t (ix2 (y 0) k) (⟨win0_5.index t 0 * 256 + (y 0).val, by omega⟩ : Fin 16384) k (by show win0_5.index t 0 * 256 + (y 0).val = win0_4.index t 0 * 256 + (y 0).val; omega) rfl]
  have h4 : B3 m c t (ix2 (0 : Fin 1) (y 1)) = X4 m c (ix2 (0 : Fin 1) (⟨win0_5.index t 1 * 4096 + (y 1).val, by omega⟩ : Fin 4096)) :=
    read_3 m c t _ _ (by show 0 = win0_3.index t 0 * 1 + 0; omega) (by show win0_5.index t 1 * 4096 + (y 1).val = win0_3.index t 1 * 4096 + (y 1).val; omega)
  show cell5 (k0_pay1 (F := Ideal) (iblk m c 0 t) (iblk m c 1 t) (iblk m c 2 t) y) (∑ k : Fin 4096, (k0_pay1 (F := Ideal) (iblk m c 0 t) (iblk m c 1 t) (iblk m c 2 t) (ix2 (y 0) k) : EReal) * k0_pay1 (F := Ideal) (iblk m c 0 t) (iblk m c 1 t) (iblk m c 2 t) (ix2 (y 0) k)) (B3 m c t (ix2 (0 : Fin 1) (y 1))) = _
  rw [hp, hq, h4]

theorem mem_blk (t : Fin cfg0.N) (i : S16384x4096.Idx) :
    i ∈ ((cfg0.win 4).blk t).view.set ↔ ∀ a, win0_4.index t a * S256x4096.size a ≤ (i a).val ∧ (i a).val < win0_4.index t a * S256x4096.size a + S256x4096.size a := by
  show i ∈ ((View.whole main_v5_0).slice (win0_4.rect t)).set ↔ _
  rw [View.set_slice_whole, Rect.mem_set_unit]

/-- The array after the run is `G`. -/
theorem final (c : Dev nD) : (dats m 0 c).arrAt 4 cfg0.N = G m c := by
  refine (dats m 0 c).arrAt_eq_of_cover 4 (G m c) (fun t _ => flushed_eq m c t) fun i => ?_
  have h0 : (i 0).val < 16384 := (i 0).isLt
  have h1 : (i 1).val < 4096 := (i 1).isLt
  obtain ⟨t, e0, e1⟩ := idx_onto ⟨(i 0).val / 256, by omega⟩ ⟨(i 1).val / 4096, by omega⟩
  have e0' : win0_4.index t 0 = (i 0).val / 256 := e0
  have e1' : win0_4.index t 1 = (i 1).val / 4096 := e1
  refine ⟨t, flush0_4 t, (mem_blk t i).mpr fun a => ?_⟩
  match a with
  | ⟨0, _⟩ => show win0_4.index t 0 * 256 ≤ (i 0).val ∧ (i 0).val < win0_4.index t 0 * 256 + 256; omega
  | ⟨1, _⟩ => show win0_4.index t 1 * 4096 ≤ (i 1).val ∧ (i 1).val < win0_4.index t 1 * 4096 + 4096; omega

theorem mem_blk5 (t : Fin cfg0.N) (i : S16384x4096.Idx) :
    i ∈ ((cfg0.win 5).blk t).view.set ↔ ∀ a, win0_5.index t a * S256x4096.size a ≤ (i a).val ∧ (i a).val < win0_5.index t a * S256x4096.size a + S256x4096.size a := by
  show i ∈ ((View.whole main_v5_1).slice (win0_5.rect t)).set ↔ _
  rw [View.set_slice_whole, Rect.mem_set_unit]

/-- The array after the run is `G5`. -/
theorem final5 (c : Dev nD) : (dats m 0 c).arrAt 5 cfg0.N = G5 m c := by
  refine (dats m 0 c).arrAt_eq_of_cover 5 (G5 m c) (fun t _ => flushed_eq5 m c t) fun i => ?_
  have h0 : (i 0).val < 16384 := (i 0).isLt
  have h1 : (i 1).val < 4096 := (i 1).isLt
  obtain ⟨t, e0, e1⟩ := idx_onto5 ⟨(i 0).val / 256, by omega⟩ ⟨(i 1).val / 4096, by omega⟩
  have e0' : win0_5.index t 0 = (i 0).val / 256 := e0
  have e1' : win0_5.index t 1 = (i 1).val / 4096 := e1
  refine ⟨t, flush0_5 t, (mem_blk5 t i).mpr fun a => ?_⟩
  match a with
  | ⟨0, _⟩ => show win0_5.index t 0 * 256 ≤ (i 0).val ∧ (i 0).val < win0_5.index t 0 * 256 + 256; omega
  | ⟨1, _⟩ => show win0_5.index t 1 * 4096 ≤ (i 1).val ∧ (i 1).val < win0_5.index t 1 * 4096 + 4096; omega

/-- The call over the reals and the reference leave the same arrays. -/
theorem algebraic : Cert.algebraic_Kernel9Ideal_Reference9Ideal (hKernel9Ideal := Cert.Kernel9Ideal.Gen.facts) (hReference9Ideal := Cert.Reference9Ideal.Gen.facts) := by
  intro m g m' g' _ hargs
  refine ⟨fun c => G m c, fun c => G5 m c, ?_, ?_⟩
  · refine (θ_run _ _ _).mono (fun r h c => ?_) (run_blocks (F := Ideal) m g)
    obtain ⟨h0, h1, h2⟩ := h c
    exact ⟨h0.trans (final m c), h1.trans (final5 m c), h2⟩
  · refine (θ_run _ _ _).mono (fun r h c => ?_) (Cert.Reference9Ideal.Value.run (F := Ideal) m' g')
    obtain ⟨a0, a1, a2, a3⟩ := hargs c
    obtain ⟨h0, h1, h2⟩ := h c
    refine ⟨h0.trans ?_, h1.trans ?_, h2⟩
    · rw [a0, a1, a2]; rfl
    · rw [a0, a1, a2, a3]; rfl

end Cert.Kernel9Ideal.Hand

end
-- ==== Proof.Val10.lean ====
/- The first normalisation: what the call leaves in its output array. -/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Mm
public import proofs.«01_k».proof.Defs
public import Idealize.ShloMosaic.Lib.ValueLayout

@[expose] public section

set_option maxRecDepth 16384

noncomputable section

namespace Cert.Kernel10Ideal.Hand

open Cert.Kernel10Ideal Cert.Kernel10Ideal.Gen Cert.Kernel10Ideal.Value Cert.Proof.Mm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zz : (![0, 0] : Fin 2 → Nat) = fun _ => 0 := by funext a; match a with | ⟨0, _⟩ => rfl | ⟨1, _⟩ => rfl

theorem zzz : (![0, 0, 0] : Fin 3 → Nat) = fun _ => 0 := by funext a; match a with | ⟨0, _⟩ => rfl | ⟨1, _⟩ => rfl | ⟨2, _⟩ => rfl

/-- Operand 1 as the launch finds it. -/
abbrev X1 (c : Dev nD) : FVec Ideal S16384x4096 .f32 := V (F := Ideal) m c main_v0

/-- That operand is the argument with its two leading axes joined. -/
theorem V_main_v0 (c : Dev nD) : V (F := Ideal) m c main_v0 = (shapeCast S16384x4096 (m ((c : Thread nD τ).loc main_arg0) : FVec Ideal S2x8192x4096 .f32) shapeCasts_S2x8192x4096_S16384x4096 : FVec Ideal S16384x4096 .f32) := by
  show StableHlo.after hostOps0 (fun b => m (c, b)) main_v0 = _
  after_results <;> rfl

theorem X1_apply (c : Dev nD) (r : Fin 16384) (q : Fin 4096) : X1 m c (ix2 r q)
    = (m ((c : Thread nD τ).loc main_arg0)) (ix3 (⟨r.val / 8192, by have := r.isLt; omega⟩ : Fin 2) (⟨r.val % 8192, by omega⟩ : Fin 8192) q) := by
  unfold X1
  rw [V_main_v0]
  exact join_apply (m ((c : Thread nD τ).loc main_arg0)) _ r q _ _ (by show r.val = r.val / 8192 * 8192 + r.val % 8192; omega)

/-- A position of a vector. -/
abbrev one (s : Fin 4096) : S4096.Idx := fun a => match a with | ⟨0, _⟩ => s

/-- Operand 2 as the launch finds it. -/
abbrev X2 (c : Dev nD) : FVec Ideal S1x4096 .f32 := V (F := Ideal) m c main_v1

/-- The gain is the argument as one row. -/
theorem V_main_v1 (c : Dev nD) : V (F := Ideal) m c main_v1 = (shapeCast S1x4096 ((m ((c : Thread nD τ).loc main_arg1)) : FVec Ideal S4096 .f32) shapeCasts_S4096_S1x4096 : FVec Ideal S1x4096 .f32) := by
  show StableHlo.after hostOps0 (fun b => m (c, b)) main_v1 = _
  after_results <;> rfl

theorem X2_apply (c : Dev nD) (s : Fin 4096) : X2 m c (ix2 (0 : Fin 1) s) = (m ((c : Thread nD τ).loc main_arg1)) (one s) := by
  unfold X2
  rw [V_main_v1]
  exact shapeCast_apply (s := S4096) ((m ((c : Thread nD τ).loc main_arg1)) : FVec Ideal S4096 .f32) _ _ (one s) (by show (S4096.rowMajor (one s)).val = (S1x4096.rowMajor (ix2 (0 : Fin 1) s)).val; rw [Shape.rowMajor_val_one, Shape.rowMajor_val_two]; show s.val = 0 * 4096 + s.val; omega)

/-- The windows' block indices, point by point. -/
theorem idx_facts : ∀ t : Fin cfg0.N, win0_0.index t 0 = win0_2.index t 0 ∧ win0_0.index t 1 = 0 ∧ win0_1.index t 0 = 0 ∧ win0_1.index t 1 = 0 ∧ win0_2.index t 0 < 64 ∧ win0_2.index t 1 = 0 :=
  (by decide +kernel : ∀ t : Fin grid0.N, win0_0.index t 0 = win0_2.index t 0 ∧ win0_0.index t 1 = 0 ∧ win0_1.index t 0 = 0 ∧ win0_1.index t 1 = 0 ∧ win0_2.index t 0 < 64 ∧ win0_2.index t 1 = 0)

/-- Every block of window 2 is some point's. -/
theorem idx_onto : ∀ (p : Fin 64) (q : Fin 1), ∃ t : Fin cfg0.N, win0_2.index t 0 = p.val ∧ win0_2.index t 1 = q.val :=
  (by decide +kernel : ∀ (p : Fin 64) (q : Fin 1), ∃ t : Fin grid0.N, win0_2.index t 0 = p.val ∧ win0_2.index t 1 = q.val)

/-- Window 0's block at a point. -/
abbrev B0 (c : Dev nD) (t : Fin cfg0.N) : FVec Ideal S256x4096 .f32 := iblk m c 0 t

/-- Window 0's block at a point, read at an index. -/
theorem read_0 (c : Dev nD) (t : Fin cfg0.N) (y : S256x4096.Idx) (i : S16384x4096.Idx)
    (h0 : (i 0).val = win0_0.index t 0 * 256 + (y 0).val) (h1 : (i 1).val = win0_0.index t 1 * 4096 + (y 1).val) :
    B0 m c t y = X1 m c i := by
  show V m c main_v0 (((cfg0.win 0).blk t).view.emb y) = V m c main_v0 i
  refine congrArg _ (funext fun a => Fin.ext ?_)
  match a with
  | ⟨0, _⟩ => show win0_0.index t 0 * 256 + 1 * (y 0).val = (i 0).val; omega
  | ⟨1, _⟩ => show win0_0.index t 1 * 4096 + 1 * (y 1).val = (i 1).val; omega

/-- Window 1's block at a point. -/
abbrev B1 (c : Dev nD) (t : Fin cfg0.N) : FVec Ideal S1x4096 .f32 := iblk m c 1 t

/-- Window 1's block at a point, read at an index. -/
theorem read_1 (c : Dev nD) (t : Fin cfg0.N) (y : S1x4096.Idx) (i : S1x4096.Idx)
    (h0 : (i 0).val = win0_1.index t 0 * 1 + (y 0).val) (h1 : (i 1).val = win0_1.index t 1 * 4096 + (y 1).val) :
    B1 m c t y = X2 m c i := by
  show V m c main_v1 (((cfg0.win 1).blk t).view.emb y) = V m c main_v1 i
  refine congrArg _ (funext fun a => Fin.ext ?_)
  match a with
  | ⟨0, _⟩ => show win0_1.index t 0 * 1 + 1 * (y 0).val = (i 0).val; omega
  | ⟨1, _⟩ => show win0_1.index t 1 * 4096 + 1 * (y 1).val = (i 1).val; omega

/-- A row's normalised entry with its gain: `x` the entry, `q` the row's sum of squares. -/
def cell (x q g : EReal) : EReal :=
  x * Ideal.rsqrt (Ideal.div q (Ideal.ofBits .f32 0x45800000#32) + Ideal.ofBits .f32 0x358637BD#32) * g

/-- The body's result at an index of its block. -/
theorem E_apply (x : Vec Ideal S256x4096 .f32) (g : Vec Ideal S1x4096 .f32) (y : S256x4096.Idx) :
    E2 (F := Ideal) x g y = cell (x y) (∑ k : Fin 4096, (x (ix2 (y 0) k) : EReal) * x (ix2 (y 0) k)) (g (ix2 (0 : Fin 1) (y 1))) := by
  unfold E2
  simp only [shapeCast_self]
  have hy : ix2_0 y = y := funext fun a => Fin.ext (by match a with | ⟨0, _⟩ => rfl | ⟨1, _⟩ => rfl)
  have hg : ix2_2 y = (ix2 (0 : Fin 1) (y 1) : S1x4096.Idx) := funext fun a => Fin.ext (by match a with | ⟨0, _⟩ => rfl | ⟨1, _⟩ => rfl)
  have hk : ∀ k : Fin 4096, reduces_S256x4096_S256.lift (ix2_1 y) k = (ix2 (y 0) k : S256x4096.Idx) := fun k => funext fun a => Fin.ext (by
    match a with | ⟨0, _⟩ => rfl | ⟨1, _⟩ => rfl)
  rw [hy, hg]
  unfold cell
  refine (congrArg (fun q => (x y : EReal) * Ideal.rsqrt (Ideal.div q (Ideal.ofBits .f32 0x45800000#32) + Ideal.ofBits .f32 0x358637BD#32) * g (ix2 (0 : Fin 1) (y 1)))
    ((Ideal.multiReduction_add_single (mulf x x) 0x00000000#32 reduces_S256x4096_S256 (.inl rfl) rfl (ix2_1 y)).trans
      (Finset.sum_congr rfl fun k _ => ?_) : _ = ∑ k : Fin 4096, (x (ix2 (y 0) k) : EReal) * x (ix2 (y 0) k)))
  show (x (reduces_S256x4096_S256.lift (ix2_1 y) k) : EReal) * x (reduces_S256x4096_S256.lift (ix2_1 y) k) = _
  exact congrArg₂ (fun a b : EReal => a * b) (congrArg x (hk k)) (congrArg x (hk k))

/-- The output array after the run: the reference's result of the same arguments. -/
def G (c : Dev nD) : S16384x4096.Idx → Elt Ideal .bf16 :=
  Cert.Reference10Ideal.Read.val_main_v14 (F := Ideal) (m ((c : Thread nD τ).loc main_arg0)) (m ((c : Thread nD τ).loc main_arg1))

/-- `G` at a row and a column. -/
theorem G_apply (c : Dev nD) (r : Fin 16384) (s : Fin 4096) :
    G m c (ix2 r s) = cell (X1 m c (ix2 r s)) (∑ k : Fin 4096, X1 m c (ix2 r k) * X1 m c (ix2 r k)) (X2 m c (ix2 (0 : Fin 1) s)) := by
  have hr : r.val < 16384 := r.isLt
  have hs : s.val < 4096 := s.isLt
  have hi : Cert.Reference10Ideal.Read.idx_main_v13 (ix2 r s) = (ix3 (⟨r.val / 8192, by omega⟩ : Fin 2) (⟨r.val % 8192, by omega⟩ : Fin 8192) s : S2x8192x4096.Idx) := funext fun a => Fin.ext (by
    match a with
    | ⟨0, _⟩ => show (r.val * 4096 + s.val) / 33554432 = r.val / 8192; omega
    | ⟨1, _⟩ => show (r.val * 4096 + s.val) / 4096 % 8192 = r.val % 8192; omega
    | ⟨2, _⟩ => show (r.val * 4096 + s.val) % 4096 = s.val; omega)
  unfold G
  rw [Cert.Reference10Ideal.Read.val_main_v14_apply, Ideal.truncf_def, Cert.Reference10Ideal.Read.val_main_v13_apply, hi]
  simp only [Cert.Reference10Ideal.Read.val_main_v12_apply, Cert.Reference10Ideal.Read.val_main_v11_apply, Cert.Reference10Ideal.Read.val_main_v10_apply, Cert.Reference10Ideal.Read.val_main_v9_apply, Cert.Reference10Ideal.Read.val_main_v8_apply, Cert.Reference10Ideal.Read.val_main_v7_apply, Cert.Reference10Ideal.Read.val_main_v6_apply, Cert.Reference10Ideal.Read.val_main_v5_apply, Cert.Reference10Ideal.Read.val_main_v4_apply, Cert.Reference10Ideal.Read.val_main_v3_apply, Cert.Reference10Ideal.Read.val_main_v2_apply, Cert.Reference10Ideal.Read.val_main_v1_apply, Cert.Reference10Ideal.Read.val_main_v0_apply, Cert.Reference10Ideal.Read.val_main_cst_apply, Cert.Reference10Ideal.Read.val_main_cst_0_apply, Cert.Reference10Ideal.Read.val_main_cst_1_apply]
  rw [X1_apply, X2_apply]
  unfold cell
  show _ * Ideal.rsqrt (Ideal.div (Ideal.ofBits .f32 0x00000000#32 + _) _ + _) * _ = _
  rw [show Ideal.ofBits .f32 0x00000000#32 = 0 from by simp [Ideal.ofBits, Ideal.ieee], zero_add]
  refine congrArg₂ (· * ·) (congrArg₂ (· * ·) rfl (congrArg (fun q => Ideal.rsqrt (Ideal.div q (Ideal.ofBits .f32 0x45800000#32) + Ideal.ofBits .f32 0x358637BD#32)) (Finset.sum_congr rfl fun k _ => ?_))) ?_
  · have hk : Cert.Reference10Ideal.Read.idx_main_v1 (Cert.Reference10Ideal.Read.idx_main_v2 (Cert.Reference10Ideal.Read.idx_main_v8 (ix3 (⟨r.val / 8192, by omega⟩ : Fin 2) (⟨r.val % 8192, by omega⟩ : Fin 8192) s : S2x8192x4096.Idx))) k = (ix3 (⟨r.val / 8192, by omega⟩ : Fin 2) (⟨r.val % 8192, by omega⟩ : Fin 8192) k : S2x8192x4096.Idx) := funext fun a => Fin.ext (by
      match a with
      | ⟨0, _⟩ => rfl
      | ⟨1, _⟩ => rfl
      | ⟨2, _⟩ => rfl)
    rw [hk, X1_apply]
    rfl
  · exact congrArg (m ((c : Thread nD τ).loc main_arg1)) (funext fun a => Fin.ext (by match a with | ⟨0, _⟩ => rfl))

/-- What a point writes back is its block of `G`. -/
theorem flushed_eq (c : Dev nD) (t : Fin cfg0.N) :
    (dats m 0 c).flushed 2 t = ((cfg0.win 2).blk t).view.read (Elt Ideal) (G m c) := by
  obtain ⟨e0, e1, e2, e3, l0, l1⟩ := idx_facts t
  rw [flushed2]
  funext y
  have hy0 : (y 0).val < 256 := (y 0).isLt
  have hy1 : (y 1).val < 4096 := (y 1).isLt
  show out0_2 (iblk m c 0 t) (iblk m c 1 t) y = G m c (((cfg0.win 2).blk t).view.emb y)
  unfold out0_2
  rw [View.ld_unit_zero zz, View.ld_unit_zero zz]
  refine (canon2_eq _ _ _).trans ?_
  rw [E_apply]
  have hj : ((cfg0.win 2).blk t).view.emb y = (ix2 (⟨win0_2.index t 0 * 256 + (y 0).val, by omega⟩ : Fin 16384) (⟨win0_2.index t 1 * 4096 + (y 1).val, by omega⟩ : Fin 4096) : S16384x4096.Idx) := by
    funext a; refine Fin.ext ?_
    match a with
    | ⟨0, _⟩ => show win0_2.index t 0 * 256 + 1 * (y 0).val = win0_2.index t 0 * 256 + (y 0).val; omega
    | ⟨1, _⟩ => show win0_2.index t 1 * 4096 + 1 * (y 1).val = win0_2.index t 1 * 4096 + (y 1).val; omega
  rw [hj]
  rw [G_apply]
  have h1 : B0 m c t y = X1 m c (ix2 (⟨win0_2.index t 0 * 256 + (y 0).val, by omega⟩ : Fin 16384) (⟨win0_2.index t 1 * 4096 + (y 1).val, by omega⟩ : Fin 4096)) :=
    read_0 m c t _ _ (by show win0_2.index t 0 * 256 + (y 0).val = win0_0.index t 0 * 256 + (y 0).val; omega) (by show win0_2.index t 1 * 4096 + (y 1).val = win0_0.index t 1 * 4096 + (y 1).val; omega)
  have h3 : B1 m c t (ix2 (0 : Fin 1) (y 1)) = X2 m c (ix2 (0 : Fin 1) (⟨win0_2.index t 1 * 4096 + (y 1).val, by omega⟩ : Fin 4096)) :=
    read_1 m c t _ _ (by show 0 = win0_1.index t 0 * 1 + 0; omega) (by show win0_2.index t 1 * 4096 + (y 1).val = win0_1.index t 1 * 4096 + (y 1).val; omega)
  have hq : (∑ k : Fin 4096, B0 m c t (ix2 (y 0) k) * B0 m c t (ix2 (y 0) k)) = ∑ k : Fin 4096, X1 m c (ix2 (⟨win0_2.index t 0 * 256 + (y 0).val, by omega⟩ : Fin 16384) k) * X1 m c (ix2 (⟨win0_2.index t 0 * 256 + (y 0).val, by omega⟩ : Fin 16384) k) := by
    refine Finset.sum_congr rfl fun k _ => ?_
    have hk : k.val < 4096 := k.isLt
    rw [read_0 m c t _ (ix2 (⟨win0_2.index t 0 * 256 + (y 0).val, by omega⟩ : Fin 16384) k) (by show win0_2.index t 0 * 256 + (y 0).val = win0_0.index t 0 * 256 + (y 0).val; omega) (by show k.val = win0_0.index t 1 * 4096 + k.val; omega)]
  show cell (B0 m c t y) (∑ k : Fin 4096, B0 m c t (ix2 (y 0) k) * B0 m c t (ix2 (y 0) k)) (B1 m c t (ix2 (0 : Fin 1) (y 1))) = _
  rw [h1, h3, hq]

theorem mem_blk (t : Fin cfg0.N) (i : S16384x4096.Idx) :
    i ∈ ((cfg0.win 2).blk t).view.set ↔ ∀ a, win0_2.index t a * S256x4096.size a ≤ (i a).val ∧ (i a).val < win0_2.index t a * S256x4096.size a + S256x4096.size a := by
  show i ∈ ((View.whole main_v2).slice (win0_2.rect t)).set ↔ _
  rw [View.set_slice_whole, Rect.mem_set_unit]

/-- The array after the run is `G`. -/
theorem final (c : Dev nD) : (dats m 0 c).arrAt 2 cfg0.N = G m c := by
  refine (dats m 0 c).arrAt_eq_of_cover 2 (G m c) (fun t _ => flushed_eq m c t) fun i => ?_
  have h0 : (i 0).val < 16384 := (i 0).isLt
  have h1 : (i 1).val < 4096 := (i 1).isLt
  obtain ⟨t, e0, e1⟩ := idx_onto ⟨(i 0).val / 256, by omega⟩ ⟨(i 1).val / 4096, by omega⟩
  have e0' : win0_2.index t 0 = (i 0).val / 256 := e0
  have e1' : win0_2.index t 1 = (i 1).val / 4096 := e1
  refine ⟨t, flush0_2 t, (mem_blk t i).mpr fun a => ?_⟩
  match a with
  | ⟨0, _⟩ => show win0_2.index t 0 * 256 ≤ (i 0).val ∧ (i 0).val < win0_2.index t 0 * 256 + 256; omega
  | ⟨1, _⟩ => show win0_2.index t 1 * 4096 ≤ (i 1).val ∧ (i 1).val < win0_2.index t 1 * 4096 + 4096; omega

/-- The call over the reals and the reference leave the same arrays. -/
theorem algebraic : Cert.algebraic_Kernel10Ideal_Reference10Ideal (hKernel10Ideal := Cert.Kernel10Ideal.Gen.facts) (hReference10Ideal := Cert.Reference10Ideal.Gen.facts) := by
  intro m g m' g' _ hargs
  refine ⟨fun c => G m c, ?_, ?_⟩
  · refine (θ_run _ _ _).mono (fun r h c => ?_) (run_blocks (F := Ideal) m g)
    obtain ⟨h0, h1⟩ := h c
    exact ⟨h0.trans (final m c), h1⟩
  · refine (θ_run _ _ _).mono (fun r h c => ?_) (Cert.Reference10Ideal.Value.run (F := Ideal) m' g')
    obtain ⟨a0, a1⟩ := hargs c
    obtain ⟨h0, h1⟩ := h c
    refine ⟨h0.trans ?_, h1⟩
    rw [a0, a1]; rfl

end Cert.Kernel10Ideal.Hand

end
-- ==== Proof.Val11.lean ====
/- The short convolution: what the call leaves in its output array. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Mm
public import proofs.«01_k».proof.Defs
public import Idealize.ShloMosaic.Lib.ValueLayout
public import Idealize.ShloMosaic.Lib.KernelVsHost
public import Idealize.ShloMosaic.Lib.WritesUnit

@[expose] public section

set_option maxRecDepth 16384

noncomputable section

namespace Cert.Kernel11Ideal.Hand

open Cert.Kernel11Ideal Cert.Kernel11Ideal.Gen Cert.Kernel11Ideal.Value Cert.Proof.Mm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zz : (![0, 0] : Fin 2 → Nat) = fun _ => 0 := by funext a; match a with | ⟨0, _⟩ => rfl | ⟨1, _⟩ => rfl

theorem zzz : (![0, 0, 0] : Fin 3 → Nat) = fun _ => 0 := by funext a; match a with | ⟨0, _⟩ => rfl | ⟨1, _⟩ => rfl | ⟨2, _⟩ => rfl

/-- Operand 1 as the launch finds it. -/
abbrev X1 (c : Dev nD) : FVec Ideal S16384x7680 .bf16 := V (F := Ideal) m c main_v1

/-- That operand is the argument with its two leading axes joined. -/
theorem V_main_v1 (c : Dev nD) : V (F := Ideal) m c main_v1 = (truncf (F := Ideal) .bf16 (shapeCast S16384x7680 (m ((c : Thread nD τ).loc main_arg0) : FVec Ideal S2x8192x7680 .f32) shapeCasts_S2x8192x7680_S16384x7680 : FVec Ideal S16384x7680 .f32) bitsLt_bf16_f32 : FVec Ideal S16384x7680 .bf16) := by
  show StableHlo.after hostOps0 (fun b => m (c, b)) main_v1 = _
  after_results <;> rfl

theorem X1_apply (c : Dev nD) (r : Fin 16384) (q : Fin 7680) : X1 m c (ix2 r q)
    = m ((c : Thread nD τ).loc main_arg0) (ix3 (⟨r.val / 8192, by have := r.isLt; omega⟩ : Fin 2) (⟨r.val % 8192, by omega⟩ : Fin 8192) q) := by
  unfold X1
  rw [V_main_v1]
  exact join_apply (m ((c : Thread nD τ).loc main_arg0)) _ r q _ _ (by show r.val = r.val / 8192 * 8192 + r.val % 8192; omega)

/-- Operand 2 as the launch finds it. -/
abbrev X2 (c : Dev nD) : FVec Ideal S3x1024 .f32 := V (F := Ideal) m c main_arg1

/-- The windows' block indices, point by point. -/
theorem idx_facts : ∀ t : Fin cfg0.N, win0_0.index t 0 = t.val ∧ win0_0.index t 1 = 0 ∧ win0_1.index t 0 = t.val ∧ win0_1.index t 1 = 1 ∧ win0_2.index t 0 = t.val ∧ win0_2.index t 1 = 2 ∧ win0_3.index t 0 = 0 ∧ win0_3.index t 1 = 0 ∧ win0_4.index t 0 = t.val ∧ win0_4.index t 1 = 0 ∧ t.val < 16 :=
  (by decide +kernel : ∀ t : Fin grid0.N, win0_0.index t 0 = t.val ∧ win0_0.index t 1 = 0 ∧ win0_1.index t 0 = t.val ∧ win0_1.index t 1 = 1 ∧ win0_2.index t 0 = t.val ∧ win0_2.index t 1 = 2 ∧ win0_3.index t 0 = 0 ∧ win0_3.index t 1 = 0 ∧ win0_4.index t 0 = t.val ∧ win0_4.index t 1 = 0 ∧ t.val < 16)

/-- Every block of window 4 is some point's. -/
theorem idx_onto : ∀ (p : Fin 16) (q : Fin 1), ∃ t : Fin cfg0.N, win0_4.index t 0 = p.val ∧ win0_4.index t 1 = q.val :=
  (by decide +kernel : ∀ (p : Fin 16) (q : Fin 1), ∃ t : Fin grid0.N, win0_4.index t 0 = p.val ∧ win0_4.index t 1 = q.val)

/-- Window 0's block at a point. -/
abbrev C0 (c : Dev nD) (t : Fin cfg0.N) : Vec Ideal S1024x1024 .bf16 := X0_0 m c t

/-- Window 0's block at a point, read at an index. -/
theorem read_0 (c : Dev nD) (t : Fin cfg0.N) (y : S1024x1024.Idx) (i : S16384x7680.Idx)
    (h0 : (i 0).val = win0_0.index t 0 * 1024 + (y 0).val) (h1 : (i 1).val = win0_0.index t 1 * 1024 + (y 1).val) :
    C0 m c t y = X1 m c i := by
  show (cfg0.win 0).fill (cfg0.grid.coords t) dflt0_0 (iblk m c 0 t) y = _
  unfold Pipeline.Window.fill
  rw [dif_pos (moved0_0 t y)]
  show V m c main_v1 (((cfg0.win 0).blk t).view.emb _) = V m c main_v1 i
  refine congrArg _ (funext fun a => Fin.ext ?_)
  match a with
  | ⟨0, _⟩ => show win0_0.index t 0 * 1024 + 1 * (y 0).val = (i 0).val; omega
  | ⟨1, _⟩ => show win0_0.index t 1 * 1024 + 1 * (y 1).val = (i 1).val; omega

/-- Window 1's block at a point. -/
abbrev C1 (c : Dev nD) (t : Fin cfg0.N) : Vec Ideal S1024x1024 .bf16 := X0_1 m c t

/-- Window 1's block at a point, read at an index. -/
theorem read_1 (c : Dev nD) (t : Fin cfg0.N) (y : S1024x1024.Idx) (i : S16384x7680.Idx)
    (h0 : (i 0).val = win0_1.index t 0 * 1024 + (y 0).val) (h1 : (i 1).val = win0_1.index t 1 * 1024 + (y 1).val) :
    C1 m c t y = X1 m c i := by
  show (cfg0.win 1).fill (cfg0.grid.coords t) dflt0_1 (iblk m c 1 t) y = _
  unfold Pipeline.Window.fill
  rw [dif_pos (moved0_1 t y)]
  show V m c main_v1 (((cfg0.win 1).blk t).view.emb _) = V m c main_v1 i
  refine congrArg _ (funext fun a => Fin.ext ?_)
  match a with
  | ⟨0, _⟩ => show win0_1.index t 0 * 1024 + 1 * (y 0).val = (i 0).val; omega
  | ⟨1, _⟩ => show win0_1.index t 1 * 1024 + 1 * (y 1).val = (i 1).val; omega

/-- Window 2's block at a point. -/
abbrev C2 (c : Dev nD) (t : Fin cfg0.N) : Vec Ideal S1024x1024 .bf16 := X0_2 m c t

/-- Window 2's block at a point, read at an index. -/
theorem read_2 (c : Dev nD) (t : Fin cfg0.N) (y : S1024x1024.Idx) (i : S16384x7680.Idx)
    (h0 : (i 0).val = win0_2.index t 0 * 1024 + (y 0).val) (h1 : (i 1).val = win0_2.index t 1 * 1024 + (y 1).val) :
    C2 m c t y = X1 m c i := by
  show (cfg0.win 2).fill (cfg0.grid.coords t) dflt0_2 (iblk m c 2 t) y = _
  unfold Pipeline.Window.fill
  rw [dif_pos (moved0_2 t y)]
  show V m c main_v1 (((cfg0.win 2).blk t).view.emb _) = V m c main_v1 i
  refine congrArg _ (funext fun a => Fin.ext ?_)
  match a with
  | ⟨0, _⟩ => show win0_2.index t 0 * 1024 + 1 * (y 0).val = (i 0).val; omega
  | ⟨1, _⟩ => show win0_2.index t 1 * 1024 + 1 * (y 1).val = (i 1).val; omega

/-- Window 3's block at a point. -/
abbrev B3 (c : Dev nD) (t : Fin cfg0.N) : FVec Ideal S3x1024 .f32 := iblk m c 3 t

/-- Window 3's block at a point, read at an index. -/
theorem read_3 (c : Dev nD) (t : Fin cfg0.N) (y : S3x1024.Idx) (i : S3x1024.Idx)
    (h0 : (i 0).val = win0_3.index t 0 * 3 + (y 0).val) (h1 : (i 1).val = win0_3.index t 1 * 1024 + (y 1).val) :
    B3 m c t y = X2 m c i := by
  show V m c main_arg1 (((cfg0.win 3).blk t).view.emb y) = V m c main_arg1 i
  refine congrArg _ (funext fun a => Fin.ext ?_)
  match a with
  | ⟨0, _⟩ => show win0_3.index t 0 * 3 + 1 * (y 0).val = (i 0).val; omega
  | ⟨1, _⟩ => show win0_3.index t 1 * 1024 + 1 * (y 1).val = (i 1).val; omega

/-- A whole load of a buffer holding `x` is `x`. -/
theorem load_unread {s : Shape} {e : EltTy} (arg : Memref sig .tc .vmem s e) (h : arg.IsWhole) {off : Fin s.rank → Nat} (h0 : off = fun _ => 0)
    (inb : ∀ a, off a + s.size a ≤ s.size a) (x : Vec Ideal s e) :
    View.readAt (Elt Ideal) arg.view (Rect.unit off s.size inb).toLoadRect (h.unread x) = x := by
  subst h0
  funext y
  rw [View.readAt_apply, h.read_unread]
  refine congrArg x (funext fun a => Fin.ext ?_)
  show 0 + 1 * (y a).val = (y a).val
  omega

/-- The product the scratch takes, at an index. -/
theorem pay4_apply (x1 x2 : Vec Ideal S1024x1024 .bf16) (y : S1024x1024.Idx) : k0_pay4 (F := Ideal) x1 x2 y = ((x1 y : EReal) * x2 y : EReal) := by
  unfold k0_pay4
  simp only [shapeCast_self]
  rfl

/-- A rotation of the scratch read below its first eight rows. -/
theorem rot_apply (n : BitVec 32) (d : ℕ) (hn : n.toNat = d) (hd : d < 8) (xa : Vec Ideal S1032x1024 .f32) (h : S1032x1024.Rotates 0 none) (y : S1032x1024.Idx)
    (hy : 8 ≤ (y 0).val) :
    dynamicRotate 0 n none xa h y = xa (ix2 (⟨(y 0).val - d, by have : (y 0).val < 1032 := (y 0).isLt; omega⟩ : Fin 1032) (y 1)) := by
  have hy0 : (y 0).val < 1032 := (y 0).isLt
  refine dynamicRotate_apply 0 n xa h y _ fun b => ?_
  match b with
  | ⟨0, _⟩ => show (y 0).val - d = ((y 0).val + 1032 - n.toNat % 1032) % 1032; rw [hn]; omega
  | ⟨1, _⟩ => rfl

/-- What a point writes to its block, of the scratch it reads: the three taps weighted, times the gate. -/
theorem out_apply (x0 : Vec Ideal S1024x1024 .bf16) (x3 : Vec Ideal S3x1024 .f32) (xa : Vec Ideal S1032x1024 .f32) (r s : Fin 1024) :
    k0_pay1 (F := Ideal) xa (k0_pay5 (F := Ideal) x3 xa) (k0_pay6 (F := Ideal) x3) 2#32 x0 (ix2 r s)
      = (x0 (ix2 r s) : EReal) * (((x3 (ix2 (2 : Fin 3) s) : EReal) * xa (ix2 (⟨8 + r.val, by omega⟩ : Fin 1032) s) + (x3 (ix2 (1 : Fin 3) s) : EReal) * xa (ix2 (⟨8 + r.val - 1, by omega⟩ : Fin 1032) s))
        + (x3 (ix2 (0 : Fin 3) s) : EReal) * xa (ix2 (⟨8 + r.val - 2, by omega⟩ : Fin 1032) s)) := by
  unfold k0_pay1 k0_pay5 k0_pay6
  simp only [shapeCast_self]
  have hs : ∀ (x : Vec Ideal S1032x1024 .f32), extractStridedSlice S1024x1024 ![8, 0] x slices_S1032x1024_o8_0_S1024x1024 (ix2 r s) = x (ix2 (⟨8 + r.val, by omega⟩ : Fin 1032) s) := fun x =>
    extractStridedSlice_apply ![8, 0] x _ (ix2 r s) (ix2 (⟨8 + r.val, by omega⟩ : Fin 1032) s) (fun a => match a with
      | ⟨0, _⟩ => by show 8 + r.val = 8 + r.val; rfl
      | ⟨1, _⟩ => by show s.val = 0 + s.val; omega)
  have hb : ∀ (w : Vec Ideal S1x1024 .f32), broadcastTo S1024x1024 w broadcasts_S1x1024_S1024x1024 (ix2 r s) = w (ix2 (0 : Fin 1) s) := fun w =>
    broadcastTo_apply _ _ (ix2 r s) (ix2 (0 : Fin 1) s) (fun a => match a with
      | ⟨0, _⟩ => by first | rfl | decide
      | ⟨1, _⟩ => by first | rfl | (show s.val = s.val; rfl))
  have h0 : extractStridedSlice S1x1024 ![0, 0] x3 slices_S3x1024_o0_0_S1x1024 (ix2 (0 : Fin 1) s) = x3 (ix2 (0 : Fin 3) s) :=
    extractStridedSlice_apply ![0, 0] x3 _ (ix2 (0 : Fin 1) s) (ix2 (0 : Fin 3) s) (fun a => match a with
      | ⟨0, _⟩ => by show 0 = 0 + 0; rfl
      | ⟨1, _⟩ => by show s.val = 0 + s.val; omega)
  have h1 : extractStridedSlice S1x1024 ![1, 0] x3 slices_S3x1024_o1_0_S1x1024 (ix2 (0 : Fin 1) s) = x3 (ix2 (1 : Fin 3) s) :=
    extractStridedSlice_apply ![1, 0] x3 _ (ix2 (0 : Fin 1) s) (ix2 (1 : Fin 3) s) (fun a => match a with
      | ⟨0, _⟩ => by show 1 = 1 + 0; rfl
      | ⟨1, _⟩ => by show s.val = 0 + s.val; omega)
  have h2 : extractStridedSlice S1x1024 ![2, 0] x3 slices_S3x1024_o2_0_S1x1024 (ix2 (0 : Fin 1) s) = x3 (ix2 (2 : Fin 3) s) :=
    extractStridedSlice_apply ![2, 0] x3 _ (ix2 (0 : Fin 1) s) (ix2 (2 : Fin 3) s) (fun a => match a with
      | ⟨0, _⟩ => by show 2 = 2 + 0; rfl
      | ⟨1, _⟩ => by show s.val = 0 + s.val; omega)
  have e2 := (hb (extractStridedSlice S1x1024 ![2, 0] x3 slices_S3x1024_o2_0_S1x1024)).trans h2
  have e1 := (hb (extractStridedSlice S1x1024 ![1, 0] x3 slices_S3x1024_o1_0_S1x1024)).trans h1
  have e0 := (hb (extractStridedSlice S1x1024 ![0, 0] x3 slices_S3x1024_o0_0_S1x1024)).trans h0
  have f2 := hs xa
  have f1 := (hs (dynamicRotate 0 1#32 none xa rotates_S1032x1024_d0)).trans (rot_apply 1#32 1 rfl (by omega) xa _ _ (by show 8 ≤ 8 + r.val; omega))
  have f0 := (hs (dynamicRotate 0 2#32 none xa rotates_S1032x1024_d0)).trans (rot_apply 2#32 2 rfl (by omega) xa _ _ (by show 8 ≤ 8 + r.val; omega))
  exact congrArg₂ (fun p q : EReal => p * q) rfl (congrArg₂ (fun p q : EReal => p + q) (congrArg₂ (fun p q : EReal => p + q) (congrArg₂ (fun p q : EReal => p * q) e2 f2) (congrArg₂ (fun p q : EReal => p * q) e1 f1)) (congrArg₂ (fun p q : EReal => p * q) e0 f0))

/-- After the product is stored, the scratch read at a row from the eighth on. -/
theorem stored_hi {sp : Space} (v : View sig .tc sp S1032x1024 .f32) (f : v.ty.Contents (Elt Ideal)) (w : Vec Ideal S1024x1024 .f32) (inb : ∀ a, ![8, 0] a + S1024x1024.size a ≤ S1032x1024.size a)
    (L : List (View.Piece (Elt Ideal) S1032x1024 .f32)) (r s : Fin 1024) :
    v.read (Elt Ideal) (v.writes (Elt Ideal) f (⟨Rect.unit (s := S1032x1024) ![8, 0] S1024x1024.size inb, w⟩ :: L)) (ix2 (⟨8 + r.val, by omega⟩ : Fin 1032) s) = w (ix2 r s) :=
  View.read_writes_cons_rows_of_mem v f inb w L _ (ix2 r s) rfl rfl rfl

/-- At a row below the eighth it is what was there. -/
theorem stored_lo {sp : Space} (v : View sig .tc sp S1032x1024 .f32) (f : v.ty.Contents (Elt Ideal)) (w : Vec Ideal S1024x1024 .f32) (inb : ∀ a, ![8, 0] a + S1024x1024.size a ≤ S1032x1024.size a)
    (L : List (View.Piece (Elt Ideal) S1032x1024 .f32)) (k : Fin 1032) (s : Fin 1024) (hk : k.val < 8) :
    v.read (Elt Ideal) (v.writes (Elt Ideal) f (⟨Rect.unit (s := S1032x1024) ![8, 0] S1024x1024.size inb, w⟩ :: L)) (ix2 k s) = v.read (Elt Ideal) (v.writes (Elt Ideal) f L) (ix2 k s) :=
  View.read_writes_cons_miss_of_axis v f _ L (ix2 k s) (0 : Fin 2) 8 1024 rfl rfl rfl (.inl hk)

/-- A store to the first eight rows, read there. -/
theorem stored_top {sp : Space} (v : View sig .tc sp S1032x1024 .f32) (f : v.ty.Contents (Elt Ideal)) (w : Vec Ideal S8x1024 .f32) (inb : ∀ a, ![0, 0] a + S8x1024.size a ≤ S1032x1024.size a)
    (L : List (View.Piece (Elt Ideal) S1032x1024 .f32)) (k : Fin 1032) (s : Fin 1024) (hk : k.val < 8) :
    v.read (Elt Ideal) (v.writes (Elt Ideal) f (⟨Rect.unit (s := S1032x1024) ![0, 0] S8x1024.size inb, w⟩ :: L)) (ix2 k s) = w (ix2 (⟨k.val, hk⟩ : Fin 8) s) :=
  View.read_writes_cons_rows_of_mem v f inb w L _ (ix2 (⟨k.val, hk⟩ : Fin 8) s) rfl (Nat.zero_add _).symm rfl

/-- A whole load of the scratch. -/
theorem whole_idx (y : S1032x1024.Idx) : (Rect.unit (s := S1032x1024) ![0, 0] S1032x1024.size inb_S1032x1024_S1032x1024_0_0).toLoadRect.idx y = y := funext fun a => Fin.ext (by
  match a with
  | ⟨0, _⟩ => show 0 + 1 * (y 0).val = (y 0).val; omega
  | ⟨1, _⟩ => show 0 + 1 * (y 1).val = (y 1).val; omega)

theorem tail_idx (k : Fin 8) (s : Fin 1024) : (Rect.unit (s := S1032x1024) ![1024, 0] S8x1024.size inb_S1032x1024_S8x1024_1024_0).toLoadRect.idx (ix2 k s) = (ix2 (⟨8 + (1016 + k.val), by omega⟩ : Fin 1032) s : S1032x1024.Idx) := funext fun a => Fin.ext (by
  match a with
  | ⟨0, _⟩ => show 1024 + 1 * k.val = 8 + (1016 + k.val); omega
  | ⟨1, _⟩ => show 0 + 1 * s.val = s.val; omega)

theorem pay2_apply (w : Vec Ideal S8x1024 .f32) : k0_pay2 (F := Ideal) w = w := by
  unfold k0_pay2
  simp only [shapeCast_self]

theorem pay3_apply (y : S8x1024.Idx) : k0_pay3 (F := Ideal) y = (0 : EReal) := by
  unfold k0_pay3
  simp only [shapeCast_self]
  show Ideal.ofBits .f32 0x00000000#32 = 0
  simp [Ideal.ofBits, Ideal.ieee]

/-- What a point at the head of a sequence writes, of a scratch holding the products from row eight and zeros before. -/
theorem outA (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S3x1024 .f32) (harg5 : arg5.IsWhole) (arg6 : Memref sig .tc .vmem S1024x1024 .bf16) (harg6 : arg6.IsWhole) (arg7 : Memref sig .tc .vmem S1032x1024 .f32) (harg7 : arg7.IsWhole) (hc0 : cond0_0 i) (x0 x1 x2 : Vec Ideal S1024x1024 .bf16) (x3 : Vec Ideal S3x1024 .f32) (r s : Fin 1024) :
    ∃ xa : Vec Ideal S1032x1024 .f32, (∀ q : Fin 1024, xa (ix2 (⟨8 + q.val, by omega⟩ : Fin 1032) s) = ((x1 (ix2 q s) : EReal) * x2 (ix2 q s) : EReal))
      ∧ (∀ k : ℕ, (hk : k < 8) → xa (ix2 (⟨k, by omega⟩ : Fin 1032) s) = (0 : EReal))
      ∧ out0_A_4 (F := Ideal) c i arg2 harg2 arg3 harg3 arg4 harg4 arg5 harg5 arg6 harg6 arg7 harg7 hc0 x0 x1 x2 x3 (ix2 r s)
      = (x0 (ix2 r s) : EReal) * (((x3 (ix2 (2 : Fin 3) s) : EReal) * xa (ix2 (⟨8 + r.val, by omega⟩ : Fin 1032) s) + (x3 (ix2 (1 : Fin 3) s) : EReal) * xa (ix2 (⟨8 + r.val - 1, by omega⟩ : Fin 1032) s))
        + (x3 (ix2 (0 : Fin 3) s) : EReal) * xa (ix2 (⟨8 + r.val - 2, by omega⟩ : Fin 1032) s)) := by
  have hld : ∀ (arg : Memref sig .tc .vmem S1024x1024 .bf16) (h : arg.IsWhole) (x : Vec Ideal S1024x1024 .bf16), View.readAt (Elt Ideal) arg.view (Rect.unit ![0, 0] S1024x1024.size inb_S1024x1024_S1024x1024_0_0).toLoadRect (h.unread x) = x := fun arg h x => load_unread arg h zz _ x
  have hld3 : View.readAt (Elt Ideal) arg5.view (Rect.unit ![0, 0] S3x1024.size inb_S3x1024_S3x1024_0_0).toLoadRect (harg5.unread x3) = x3 := load_unread arg5 harg5 zz _ x3
  refine ⟨kernelRun0_A.sl.v24 c arg3 harg3 arg4 harg4 arg7 x1 x2, fun q => ?_, fun k hk => ?_, ?_⟩
  · unfold kernelRun0_A.sl.v24 kernelRun0_A.sl.HS0_2
    unfold View.readCov
    rw [View.readAt_apply, whole_idx, hld, hld]
    exact (stored_hi _ _ _ _ _ q s).trans (pay4_apply x1 x2 _)
  · unfold kernelRun0_A.sl.v24 kernelRun0_A.sl.HS0_2
    unfold View.readCov
    rw [View.readAt_apply, whole_idx]
    refine (stored_lo _ _ _ _ _ _ s hk).trans ?_
    exact (stored_top _ _ _ _ _ _ s hk).trans (pay3_apply _)
  · unfold out0_A_4
    rw [View.read_writes_junk_eq_canon]
    unfold kernelRun0_A
    dsimp only
    rw [View.canon_unit_zero zz]
    unfold kernelRun0_A.sl.r kernelRun0_A.sl.r_1
    rw [hld3]
    refine Eq.trans ?_ (out_apply x0 x3 _ r s)
    exact congrArg (fun x => k0_pay1 (F := Ideal) _ _ _ _ x (ix2 r s)) (hld arg2 harg2 x0)

/-- The scratch's first eight rows after such a point: the last eight rows of its products. -/
theorem soutA (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S3x1024 .f32) (harg5 : arg5.IsWhole) (arg6 : Memref sig .tc .vmem S1024x1024 .bf16) (harg6 : arg6.IsWhole) (arg7 : Memref sig .tc .vmem S1032x1024 .f32) (harg7 : arg7.IsWhole) (hc0 : cond0_0 i) (x0 x1 x2 : Vec Ideal S1024x1024 .bf16) (x3 : Vec Ideal S3x1024 .f32) (k : ℕ) (hk : k < 8) (s : Fin 1024) :
    sout0_A_0 (F := Ideal) c i arg2 harg2 arg3 harg3 arg4 harg4 arg5 harg5 arg6 harg6 arg7 harg7 hc0 x0 x1 x2 x3 (ix2 (⟨k, by omega⟩ : Fin 1032) s) = ((x1 (ix2 (⟨1016 + k, by omega⟩ : Fin 1024) s) : EReal) * x2 (ix2 (⟨1016 + k, by omega⟩ : Fin 1024) s) : EReal) := by
  have hld : ∀ (arg : Memref sig .tc .vmem S1024x1024 .bf16) (h : arg.IsWhole) (x : Vec Ideal S1024x1024 .bf16), View.readAt (Elt Ideal) arg.view (Rect.unit ![0, 0] S1024x1024.size inb_S1024x1024_S1024x1024_0_0).toLoadRect (h.unread x) = x := fun arg h x => load_unread arg h zz _ x
  unfold sout0_A_0 kernelRun0_A
  dsimp only
  refine (stored_top _ _ _ _ _ _ s hk).trans ?_
  rw [pay2_apply]
  unfold kernelRun0_A.sl.v47 kernelRun0_A.sl.HS0_2 View.readCov
  refine (congrArg _ (tail_idx ⟨k, hk⟩ s)).trans ?_
  rw [hld, hld]
  exact (stored_hi _ _ _ _ _ (⟨1016 + k, by omega⟩ : Fin 1024) s).trans (pay4_apply x1 x2 _)

/-- What a point inside a sequence writes, of a scratch holding the products from row eight and the rows carried before. -/
theorem outB (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S3x1024 .f32) (harg5 : arg5.IsWhole) (arg6 : Memref sig .tc .vmem S1024x1024 .bf16) (harg6 : arg6.IsWhole) (arg7 : Memref sig .tc .vmem S1032x1024 .f32) (harg7 : arg7.IsWhole) (hc0 : ¬cond0_0 i) (x0 x1 x2 : Vec Ideal S1024x1024 .bf16) (x3 : Vec Ideal S3x1024 .f32) (xs : Vec Ideal S1032x1024 .f32) (r s : Fin 1024) :
    ∃ xa : Vec Ideal S1032x1024 .f32, (∀ q : Fin 1024, xa (ix2 (⟨8 + q.val, by omega⟩ : Fin 1032) s) = ((x1 (ix2 q s) : EReal) * x2 (ix2 q s) : EReal))
      ∧ (∀ k : ℕ, (hk : k < 8) → xa (ix2 (⟨k, by omega⟩ : Fin 1032) s) = (xs (ix2 (⟨k, by omega⟩ : Fin 1032) s) : EReal))
      ∧ out0_B_4 (F := Ideal) c i arg2 harg2 arg3 harg3 arg4 harg4 arg5 harg5 arg6 harg6 arg7 harg7 hc0 x0 x1 x2 x3 xs (ix2 r s)
      = (x0 (ix2 r s) : EReal) * (((x3 (ix2 (2 : Fin 3) s) : EReal) * xa (ix2 (⟨8 + r.val, by omega⟩ : Fin 1032) s) + (x3 (ix2 (1 : Fin 3) s) : EReal) * xa (ix2 (⟨8 + r.val - 1, by omega⟩ : Fin 1032) s))
        + (x3 (ix2 (0 : Fin 3) s) : EReal) * xa (ix2 (⟨8 + r.val - 2, by omega⟩ : Fin 1032) s)) := by
  have hld : ∀ (arg : Memref sig .tc .vmem S1024x1024 .bf16) (h : arg.IsWhole) (x : Vec Ideal S1024x1024 .bf16), View.readAt (Elt Ideal) arg.view (Rect.unit ![0, 0] S1024x1024.size inb_S1024x1024_S1024x1024_0_0).toLoadRect (h.unread x) = x := fun arg h x => load_unread arg h zz _ x
  have hld3 : View.readAt (Elt Ideal) arg5.view (Rect.unit ![0, 0] S3x1024.size inb_S3x1024_S3x1024_0_0).toLoadRect (harg5.unread x3) = x3 := load_unread arg5 harg5 zz _ x3
  refine ⟨kernelRun0_B.sl.r c arg3 harg3 arg4 harg4 arg7 harg7 x1 x2 xs, fun q => ?_, fun k hk => ?_, ?_⟩
  · unfold kernelRun0_B.sl.r kernelRun0_B.sl.HS0_1

    rw [View.readAt_apply, whole_idx, hld, hld]
    exact (stored_hi _ _ _ _ _ q s).trans (pay4_apply x1 x2 _)
  · unfold kernelRun0_B.sl.r kernelRun0_B.sl.HS0_1

    rw [View.readAt_apply, whole_idx]
    refine (stored_lo _ _ _ _ _ _ s hk).trans ?_
    rw [View.writes_nil, harg7.read_unread]
  · unfold out0_B_4
    rw [View.read_writes_junk_eq_canon]
    unfold kernelRun0_B
    dsimp only
    rw [View.canon_unit_zero zz]
    unfold kernelRun0_B.sl.r_1 kernelRun0_B.sl.r_2
    rw [hld3]
    refine Eq.trans ?_ (out_apply x0 x3 _ r s)
    exact congrArg (fun x => k0_pay1 (F := Ideal) _ _ _ _ x (ix2 r s)) (hld arg2 harg2 x0)

/-- The scratch's first eight rows after such a point: the last eight rows of its products. -/
theorem soutB (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S3x1024 .f32) (harg5 : arg5.IsWhole) (arg6 : Memref sig .tc .vmem S1024x1024 .bf16) (harg6 : arg6.IsWhole) (arg7 : Memref sig .tc .vmem S1032x1024 .f32) (harg7 : arg7.IsWhole) (hc0 : ¬cond0_0 i) (x0 x1 x2 : Vec Ideal S1024x1024 .bf16) (x3 : Vec Ideal S3x1024 .f32) (xs : Vec Ideal S1032x1024 .f32) (k : ℕ) (hk : k < 8) (s : Fin 1024) :
    sout0_B_0 (F := Ideal) c i arg2 harg2 arg3 harg3 arg4 harg4 arg5 harg5 arg6 harg6 arg7 harg7 hc0 x0 x1 x2 x3 xs (ix2 (⟨k, by omega⟩ : Fin 1032) s) = ((x1 (ix2 (⟨1016 + k, by omega⟩ : Fin 1024) s) : EReal) * x2 (ix2 (⟨1016 + k, by omega⟩ : Fin 1024) s) : EReal) := by
  have hld : ∀ (arg : Memref sig .tc .vmem S1024x1024 .bf16) (h : arg.IsWhole) (x : Vec Ideal S1024x1024 .bf16), View.readAt (Elt Ideal) arg.view (Rect.unit ![0, 0] S1024x1024.size inb_S1024x1024_S1024x1024_0_0).toLoadRect (h.unread x) = x := fun arg h x => load_unread arg h zz _ x
  unfold sout0_B_0 kernelRun0_B
  dsimp only
  refine (stored_top _ _ _ _ _ _ s hk).trans ?_
  rw [pay2_apply]
  unfold kernelRun0_B.sl.v47 kernelRun0_B.sl.HS0_1 View.readCov
  refine (congrArg _ (tail_idx ⟨k, hk⟩ s)).trans ?_
  rw [hld, hld]
  exact (stored_hi _ _ _ _ _ (⟨1016 + k, by omega⟩ : Fin 1024) s).trans (pay4_apply x1 x2 _)

/-- The gated product at a row and a channel. -/
def prod (c : Dev nD) (R : Fin 16384) (s : Fin 1024) : EReal :=
  X1 m c (ix2 R (⟨1024 + s.val, by omega⟩ : Fin 7680)) * X1 m c (ix2 R (⟨2048 + s.val, by omega⟩ : Fin 7680))

/-- The product `d` rows back in the same sequence, zero before its first row. -/
def tap (c : Dev nD) (R : Fin 16384) (d : ℕ) (s : Fin 1024) : EReal :=
  if d ≤ R.val % 8192 then prod m c (⟨R.val - d, by have := R.isLt; omega⟩ : Fin 16384) s else 0

/-- The result at a row and a channel. -/
def conv (c : Dev nD) (R : Fin 16384) (s : Fin 1024) : EReal :=
  X1 m c (ix2 R (⟨s.val, by omega⟩ : Fin 7680)) * ((X2 m c (ix2 (2 : Fin 3) s) * tap m c R 0 s + X2 m c (ix2 (1 : Fin 3) s) * tap m c R 1 s) + X2 m c (ix2 (0 : Fin 3) s) * tap m c R 2 s)

/-- The products of a point's blocks. -/
theorem block_prod (c : Dev nD) (t : Fin cfg0.N) (q s : Fin 1024) (R : Fin 16384) (hR : R.val = t.val * 1024 + q.val) :
    ((C1 m c t (ix2 q s) : EReal) * C2 m c t (ix2 q s) : EReal) = prod m c R s := by
  obtain ⟨e0, e1, e2, e3, e4, e5, e6, e7, e8, e9, lt⟩ := idx_facts t
  unfold prod
  rw [read_1 m c t (ix2 q s) (ix2 R (⟨1024 + s.val, by omega⟩ : Fin 7680)) (by show R.val = win0_1.index t 0 * 1024 + q.val; omega) (by show 1024 + s.val = win0_1.index t 1 * 1024 + s.val; omega),
    read_2 m c t (ix2 q s) (ix2 R (⟨2048 + s.val, by omega⟩ : Fin 7680)) (by show R.val = win0_2.index t 0 * 1024 + q.val; omega) (by show 2048 + s.val = win0_2.index t 1 * 1024 + s.val; omega)]

/-- The scratch's first eight rows after any point. -/
theorem carried (c : Dev nD) (t : Fin cfg0.N) (k : ℕ) (hk : k < 8) (s : Fin 1024) (R : Fin 16384) (hR : R.val = t.val * 1024 + (1016 + k)) :
    (outsAt0 m c t.val t.isLt).2 (ix2 (⟨k, by omega⟩ : Fin 1032) s) = prod m c R s := by
  by_cases h0 : t.val % 8 = 0
  · rw [outsAt0_A m c t h0]
    dsimp only
    rw [soutA (hk := hk)]
    exact block_prod m c t (⟨1016 + k, by omega⟩ : Fin 1024) s R hR
  · rw [outsAt0_B m c t h0]
    dsimp only
    rw [soutB (hk := hk)]
    exact block_prod m c t (⟨1016 + k, by omega⟩ : Fin 1024) s R hR

/-- A scratch holding a point's products from row eight and, before, zeros at the head of a sequence or the carried rows, is the taps. -/
theorem taps (c : Dev nD) (t : Fin cfg0.N) (r s : Fin 1024) (R : Fin 16384) (hR : R.val = t.val * 1024 + r.val) (xa : Vec Ideal S1032x1024 .f32)
    (hi : ∀ q : Fin 1024, xa (ix2 (⟨8 + q.val, by omega⟩ : Fin 1032) s) = ((C1 m c t (ix2 q s) : EReal) * C2 m c t (ix2 q s) : EReal))
    (lo0 : t.val % 8 = 0 → ∀ k : ℕ, (hk : k < 8) → xa (ix2 (⟨k, by omega⟩ : Fin 1032) s) = (0 : EReal))
    (lo1 : ¬t.val % 8 = 0 → ∀ k : ℕ, (hk : k < 8) → ∀ Q : Fin 16384, Q.val = (t.val - 1) * 1024 + (1016 + k) → xa (ix2 (⟨k, by omega⟩ : Fin 1032) s) = prod m c Q s)
    (d : ℕ) (hd : d < 3) : xa (ix2 (⟨8 + r.val - d, by omega⟩ : Fin 1032) s) = tap m c R d s := by
  have hr : r.val < 1024 := r.isLt
  unfold tap
  by_cases h : d ≤ r.val
  · rw [if_pos (by omega)]
    have e : (⟨8 + r.val - d, by omega⟩ : Fin 1032) = ⟨8 + (⟨r.val - d, by omega⟩ : Fin 1024).val, by show 8 + (r.val - d) < 1032; omega⟩ := Fin.ext (by show 8 + r.val - d = 8 + (r.val - d); omega)
    rw [e, hi]
    exact block_prod m c t (⟨r.val - d, by omega⟩ : Fin 1024) s _ (by show R.val - d = t.val * 1024 + (r.val - d); omega)
  · by_cases h0 : t.val % 8 = 0
    · rw [if_neg (by omega)]
      exact lo0 h0 _ (by omega)
    · rw [if_pos (by omega)]
      exact lo1 h0 _ (by omega) _ (by show R.val - d = (t.val - 1) * 1024 + (1016 + (8 + r.val - d)); omega)

/-- The output array after the run: the reference's result of the same arguments. -/
def G (c : Dev nD) : S16384x1024.Idx → Elt Ideal .bf16 :=
  Cert.Reference11Ideal.Read.val_main_v28 (F := Ideal) (m ((c : Thread nD τ).loc main_arg0)) (m ((c : Thread nD τ).loc main_arg1))

/-- The reference's padded product, `j` rows on from row `q`: the tap `2 - j` rows back. -/
theorem pad_read (c : Dev nD) (R : Fin 16384) (s : Fin 1024) (j d : ℕ) (hj : j + d = 2) :
    Cert.Reference11Ideal.Read.val_main_v5 (F := Ideal) (m ((c : Thread nD τ).loc main_arg0)) (ix3 (⟨R.val / 8192, by have := R.isLt; omega⟩ : Fin 2) (⟨j + R.val % 8192, by omega⟩ : Fin 8194) s) = tap m c R d s := by
  have hR : R.val < 16384 := R.isLt
  unfold Cert.Reference11Ideal.Read.val_main_v5 tap
  by_cases h : d ≤ R.val % 8192
  · rw [if_pos h]
    rw [pad_apply_of_inside _ _ _ _ _ _ _ _ (ix3 (⟨R.val / 8192, by omega⟩ : Fin 2) (⟨R.val % 8192 - d, by omega⟩ : Fin 8192) s : Cert.Reference11Ideal.S2x8192x1024.Idx) (fun b => match b with
      | ⟨0, _⟩ => by show R.val / 8192 = 0 + R.val / 8192 * 1; omega
      | ⟨1, _⟩ => by show j + R.val % 8192 = 2 + (R.val % 8192 - d) * 1; omega
      | ⟨2, _⟩ => by show s.val = 0 + s.val * 1; omega)]
    rw [Cert.Reference11Ideal.Read.val_main_v4_apply, Cert.Reference11Ideal.Read.val_main_v1_apply, Cert.Reference11Ideal.Read.val_main_v2_apply]
    unfold prod
    rw [X1_apply, X1_apply]
    refine congrArg₂ (fun p q : EReal => p * q) (congrArg (m ((c : Thread nD τ).loc main_arg0)) (funext fun b => Fin.ext ?_)) (congrArg (m ((c : Thread nD τ).loc main_arg0)) (funext fun b => Fin.ext ?_))
    · match b with
      | ⟨0, _⟩ => show R.val / 8192 = (R.val - d) / 8192; omega
      | ⟨1, _⟩ => show R.val % 8192 - d = (R.val - d) % 8192; omega
      | ⟨2, _⟩ => show 1024 + s.val = 1024 + s.val; rfl
    · match b with
      | ⟨0, _⟩ => show R.val / 8192 = (R.val - d) / 8192; omega
      | ⟨1, _⟩ => show R.val % 8192 - d = (R.val - d) % 8192; omega
      | ⟨2, _⟩ => show 2048 + s.val = 2048 + s.val; rfl
  · rw [if_neg h]
    rw [pad_apply_of_not_inside _ _ _ _ _ _ _ _ (1 : Fin 3) (by rintro ⟨h', -⟩; have h'' : 2 ≤ j + R.val % 8192 := h'; omega)]
    rw [Cert.Reference11Ideal.Read.val_main_call0_v0_apply, Cert.Reference11Ideal.Read.val_main_c_apply]
    exact sitofp_zero (φ := .f32)

/-- `G` at a row and a channel. -/
theorem G_apply (c : Dev nD) (R : Fin 16384) (s : Fin 1024) : G m c (ix2 R s) = conv m c R s := by
  have hR : R.val < 16384 := R.isLt
  have hs : s.val < 1024 := s.isLt
  have hi : Cert.Reference11Ideal.Read.idx_main_v27 (ix2 R s) = (ix3 (⟨R.val / 8192, by have := R.isLt; omega⟩ : Fin 2) (⟨R.val % 8192, by omega⟩ : Fin 8192) s : Cert.Reference11Ideal.S2x8192x1024.Idx) := funext fun b => Fin.ext (by
    match b with
    | ⟨0, _⟩ => show (R.val * 1024 + s.val) / 8388608 = R.val / 8192; omega
    | ⟨1, _⟩ => show (R.val * 1024 + s.val) / 1024 % 8192 = R.val % 8192; omega
    | ⟨2, _⟩ => show (R.val * 1024 + s.val) % 1024 = s.val; omega)
  unfold G
  rw [Cert.Reference11Ideal.Read.val_main_v28_apply, Ideal.truncf_def, Cert.Reference11Ideal.Read.val_main_v27_apply, hi]
  simp only [Cert.Reference11Ideal.Read.val_main_v26_apply, Cert.Reference11Ideal.Read.val_main_v25_apply, Cert.Reference11Ideal.Read.val_main_v24_apply, Cert.Reference11Ideal.Read.val_main_v23_apply, Cert.Reference11Ideal.Read.val_main_v22_apply, Cert.Reference11Ideal.Read.val_main_v21_apply, Cert.Reference11Ideal.Read.val_main_v20_apply, Cert.Reference11Ideal.Read.val_main_v19_apply, Cert.Reference11Ideal.Read.val_main_v18_apply, Cert.Reference11Ideal.Read.val_main_v17_apply, Cert.Reference11Ideal.Read.val_main_v16_apply, Cert.Reference11Ideal.Read.val_main_v15_apply, Cert.Reference11Ideal.Read.val_main_v14_apply, Cert.Reference11Ideal.Read.val_main_v13_apply, Cert.Reference11Ideal.Read.val_main_v12_apply, Cert.Reference11Ideal.Read.val_main_v11_apply, Cert.Reference11Ideal.Read.val_main_v10_apply, Cert.Reference11Ideal.Read.val_main_v9_apply, Cert.Reference11Ideal.Read.val_main_v8_apply, Cert.Reference11Ideal.Read.val_main_v7_apply, Cert.Reference11Ideal.Read.val_main_v6_apply, Cert.Reference11Ideal.Read.val_main_v0_apply]
  have p0 : Cert.Reference11Ideal.Read.val_main_v5 (F := Ideal) (m ((c : Thread nD τ).loc main_arg0)) (Cert.Reference11Ideal.Read.idx_main_v8 (ix3 (⟨R.val / 8192, by have := R.isLt; omega⟩ : Fin 2) (⟨R.val % 8192, by omega⟩ : Fin 8192) s : Cert.Reference11Ideal.S2x8192x1024.Idx)) = tap m c R 2 s :=
    (congrArg _ (funext fun b => Fin.ext (by match b with | ⟨0, _⟩ => rfl | ⟨1, _⟩ => show R.val % 8192 = 0 + R.val % 8192; omega | ⟨2, _⟩ => rfl))).trans (pad_read m c R s 0 2 rfl)
  have p1 : Cert.Reference11Ideal.Read.val_main_v5 (F := Ideal) (m ((c : Thread nD τ).loc main_arg0)) (Cert.Reference11Ideal.Read.idx_main_v14 (ix3 (⟨R.val / 8192, by have := R.isLt; omega⟩ : Fin 2) (⟨R.val % 8192, by omega⟩ : Fin 8192) s : Cert.Reference11Ideal.S2x8192x1024.Idx)) = tap m c R 1 s :=
    (congrArg _ (funext fun b => Fin.ext (by match b with | ⟨0, _⟩ => rfl | ⟨1, _⟩ => rfl | ⟨2, _⟩ => rfl))).trans (pad_read m c R s 1 1 rfl)
  have p2 : Cert.Reference11Ideal.Read.val_main_v5 (F := Ideal) (m ((c : Thread nD τ).loc main_arg0)) (Cert.Reference11Ideal.Read.idx_main_v21 (ix3 (⟨R.val / 8192, by have := R.isLt; omega⟩ : Fin 2) (⟨R.val % 8192, by omega⟩ : Fin 8192) s : Cert.Reference11Ideal.S2x8192x1024.Idx)) = tap m c R 0 s :=
    (congrArg _ (funext fun b => Fin.ext (by match b with | ⟨0, _⟩ => rfl | ⟨1, _⟩ => rfl | ⟨2, _⟩ => rfl))).trans (pad_read m c R s 2 0 rfl)
  rw [p0, p1, p2]
  unfold conv
  have hw : X2 m c = (m ((c : Thread nD τ).loc main_arg1)) := V_main_arg1 m c
  rw [hw, X1_apply]
  refine congrArg₂ (fun p q : EReal => p * q) (congrArg (m ((c : Thread nD τ).loc main_arg0)) (funext fun b => Fin.ext (by match b with | ⟨0, _⟩ => rfl | ⟨1, _⟩ => rfl | ⟨2, _⟩ => rfl))) ?_
  have swap : ∀ x y z : EReal, (x + y) + z = (z + y) + x := fun x y z => by rw [add_comm (x + y) z, ← add_assoc, add_right_comm z x y]
  refine (swap _ _ _).trans (congrArg₂ (fun p q : EReal => p + q) (congrArg₂ (fun p q : EReal => p + q) (congrArg₂ (fun p q : EReal => p * q) (congrArg (m ((c : Thread nD τ).loc main_arg1)) (funext fun b => Fin.ext ?_)) rfl) (congrArg₂ (fun p q : EReal => p * q) (congrArg (m ((c : Thread nD τ).loc main_arg1)) (funext fun b => Fin.ext ?_)) rfl)) (congrArg₂ (fun p q : EReal => p * q) (congrArg (m ((c : Thread nD τ).loc main_arg1)) (funext fun b => Fin.ext ?_)) rfl))
  · match b with
    | ⟨0, _⟩ => rfl
    | ⟨1, _⟩ => first | rfl | (show s.val % 1024 = s.val; omega)
  · match b with
    | ⟨0, _⟩ => rfl
    | ⟨1, _⟩ => first | rfl | (show s.val % 1024 = s.val; omega)
  · match b with
    | ⟨0, _⟩ => rfl
    | ⟨1, _⟩ => first | rfl | (show s.val % 1024 = s.val; omega)

/-- The weights, gate and taps of a point's rows make the result's rows. -/
theorem point_eq (c : Dev nD) (t : Fin cfg0.N) (r s : Fin 1024) (R : Fin 16384) (hR : R.val = t.val * 1024 + r.val) (p0 p1 p2 : EReal)
    (h0 : p0 = tap m c R 0 s) (h1 : p1 = tap m c R 1 s) (h2 : p2 = tap m c R 2 s) :
    (C0 m c t (ix2 r s) : EReal) * ((B3 m c t (ix2 (2 : Fin 3) s) * p0 + B3 m c t (ix2 (1 : Fin 3) s) * p1) + B3 m c t (ix2 (0 : Fin 3) s) * p2) = conv m c R s := by
  obtain ⟨e0, e1, e2, e3, e4, e5, e6, e7, e8, e9, lt⟩ := idx_facts t
  subst h0 h1 h2
  have hw : ∀ j : Fin 3, B3 m c t (ix2 j s) = X2 m c (ix2 j s) := fun j =>
    read_3 m c t _ _ (by show j.val = win0_3.index t 0 * 3 + j.val; omega) (by show s.val = win0_3.index t 1 * 1024 + s.val; omega)
  rw [hw, hw, hw, read_0 m c t (ix2 r s) (ix2 R (⟨s.val, by omega⟩ : Fin 7680)) (by show R.val = win0_0.index t 0 * 1024 + r.val; omega) (by show s.val = win0_0.index t 1 * 1024 + s.val; omega)]
  rfl

/-- What a point writes back is its block of `G`. -/
theorem flushed_eq (c : Dev nD) (t : Fin cfg0.N) :
    (dats m 0 c).flushed 4 t = ((cfg0.win 4).blk t).view.read (Elt Ideal) (G m c) := by
  obtain ⟨e0, e1, e2, e3, e4, e5, e6, e7, e8, e9, lt⟩ := idx_facts t
  by_cases h0 : t.val % 8 = 0
  · rw [flushed4_A m c t h0]
    funext y
    have hy0 : (y 0).val < 1024 := (y 0).isLt
    have hy1 : (y 1).val < 1024 := (y 1).isLt
    show out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (X0_0 m c t) (X0_1 m c t) (X0_2 m c t) (iblk m c 3 t) y = G m c (((cfg0.win 4).blk t).view.emb y)
    have hj : ((cfg0.win 4).blk t).view.emb y = (ix2 (⟨win0_4.index t 0 * 1024 + (y 0).val, by omega⟩ : Fin 16384) (⟨win0_4.index t 1 * 1024 + (y 1).val, by omega⟩ : Fin 1024) : S16384x1024.Idx) := by
      funext a; refine Fin.ext ?_
      match a with
      | ⟨0, _⟩ => show win0_4.index t 0 * 1024 + 1 * (y 0).val = win0_4.index t 0 * 1024 + (y 0).val; omega
      | ⟨1, _⟩ => show win0_4.index t 1 * 1024 + 1 * (y 1).val = win0_4.index t 1 * 1024 + (y 1).val; omega
    rw [hj]
    rw [G_apply]
    have hy : y = (ix2 (⟨(y 0).val, hy0⟩ : Fin 1024) (⟨(y 1).val, hy1⟩ : Fin 1024) : S1024x1024.Idx) := funext fun b => Fin.ext (by match b with | ⟨0, _⟩ => rfl | ⟨1, _⟩ => rfl)
    have hs : (⟨win0_4.index t 1 * 1024 + (y 1).val, by omega⟩ : Fin 1024) = ⟨(y 1).val, hy1⟩ := Fin.ext (by show win0_4.index t 1 * 1024 + (y 1).val = (y 1).val; omega)
    rw [hs]
    obtain ⟨xa, hi, lo, hx⟩ := outA c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (X0_0 m c t) (X0_1 m c t) (X0_2 m c t) (iblk m c 3 t) ⟨(y 0).val, hy0⟩ ⟨(y 1).val, hy1⟩
    refine ((congrArg _ hy).trans hx).trans ?_
    have T := taps m c t ⟨(y 0).val, hy0⟩ ⟨(y 1).val, hy1⟩ (⟨win0_4.index t 0 * 1024 + (y 0).val, by omega⟩ : Fin 16384) (by show win0_4.index t 0 * 1024 + (y 0).val = t.val * 1024 + (y 0).val; omega) xa hi (fun _ => lo) (fun h => absurd h0 h)
    exact point_eq m c t _ _ _ (by show win0_4.index t 0 * 1024 + (y 0).val = t.val * 1024 + (y 0).val; omega) _ _ _ (T 0 (by omega)) (T 1 (by omega)) (T 2 (by omega))
  · rw [flushed4_B m c t h0]
    funext y
    have hy0 : (y 0).val < 1024 := (y 0).isLt
    have hy1 : (y 1).val < 1024 := (y 1).isLt
    show out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (X0_0 m c t) (X0_1 m c t) (X0_2 m c t) (iblk m c 3 t) (outsAt0 m c (t.val - 1) (Nat.lt_of_le_of_lt (Nat.sub_le _ _) t.isLt)).2 y = G m c (((cfg0.win 4).blk t).view.emb y)
    have hj : ((cfg0.win 4).blk t).view.emb y = (ix2 (⟨win0_4.index t 0 * 1024 + (y 0).val, by omega⟩ : Fin 16384) (⟨win0_4.index t 1 * 1024 + (y 1).val, by omega⟩ : Fin 1024) : S16384x1024.Idx) := by
      funext a; refine Fin.ext ?_
      match a with
      | ⟨0, _⟩ => show win0_4.index t 0 * 1024 + 1 * (y 0).val = win0_4.index t 0 * 1024 + (y 0).val; omega
      | ⟨1, _⟩ => show win0_4.index t 1 * 1024 + 1 * (y 1).val = win0_4.index t 1 * 1024 + (y 1).val; omega
    rw [hj]
    rw [G_apply]
    have hy : y = (ix2 (⟨(y 0).val, hy0⟩ : Fin 1024) (⟨(y 1).val, hy1⟩ : Fin 1024) : S1024x1024.Idx) := funext fun b => Fin.ext (by match b with | ⟨0, _⟩ => rfl | ⟨1, _⟩ => rfl)
    have hs : (⟨win0_4.index t 1 * 1024 + (y 1).val, by omega⟩ : Fin 1024) = ⟨(y 1).val, hy1⟩ := Fin.ext (by show win0_4.index t 1 * 1024 + (y 1).val = (y 1).val; omega)
    rw [hs]
    obtain ⟨xa, hi, lo, hx⟩ := outB c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (X0_0 m c t) (X0_1 m c t) (X0_2 m c t) (iblk m c 3 t) (outsAt0 m c (t.val - 1) (Nat.lt_of_le_of_lt (Nat.sub_le _ _) t.isLt)).2 ⟨(y 0).val, hy0⟩ ⟨(y 1).val, hy1⟩
    refine ((congrArg _ hy).trans hx).trans ?_
    have T := taps m c t ⟨(y 0).val, hy0⟩ ⟨(y 1).val, hy1⟩ (⟨win0_4.index t 0 * 1024 + (y 0).val, by omega⟩ : Fin 16384) (by show win0_4.index t 0 * 1024 + (y 0).val = t.val * 1024 + (y 0).val; omega) xa hi (fun h => absurd h h0)
      (fun _ k hk Q hQ => (lo k hk).trans (carried m c (⟨t.val - 1, Nat.lt_of_le_of_lt (Nat.sub_le _ _) t.isLt⟩ : Fin cfg0.N) k hk _ Q hQ))
    exact point_eq m c t _ _ _ (by show win0_4.index t 0 * 1024 + (y 0).val = t.val * 1024 + (y 0).val; omega) _ _ _ (T 0 (by omega)) (T 1 (by omega)) (T 2 (by omega))

theorem mem_blk (t : Fin cfg0.N) (i : S16384x1024.Idx) :
    i ∈ ((cfg0.win 4).blk t).view.set ↔ ∀ a, win0_4.index t a * S1024x1024.size a ≤ (i a).val ∧ (i a).val < win0_4.index t a * S1024x1024.size a + S1024x1024.size a := by
  show i ∈ ((View.whole main_v2).slice (win0_4.rect t)).set ↔ _
  rw [View.set_slice_whole, Rect.mem_set_unit]

/-- The array after the run is `G`. -/
theorem final (c : Dev nD) : (dats m 0 c).arrAt 4 cfg0.N = G m c := by
  refine (dats m 0 c).arrAt_eq_of_cover 4 (G m c) (fun t _ => flushed_eq m c t) fun i => ?_
  have h0 : (i 0).val < 16384 := (i 0).isLt
  have h1 : (i 1).val < 1024 := (i 1).isLt
  obtain ⟨t, e0, e1⟩ := idx_onto ⟨(i 0).val / 1024, by omega⟩ ⟨(i 1).val / 1024, by omega⟩
  have e0' : win0_4.index t 0 = (i 0).val / 1024 := e0
  have e1' : win0_4.index t 1 = (i 1).val / 1024 := e1
  refine ⟨t, flush0_4 t, (mem_blk t i).mpr fun a => ?_⟩
  match a with
  | ⟨0, _⟩ => show win0_4.index t 0 * 1024 ≤ (i 0).val ∧ (i 0).val < win0_4.index t 0 * 1024 + 1024; omega
  | ⟨1, _⟩ => show win0_4.index t 1 * 1024 ≤ (i 1).val ∧ (i 1).val < win0_4.index t 1 * 1024 + 1024; omega

/-- The call over the reals and the reference leave the same arrays. -/
theorem algebraic : Cert.algebraic_Kernel11Ideal_Reference11Ideal (hKernel11Ideal := Cert.Kernel11Ideal.Gen.facts) (hReference11Ideal := Cert.Reference11Ideal.Gen.facts) := by
  intro m g m' g' _ hargs
  refine ⟨fun c => G m c, ?_, ?_⟩
  · refine (θ_run _ _ _).mono (fun r h c => ?_) (run_blocks (F := Ideal) m g)
    obtain ⟨h0, h1⟩ := h c
    exact ⟨h0.trans (final m c), h1⟩
  · refine (θ_run _ _ _).mono (fun r h c => ?_) (Cert.Reference11Ideal.Value.run (F := Ideal) m' g')
    obtain ⟨a0, a1⟩ := hargs c
    obtain ⟨h0, h1⟩ := h c
    refine ⟨h0.trans ?_, h1⟩
    rw [a0, a1]; rfl

end Cert.Kernel11Ideal.Hand

end
-- ==== Proof.Cum.lean ====
/- Running sums over the extended reals: a window sum as a sum over a range, and a number split in three pieces. -/
module

public import Idealize.ShloMosaic.Lib.Pipeline.Value
public import Idealize.ShloMosaic.Lib.ValueIdx
public import Idealize.ShloMosaic.PureOps.Ideal.Laws

@[expose] public section

noncomputable section

namespace Cert.Proof.Cum

open Idealize.ShloMosaic Idealize.ShloMosaic.ValueIdx

/-- A number that is not positive infinity, and its two rests, each times one or zero, add up to the number times that. -/
theorem pieces (v a : EReal) (hv : v ≠ ⊤) (ha : a = 0 ∨ a = 1) : (v * a + (v - v) * a) + ((v - v) - (v - v)) * a = v * a := by
  rcases ha with rfl | rfl
  · simp
  · simp only [mul_one]
    induction v using EReal.rec with
    | bot => rfl
    | top => exact absurd rfl hv
    | coe r => norm_cast; simp

theorem exp_nonneg (x : EReal) : 0 ≤ Ideal.exp x := by
  induction x using EReal.rec with
  | bot => exact le_refl _
  | top => exact le_top
  | coe r => exact EReal.coe_nonneg.mpr (Real.exp_pos r).le

/-- The logarithm of one more than a number that is not negative is not negative. -/
theorem log1p_nonneg (x : EReal) (h : 0 ≤ x) : 0 ≤ Ideal.log1p x := by
  unfold Ideal.log1p
  induction x using EReal.rec with
  | bot => exact absurd h (by decide)
  | top => rw [show (1 : EReal) + ⊤ = ⊤ from rfl]; exact le_top
  | coe r =>
    have hr : 0 ≤ r := EReal.coe_nonneg.mp h
    rw [show (1 : EReal) + (r : EReal) = ((1 + r : ℝ) : EReal) from rfl]
    show 0 ≤ (if 1 + r ≤ 0 then (⊥ : EReal) else (Real.log (1 + r) : EReal))
    rw [if_neg (by linarith)]
    exact EReal.coe_nonneg.mpr (Real.log_nonneg (by linarith))

/-- The rest of the soft maximum: the logarithm of one more than the exponential of minus the absolute value. -/
def tail (z : EReal) : EReal := Ideal.log1p (Ideal.exp (-(max z (-z))))

theorem tail_nonneg (z : EReal) : 0 ≤ tail z := log1p_nonneg _ (exp_nonneg _)

theorem ne_bot_of_nonneg {x : EReal} (h : 0 ≤ x) : x ≠ ⊥ := fun e => by rw [e] at h; exact absurd h (by decide)

theorem neg_ne_top_of_nonneg {x : EReal} (h : 0 ≤ x) : -x ≠ ⊤ := fun e => ne_bot_of_nonneg h (by rw [← neg_neg x, e]; rfl)

/-- The logarithm of the sigmoid. -/
def lsig (z : EReal) : EReal := min z 0 - tail z

def soft (z : EReal) : EReal := max z 0 + tail z

theorem soft_nonneg (z : EReal) : 0 ≤ soft z := add_nonneg (le_max_right _ _) (tail_nonneg z)

theorem lsig_ne_top (z : EReal) : lsig z ≠ ⊤ := by
  unfold lsig
  rw [sub_eq_add_neg]
  have h1 : min z 0 ≠ ⊤ := ne_of_lt (lt_of_le_of_lt (min_le_right _ _) (by decide))
  exact EReal.add_ne_top h1 (neg_ne_top_of_nonneg (tail_nonneg z))

/-- It is minus the soft maximum of the number's opposite and zero. -/
theorem lsig_eq (z : EReal) : -(soft (-z)) = lsig z := by
  unfold soft lsig
  have ht : tail (-z) = tail z := by unfold tail; rw [neg_neg, max_comm]
  have hm : -(max (-z) 0) = min z 0 := by
    rcases le_total z 0 with h | h
    · rw [min_eq_left h, max_eq_left (by simpa using EReal.neg_le_neg_iff.mpr h), neg_neg]
    · rw [min_eq_right h, max_eq_right (by simpa using EReal.neg_le_neg_iff.mpr h), neg_zero]
  rw [ht, EReal.neg_add (.inl (ne_bot_of_nonneg (le_max_right _ _))) (.inr (ne_bot_of_nonneg (tail_nonneg z))), hm]

/-- The decay's rate: minus an exponential times a soft maximum. -/
def rate (a z : EReal) : EReal := -(Ideal.exp a) * soft z

theorem rate_ne_top (a z : EReal) : rate a z ≠ ⊤ := by
  unfold rate
  rw [EReal.neg_mul]
  exact neg_ne_top_of_nonneg (mul_nonneg (exp_nonneg a) (soft_nonneg z))

/-- A fold of additions is a sum. -/
theorem foldl_sum (n : ℕ) (g : Fin n → EReal) : (List.finRange n).foldl (fun r i => r + g i) 0 = ∑ i : Fin n, g i := by
  have h : ∀ (l : List (Fin n)) (r : EReal), l.foldl (fun r i => r + g i) r = r + (l.map g).sum := fun l => by
    induction l with
    | nil => intro r; simp
    | cons a l ih => intro r; rw [List.foldl_cons, ih, List.map_cons, List.sum_cons, add_assoc]
  rw [h, zero_add]
  exact (Fin.sum_univ_def g).symm

/-- A sum over a window whose last position is the `j`-th, of what lies at or after the start, is a sum over the first `j + 1`. -/
theorem window_sum (N j : ℕ) (hj : j < N) (f : ℕ → EReal) :
    ∑ w : Fin N, (if N - 1 ≤ j + w.val then f (j + w.val - (N - 1)) else 0) = ∑ i ∈ Finset.range (j + 1), f i := by
  rw [Fin.sum_univ_eq_sum_range (fun w => if N - 1 ≤ j + w then f (j + w - (N - 1)) else 0) N, ← Finset.sum_filter]
  refine Finset.sum_nbij' (fun w => j + w - (N - 1)) (fun i => i + (N - 1) - j) ?_ ?_ ?_ ?_ ?_
  · intro w hw
    rw [Finset.mem_filter, Finset.mem_range] at hw
    rw [Finset.mem_range]
    omega
  · intro i hi
    rw [Finset.mem_range] at hi
    rw [Finset.mem_filter, Finset.mem_range]
    omega
  · intro w hw
    rw [Finset.mem_filter, Finset.mem_range] at hw
    omega
  · intro i hi
    rw [Finset.mem_range] at hi
    omega
  · intro w hw
    rfl

/-- The window sum at an index, as a sum over the window's positions. -/
theorem reduceWindow_sum {s t u : Shape} (window strides lo hi : Fin s.rank → Nat) (x : s.Idx → EReal) (init : u.Idx → EReal) (hinit : ∀ i, init i = 0)
    (h : s.ReduceWindows window strides lo hi t) (hu : 0 < u.numel) (j : t.Idx) :
    Host.reduceWindow (· + ·) window strides lo hi x init h hu j
      = ∑ w : (⟨s.rank, window⟩ : Shape).Idx, if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  unfold Host.reduceWindow
  dsimp only
  rw [hinit]
  refine (foldl_sum _ _).trans ?_
  refine (Finset.sum_congr rfl fun n _ => dite_congr rfl (fun _ => rfl) (fun _ => rfl)).trans ?_
  exact Equiv.sum_comp (⟨s.rank, window⟩ : Shape).rowMajor.symm (fun w => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0)

/-- The running sum along the middle axis of an array, at an index. -/
theorem cumsum_mid {B N N1 C : ℕ} (hN : N1 + 1 = N) {φ : FTy} (x : FVec Ideal ⟨3, ![B, N, C]⟩ φ) {u : Shape} (init : u.Idx → Ideal φ) (hinit : ∀ i, init i = (0 : EReal))
    (h : (⟨3, ![B, N, C]⟩ : Shape).ReduceWindows (![1, N, 1] : Fin 3 → Nat) ![1, 1, 1] ![0, N1, 0] ![0, 0, 0] ⟨3, ![B, N, C]⟩) (hu : 0 < u.numel)
    (b : Fin B) (j : Fin N) (c : Fin C) (f : ℕ → EReal) (hf : ∀ i : Fin N, x (ix3 b i c) = f i.val) :
    Host.reduceWindowAdd (F := Ideal) ![1, N, 1] ![1, 1, 1] ![0, N1, 0] ![0, 0, 0] x init h hu (ix3 b j c) = ∑ i ∈ Finset.range (j.val + 1), f i := by
  have hj := j.isLt
  have hb := b.isLt
  have hc := c.isLt
  refine (reduceWindow_sum _ _ _ _ x (fun _ : u.Idx => init (Shape.Idx.first hu)) (fun _ => hinit _) h hu (ix3 b j c)).trans ?_
  rw [← window_sum N j.val hj f]
  let e : Fin N ≃ (⟨3, ![1, N, 1]⟩ : Shape).Idx :=
    { toFun := fun k => ix3 (0 : Fin 1) k (0 : Fin 1), invFun := fun w => w 1, left_inv := fun k => rfl,
      right_inv := fun w => funext fun a => match a with
        | ⟨0, _⟩ => Subsingleton.elim (α := Fin 1) _ _
        | ⟨1, _⟩ => rfl
        | ⟨2, _⟩ => Subsingleton.elim (α := Fin 1) _ _ }
  refine (Equiv.sum_comp e _).symm.trans (Finset.sum_congr rfl fun w _ => ?_)
  have hw := w.isLt
  by_cases hle : N - 1 ≤ j.val + w.val
  · rw [if_pos hle, dif_pos]
    · rw [← hf ⟨j.val + w.val - (N - 1), by omega⟩]
      refine congrArg x (funext fun a => Fin.ext ?_)
      match a with
      | ⟨0, _⟩ => show b.val * 1 + 0 - 0 = b.val; omega
      | ⟨1, _⟩ => show j.val * 1 + w.val - N1 = j.val + w.val - (N - 1); omega
      | ⟨2, _⟩ => show c.val * 1 + 0 - 0 = c.val; omega
    · intro a
      match a with
      | ⟨0, _⟩ => show 0 ≤ b.val * 1 + 0 ∧ b.val * 1 + 0 - 0 < B; omega
      | ⟨1, _⟩ => show N1 ≤ j.val * 1 + w.val ∧ j.val * 1 + w.val - N1 < N; omega
      | ⟨2, _⟩ => show 0 ≤ c.val * 1 + 0 ∧ c.val * 1 + 0 - 0 < C; omega
  · rw [if_neg hle, dif_neg]
    intro hin
    have h1 : N1 ≤ j.val * 1 + w.val ∧ j.val * 1 + w.val - N1 < N := hin (1 : Fin 3)
    omega

/-- The running sum along the third of four axes, at an index. -/
theorem cumsum_third {B M N N1 C : ℕ} (hN : N1 + 1 = N) {φ : FTy} (x : FVec Ideal ⟨4, ![B, M, N, C]⟩ φ) {u : Shape} (init : u.Idx → Ideal φ) (hinit : ∀ i, init i = (0 : EReal))
    (h : (⟨4, ![B, M, N, C]⟩ : Shape).ReduceWindows (![1, 1, N, 1] : Fin 4 → Nat) ![1, 1, 1, 1] ![0, 0, N1, 0] ![0, 0, 0, 0] ⟨4, ![B, M, N, C]⟩) (hu : 0 < u.numel)
    (b : Fin B) (d : Fin M) (j : Fin N) (c : Fin C) (f : ℕ → EReal) (hf : ∀ i : Fin N, x (ix4 b d i c) = f i.val) :
    Host.reduceWindowAdd (F := Ideal) ![1, 1, N, 1] ![1, 1, 1, 1] ![0, 0, N1, 0] ![0, 0, 0, 0] x init h hu (ix4 b d j c) = ∑ i ∈ Finset.range (j.val + 1), f i := by
  have hj := j.isLt
  have hb := b.isLt
  have hd := d.isLt
  have hc := c.isLt
  refine (reduceWindow_sum _ _ _ _ x (fun _ : u.Idx => init (Shape.Idx.first hu)) (fun _ => hinit _) h hu (ix4 b d j c)).trans ?_
  rw [← window_sum N j.val hj f]
  let e : Fin N ≃ (⟨4, ![1, 1, N, 1]⟩ : Shape).Idx :=
    { toFun := fun k => ix4 (0 : Fin 1) (0 : Fin 1) k (0 : Fin 1), invFun := fun w => w 2, left_inv := fun k => rfl,
      right_inv := fun w => funext fun a => match a with
        | ⟨0, _⟩ => Subsingleton.elim (α := Fin 1) _ _
        | ⟨1, _⟩ => Subsingleton.elim (α := Fin 1) _ _
        | ⟨2, _⟩ => rfl
        | ⟨3, _⟩ => Subsingleton.elim (α := Fin 1) _ _ }
  refine (Equiv.sum_comp e _).symm.trans (Finset.sum_congr rfl fun w _ => ?_)
  have hw := w.isLt
  by_cases hle : N - 1 ≤ j.val + w.val
  · rw [if_pos hle, dif_pos]
    · rw [← hf ⟨j.val + w.val - (N - 1), by omega⟩]
      refine congrArg x (funext fun a => Fin.ext ?_)
      match a with
      | ⟨0, _⟩ => show b.val * 1 + 0 - 0 = b.val; omega
      | ⟨1, _⟩ => show d.val * 1 + 0 - 0 = d.val; omega
      | ⟨2, _⟩ => show j.val * 1 + w.val - N1 = j.val + w.val - (N - 1); omega
      | ⟨3, _⟩ => show c.val * 1 + 0 - 0 = c.val; omega
    · intro a
      match a with
      | ⟨0, _⟩ => show 0 ≤ b.val * 1 + 0 ∧ b.val * 1 + 0 - 0 < B; omega
      | ⟨1, _⟩ => show 0 ≤ d.val * 1 + 0 ∧ d.val * 1 + 0 - 0 < M; omega
      | ⟨2, _⟩ => show N1 ≤ j.val * 1 + w.val ∧ j.val * 1 + w.val - N1 < N; omega
      | ⟨3, _⟩ => show 0 ≤ c.val * 1 + 0 ∧ c.val * 1 + 0 - 0 < C; omega
  · rw [if_neg hle, dif_neg]
    intro hin
    have h1 : N1 ≤ j.val * 1 + w.val ∧ j.val * 1 + w.val - N1 < N := hin (2 : Fin 4)
    omega

/-- A sum over three equal blocks one after another. -/
theorem sum_three (n : ℕ) (g : Fin (3 * n) → EReal) :
    ∑ k : Fin (3 * n), g k = (∑ k : Fin n, g ⟨k.val, by omega⟩ + ∑ k : Fin n, g ⟨n + k.val, by omega⟩) + ∑ k : Fin n, g ⟨n + n + k.val, by omega⟩ := by
  have e : 3 * n = n + n + n := by omega
  rw [← Equiv.sum_comp (finCongr e.symm), Fin.sum_univ_add, Fin.sum_univ_add]
  rfl

/-- A sum over a block of what is at or before a position is a sum over a range. -/
theorem prefix_sum (N q : ℕ) (hq : q < N) (f : ℕ → EReal) : ∑ s : Fin N, (if s.val ≤ q then f s.val else 0) = ∑ i ∈ Finset.range (q + 1), f i := by
  rw [Fin.sum_univ_eq_sum_range (fun s => if s ≤ q then f s else 0) N, ← Finset.sum_filter]
  refine Finset.sum_congr (Finset.ext fun i => ?_) fun _ _ => rfl
  rw [Finset.mem_filter, Finset.mem_range, Finset.mem_range]
  omega

/-- The same within a chunk: of the positions of one chunk at or before a position. -/
theorem chunk_sum (N C q : ℕ) (hC : 0 < C) (hq : q < N) (f : ℕ → EReal) :
    ∑ s : Fin N, (if s.val ≤ q ∧ s.val / C = q / C then f s.val else 0) = ∑ i ∈ Finset.range (q % C + 1), f (q / C * C + i) := by
  rw [Fin.sum_univ_eq_sum_range (fun s => if s ≤ q ∧ s / C = q / C then f s else 0) N, ← Finset.sum_filter]
  have hqq : q / C * C + q % C = q := by rw [mul_comm]; exact Nat.div_add_mod q C
  refine Finset.sum_nbij' (fun s => s - q / C * C) (fun i => q / C * C + i) ?_ ?_ ?_ ?_ ?_
  · intro s hs
    rw [Finset.mem_filter] at hs
    rw [Finset.mem_range]
    omega
  · intro i hi
    rw [Finset.mem_range] at hi
    have hm : q % C < C := Nat.mod_lt _ hC
    rw [Finset.mem_filter, Finset.mem_range]
    refine ⟨by omega, by omega, ?_⟩
    rw [Nat.add_comm, Nat.add_mul_div_right _ _ hC, Nat.div_eq_of_lt (by omega), Nat.zero_add]
  · intro s hs
    rw [Finset.mem_filter] at hs
    have h2 : s / C * C + s % C = s := by rw [mul_comm]; exact Nat.div_add_mod s C
    rw [hs.2.2] at h2
    omega
  · intro i hi
    omega
  · intro s hs
    rw [Finset.mem_filter] at hs
    have h2 : s / C * C + s % C = s := by rw [mul_comm]; exact Nat.div_add_mod s C
    rw [hs.2.2] at h2
    exact congrArg f (by omega)

end Cert.Proof.Cum

end
-- ==== Proof.Val12.lean ====
/- The gates: what the call leaves in its output array. -/
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Mm
public import proofs.«01_k».proof.Defs
public import proofs.«01_k».proof.Proof.Cum
public import Idealize.ShloMosaic.Lib.ValueLayout
public import Idealize.ShloMosaic.Lib.KernelVsHost
public import Idealize.ShloMosaic.Lib.IdealHost
public import Idealize.ShloMosaic.Lib.WordCmp
public import Idealize.ShloMosaic.Lib.VecWindow

@[expose] public section

set_option maxRecDepth 16384

noncomputable section

namespace Cert.Kernel12Ideal.Hand

open Cert.Kernel12Ideal Cert.Kernel12Ideal.Gen Cert.Kernel12Ideal.Value Cert.Proof.Mm Cert.Proof.Cum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zz : (![0, 0] : Fin 2 → Nat) = fun _ => 0 := by funext a; match a with | ⟨0, _⟩ => rfl | ⟨1, _⟩ => rfl

theorem zzz : (![0, 0, 0] : Fin 3 → Nat) = fun _ => 0 := by funext a; match a with | ⟨0, _⟩ => rfl | ⟨1, _⟩ => rfl | ⟨2, _⟩ => rfl

/-- The gate of a row, before the running sums: the logarithm of a sigmoid, a decay's rate or a sigmoid. -/
def gate (r : ℕ) (z a : EReal) : EReal := if r < 12 then lsig z else if r < 24 then rate a z else Ideal.div 1 (1 + Ideal.exp (-z))

theorem gate_ne_top (r : ℕ) (z a : EReal) (h : r < 24) : gate r z a ≠ ⊤ := by
  unfold gate
  by_cases h1 : r < 12
  · rw [if_pos h1]; exact lsig_ne_top z
  · rw [if_neg h1, if_pos h]; exact rate_ne_top a z

/-- A choice on the row's number. -/
theorem select_row {α : Type} (r k : ℕ) (hr : r < 128) (hk : k < 128) (x y : α) :
    Scalar.select (IntOp.cmpi .slt (BitVec.ofNat 32 r) (BitVec.ofNat 32 k)) x y = if r < k then x else y := by
  unfold Scalar.select
  by_cases h : r < k
  · rw [if_pos h]; exact if_pos ((WordCmp.cmpi_slt_ofNat_eq_one_iff (w := 32) (by omega) (by omega)).mpr h)
  · rw [if_neg h]; exact if_neg (fun e => h ((WordCmp.cmpi_slt_ofNat_eq_one_iff (w := 32) (by omega) (by omega)).mp e))

theorem row_word (r : Fin 128) (q : Fin 512) : iota .tc S128x512 32 [0] iota_S128x512_d0_w32 (ix2 r q) = BitVec.ofNat 32 r.val := by
  show BitVec.ofNat 32 (0 * 128 + r.val) = _
  rw [Nat.zero_mul, Nat.zero_add]

/-- A product of two blocks at an index. -/
theorem prod_z (a : FVec Ideal S128x4096 .bf16) (b : FVec Ideal S512x4096 .bf16) (y : S128x512.Idx) :
    matmul (F := Ideal) dot_S128x4096_S512x4096_S128x512_1_1_0_0_n_n none a b (constant S128x512 .f32 0x00000000#32) y = ∑ k : Fin 4096, a (ix2 (y 0) k) * b (ix2 (y 1) k) := by
  exact rows_rows (φ₁ := .bf16) (φ₂ := .bf16) dot_S128x4096_S512x4096_S128x512_1_1_0_0_n_n rfl rfl
    (fun i q => by
      unfold DotDims.lhsIdx
      rw [dif_neg (by decide), dif_pos (by decide)]; rfl)
    (fun i q => dot_S128x4096_S512x4096_S128x512_1_1_0_0_n_n.lhsIdx_val_of_single rfl i q)
    (fun i q => by
      unfold DotDims.rhsIdx
      rw [dif_neg (by decide), dif_pos (by decide)]; rfl)
    (fun i q => dot_S128x4096_S512x4096_S128x512_1_1_0_0_n_n.rhsIdx_val_of_single rfl i q)
    a b _ (zero_word _) y

/-- A column spread over a block's columns. -/
theorem spread (w : Vec Ideal S128x1 .f32) (r : Fin 128) (q : Fin 512) : broadcastTo S128x512 w broadcasts_S128x1_S128x512 (ix2 r q) = w (ix2 r (0 : Fin 1)) :=
  broadcastTo_apply _ _ (ix2 r q) (ix2 r (0 : Fin 1)) (fun a => match a with
    | ⟨0, _⟩ => by first | rfl | decide
    | ⟨1, _⟩ => by first | rfl | decide)

/-- The projection plus the bias, at an index. -/
def zOf (w : Vec Ideal S128x4096 .bf16) (u : Vec Ideal S512x4096 .bf16) (b : Vec Ideal S128x1 .f32) (r : Fin 128) (q : Fin 512) : EReal := (∑ k : Fin 4096, w (ix2 r k) * u (ix2 q k)) + b (ix2 r (0 : Fin 1))

theorem pay3_apply (w : Vec Ideal S128x4096 .bf16) (u : Vec Ideal S512x4096 .bf16) (b : Vec Ideal S128x1 .f32) (r : Fin 128) (q : Fin 512) : k0_pay3 (F := Ideal) w u b (ix2 r q) = zOf w u b r q := by
  unfold k0_pay3 zOf
  simp only [shapeCast_self]
  exact congrArg₂ (fun p q : EReal => p + q) (prod_z w u (ix2 r q)) (spread b r q)

theorem pay5_apply (w : Vec Ideal S128x4096 .bf16) (u : Vec Ideal S512x4096 .bf16) (b : Vec Ideal S128x1 .f32) (r : Fin 128) (q : Fin 512) : k0_pay5 (F := Ideal) w u b (ix2 r q) = lsig (zOf w u b r q) := by
  rw [← pay3_apply]
  unfold k0_pay5 k0_pay4
  generalize k0_pay3 (F := Ideal) w u b = z
  show (min (z (ix2 r q)) (Ideal.ofBits .f32 0x00000000#32) - Ideal.log1p (Ideal.exp (Ideal.ofBits .f32 0x00000000#32 - max (z (ix2 r q)) (-(z (ix2 r q))))) : EReal) = _
  rw [Ideal.ofBits_zero_f32, zero_sub]
  rfl

theorem pay6_apply (w : Vec Ideal S128x4096 .bf16) (u : Vec Ideal S512x4096 .bf16) (b : Vec Ideal S128x1 .f32) (r : Fin 128) (q : Fin 512) : k0_pay6 (F := Ideal) w u b (ix2 r q) = soft (zOf w u b r q) := by
  rw [← pay3_apply]
  unfold k0_pay6 k0_pay4
  generalize k0_pay3 (F := Ideal) w u b = z
  show (max (z (ix2 r q)) (Ideal.ofBits .f32 0x00000000#32) + Ideal.log1p (Ideal.exp (Ideal.ofBits .f32 0x00000000#32 - max (z (ix2 r q)) (-(z (ix2 r q))))) : EReal) = _
  rw [Ideal.ofBits_zero_f32, zero_sub]
  rfl

theorem pay7_apply (w : Vec Ideal S128x4096 .bf16) (u : Vec Ideal S512x4096 .bf16) (b : Vec Ideal S128x1 .f32) (r : Fin 128) (q : Fin 512) : k0_pay7 (F := Ideal) w u b (ix2 r q) = Ideal.exp (-(zOf w u b r q)) := by
  rw [← pay3_apply]
  unfold k0_pay7
  generalize k0_pay3 (F := Ideal) w u b = z
  show Ideal.exp (Ideal.ofBits .f32 0x00000000#32 - z (ix2 r q)) = _
  rw [Ideal.ofBits_zero_f32, zero_sub]

/-- The block of gates before the running sums, at an index. -/
theorem pay9_apply (w : Vec Ideal S128x4096 .bf16) (u : Vec Ideal S512x4096 .bf16) (b : Vec Ideal S128x1 .f32) (al : Vec Ideal S128x1 .f32) (r : Fin 128) (q : Fin 512) :
    k0_pay9 (F := Ideal) (iota .tc S128x512 32 [0] iota_S128x512_d0_w32) (k0_pay5 w u b) (k0_pay6 w u b) (k0_pay7 w u b) k0_pay8 al (ix2 r q) = gate r.val (zOf w u b r q) (al (ix2 r (0 : Fin 1))) := by
  unfold k0_pay9
  simp only [shapeCast_self]
  have e5 := pay5_apply w u b r q
  have e6 := pay6_apply w u b r q
  have e7 := pay7_apply w u b r q
  generalize k0_pay5 (F := Ideal) w u b = p5 at *
  generalize k0_pay6 (F := Ideal) w u b = p6 at *
  generalize k0_pay7 (F := Ideal) w u b = p7 at *
  have sel : ∀ (k : ℕ) (hk : k < 128) (x y : FVec Ideal S128x512 .f32), select (cmpi .slt (iota .tc S128x512 32 [0] iota_S128x512_d0_w32) (broadcast S128x512 (BitVec.ofNat 32 k))) x y (ix2 r q) = if r.val < k then x (ix2 r q) else y (ix2 r q) := fun k hk x y =>
    (congrArg (fun n => Scalar.select (IntOp.cmpi .slt n (BitVec.ofNat 32 k)) (x (ix2 r q)) (y (ix2 r q))) (row_word r q)).trans (select_row r.val k r.isLt hk _ _)
  refine (sel 12 (by omega) _ _).trans ?_
  unfold gate
  refine if_congr Iff.rfl e5 ((sel 24 (by omega) _ _).trans (if_congr Iff.rfl ?_ ?_))
  · refine (congrArg₂ (fun p q : EReal => p * q) (spread _ r q) e6).trans ?_
    show ((Ideal.ofBits .f32 0x00000000#32 - Ideal.exp (al (ix2 r (0 : Fin 1)))) * soft _ : EReal) = _
    rw [Ideal.ofBits_zero_f32, zero_sub]
    rfl
  · show Ideal.div (Ideal.ofBits .f32 0x3F800000#32) (Ideal.ofBits .f32 0x3F800000#32 + p7 (ix2 r q)) = _
    rw [Ideal.ofBits_one_f32, e7]

/-- A product of two blocks at an index. -/
theorem prod_c (a : FVec Ideal S128x1536 .bf16) (b : FVec Ideal S1536x512 .bf16) (y : S128x512.Idx) :
    matmul (F := Ideal) dot_S128x1536_S1536x512_S128x512_1_0_0_1_n_n none a b (constant S128x512 .f32 0x00000000#32) y = ∑ k : Fin 1536, a (ix2 (y 0) k) * b (ix2 k (y 1)) := by
  exact rows_cols (φ₁ := .bf16) (φ₂ := .bf16) dot_S128x1536_S1536x512_S128x512_1_0_0_1_n_n rfl rfl
    (fun i q => by
      unfold DotDims.lhsIdx
      rw [dif_neg (by decide), dif_pos (by decide)]; rfl)
    (fun i q => dot_S128x1536_S1536x512_S128x512_1_0_0_1_n_n.lhsIdx_val_of_single rfl i q)
    (fun i q => dot_S128x1536_S1536x512_S128x512_1_0_0_1_n_n.rhsIdx_val_of_single rfl i q)
    (fun i q => by
      unfold DotDims.rhsIdx
      rw [dif_neg (by decide), dif_pos (by decide)]; rfl)
    a b _ (zero_word _) y

theorem catl_0 (x y z : FVec Ideal S128x512 .bf16) (r : Fin 128) (s : Fin 512) :
    concatenate S128x1536 1 [⟨S128x512, x⟩, ⟨S128x512, y⟩, ⟨S128x512, z⟩] concatenates_S128x512_S128x512_S128x512_S128x1536_d1 (ix2 r (⟨0 + s.val, by omega⟩ : Fin 1536)) = x (ix2 r s) := by
  refine concatenate_apply_piece (t := S128x1536) (1 : Fin 2) [⟨S128x512, x⟩, ⟨S128x512, y⟩, ⟨S128x512, z⟩] _ _ 0 (show 0 < 3 from by decide) S128x512 _ rfl rfl 0 rfl _ ?_ ?_
  · intro b hb
    match b with
    | ⟨0, _⟩ => rfl
    | ⟨1, _⟩ => exact absurd rfl hb
  · show 0 + s.val = 0 + s.val; rfl

theorem catl_1 (x y z : FVec Ideal S128x512 .bf16) (r : Fin 128) (s : Fin 512) :
    concatenate S128x1536 1 [⟨S128x512, x⟩, ⟨S128x512, y⟩, ⟨S128x512, z⟩] concatenates_S128x512_S128x512_S128x512_S128x1536_d1 (ix2 r (⟨512 + s.val, by omega⟩ : Fin 1536)) = y (ix2 r s) := by
  refine concatenate_apply_piece (t := S128x1536) (1 : Fin 2) [⟨S128x512, x⟩, ⟨S128x512, y⟩, ⟨S128x512, z⟩] _ _ 1 (show 1 < 3 from by decide) S128x512 _ rfl rfl 512 rfl _ ?_ ?_
  · intro b hb
    match b with
    | ⟨0, _⟩ => rfl
    | ⟨1, _⟩ => exact absurd rfl hb
  · show 512 + s.val = 512 + s.val; rfl

theorem catl_2 (x y z : FVec Ideal S128x512 .bf16) (r : Fin 128) (s : Fin 512) :
    concatenate S128x1536 1 [⟨S128x512, x⟩, ⟨S128x512, y⟩, ⟨S128x512, z⟩] concatenates_S128x512_S128x512_S128x512_S128x1536_d1 (ix2 r (⟨1024 + s.val, by omega⟩ : Fin 1536)) = z (ix2 r s) := by
  refine concatenate_apply_piece (t := S128x1536) (1 : Fin 2) [⟨S128x512, x⟩, ⟨S128x512, y⟩, ⟨S128x512, z⟩] _ _ 2 (show 2 < 3 from by decide) S128x512 _ rfl rfl 1024 rfl _ ?_ ?_
  · intro b hb
    match b with
    | ⟨0, _⟩ => rfl
    | ⟨1, _⟩ => exact absurd rfl hb
  · show 1024 + s.val = 1024 + s.val; rfl

theorem catr_0 (x : FVec Ideal S512x512 .bf16) (s q : Fin 512) :
    concatenate S1536x512 0 [⟨S512x512, x⟩, ⟨S512x512, x⟩, ⟨S512x512, x⟩] concatenates_S512x512_S512x512_S512x512_S1536x512_d0 (ix2 (⟨0 + s.val, by omega⟩ : Fin 1536) q) = x (ix2 s q) := by
  refine concatenate_apply_piece (t := S1536x512) (0 : Fin 2) [⟨S512x512, x⟩, ⟨S512x512, x⟩, ⟨S512x512, x⟩] _ _ 0 (show 0 < 3 from by decide) S512x512 _ rfl rfl 0 rfl _ ?_ ?_
  · intro b hb
    match b with
    | ⟨0, _⟩ => exact absurd rfl hb
    | ⟨1, _⟩ => rfl
  · show 0 + s.val = 0 + s.val; rfl

theorem catr_1 (x : FVec Ideal S512x512 .bf16) (s q : Fin 512) :
    concatenate S1536x512 0 [⟨S512x512, x⟩, ⟨S512x512, x⟩, ⟨S512x512, x⟩] concatenates_S512x512_S512x512_S512x512_S1536x512_d0 (ix2 (⟨512 + s.val, by omega⟩ : Fin 1536) q) = x (ix2 s q) := by
  refine concatenate_apply_piece (t := S1536x512) (0 : Fin 2) [⟨S512x512, x⟩, ⟨S512x512, x⟩, ⟨S512x512, x⟩] _ _ 1 (show 1 < 3 from by decide) S512x512 _ rfl rfl 512 rfl _ ?_ ?_
  · intro b hb
    match b with
    | ⟨0, _⟩ => exact absurd rfl hb
    | ⟨1, _⟩ => rfl
  · show 512 + s.val = 512 + s.val; rfl

theorem catr_2 (x : FVec Ideal S512x512 .bf16) (s q : Fin 512) :
    concatenate S1536x512 0 [⟨S512x512, x⟩, ⟨S512x512, x⟩, ⟨S512x512, x⟩] concatenates_S512x512_S512x512_S512x512_S1536x512_d0 (ix2 (⟨1024 + s.val, by omega⟩ : Fin 1536) q) = x (ix2 s q) := by
  refine concatenate_apply_piece (t := S1536x512) (0 : Fin 2) [⟨S512x512, x⟩, ⟨S512x512, x⟩, ⟨S512x512, x⟩] _ _ 2 (show 2 < 3 from by decide) S512x512 _ rfl rfl 1024 rfl _ ?_ ?_
  · intro b hb
    match b with
    | ⟨0, _⟩ => exact absurd rfl hb
    | ⟨1, _⟩ => rfl
  · show 1024 + s.val = 1024 + s.val; rfl

/-- The product of a block split in three with a mask stacked three times, at an index: the sum of the block's row where the mask holds. -/
theorem masked (v : FVec Ideal S128x512 .f32) (mk : IVec S512x512 1) (r : Fin 128) (q : Fin 512) (hv : ∀ s : Fin 512, v (ix2 r s) ≠ (⊤ : EReal))
    (P : Fin 512 → Prop) [DecidablePred P] (hP : ∀ s, mk (ix2 s q) = BitVec.ofBool (decide (P s))) :
    matmul (F := Ideal) dot_S128x1536_S1536x512_S128x512_1_0_0_1_n_n none (k0_pay13 v)
      (concatenate S1536x512 0 [⟨S512x512, truncf .bf16 (sitofp (F := Ideal) .f32 (extui 32 mk natLt_1_32)) bitsLt_bf16_f32⟩, ⟨S512x512, truncf .bf16 (sitofp (F := Ideal) .f32 (extui 32 mk natLt_1_32)) bitsLt_bf16_f32⟩, ⟨S512x512, truncf .bf16 (sitofp (F := Ideal) .f32 (extui 32 mk natLt_1_32)) bitsLt_bf16_f32⟩] concatenates_S512x512_S512x512_S512x512_S1536x512_d0)
      (constant S128x512 .f32 0x00000000#32) (ix2 r q) = ∑ s : Fin 512, (if P s then (v (ix2 r s) : EReal) else 0) := by
  have hM : ∀ s : Fin 512, (truncf .bf16 (sitofp (F := Ideal) .f32 (extui 32 mk natLt_1_32)) bitsLt_bf16_f32 : FVec Ideal S512x512 .bf16) (ix2 s q) = (if P s then (1 : EReal) else 0) := fun s => by
    show (((((mk (ix2 s q)).setWidth 32).toInt : ℤ) : ℝ) : EReal) = _
    rw [hP s]
    by_cases h : P s
    · rw [if_pos h, decide_eq_true h]; simp
    · rw [if_neg h, decide_eq_false h]; simp
  generalize (truncf .bf16 (sitofp (F := Ideal) .f32 (extui 32 mk natLt_1_32)) bitsLt_bf16_f32 : FVec Ideal S512x512 .bf16) = M at *
  refine (prod_c _ _ (ix2 r q)).trans ?_
  refine (sum_three 512 (fun k => k0_pay13 v (ix2 r k) * concatenate S1536x512 0 [⟨S512x512, M⟩, ⟨S512x512, M⟩, ⟨S512x512, M⟩] concatenates_S512x512_S512x512_S512x512_S1536x512_d0 (ix2 k q))).trans ?_
  rw [← Finset.sum_add_distrib, ← Finset.sum_add_distrib]
  refine Finset.sum_congr rfl fun s _ => ?_
  have z0 : (⟨s.val, by omega⟩ : Fin 1536) = ⟨0 + s.val, by omega⟩ := Fin.ext (Nat.zero_add _).symm
  have a0 : k0_pay13 v (ix2 r (⟨s.val, by omega⟩ : Fin 1536)) = v (ix2 r s) := by rw [z0]; exact catl_0 _ _ _ r s
  have a1 : k0_pay13 v (ix2 r (⟨512 + s.val, by omega⟩ : Fin 1536)) = ((v (ix2 r s) : EReal) - v (ix2 r s) : EReal) := catl_1 _ _ _ r s
  have a2 : k0_pay13 v (ix2 r (⟨512 + 512 + s.val, by omega⟩ : Fin 1536)) = (((v (ix2 r s) : EReal) - v (ix2 r s)) - ((v (ix2 r s) : EReal) - v (ix2 r s)) : EReal) := catl_2 _ _ _ r s
  have b0 : concatenate S1536x512 0 [⟨S512x512, M⟩, ⟨S512x512, M⟩, ⟨S512x512, M⟩] concatenates_S512x512_S512x512_S512x512_S1536x512_d0 (ix2 (⟨s.val, by omega⟩ : Fin 1536) q) = (if P s then (1 : EReal) else 0) := by rw [z0]; exact (catr_0 M s q).trans (hM s)
  have b1 : concatenate S1536x512 0 [⟨S512x512, M⟩, ⟨S512x512, M⟩, ⟨S512x512, M⟩] concatenates_S512x512_S512x512_S512x512_S1536x512_d0 (ix2 (⟨512 + s.val, by omega⟩ : Fin 1536) q) = (if P s then (1 : EReal) else 0) := (catr_1 M s q).trans (hM s)
  have b2 : concatenate S1536x512 0 [⟨S512x512, M⟩, ⟨S512x512, M⟩, ⟨S512x512, M⟩] concatenates_S512x512_S512x512_S512x512_S1536x512_d0 (ix2 (⟨512 + 512 + s.val, by omega⟩ : Fin 1536) q) = (if P s then (1 : EReal) else 0) := (catr_2 M s q).trans (hM s)
  refine (congrArg₂ (fun p q : EReal => p + q) (congrArg₂ (fun p q : EReal => p + q) (congrArg₂ (fun p q : EReal => p * q) a0 b0) (congrArg₂ (fun p q : EReal => p * q) a1 b1)) (congrArg₂ (fun p q : EReal => p * q) a2 b2)).trans ?_
  refine (pieces _ _ (hv s) ?_).trans ?_
  · by_cases h : P s
    · rw [if_pos h]; exact .inr rfl
    · rw [if_neg h]; exact .inl rfl
  · by_cases h : P s
    · rw [if_pos h, if_pos h, mul_one]
    · rw [if_neg h, if_neg h, mul_zero]

/-- The mask of the positions at or before a position. -/
theorem pay10_apply (s q : Fin 512) : k0_pay10 (ix2 s q) = BitVec.ofBool (decide (s.val ≤ q.val)) := by
  unfold k0_pay10
  show IntOp.cmpi .sle (BitVec.ofNat 32 (0 * 512 + s.val)) (BitVec.ofNat 32 (0 * 512 + q.val)) = _
  rw [Nat.zero_mul, Nat.zero_add, Nat.zero_add]
  exact WordCmp.cmpi_sle_ofNat (by omega) (by omega)

/-- The chunk's number of a position, as the words compute it. -/
def chunkWord (x : BitVec 32) : BitVec 32 :=
  Scalar.select (IntOp.andi (IntOp.cmpi .ne (IntOp.subi ((IntOp.cmpi .sgt x 0#32).setWidth 32) ((IntOp.cmpi .slt x 0#32).setWidth 32)) (Scalar.subi (Scalar.extui (Scalar.cmpi .sgt 64#32 0#32)) (Scalar.extui (Scalar.cmpi .slt 64#32 0#32))))
    (IntOp.cmpi .ne (IntOp.remsi .vector x 64#32) 0#32)) (IntOp.subi (IntOp.divsi .vector x 64#32) 1#32) (IntOp.divsi .vector x 64#32)

theorem chunkWord_eq : ∀ s : Fin 512, chunkWord (BitVec.ofNat 32 (0 * 512 + s.val)) = BitVec.ofNat 32 (s.val / 64) := by
  decide +kernel

theorem word_inj (x y : ℕ) (hx : x < 512) (hy : y < 512) : IntOp.cmpi .eq (BitVec.ofNat 32 x) (BitVec.ofNat 32 y) = BitVec.ofBool (decide (x = y)) := by
  show BitVec.ofBool (BitVec.ofNat 32 x == BitVec.ofNat 32 y) = _
  refine congrArg BitVec.ofBool ?_
  by_cases h : x = y
  · subst h; simp
  · rw [decide_eq_false h]
    refine beq_eq_false_iff_ne.mpr fun e => h ?_
    have e' := congrArg BitVec.toNat e
    rw [BitVec.toNat_ofNat, BitVec.toNat_ofNat, Nat.mod_eq_of_lt (by omega), Nat.mod_eq_of_lt (by omega)] at e'
    exact e'

theorem and_word (p q : Prop) [Decidable p] [Decidable q] : IntOp.andi (BitVec.ofBool (decide p)) (BitVec.ofBool (decide q)) = BitVec.ofBool (decide (p ∧ q)) := by
  by_cases hp : p <;> by_cases hq : q <;> simp only [hp, hq, decide_true, decide_false, and_self, and_true, and_false, true_and, false_and] <;> rfl

/-- The running sum within a chunk, at an index. -/
theorem pay14_apply (v : FVec Ideal S128x512 .f32) (r : Fin 128) (q : Fin 512) (hv : ∀ s : Fin 512, v (ix2 r s) ≠ (⊤ : EReal)) :
    k0_pay14 (F := Ideal) v (iota .tc S512x512 32 [1] iota_S512x512_d1_w32) k0_pay10 k0_pay11 64#32 k0_pay12 0#32 (ix2 r q)
      = ∑ s : Fin 512, (if s.val ≤ q.val ∧ s.val / 64 = q.val / 64 then (v (ix2 r s) : EReal) else 0) := by
  unfold k0_pay14
  refine masked v _ r q hv (fun s => s.val ≤ q.val ∧ s.val / 64 = q.val / 64) fun s => ?_
  refine Eq.trans ?_ (and_word (s.val ≤ q.val) (s.val / 64 = q.val / 64))
  refine congrArg₂ IntOp.andi (pay10_apply s q) ?_
  refine Eq.trans ?_ (word_inj (s.val / 64) (q.val / 64) (by omega) (by omega))
  exact congrArg₂ (IntOp.cmpi .eq) (chunkWord_eq s) (chunkWord_eq q)

/-- The running sum within the block plus what is carried, at an index. -/
theorem pay15_apply (v : FVec Ideal S128x512 .f32) (cr : Vec Ideal S128x1 .f32) (r : Fin 128) (q : Fin 512) (hv : ∀ s : Fin 512, v (ix2 r s) ≠ (⊤ : EReal)) :
    k0_pay15 (F := Ideal) v k0_pay10 cr (ix2 r q) = ((∑ s : Fin 512, (if s.val ≤ q.val then (v (ix2 r s) : EReal) else 0)) + cr (ix2 r (0 : Fin 1)) : EReal) := by
  unfold k0_pay15
  exact congrArg₂ (fun p q : EReal => p + q) (masked v _ r q hv (fun s => s.val ≤ q.val) (fun s => pay10_apply s q)) (spread cr r q)

/-- What is carried on: the last column. -/
theorem pay16_apply (v : FVec Ideal S128x512 .f32) (cr : Vec Ideal S128x1 .f32) (r : Fin 128) :
    k0_pay16 (F := Ideal) v k0_pay10 cr (ix2 r (0 : Fin 1)) = k0_pay15 (F := Ideal) v k0_pay10 cr (ix2 r (511 : Fin 512)) := by
  unfold k0_pay16
  simp only [shapeCast_self]
  exact extractStridedSlice_apply ![0, 511] _ _ (ix2 r (0 : Fin 1)) (ix2 r (511 : Fin 512)) (fun a => match a with
    | ⟨0, _⟩ => by show r.val = 0 + r.val; omega
    | ⟨1, _⟩ => by show 511 = 511 + 0; rfl)

theorem pay2_apply (y : S128x1.Idx) : k0_pay2 (F := Ideal) y = (0 : EReal) := by
  unfold k0_pay2
  simp only [shapeCast_self]
  show Ideal.ofBits .f32 0x00000000#32 = 0
  exact Ideal.ofBits_zero_f32

/-- A whole load of a buffer holding `x` is `x`. -/
theorem load_unread {s : Shape} {e : EltTy} (arg : Memref sig .tc .vmem s e) (h : arg.IsWhole) {off : Fin s.rank → Nat} (h0 : off = fun _ => 0)
    (inb : ∀ a, off a + s.size a ≤ s.size a) (x : Vec Ideal s e) :
    View.readAt (Elt Ideal) arg.view (Rect.unit off s.size inb).toLoadRect (h.unread x) = x := by
  subst h0
  funext y
  rw [View.readAt_apply, h.read_unread]
  refine congrArg x (funext fun a => Fin.ext ?_)
  show 0 + 1 * (y a).val = (y a).val
  omega

/-- A point's block of gates before the running sums. -/
def blockOf (w : Vec Ideal S128x4096 .bf16) (u : Vec Ideal S512x4096 .bf16) (b : Vec Ideal S128x1 .f32) (al : Vec Ideal S128x1 .f32) : FVec Ideal S128x512 .f32 :=
  k0_pay9 (F := Ideal) (iota .tc S128x512 32 [0] iota_S128x512_d0_w32) (k0_pay5 w u b) (k0_pay6 w u b) (k0_pay7 w u b) k0_pay8 al

theorem blockOf_apply (w : Vec Ideal S128x4096 .bf16) (u : Vec Ideal S512x4096 .bf16) (b : Vec Ideal S128x1 .f32) (al : Vec Ideal S128x1 .f32) (r : Fin 128) (q : Fin 512) : blockOf w u b al (ix2 r q) = gate r.val (zOf w u b r q) (al (ix2 r (0 : Fin 1))) :=
  pay9_apply w u b al r q

theorem blockOf_ne_top (w : Vec Ideal S128x4096 .bf16) (u : Vec Ideal S512x4096 .bf16) (b : Vec Ideal S128x1 .f32) (al : Vec Ideal S128x1 .f32) (r : Fin 128) (hr : r.val < 24) (q : Fin 512) : blockOf w u b al (ix2 r q) ≠ (⊤ : EReal) := by
  rw [blockOf_apply]
  exact gate_ne_top _ _ _ hr

/-- What a point writes, of its block of gates and what is carried: the running sums, the chunks' running sums, the gates. -/
def tile (v : FVec Ideal S128x512 .f32) (cr : Vec Ideal S128x1 .f32) (r : Fin 128) (q : Fin 512) : EReal :=
  if r.val < 12 then (∑ s : Fin 512, (if s.val ≤ q.val then (v (ix2 r s) : EReal) else 0)) + cr (ix2 r (0 : Fin 1))
  else if r.val < 24 then ∑ s : Fin 512, (if s.val ≤ q.val ∧ s.val / 64 = q.val / 64 then (v (ix2 r s) : EReal) else 0)
  else v (ix2 r q)

theorem tile_apply (v : FVec Ideal S128x512 .f32) (cr : Vec Ideal S128x1 .f32) (r : Fin 128) (q : Fin 512) (hv : r.val < 24 → ∀ s : Fin 512, v (ix2 r s) ≠ (⊤ : EReal)) :
    k0_pay1 (F := Ideal) (iota .tc S128x512 32 [0] iota_S128x512_d0_w32) v
      (k0_pay14 (F := Ideal) v (iota .tc S512x512 32 [1] iota_S512x512_d1_w32) k0_pay10 k0_pay11 64#32 k0_pay12 0#32) (k0_pay15 (F := Ideal) v k0_pay10 cr) (ix2 r q) = tile v cr r q := by
  unfold k0_pay1 tile
  have sel : ∀ (k : ℕ) (hk : k < 128) (x y : FVec Ideal S128x512 .f32), select (cmpi .slt (iota .tc S128x512 32 [0] iota_S128x512_d0_w32) (broadcast S128x512 (BitVec.ofNat 32 k))) x y (ix2 r q) = if r.val < k then x (ix2 r q) else y (ix2 r q) := fun k hk x y =>
    (congrArg (fun n => Scalar.select (IntOp.cmpi .slt n (BitVec.ofNat 32 k)) (x (ix2 r q)) (y (ix2 r q))) (row_word r q)).trans (select_row r.val k r.isLt hk _ _)
  refine (sel 12 (by omega) _ _).trans ?_
  by_cases h : r.val < 12
  · rw [if_pos h, if_pos h]
    exact pay15_apply v cr r q (hv (by omega))
  · rw [if_neg h, if_neg h]
    refine (sel 24 (by omega) _ _).trans ?_
    by_cases h' : r.val < 24
    · rw [if_pos h', if_pos h']
      exact pay14_apply v r q (hv h')
    · rw [if_neg h', if_neg h']

/-- What a point at the head of a sequence writes. -/
theorem outA (c : Dev nD) (i : grid0.Coords) (arg1 : Memref sig .tc .vmem S128x4096 .bf16) (harg1 : arg1.IsWhole) (arg2 : Memref sig .tc .vmem S512x4096 .bf16) (harg2 : arg2.IsWhole) (arg3 : Memref sig .tc .vmem S128x1 .f32) (harg3 : arg3.IsWhole) (arg4 : Memref sig .tc .vmem S128x1 .f32) (harg4 : arg4.IsWhole) (arg5 : Memref sig .tc .vmem S128x512 .f32) (harg5 : arg5.IsWhole) (arg6 : Memref sig .tc .vmem S128x1 .f32) (harg6 : arg6.IsWhole) (hc0 : cond0_0 i) (x0 : Vec Ideal S128x4096 .bf16) (x1 : Vec Ideal S512x4096 .bf16) (x2 x3 : Vec Ideal S128x1 .f32) (r : Fin 128) (q : Fin 512) :
    out0_A_4 (F := Ideal) c i arg1 harg1 arg2 harg2 arg3 harg3 arg4 harg4 arg5 harg5 arg6 harg6 hc0 x0 x1 x2 x3 (ix2 r q) = tile (blockOf x0 x1 x2 x3) (k0_pay2 (F := Ideal)) r q := by
  have l1 : View.readAt (Elt Ideal) arg1.view (Rect.unit ![0, 0] S128x4096.size inb_S128x4096_S128x4096_0_0).toLoadRect (harg1.unread x0) = x0 := load_unread arg1 harg1 zz _ x0
  have l2 : View.readAt (Elt Ideal) arg2.view (Rect.unit ![0, 0] S512x4096.size inb_S512x4096_S512x4096_0_0).toLoadRect (harg2.unread x1) = x1 := load_unread arg2 harg2 zz _ x1
  have l3 : View.readAt (Elt Ideal) arg3.view (Rect.unit ![0, 0] S128x1.size inb_S128x1_S128x1_0_0).toLoadRect (harg3.unread x2) = x2 := load_unread arg3 harg3 zz _ x2
  have l4 : View.readAt (Elt Ideal) arg4.view (Rect.unit ![0, 0] S128x1.size inb_S128x1_S128x1_0_0).toLoadRect (harg4.unread x3) = x3 := load_unread arg4 harg4 zz _ x3
  have l6 : kernelRun0_A.sl.v125 (F := Ideal) c arg6 = k0_pay2 (F := Ideal) := by
    unfold kernelRun0_A.sl.v125 kernelRun0_A.sl.HS0_1
    exact View.readCov_full arg6.view _ _ _ _
  unfold out0_A_4
  rw [View.read_writes_junk_eq_canon]
  unfold kernelRun0_A
  dsimp only
  refine (congrFun (View.canon_unit_zero zz _ _) (ix2 r q)).trans ?_
  unfold kernelRun0_A.sl.r_4 kernelRun0_A.sl.r_5 kernelRun0_A.sl.r_3 kernelRun0_A.sl.r kernelRun0_A.sl.r_1 kernelRun0_A.sl.r_2
  rw [l1, l2, l3, l4, l6]
  exact tile_apply (blockOf x0 x1 x2 x3) (k0_pay2 (F := Ideal)) r q (fun h => blockOf_ne_top x0 x1 x2 x3 r h)

/-- What such a point carries on. -/
theorem soutA (c : Dev nD) (i : grid0.Coords) (arg1 : Memref sig .tc .vmem S128x4096 .bf16) (harg1 : arg1.IsWhole) (arg2 : Memref sig .tc .vmem S512x4096 .bf16) (harg2 : arg2.IsWhole) (arg3 : Memref sig .tc .vmem S128x1 .f32) (harg3 : arg3.IsWhole) (arg4 : Memref sig .tc .vmem S128x1 .f32) (harg4 : arg4.IsWhole) (arg5 : Memref sig .tc .vmem S128x512 .f32) (harg5 : arg5.IsWhole) (arg6 : Memref sig .tc .vmem S128x1 .f32) (harg6 : arg6.IsWhole) (hc0 : cond0_0 i) (x0 : Vec Ideal S128x4096 .bf16) (x1 : Vec Ideal S512x4096 .bf16) (x2 x3 : Vec Ideal S128x1 .f32) (r : Fin 128) (hr : r.val < 12) :
    sout0_A_0 (F := Ideal) c i arg1 harg1 arg2 harg2 arg3 harg3 arg4 harg4 arg5 harg5 arg6 harg6 hc0 x0 x1 x2 x3 (ix2 r (0 : Fin 1)) = ((∑ s : Fin 512, (if s.val ≤ 511 then (blockOf x0 x1 x2 x3 (ix2 r s) : EReal) else 0)) + (k0_pay2 (F := Ideal)) (ix2 r (0 : Fin 1)) : EReal) := by
  have l1 : View.readAt (Elt Ideal) arg1.view (Rect.unit ![0, 0] S128x4096.size inb_S128x4096_S128x4096_0_0).toLoadRect (harg1.unread x0) = x0 := load_unread arg1 harg1 zz _ x0
  have l2 : View.readAt (Elt Ideal) arg2.view (Rect.unit ![0, 0] S512x4096.size inb_S512x4096_S512x4096_0_0).toLoadRect (harg2.unread x1) = x1 := load_unread arg2 harg2 zz _ x1
  have l3 : View.readAt (Elt Ideal) arg3.view (Rect.unit ![0, 0] S128x1.size inb_S128x1_S128x1_0_0).toLoadRect (harg3.unread x2) = x2 := load_unread arg3 harg3 zz _ x2
  have l4 : View.readAt (Elt Ideal) arg4.view (Rect.unit ![0, 0] S128x1.size inb_S128x1_S128x1_0_0).toLoadRect (harg4.unread x3) = x3 := load_unread arg4 harg4 zz _ x3
  have l6 : kernelRun0_A.sl.v125 (F := Ideal) c arg6 = k0_pay2 (F := Ideal) := by
    unfold kernelRun0_A.sl.v125 kernelRun0_A.sl.HS0_1
    exact View.readCov_full arg6.view _ _ _ _
  unfold sout0_A_0 kernelRun0_A
  dsimp only
  refine (congrFun (View.read_writes_full VS0_0 _ _ _ _) (ix2 r (0 : Fin 1))).trans ?_
  unfold kernelRun0_A.sl.r_6 kernelRun0_A.sl.r_3 kernelRun0_A.sl.r kernelRun0_A.sl.r_1 kernelRun0_A.sl.r_2
  rw [l1, l2, l3, l4, l6]
  exact (pay16_apply (blockOf x0 x1 x2 x3) (k0_pay2 (F := Ideal)) r).trans (pay15_apply (blockOf x0 x1 x2 x3) (k0_pay2 (F := Ideal)) r (511 : Fin 512) (fun s => blockOf_ne_top x0 x1 x2 x3 r (by omega) s))

/-- What a point inside a sequence writes. -/
theorem outB (c : Dev nD) (i : grid0.Coords) (arg1 : Memref sig .tc .vmem S128x4096 .bf16) (harg1 : arg1.IsWhole) (arg2 : Memref sig .tc .vmem S512x4096 .bf16) (harg2 : arg2.IsWhole) (arg3 : Memref sig .tc .vmem S128x1 .f32) (harg3 : arg3.IsWhole) (arg4 : Memref sig .tc .vmem S128x1 .f32) (harg4 : arg4.IsWhole) (arg5 : Memref sig .tc .vmem S128x512 .f32) (harg5 : arg5.IsWhole) (arg6 : Memref sig .tc .vmem S128x1 .f32) (harg6 : arg6.IsWhole) (hc0 : ¬cond0_0 i) (x0 : Vec Ideal S128x4096 .bf16) (x1 : Vec Ideal S512x4096 .bf16) (x2 x3 : Vec Ideal S128x1 .f32) (xs : Vec Ideal S128x1 .f32) (r : Fin 128) (q : Fin 512) :
    out0_B_4 (F := Ideal) c i arg1 harg1 arg2 harg2 arg3 harg3 arg4 harg4 arg5 harg5 arg6 harg6 hc0 x0 x1 x2 x3 xs (ix2 r q) = tile (blockOf x0 x1 x2 x3) xs r q := by
  have l1 : View.readAt (Elt Ideal) arg1.view (Rect.unit ![0, 0] S128x4096.size inb_S128x4096_S128x4096_0_0).toLoadRect (harg1.unread x0) = x0 := load_unread arg1 harg1 zz _ x0
  have l2 : View.readAt (Elt Ideal) arg2.view (Rect.unit ![0, 0] S512x4096.size inb_S512x4096_S512x4096_0_0).toLoadRect (harg2.unread x1) = x1 := load_unread arg2 harg2 zz _ x1
  have l3 : View.readAt (Elt Ideal) arg3.view (Rect.unit ![0, 0] S128x1.size inb_S128x1_S128x1_0_0).toLoadRect (harg3.unread x2) = x2 := load_unread arg3 harg3 zz _ x2
  have l4 : View.readAt (Elt Ideal) arg4.view (Rect.unit ![0, 0] S128x1.size inb_S128x1_S128x1_0_0).toLoadRect (harg4.unread x3) = x3 := load_unread arg4 harg4 zz _ x3
  have l6 : View.readAt (Elt Ideal) arg6.view (Rect.unit ![0, 0] S128x1.size inb_S128x1_S128x1_0_0).toLoadRect (harg6.unread xs) = xs := load_unread arg6 harg6 zz _ xs
  unfold out0_B_4
  rw [View.read_writes_junk_eq_canon]
  unfold kernelRun0_B
  dsimp only
  refine (congrFun (View.canon_unit_zero zz _ _) (ix2 r q)).trans ?_
  unfold kernelRun0_B.sl.r_4 kernelRun0_B.sl.r_5 kernelRun0_B.sl.r_3 kernelRun0_B.sl.r kernelRun0_B.sl.r_1 kernelRun0_B.sl.r_2
  rw [l1, l2, l3, l4, l6]
  exact tile_apply (blockOf x0 x1 x2 x3) xs r q (fun h => blockOf_ne_top x0 x1 x2 x3 r h)

/-- What such a point carries on. -/
theorem soutB (c : Dev nD) (i : grid0.Coords) (arg1 : Memref sig .tc .vmem S128x4096 .bf16) (harg1 : arg1.IsWhole) (arg2 : Memref sig .tc .vmem S512x4096 .bf16) (harg2 : arg2.IsWhole) (arg3 : Memref sig .tc .vmem S128x1 .f32) (harg3 : arg3.IsWhole) (arg4 : Memref sig .tc .vmem S128x1 .f32) (harg4 : arg4.IsWhole) (arg5 : Memref sig .tc .vmem S128x512 .f32) (harg5 : arg5.IsWhole) (arg6 : Memref sig .tc .vmem S128x1 .f32) (harg6 : arg6.IsWhole) (hc0 : ¬cond0_0 i) (x0 : Vec Ideal S128x4096 .bf16) (x1 : Vec Ideal S512x4096 .bf16) (x2 x3 : Vec Ideal S128x1 .f32) (xs : Vec Ideal S128x1 .f32) (r : Fin 128) (hr : r.val < 12) :
    sout0_B_0 (F := Ideal) c i arg1 harg1 arg2 harg2 arg3 harg3 arg4 harg4 arg5 harg5 arg6 harg6 hc0 x0 x1 x2 x3 xs (ix2 r (0 : Fin 1)) = ((∑ s : Fin 512, (if s.val ≤ 511 then (blockOf x0 x1 x2 x3 (ix2 r s) : EReal) else 0)) + xs (ix2 r (0 : Fin 1)) : EReal) := by
  have l1 : View.readAt (Elt Ideal) arg1.view (Rect.unit ![0, 0] S128x4096.size inb_S128x4096_S128x4096_0_0).toLoadRect (harg1.unread x0) = x0 := load_unread arg1 harg1 zz _ x0
  have l2 : View.readAt (Elt Ideal) arg2.view (Rect.unit ![0, 0] S512x4096.size inb_S512x4096_S512x4096_0_0).toLoadRect (harg2.unread x1) = x1 := load_unread arg2 harg2 zz _ x1
  have l3 : View.readAt (Elt Ideal) arg3.view (Rect.unit ![0, 0] S128x1.size inb_S128x1_S128x1_0_0).toLoadRect (harg3.unread x2) = x2 := load_unread arg3 harg3 zz _ x2
  have l4 : View.readAt (Elt Ideal) arg4.view (Rect.unit ![0, 0] S128x1.size inb_S128x1_S128x1_0_0).toLoadRect (harg4.unread x3) = x3 := load_unread arg4 harg4 zz _ x3
  have l6 : View.readAt (Elt Ideal) arg6.view (Rect.unit ![0, 0] S128x1.size inb_S128x1_S128x1_0_0).toLoadRect (harg6.unread xs) = xs := load_unread arg6 harg6 zz _ xs
  unfold sout0_B_0 kernelRun0_B
  dsimp only
  refine (congrFun (View.read_writes_full VS0_0 _ _ _ _) (ix2 r (0 : Fin 1))).trans ?_
  unfold kernelRun0_B.sl.r_6 kernelRun0_B.sl.r_3 kernelRun0_B.sl.r kernelRun0_B.sl.r_1 kernelRun0_B.sl.r_2
  rw [l1, l2, l3, l4, l6]
  exact (pay16_apply (blockOf x0 x1 x2 x3) xs r).trans (pay15_apply (blockOf x0 x1 x2 x3) xs r (511 : Fin 512) (fun s => blockOf_ne_top x0 x1 x2 x3 r (by omega) s))

/-- Operand 1 as the launch finds it. -/
abbrev X1 (c : Dev nD) : FVec Ideal S16384x4096 .bf16 := V (F := Ideal) m c main_v1

/-- That operand is the argument with its two leading axes joined. -/
theorem V_main_v1 (c : Dev nD) : V (F := Ideal) m c main_v1 = (truncf (F := Ideal) .bf16 (shapeCast S16384x4096 (m ((c : Thread nD τ).loc main_arg0) : FVec Ideal S2x8192x4096 .f32) shapeCasts_S2x8192x4096_S16384x4096 : FVec Ideal S16384x4096 .f32) bitsLt_bf16_f32 : FVec Ideal S16384x4096 .bf16) := by
  show StableHlo.after hostOps0 (fun b => m (c, b)) main_v1 = _
  after_results <;> rfl

theorem X1_apply (c : Dev nD) (r : Fin 16384) (q : Fin 4096) : X1 m c (ix2 r q)
    = m ((c : Thread nD τ).loc main_arg0) (ix3 (⟨r.val / 8192, by have := r.isLt; omega⟩ : Fin 2) (⟨r.val % 8192, by omega⟩ : Fin 8192) q) := by
  unfold X1
  rw [V_main_v1]
  exact join_apply (m ((c : Thread nD τ).loc main_arg0)) _ r q _ _ (by show r.val = r.val / 8192 * 8192 + r.val % 8192; omega)

/-- Operand 2 as the launch finds it. -/
abbrev X2 (c : Dev nD) : FVec Ideal S128x4096 .bf16 := V (F := Ideal) m c main_v3

/-- That operand is the argument transposed. -/
theorem V_main_v3 (c : Dev nD) : V (F := Ideal) m c main_v3 = (truncf (F := Ideal) .bf16 (transpose S128x4096 [1, 0] (m ((c : Thread nD τ).loc main_arg1) : FVec Ideal S4096x128 .f32) transposes_S4096x128_S128x4096_1_0 : FVec Ideal S128x4096 .f32) bitsLt_bf16_f32 : FVec Ideal S128x4096 .bf16) := by
  show StableHlo.after hostOps0 (fun b => m (c, b)) main_v3 = _
  after_results <;> rfl

theorem X2_apply (c : Dev nD) (q : Fin 4096) (s : Fin 128) : X2 m c (ix2 s q) = m ((c : Thread nD τ).loc main_arg1) (ix2 q s) := by
  unfold X2
  rw [V_main_v3]
  exact transpose_ix2_apply (m ((c : Thread nD τ).loc main_arg1)) _ _ _

/-- An index of a list of 128. -/
abbrev one (s : Fin 128) : S128.Idx := fun a => match a with | ⟨0, _⟩ => s

/-- Operand 3 as the launch finds it. -/
abbrev X3 (c : Dev nD) : FVec Ideal S128x1 .f32 := V (F := Ideal) m c main_v4

/-- The bias is the argument as one column. -/
theorem V_main_v4 (c : Dev nD) : V (F := Ideal) m c main_v4 = (shapeCast S128x1 ((m ((c : Thread nD τ).loc main_arg2)) : FVec Ideal S128 .f32) shapeCasts_S128_S128x1 : FVec Ideal S128x1 .f32) := by
  show StableHlo.after hostOps0 (fun b => m (c, b)) main_v4 = _
  after_results <;> rfl

theorem X3_apply (c : Dev nD) (r : Fin 128) : X3 m c (ix2 r (0 : Fin 1)) = (m ((c : Thread nD τ).loc main_arg2)) (one r) := by
  unfold X3
  rw [V_main_v4]
  exact shapeCast_apply (s := S128) ((m ((c : Thread nD τ).loc main_arg2)) : FVec Ideal S128 .f32) _ _ (one r) (by show (S128.rowMajor (one r)).val = (S128x1.rowMajor (ix2 r (0 : Fin 1))).val; rw [Shape.rowMajor_val_one, Shape.rowMajor_val_two]; show r.val = r.val * 1 + 0; omega)

/-- Operand 4 as the launch finds it. -/
abbrev X4 (c : Dev nD) : FVec Ideal S128x1 .f32 := V (F := Ideal) m c main_v5

/-- The logarithm of the decay is the argument as one column. -/
theorem V_main_v5 (c : Dev nD) : V (F := Ideal) m c main_v5 = (shapeCast S128x1 ((m ((c : Thread nD τ).loc main_arg3)) : FVec Ideal S128 .f32) shapeCasts_S128_S128x1 : FVec Ideal S128x1 .f32) := by
  show StableHlo.after hostOps0 (fun b => m (c, b)) main_v5 = _
  after_results <;> rfl

theorem X4_apply (c : Dev nD) (r : Fin 128) : X4 m c (ix2 r (0 : Fin 1)) = (m ((c : Thread nD τ).loc main_arg3)) (one r) := by
  unfold X4
  rw [V_main_v5]
  exact shapeCast_apply (s := S128) ((m ((c : Thread nD τ).loc main_arg3)) : FVec Ideal S128 .f32) _ _ (one r) (by show (S128.rowMajor (one r)).val = (S128x1.rowMajor (ix2 r (0 : Fin 1))).val; rw [Shape.rowMajor_val_one, Shape.rowMajor_val_two]; show r.val = r.val * 1 + 0; omega)

/-- The windows' block indices, point by point. -/
theorem idx_facts : ∀ t : Fin cfg0.N, win0_0.index t 0 = 0 ∧ win0_0.index t 1 = 0 ∧ win0_1.index t 0 = t.val ∧ win0_1.index t 1 = 0 ∧ win0_2.index t 0 = 0 ∧ win0_2.index t 1 = 0 ∧ win0_3.index t 0 = 0 ∧ win0_3.index t 1 = 0 ∧ win0_4.index t 0 = 0 ∧ win0_4.index t 1 = t.val ∧ t.val < 32 :=
  (by decide +kernel : ∀ t : Fin grid0.N, win0_0.index t 0 = 0 ∧ win0_0.index t 1 = 0 ∧ win0_1.index t 0 = t.val ∧ win0_1.index t 1 = 0 ∧ win0_2.index t 0 = 0 ∧ win0_2.index t 1 = 0 ∧ win0_3.index t 0 = 0 ∧ win0_3.index t 1 = 0 ∧ win0_4.index t 0 = 0 ∧ win0_4.index t 1 = t.val ∧ t.val < 32)

/-- Every block of window 4 is some point's. -/
theorem idx_onto : ∀ (p : Fin 1) (q : Fin 32), ∃ t : Fin cfg0.N, win0_4.index t 0 = p.val ∧ win0_4.index t 1 = q.val :=
  (by decide +kernel : ∀ (p : Fin 1) (q : Fin 32), ∃ t : Fin grid0.N, win0_4.index t 0 = p.val ∧ win0_4.index t 1 = q.val)

/-- Window 0's block at a point. -/
abbrev B0 (c : Dev nD) (t : Fin cfg0.N) : FVec Ideal S128x4096 .bf16 := iblk m c 0 t

/-- Window 0's block at a point, read at an index. -/
theorem read_0 (c : Dev nD) (t : Fin cfg0.N) (y : S128x4096.Idx) (i : S128x4096.Idx)
    (h0 : (i 0).val = win0_0.index t 0 * 128 + (y 0).val) (h1 : (i 1).val = win0_0.index t 1 * 4096 + (y 1).val) :
    B0 m c t y = X2 m c i := by
  show V m c main_v3 (((cfg0.win 0).blk t).view.emb y) = V m c main_v3 i
  refine congrArg _ (funext fun a => Fin.ext ?_)
  match a with
  | ⟨0, _⟩ => show win0_0.index t 0 * 128 + 1 * (y 0).val = (i 0).val; omega
  | ⟨1, _⟩ => show win0_0.index t 1 * 4096 + 1 * (y 1).val = (i 1).val; omega

/-- Window 1's block at a point. -/
abbrev B1 (c : Dev nD) (t : Fin cfg0.N) : FVec Ideal S512x4096 .bf16 := iblk m c 1 t

/-- Window 1's block at a point, read at an index. -/
theorem read_1 (c : Dev nD) (t : Fin cfg0.N) (y : S512x4096.Idx) (i : S16384x4096.Idx)
    (h0 : (i 0).val = win0_1.index t 0 * 512 + (y 0).val) (h1 : (i 1).val = win0_1.index t 1 * 4096 + (y 1).val) :
    B1 m c t y = X1 m c i := by
  show V m c main_v1 (((cfg0.win 1).blk t).view.emb y) = V m c main_v1 i
  refine congrArg _ (funext fun a => Fin.ext ?_)
  match a with
  | ⟨0, _⟩ => show win0_1.index t 0 * 512 + 1 * (y 0).val = (i 0).val; omega
  | ⟨1, _⟩ => show win0_1.index t 1 * 4096 + 1 * (y 1).val = (i 1).val; omega

/-- Window 2's block at a point. -/
abbrev B2 (c : Dev nD) (t : Fin cfg0.N) : FVec Ideal S128x1 .f32 := iblk m c 2 t

/-- Window 2's block at a point, read at an index. -/
theorem read_2 (c : Dev nD) (t : Fin cfg0.N) (y : S128x1.Idx) (i : S128x1.Idx)
    (h0 : (i 0).val = win0_2.index t 0 * 128 + (y 0).val) (h1 : (i 1).val = win0_2.index t 1 * 1 + (y 1).val) :
    B2 m c t y = X3 m c i := by
  show V m c main_v4 (((cfg0.win 2).blk t).view.emb y) = V m c main_v4 i
  refine congrArg _ (funext fun a => Fin.ext ?_)
  match a with
  | ⟨0, _⟩ => show win0_2.index t 0 * 128 + 1 * (y 0).val = (i 0).val; omega
  | ⟨1, _⟩ => show win0_2.index t 1 * 1 + 1 * (y 1).val = (i 1).val; omega

/-- Window 3's block at a point. -/
abbrev B3 (c : Dev nD) (t : Fin cfg0.N) : FVec Ideal S128x1 .f32 := iblk m c 3 t

/-- Window 3's block at a point, read at an index. -/
theorem read_3 (c : Dev nD) (t : Fin cfg0.N) (y : S128x1.Idx) (i : S128x1.Idx)
    (h0 : (i 0).val = win0_3.index t 0 * 128 + (y 0).val) (h1 : (i 1).val = win0_3.index t 1 * 1 + (y 1).val) :
    B3 m c t y = X4 m c i := by
  show V m c main_v5 (((cfg0.win 3).blk t).view.emb y) = V m c main_v5 i
  refine congrArg _ (funext fun a => Fin.ext ?_)
  match a with
  | ⟨0, _⟩ => show win0_3.index t 0 * 128 + 1 * (y 0).val = (i 0).val; omega
  | ⟨1, _⟩ => show win0_3.index t 1 * 1 + 1 * (y 1).val = (i 1).val; omega

/-- A gate's argument at a row and a position of the joined array. -/
def zAt (c : Dev nD) (r : Fin 128) (R : Fin 16384) : EReal := (∑ k : Fin 4096, (X2 m c (ix2 r k) : EReal) * X1 m c (ix2 R k)) + X3 m c (ix2 r (0 : Fin 1))

/-- A gate at a row and a position of the joined array. -/
def gAt (c : Dev nD) (r : Fin 128) (R : Fin 16384) : EReal := gate r.val (zAt m c r R) (X4 m c (ix2 r (0 : Fin 1)))

/-- The same at a number, zero past the array's end. -/
def vv (c : Dev nD) (r : Fin 128) (n : ℕ) : EReal := if h : n < 16384 then gAt m c r ⟨n, h⟩ else 0

theorem vv_eq (c : Dev nD) (r : Fin 128) (R : Fin 16384) (n : ℕ) (h : n = R.val) : vv m c r n = gAt m c r R := by
  subst h
  exact dif_pos R.isLt

/-- A point's block of gates. -/
abbrev blk (c : Dev nD) (t : Fin cfg0.N) : FVec Ideal S128x512 .f32 := blockOf (B0 m c t) (B1 m c t) (B2 m c t) (B3 m c t)

theorem blk_apply (c : Dev nD) (t : Fin cfg0.N) (r : Fin 128) (s : Fin 512) : (blk m c t (ix2 r s) : EReal) = vv m c r (t.val * 512 + s.val) := by
  obtain ⟨e0, e1, e2, e3, e4, e5, e6, e7, e8, e9, lt⟩ := idx_facts t
  have hs := s.isLt
  rw [vv_eq m c r (⟨t.val * 512 + s.val, by omega⟩ : Fin 16384) _ rfl]
  refine (blockOf_apply (B0 m c t) (B1 m c t) (B2 m c t) (B3 m c t) r s).trans ?_
  unfold gAt
  have h3 : B3 m c t (ix2 r (0 : Fin 1)) = X4 m c (ix2 r (0 : Fin 1)) := read_3 m c t _ _ (by show r.val = win0_3.index t 0 * 128 + r.val; omega) (by show 0 = win0_3.index t 1 * 1 + 0; omega)
  have h2 : B2 m c t (ix2 r (0 : Fin 1)) = X3 m c (ix2 r (0 : Fin 1)) := read_2 m c t _ _ (by show r.val = win0_2.index t 0 * 128 + r.val; omega) (by show 0 = win0_2.index t 1 * 1 + 0; omega)
  have hz : zOf (B0 m c t) (B1 m c t) (B2 m c t) r s = zAt m c r (⟨t.val * 512 + s.val, by omega⟩ : Fin 16384) := by
    unfold zOf zAt
    refine congrArg₂ (fun p q : EReal => p + q) (Finset.sum_congr rfl fun k _ => congrArg₂ (fun p q : EReal => p * q) ?_ ?_) h2
    · exact read_0 m c t _ _ (by show r.val = win0_0.index t 0 * 128 + r.val; omega) (by show k.val = win0_0.index t 1 * 4096 + k.val; omega)
    · exact read_1 m c t _ _ (by show t.val * 512 + s.val = win0_1.index t 0 * 512 + s.val; omega) (by show k.val = win0_1.index t 1 * 4096 + k.val; omega)
  exact congrArg₂ (fun p q : EReal => gate r.val p q) hz h3

/-- The sum of a block's gates up to a column. -/
theorem blk_prefix (c : Dev nD) (t : Fin cfg0.N) (r : Fin 128) (q : ℕ) (hq : q < 512) :
    (∑ s : Fin 512, (if s.val ≤ q then (blk m c t (ix2 r s) : EReal) else 0)) = ∑ i ∈ Finset.range (q + 1), vv m c r (t.val * 512 + i) :=
  (Finset.sum_congr rfl fun s _ => by rw [blk_apply]).trans (prefix_sum 512 q hq (fun s => vv m c r (t.val * 512 + s)))

/-- The same within a chunk. -/
theorem blk_chunk (c : Dev nD) (t : Fin cfg0.N) (r : Fin 128) (q : ℕ) (hq : q < 512) :
    (∑ s : Fin 512, (if s.val ≤ q ∧ s.val / 64 = q / 64 then (blk m c t (ix2 r s) : EReal) else 0)) = ∑ i ∈ Finset.range (q % 64 + 1), vv m c r (t.val * 512 + (q / 64 * 64 + i)) :=
  (Finset.sum_congr rfl fun s _ => by rw [blk_apply]).trans (chunk_sum 512 64 q (by omega) hq (fun s => vv m c r (t.val * 512 + s)))

/-- Two runs of a sequence one after the other. -/
theorem run_join (f : ℕ → EReal) (base K n : ℕ) : (∑ i ∈ Finset.range n, f (base + K + i)) + (∑ i ∈ Finset.range K, f (base + i)) = ∑ i ∈ Finset.range (K + n), f (base + i) := by
  rw [Finset.sum_range_add, add_comm]
  refine congrArg₂ (fun p q : EReal => p + q) rfl (Finset.sum_congr rfl fun i _ => ?_)
  rw [Nat.add_assoc]

/-- What is carried after a point: the sum of its sequence's gates so far. -/
theorem carry (c : Dev nD) (r : Fin 128) (hr : r.val < 12) : ∀ (n : ℕ) (hn : n < cfg0.N),
    (((outsAt0 m c n hn).2 : Vec Ideal S128x1 .f32) (ix2 r (0 : Fin 1)) : EReal) = ∑ i ∈ Finset.range (n % 16 * 512 + 512), vv m c r (n / 16 * 8192 + i) := by
  intro n
  induction n with
  | zero =>
    intro hn
    have E := outsAt0_A m c (⟨0, hn⟩ : Fin cfg0.N) (Nat.zero_mod _)
    refine (congrFun (congrArg Prod.snd E) (ix2 r (0 : Fin 1))).trans ?_
    refine (soutA c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) scM0_0 (Memref.isWhole_whole _) ((hcond0_0 (⟨0, hn⟩ : Fin cfg0.N)).mpr (Nat.zero_mod _)) (B0 m c (⟨0, hn⟩ : Fin cfg0.N)) (B1 m c (⟨0, hn⟩ : Fin cfg0.N)) (B2 m c (⟨0, hn⟩ : Fin cfg0.N)) (B3 m c (⟨0, hn⟩ : Fin cfg0.N)) r hr).trans ?_
    refine (congrArg₂ (fun p q : EReal => p + q) (blk_prefix m c (⟨0, hn⟩ : Fin cfg0.N) r 511 (by omega)) (pay2_apply _)).trans ?_
    refine (add_zero _).trans ?_
    rfl
  | succ n ih =>
    intro hn
    by_cases h0 : (n + 1) % 16 = 0
    · have E := outsAt0_A m c (⟨n + 1, hn⟩ : Fin cfg0.N) h0
      refine (congrFun (congrArg Prod.snd E) (ix2 r (0 : Fin 1))).trans ?_
      refine (soutA c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) ((hcond0_0 (⟨n + 1, hn⟩ : Fin cfg0.N)).mpr h0) (B0 m c (⟨n + 1, hn⟩ : Fin cfg0.N)) (B1 m c (⟨n + 1, hn⟩ : Fin cfg0.N)) (B2 m c (⟨n + 1, hn⟩ : Fin cfg0.N)) (B3 m c (⟨n + 1, hn⟩ : Fin cfg0.N)) r hr).trans ?_
      refine (congrArg₂ (fun p q : EReal => p + q) (blk_prefix m c (⟨n + 1, hn⟩ : Fin cfg0.N) r 511 (by omega)) (pay2_apply _)).trans ?_
      refine (add_zero _).trans ?_
      show ∑ i ∈ Finset.range (511 + 1), vv m c r ((n + 1) * 512 + i) = _
      rw [show (n + 1) % 16 * 512 + 512 = 511 + 1 by omega, show (n + 1) / 16 * 8192 = (n + 1) * 512 by omega]
    · have E := outsAt0_B m c (⟨n + 1, hn⟩ : Fin cfg0.N) h0
      refine (congrFun (congrArg Prod.snd E) (ix2 r (0 : Fin 1))).trans ?_
      refine (soutB c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) (fun h => h0 ((hcond0_0 (⟨n + 1, hn⟩ : Fin cfg0.N)).mp h)) (B0 m c (⟨n + 1, hn⟩ : Fin cfg0.N)) (B1 m c (⟨n + 1, hn⟩ : Fin cfg0.N)) (B2 m c (⟨n + 1, hn⟩ : Fin cfg0.N)) (B3 m c (⟨n + 1, hn⟩ : Fin cfg0.N)) (outsAt0 m c n (Nat.lt_of_succ_lt hn)).2 r hr).trans ?_
      refine (congrArg₂ (fun p q : EReal => p + q) (blk_prefix m c (⟨n + 1, hn⟩ : Fin cfg0.N) r 511 (by omega)) (ih (Nat.lt_of_succ_lt hn))).trans ?_
      show (∑ i ∈ Finset.range (511 + 1), vv m c r ((n + 1) * 512 + i)) + _ = _
      rw [show (n + 1) * 512 = (n + 1) / 16 * 8192 + (n % 16 * 512 + 512) by omega, show n / 16 * 8192 = (n + 1) / 16 * 8192 by omega, run_join]
      rw [show n % 16 * 512 + 512 + (511 + 1) = (n + 1) % 16 * 512 + 512 by omega]

/-- The result at a row and a position. -/
def res (c : Dev nD) (r : Fin 128) (R : ℕ) : EReal :=
  if r.val < 12 then ∑ i ∈ Finset.range (R % 8192 + 1), vv m c r (R / 8192 * 8192 + i)
  else if r.val < 24 then ∑ i ∈ Finset.range (R % 64 + 1), vv m c r (R / 64 * 64 + i)
  else vv m c r R

/-- A point's tile is the result's, at the head of a sequence. -/
theorem tile_A (c : Dev nD) (t : Fin cfg0.N) (h0 : t.val % 16 = 0) (r : Fin 128) (q : Fin 512) :
    tile (blk m c t) (k0_pay2 (F := Ideal)) r q = res m c r (t.val * 512 + q.val) := by
  have hq := q.isLt
  unfold tile res
  by_cases h : r.val < 12
  · rw [if_pos h, if_pos h]
    refine (congrArg₂ (fun p q : EReal => p + q) (blk_prefix m c t r q.val hq) (pay2_apply _)).trans ((add_zero _).trans ?_)
    rw [show (t.val * 512 + q.val) % 8192 = q.val by omega, show (t.val * 512 + q.val) / 8192 * 8192 = t.val * 512 by omega]
  · rw [if_neg h, if_neg h]
    by_cases h' : r.val < 24
    · rw [if_pos h', if_pos h', blk_chunk m c t r q.val hq, show (t.val * 512 + q.val) % 64 = q.val % 64 by omega, show (t.val * 512 + q.val) / 64 * 64 = t.val * 512 + q.val / 64 * 64 by omega]
      exact Finset.sum_congr rfl fun i _ => by rw [Nat.add_assoc]
    · rw [if_neg h', if_neg h', blk_apply]

/-- A point's tile is the result's, inside a sequence. -/
theorem tile_B (c : Dev nD) (t : Fin cfg0.N) (h0 : ¬t.val % 16 = 0) (cr : Vec Ideal S128x1 .f32) (r : Fin 128) (q : Fin 512)
    (hc : r.val < 12 → (cr (ix2 r (0 : Fin 1)) : EReal) = ∑ i ∈ Finset.range ((t.val - 1) % 16 * 512 + 512), vv m c r ((t.val - 1) / 16 * 8192 + i)) :
    tile (blk m c t) cr r q = res m c r (t.val * 512 + q.val) := by
  have hq := q.isLt
  unfold tile res
  by_cases h : r.val < 12
  · rw [if_pos h, if_pos h]
    refine (congrArg₂ (fun p q : EReal => p + q) (blk_prefix m c t r q.val hq) (hc h)).trans ?_
    show (∑ i ∈ Finset.range (q.val + 1), vv m c r (t.val * 512 + i)) + (∑ i ∈ Finset.range ((t.val - 1) % 16 * 512 + 512), vv m c r ((t.val - 1) / 16 * 8192 + i)) = _
    have e1 : t.val * 512 = (t.val - 1) / 16 * 8192 + ((t.val - 1) % 16 * 512 + 512) := by omega
    have e2 : (t.val * 512 + q.val) % 8192 + 1 = (t.val - 1) % 16 * 512 + 512 + (q.val + 1) := by omega
    have e3 : (t.val * 512 + q.val) / 8192 * 8192 = (t.val - 1) / 16 * 8192 := by omega
    rw [e2, e3, ← run_join (vv m c r) ((t.val - 1) / 16 * 8192) ((t.val - 1) % 16 * 512 + 512) (q.val + 1), ← e1]
  · rw [if_neg h, if_neg h]
    by_cases h' : r.val < 24
    · rw [if_pos h', if_pos h', blk_chunk m c t r q.val hq, show (t.val * 512 + q.val) % 64 = q.val % 64 by omega, show (t.val * 512 + q.val) / 64 * 64 = t.val * 512 + q.val / 64 * 64 by omega]
      exact Finset.sum_congr rfl fun i _ => by rw [Nat.add_assoc]
    · rw [if_neg h', if_neg h', blk_apply]

theorem word0 : (FloatOps.ofBits (F := Ideal) .f32 0x00000000#32 : EReal) = 0 := zero_word S128x1 (ix2 (0 : Fin 128) (0 : Fin 1))

/-- The reference's guarded form of the softened maximum. -/
theorem ref_soft (z w : EReal) (h : w = 0) :
    Scalar.select (Ideal.cmp .une (z - w) (z - w)) (z + w) (max z w + Ideal.log1p (Ideal.exp (-(max (z - w) (-(z - w)))))) = soft z := by
  subst h
  have e : z - 0 = z := by rw [sub_eq_add_neg, neg_zero, add_zero]
  rw [e]
  have hc : Ideal.cmp .une z z = 0#1 := by unfold Ideal.cmp; simp
  rw [hc]
  exact if_neg (by decide)

/-- The reference's gate arguments. -/
theorem ref_z (c : Dev nD) (i : Cert.Reference12Ideal.S2x8192x128.Idx) (R : Fin 16384) (r : Fin 128) (hr : r.val = (i 2).val) (hR : R.val = (i 0).val * 8192 + (i 1).val) :
    (Cert.Reference12Ideal.Read.val_main_v3 (F := Ideal) (m ((c : Thread nD τ).loc main_arg0)) (m ((c : Thread nD τ).loc main_arg1)) (m ((c : Thread nD τ).loc main_arg2)) i : EReal) = zAt m c r R := by
  have h1 : (i 1).val < 8192 := (i 1).isLt
  rw [Cert.Reference12Ideal.Read.val_main_v3_apply, Cert.Reference12Ideal.Read.val_main_v0_apply, Cert.Reference12Ideal.Read.val_main_v2_apply, Cert.Reference12Ideal.Read.val_main_v1_apply]
  unfold zAt
  refine congrArg₂ (fun p q : EReal => p + q) (Finset.sum_congr rfl fun k _ => ?_) ?_
  · rw [X1_apply, X2_apply]
    refine (mul_comm _ _).trans (congrArg₂ (fun p q : EReal => p * q) (congrArg (m ((c : Thread nD τ).loc main_arg1)) (funext fun b => Fin.ext ?_)) (congrArg (m ((c : Thread nD τ).loc main_arg0)) (funext fun b => Fin.ext ?_)))
    · match b with
      | ⟨0, _⟩ => rfl
      | ⟨1, _⟩ => show (i 2).val = r.val; omega
    · match b with
      | ⟨0, _⟩ => show (i 0).val = R.val / 8192; omega
      | ⟨1, _⟩ => show (i 1).val = R.val % 8192; omega
      | ⟨2, _⟩ => rfl
  · rw [X3_apply]
    refine congrArg (m ((c : Thread nD τ).loc main_arg2)) (funext fun b => Fin.ext ?_)
    match b with
    | ⟨0, _⟩ => show (i 2).val = r.val; omega

/-- The reference's logarithm of a sigmoid. -/
theorem ref_lsig (c : Dev nD) (i : Cert.Reference12Ideal.S2x8192x128.Idx) :
    (Cert.Reference12Ideal.Read.val_main_v4 (F := Ideal) (m ((c : Thread nD τ).loc main_arg0)) (m ((c : Thread nD τ).loc main_arg1)) (m ((c : Thread nD τ).loc main_arg2)) i : EReal) = lsig (Cert.Reference12Ideal.Read.val_main_v3 (F := Ideal) (m ((c : Thread nD τ).loc main_arg0)) (m ((c : Thread nD τ).loc main_arg1)) (m ((c : Thread nD τ).loc main_arg2)) i) := by
  rw [Cert.Reference12Ideal.Read.val_main_v4_apply, Cert.Reference12Ideal.Read.val_main_call0_v1_apply, Cert.Reference12Ideal.Read.val_main_call0_call0_v4_apply, Cert.Reference12Ideal.Read.val_main_call0_call0_v6_apply, Cert.Reference12Ideal.Read.val_main_call0_call0_v11_apply,
    Cert.Reference12Ideal.Read.val_main_call0_call0_v1_apply, Cert.Reference12Ideal.Read.val_main_call0_call0_v10_apply, Cert.Reference12Ideal.Read.val_main_call0_call0_v9_apply, Cert.Reference12Ideal.Read.val_main_call0_call0_v8_apply, Cert.Reference12Ideal.Read.val_main_call0_call0_v7_apply,
    Cert.Reference12Ideal.Read.val_main_call0_call0_v3_apply, Cert.Reference12Ideal.Read.val_main_call0_call0_v0_apply, Cert.Reference12Ideal.Read.val_main_call0_call0_v2_apply, Cert.Reference12Ideal.Read.val_main_call0_call0_v5_apply, Cert.Reference12Ideal.Read.val_main_call0_v0_apply]
  simp only [Cert.Reference12Ideal.Read.val_main_call0_call0_cst_apply]
  generalize Cert.Reference12Ideal.Read.val_main_v3 (F := Ideal) (m ((c : Thread nD τ).loc main_arg0)) (m ((c : Thread nD τ).loc main_arg1)) (m ((c : Thread nD τ).loc main_arg2)) i = z
  exact (congrArg (fun p : EReal => -p) (ref_soft (-z) _ word0)).trans (lsig_eq z)

/-- The reference's rate of decay. -/
theorem ref_rate (c : Dev nD) (i : Cert.Reference12Ideal.S2x8192x128.Idx) (r : Fin 128) (hr : r.val = (i 2).val) :
    (Cert.Reference12Ideal.Read.val_main_v11 (F := Ideal) (m ((c : Thread nD τ).loc main_arg0)) (m ((c : Thread nD τ).loc main_arg1)) (m ((c : Thread nD τ).loc main_arg2)) (m ((c : Thread nD τ).loc main_arg3)) i : EReal) = rate (X4 m c (ix2 r (0 : Fin 1))) (Cert.Reference12Ideal.Read.val_main_v3 (F := Ideal) (m ((c : Thread nD τ).loc main_arg0)) (m ((c : Thread nD τ).loc main_arg1)) (m ((c : Thread nD τ).loc main_arg2)) i) := by
  rw [Cert.Reference12Ideal.Read.val_main_v11_apply, Cert.Reference12Ideal.Read.val_main_v10_apply, Cert.Reference12Ideal.Read.val_main_v9_apply, Cert.Reference12Ideal.Read.val_main_v7_apply, Cert.Reference12Ideal.Read.val_main_v6_apply, Cert.Reference12Ideal.Read.val_main_v8_apply, Cert.Reference12Ideal.Read.val_main_call2_v4_apply, Cert.Reference12Ideal.Read.val_main_call2_v6_apply, Cert.Reference12Ideal.Read.val_main_call2_v11_apply,
    Cert.Reference12Ideal.Read.val_main_call2_v1_apply, Cert.Reference12Ideal.Read.val_main_call2_v10_apply, Cert.Reference12Ideal.Read.val_main_call2_v9_apply, Cert.Reference12Ideal.Read.val_main_call2_v8_apply, Cert.Reference12Ideal.Read.val_main_call2_v7_apply,
    Cert.Reference12Ideal.Read.val_main_call2_v3_apply, Cert.Reference12Ideal.Read.val_main_call2_v0_apply, Cert.Reference12Ideal.Read.val_main_call2_v2_apply, Cert.Reference12Ideal.Read.val_main_call2_v5_apply]
  simp only [Cert.Reference12Ideal.Read.val_main_call2_cst_apply]
  generalize Cert.Reference12Ideal.Read.val_main_v3 (F := Ideal) (m ((c : Thread nD τ).loc main_arg0)) (m ((c : Thread nD τ).loc main_arg1)) (m ((c : Thread nD τ).loc main_arg2)) i = z
  rw [X4_apply]
  unfold rate
  refine congrArg₂ (fun p q : EReal => p * q) (congrArg (fun p : EReal => -(Ideal.exp p)) (congrArg (m ((c : Thread nD τ).loc main_arg3)) (funext fun b => Fin.ext ?_))) (ref_soft z _ word0)
  match b with
  | ⟨0, _⟩ => show (i 2).val = r.val; omega

/-- The reference's sigmoid. -/
theorem ref_sig (c : Dev nD) (i : Cert.Reference12Ideal.S2x8192x128.Idx) :
    (Cert.Reference12Ideal.Read.val_main_v25 (F := Ideal) (m ((c : Thread nD τ).loc main_arg0)) (m ((c : Thread nD τ).loc main_arg1)) (m ((c : Thread nD τ).loc main_arg2)) i : EReal) = Ideal.div 1 (1 + Ideal.exp (-(Cert.Reference12Ideal.Read.val_main_v3 (F := Ideal) (m ((c : Thread nD τ).loc main_arg0)) (m ((c : Thread nD τ).loc main_arg1)) (m ((c : Thread nD τ).loc main_arg2)) i : EReal))) := by
  rw [Cert.Reference12Ideal.Read.val_main_v25_apply, Cert.Reference12Ideal.Read.val_main_v24_apply, Cert.Reference12Ideal.Read.val_main_v23_apply, Cert.Reference12Ideal.Read.val_main_v22_apply, Cert.Reference12Ideal.Read.val_main_v21_apply, Cert.Reference12Ideal.Read.val_main_v20_apply, Cert.Reference12Ideal.Read.val_main_cst_apply, Cert.Reference12Ideal.Read.val_main_cst_1_apply]
  generalize Cert.Reference12Ideal.Read.val_main_v3 (F := Ideal) (m ((c : Thread nD τ).loc main_arg0)) (m ((c : Thread nD τ).loc main_arg1)) (m ((c : Thread nD τ).loc main_arg2)) i = z
  exact congrArg (fun p : EReal => Ideal.div p (p + Ideal.exp (-z))) one_word

/-- The result, as the reference computes it. -/
def G (c : Dev nD) : S128x16384.Idx → Elt Ideal .f32 := Cert.Reference12Ideal.Read.val_main_v29 (F := Ideal) (m ((c : Thread nD τ).loc main_arg0)) (m ((c : Thread nD τ).loc main_arg1)) (m ((c : Thread nD τ).loc main_arg2)) (m ((c : Thread nD τ).loc main_arg3))

theorem G_apply (c : Dev nD) (r : Fin 128) (R : Fin 16384) : (G m c (ix2 r R) : EReal) = res m c r R.val := by
  have hr := r.isLt
  have hR := R.isLt
  unfold G
  rw [Cert.Reference12Ideal.Read.val_main_v29_apply, Cert.Reference12Ideal.Read.val_main_v28_apply]
  have hi : Cert.Reference12Ideal.Read.idx_main_v28 (Cert.Reference12Ideal.Read.idx_main_v29 (ix2 r R)) = (ix3 (⟨R.val / 8192, by omega⟩ : Fin 2) (⟨R.val % 8192, by omega⟩ : Fin 8192) r : Cert.Reference12Ideal.S2x8192x128.Idx) := funext fun b => Fin.ext (by
    match b with
    | ⟨0, _⟩ => show (R.val * 128 + r.val) / 1048576 = R.val / 8192; omega
    | ⟨1, _⟩ => show (R.val * 128 + r.val) / 128 % 8192 = R.val % 8192; omega
    | ⟨2, _⟩ => show (R.val * 128 + r.val) % 128 = r.val; omega)
  rw [hi, Cert.Reference12Ideal.Read.val_main_v27_apply, Cert.Reference12Ideal.Read.val_main_call5_v0_apply, Cert.Reference12Ideal.Read.val_main_v17_apply, Cert.Reference12Ideal.Read.val_main_v15_apply, Cert.Reference12Ideal.Read.val_main_v16_apply, Cert.Reference12Ideal.Read.val_main_c_apply]
  unfold res
  refine (select_row r.val 12 hr (by omega) _ _).trans ?_
  by_cases h : r.val < 12
  · rw [if_pos h, if_pos h]
    unfold Cert.Reference12Ideal.Read.val_main_v5
    refine cumsum_mid (N1 := 8191) (by omega) _ _ (fun y => ?_) _ _ _ _ _ (fun i => vv m c r (R.val / 8192 * 8192 + i)) (fun i => ?_)
    · rw [Cert.Reference12Ideal.Read.val_main_call1_call0_v0_apply, Cert.Reference12Ideal.Read.val_main_call1_call0_cst_apply]
      exact word0
    · have hi := i.isLt
      rw [vv_eq m c r (⟨R.val / 8192 * 8192 + i.val, by omega⟩ : Fin 16384) _ rfl]
      refine (ref_lsig m c _).trans ?_
      have hz := ref_z m c (ix3 (⟨R.val / 8192, by omega⟩ : Fin 2) i r : Cert.Reference12Ideal.S2x8192x128.Idx) (⟨R.val / 8192 * 8192 + i.val, by omega⟩ : Fin 16384) r rfl (by show R.val / 8192 * 8192 + i.val = R.val / 8192 * 8192 + i.val; omega)
      rw [hz]
      exact (if_pos h).symm
  · rw [if_neg h, if_neg h, Cert.Reference12Ideal.Read.val_main_v26_apply, Cert.Reference12Ideal.Read.val_main_call4_v0_apply, Cert.Reference12Ideal.Read.val_main_v19_apply, Cert.Reference12Ideal.Read.val_main_v15_apply, Cert.Reference12Ideal.Read.val_main_v18_apply, Cert.Reference12Ideal.Read.val_main_c_0_apply]
    refine (select_row r.val 24 hr (by omega) _ _).trans ?_
    by_cases h' : r.val < 24
    · rw [if_pos h', if_pos h', Cert.Reference12Ideal.Read.val_main_v14_apply]
      have hj : Cert.Reference12Ideal.Read.idx_main_v14 (ix3 (⟨R.val / 8192, by omega⟩ : Fin 2) (⟨R.val % 8192, by omega⟩ : Fin 8192) r) = (ix4 (⟨R.val / 8192, by omega⟩ : Fin 2) (⟨R.val % 8192 / 64, by omega⟩ : Fin 128) (⟨R.val % 64, by omega⟩ : Fin 64) r : Cert.Reference12Ideal.S2x128x64x128.Idx) := funext fun b => Fin.ext (by
        match b with
        | ⟨0, _⟩ => show ((R.val / 8192 * 8192 + R.val % 8192) * 128 + r.val) / 1048576 = R.val / 8192; omega
        | ⟨1, _⟩ => show ((R.val / 8192 * 8192 + R.val % 8192) * 128 + r.val) / 8192 % 128 = R.val % 8192 / 64; omega
        | ⟨2, _⟩ => show ((R.val / 8192 * 8192 + R.val % 8192) * 128 + r.val) / 128 % 64 = R.val % 64; omega
        | ⟨3, _⟩ => show ((R.val / 8192 * 8192 + R.val % 8192) * 128 + r.val) % 128 = r.val; omega)
      rw [hj]
      unfold Cert.Reference12Ideal.Read.val_main_v13
      refine cumsum_third (N1 := 63) (by omega) _ _ (fun y => ?_) _ _ _ _ _ _ (fun i => vv m c r (R.val / 64 * 64 + i)) (fun i => ?_)
      · rw [Cert.Reference12Ideal.Read.val_main_call3_call0_v0_apply, Cert.Reference12Ideal.Read.val_main_call3_call0_cst_apply]
        exact word0
      · have hi := i.isLt
        rw [vv_eq m c r (⟨R.val / 64 * 64 + i.val, by omega⟩ : Fin 16384) _ rfl, Cert.Reference12Ideal.Read.val_main_v12_apply]
        have hk : Cert.Reference12Ideal.Read.idx_main_v12 (ix4 (⟨R.val / 8192, by omega⟩ : Fin 2) (⟨R.val % 8192 / 64, by omega⟩ : Fin 128) i r) = (ix3 (⟨R.val / 8192, by omega⟩ : Fin 2) (⟨R.val % 8192 / 64 * 64 + i.val, by omega⟩ : Fin 8192) r : Cert.Reference12Ideal.S2x8192x128.Idx) := funext fun b => Fin.ext (by
          match b with
          | ⟨0, _⟩ => show (((R.val / 8192 * 128 + R.val % 8192 / 64) * 64 + i.val) * 128 + r.val) / 1048576 = R.val / 8192; omega
          | ⟨1, _⟩ => show (((R.val / 8192 * 128 + R.val % 8192 / 64) * 64 + i.val) * 128 + r.val) / 128 % 8192 = R.val % 8192 / 64 * 64 + i.val; omega
          | ⟨2, _⟩ => show (((R.val / 8192 * 128 + R.val % 8192 / 64) * 64 + i.val) * 128 + r.val) % 128 = r.val; omega)
        rw [hk]
        refine (ref_rate m c _ r rfl).trans ?_
        rw [ref_z m c _ (⟨R.val / 64 * 64 + i.val, by omega⟩ : Fin 16384) r rfl (by show R.val / 64 * 64 + i.val = R.val / 8192 * 8192 + (R.val % 8192 / 64 * 64 + i.val); omega)]
        exact ((if_neg h).trans (if_pos h')).symm
    · rw [if_neg h', if_neg h', vv_eq m c r R _ rfl]
      refine (ref_sig m c _).trans ?_
      rw [ref_z m c _ R r rfl (by show R.val = R.val / 8192 * 8192 + R.val % 8192; omega)]
      exact ((if_neg h).trans (if_neg h')).symm

/-- What a point writes back is its block of `G`. -/
theorem flushed_eq (c : Dev nD) (t : Fin cfg0.N) :
    (dats m 0 c).flushed 4 t = ((cfg0.win 4).blk t).view.read (Elt Ideal) (G m c) := by
  obtain ⟨e0, e1, e2, e3, e4, e5, e6, e7, e8, e9, lt⟩ := idx_facts t
  by_cases h0 : t.val % 16 = 0
  · rw [flushed4_A m c t h0]
    funext y
    have hy0 : (y 0).val < 128 := (y 0).isLt
    have hy1 : (y 1).val < 512 := (y 1).isLt
    show out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (B0 m c t) (B1 m c t) (B2 m c t) (B3 m c t) y = G m c (((cfg0.win 4).blk t).view.emb y)
    have hj : ((cfg0.win 4).blk t).view.emb y = (ix2 (⟨win0_4.index t 0 * 128 + (y 0).val, by omega⟩ : Fin 128) (⟨win0_4.index t 1 * 512 + (y 1).val, by omega⟩ : Fin 16384) : S128x16384.Idx) := by
      funext a; refine Fin.ext ?_
      match a with
      | ⟨0, _⟩ => show win0_4.index t 0 * 128 + 1 * (y 0).val = win0_4.index t 0 * 128 + (y 0).val; omega
      | ⟨1, _⟩ => show win0_4.index t 1 * 512 + 1 * (y 1).val = win0_4.index t 1 * 512 + (y 1).val; omega
    rw [hj]
    have hy : y = (ix2 (⟨(y 0).val, hy0⟩ : Fin 128) (⟨(y 1).val, hy1⟩ : Fin 512) : S128x512.Idx) := funext fun b => Fin.ext (by match b with | ⟨0, _⟩ => rfl | ⟨1, _⟩ => rfl)
    have hs : (⟨win0_4.index t 0 * 128 + (y 0).val, by omega⟩ : Fin 128) = ⟨(y 0).val, hy0⟩ := Fin.ext (by show win0_4.index t 0 * 128 + (y 0).val = (y 0).val; omega)
    rw [hs]
    refine Eq.trans ?_ (G_apply m c _ _).symm
    refine ((congrArg _ hy).trans (outA c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (B0 m c t) (B1 m c t) (B2 m c t) (B3 m c t) ⟨(y 0).val, hy0⟩ ⟨(y 1).val, hy1⟩)).trans ?_
    refine (tile_A m c t h0 _ _).trans ?_
    exact congrArg (res m c _) (by show t.val * 512 + (y 1).val = win0_4.index t 1 * 512 + (y 1).val; omega)
  · rw [flushed4_B m c t h0]
    funext y
    have hy0 : (y 0).val < 128 := (y 0).isLt
    have hy1 : (y 1).val < 512 := (y 1).isLt
    show out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (B0 m c t) (B1 m c t) (B2 m c t) (B3 m c t) (outsAt0 m c (t.val - 1) (Nat.lt_of_le_of_lt (Nat.sub_le _ _) t.isLt)).2 y = G m c (((cfg0.win 4).blk t).view.emb y)
    have hj : ((cfg0.win 4).blk t).view.emb y = (ix2 (⟨win0_4.index t 0 * 128 + (y 0).val, by omega⟩ : Fin 128) (⟨win0_4.index t 1 * 512 + (y 1).val, by omega⟩ : Fin 16384) : S128x16384.Idx) := by
      funext a; refine Fin.ext ?_
      match a with
      | ⟨0, _⟩ => show win0_4.index t 0 * 128 + 1 * (y 0).val = win0_4.index t 0 * 128 + (y 0).val; omega
      | ⟨1, _⟩ => show win0_4.index t 1 * 512 + 1 * (y 1).val = win0_4.index t 1 * 512 + (y 1).val; omega
    rw [hj]
    have hy : y = (ix2 (⟨(y 0).val, hy0⟩ : Fin 128) (⟨(y 1).val, hy1⟩ : Fin 512) : S128x512.Idx) := funext fun b => Fin.ext (by match b with | ⟨0, _⟩ => rfl | ⟨1, _⟩ => rfl)
    have hs : (⟨win0_4.index t 0 * 128 + (y 0).val, by omega⟩ : Fin 128) = ⟨(y 0).val, hy0⟩ := Fin.ext (by show win0_4.index t 0 * 128 + (y 0).val = (y 0).val; omega)
    rw [hs]
    refine Eq.trans ?_ (G_apply m c _ _).symm
    refine ((congrArg _ hy).trans (outB c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (B0 m c t) (B1 m c t) (B2 m c t) (B3 m c t) (outsAt0 m c (t.val - 1) (Nat.lt_of_le_of_lt (Nat.sub_le _ _) t.isLt)).2 ⟨(y 0).val, hy0⟩ ⟨(y 1).val, hy1⟩)).trans ?_
    refine (tile_B m c t h0 _ _ _ (fun hr => carry m c _ hr (t.val - 1) (Nat.lt_of_le_of_lt (Nat.sub_le _ _) t.isLt))).trans ?_
    exact congrArg (res m c _) (by show t.val * 512 + (y 1).val = win0_4.index t 1 * 512 + (y 1).val; omega)

theorem mem_blk (t : Fin cfg0.N) (i : S128x16384.Idx) :
    i ∈ ((cfg0.win 4).blk t).view.set ↔ ∀ a, win0_4.index t a * S128x512.size a ≤ (i a).val ∧ (i a).val < win0_4.index t a * S128x512.size a + S128x512.size a := by
  show i ∈ ((View.whole main_v6).slice (win0_4.rect t)).set ↔ _
  rw [View.set_slice_whole, Rect.mem_set_unit]

/-- The array after the run is `G`. -/
theorem final (c : Dev nD) : (dats m 0 c).arrAt 4 cfg0.N = G m c := by
  refine (dats m 0 c).arrAt_eq_of_cover 4 (G m c) (fun t _ => flushed_eq m c t) fun i => ?_
  have h0 : (i 0).val < 128 := (i 0).isLt
  have h1 : (i 1).val < 16384 := (i 1).isLt
  obtain ⟨t, e0, e1⟩ := idx_onto ⟨(i 0).val / 128, by omega⟩ ⟨(i 1).val / 512, by omega⟩
  have e0' : win0_4.index t 0 = (i 0).val / 128 := e0
  have e1' : win0_4.index t 1 = (i 1).val / 512 := e1
  refine ⟨t, flush0_4 t, (mem_blk t i).mpr fun a => ?_⟩
  match a with
  | ⟨0, _⟩ => show win0_4.index t 0 * 128 ≤ (i 0).val ∧ (i 0).val < win0_4.index t 0 * 128 + 128; omega
  | ⟨1, _⟩ => show win0_4.index t 1 * 512 ≤ (i 1).val ∧ (i 1).val < win0_4.index t 1 * 512 + 512; omega

/-- The call over the reals and the reference leave the same arrays. -/
theorem algebraic : Cert.algebraic_Kernel12Ideal_Reference12Ideal (hKernel12Ideal := Cert.Kernel12Ideal.Gen.facts) (hReference12Ideal := Cert.Reference12Ideal.Gen.facts) := by
  intro m g m' g' _ hargs
  refine ⟨fun c => G m c, ?_, ?_⟩
  · refine (θ_run _ _ _).mono (fun r h c => ?_) (run_blocks (F := Ideal) m g)
    obtain ⟨h0, h1⟩ := h c
    exact ⟨h0.trans (final m c), h1⟩
  · refine (θ_run _ _ _).mono (fun r h c => ?_) (Cert.Reference12Ideal.Value.run (F := Ideal) m' g')
    obtain ⟨a0, a1, a2, a3⟩ := hargs c
    obtain ⟨h0, h1⟩ := h c
    refine ⟨h0.trans ?_, h1⟩
    rw [Cert.Reference12Ideal.Read.val_main_v29_eq, a0, a1, a2, a3]; rfl

end Cert.Kernel12Ideal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Body
public import proofs.«01_k».proof.Proof.BodyK
public import proofs.«01_k».proof.Proof.RefRun
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Val2
public import proofs.«01_k».proof.Proof.Val3
public import proofs.«01_k».proof.Proof.Val4
public import proofs.«01_k».proof.Proof.Val5
public import proofs.«01_k».proof.Proof.Val6
public import proofs.«01_k».proof.Proof.Val7
public import proofs.«01_k».proof.Proof.Val8
public import proofs.«01_k».proof.Proof.Val9
public import proofs.«01_k».proof.Proof.Val10
public import proofs.«01_k».proof.Proof.Val11
public import proofs.«01_k».proof.Proof.Val12
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The named constant is the one the table gives: minus the inverse of the logarithm of two. -/
theorem preserves : preserves_Kernel_KernelIdeal :=
  IdealRules.named_const.statement Cert.KernelIdeal.κ "neg_log2e" .f32 0xBFB8AA3B#32 _ rfl

/-- The frame of reference 2: its run, without the results, and no counter to be left. -/
theorem frame_reference2 : quiescent_Reference2Ideal (hReference2Ideal := Cert.Reference2Ideal.Gen.facts) := fun m ρ _ =>
  (θ_run _ _ _).mono (fun r h => ⟨fun c => (h c).2.2, sem_eq_zero_of_no_sems (by decide) r.2⟩) (Cert.Reference2Ideal.Value.run (F := Ideal) m ρ)

/-- The frame of reference 3: its run, without the results, and no counter to be left. -/
theorem frame_reference3 : quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run (F := Ideal) m ρ)

/-- The frame of reference 4: its run, without the results, and no counter to be left. -/
theorem frame_reference4 : quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run (F := Ideal) m ρ)

/-- The frame of reference 5: its run, without the results, and no counter to be left. -/
theorem frame_reference5 : quiescent_Reference5Ideal (hReference5Ideal := Cert.Reference5Ideal.Gen.facts) := fun m ρ _ =>
  (θ_run _ _ _).mono (fun r h => ⟨fun c => (h c).2.2, sem_eq_zero_of_no_sems (by decide) r.2⟩) (Cert.Reference5Ideal.Value.run (F := Ideal) m ρ)

/-- The frame of reference 6: its run, without the results, and no counter to be left. -/
theorem frame_reference6 : quiescent_Reference6Ideal (hReference6Ideal := Cert.Reference6Ideal.Gen.facts) := fun m ρ _ =>
  (θ_run _ _ _).mono (fun r h => ⟨fun c => (h c).2.2, sem_eq_zero_of_no_sems (by decide) r.2⟩) (Cert.Reference6Ideal.Value.run (F := Ideal) m ρ)

/-- The frame of reference 7: its run, without the results, and no counter to be left. -/
theorem frame_reference7 : quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run (F := Ideal) m ρ)

/-- The frame of reference 8: its run, without the results, and no counter to be left. -/
theorem frame_reference8 : quiescent_Reference8Ideal (hReference8Ideal := Cert.Reference8Ideal.Gen.facts) := fun m ρ _ =>
  (θ_run _ _ _).mono (fun r h => ⟨fun c => (h c).2.2, sem_eq_zero_of_no_sems (by decide) r.2⟩) (Cert.Reference8Ideal.Value.run (F := Ideal) m ρ)

/-- The frame of reference 9: its run, without the results, and no counter to be left. -/
theorem frame_reference9 : quiescent_Reference9Ideal (hReference9Ideal := Cert.Reference9Ideal.Gen.facts) := fun m ρ _ =>
  (θ_run _ _ _).mono (fun r h => ⟨fun c => (h c).2.2, sem_eq_zero_of_no_sems (by decide) r.2⟩) (Cert.Reference9Ideal.Value.run (F := Ideal) m ρ)

/-- The frame of reference 10: its run, without the results, and no counter to be left. -/
theorem frame_reference10 : quiescent_Reference10Ideal (hReference10Ideal := Cert.Reference10Ideal.Gen.facts) := fun m ρ _ =>
  (θ_run _ _ _).mono (fun r h => ⟨fun c => (h c).2, sem_eq_zero_of_no_sems (by decide) r.2⟩) (Cert.Reference10Ideal.Value.run (F := Ideal) m ρ)

/-- The frame of reference 11: its run, without the results, and no counter to be left. -/
theorem frame_reference11 : quiescent_Reference11Ideal (hReference11Ideal := Cert.Reference11Ideal.Gen.facts) := fun m ρ _ =>
  (θ_run _ _ _).mono (fun r h => ⟨fun c => (h c).2, sem_eq_zero_of_no_sems (by decide) r.2⟩) (Cert.Reference11Ideal.Value.run (F := Ideal) m ρ)

/-- The frame of reference 12: its run, without the results, and no counter to be left. -/
theorem frame_reference12 : quiescent_Reference12Ideal (hReference12Ideal := Cert.Reference12Ideal.Gen.facts) := fun m ρ _ =>
  (θ_run _ _ _).mono (fun r h => ⟨fun c => (h c).2, sem_eq_zero_of_no_sems (by decide) r.2⟩) (Cert.Reference12Ideal.Value.run (F := Ideal) m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    fun m ρ _ => Cert.Kernel.Gen.Hand.frame_main m ρ,
    fun m ρ _ => Cert.KernelIdeal.Gen.Hand.frame_main m ρ,
    fun m ρ _ => Cert.ReferenceIdeal.Gen.Hand.frame_main m ρ,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    preserves,
    trivial,
    Cert.Kernel2Ideal.Hand.algebraic,
    trivial,
    Cert.Kernel3Ideal.Hand.algebraic,
    trivial,
    Cert.Kernel4Ideal.Hand.algebraic,
    trivial,
    Cert.Kernel5Ideal.Hand.algebraic,
    trivial,
    Cert.Kernel6Ideal.Hand.algebraic,
    trivial,
    Cert.Kernel7Ideal.Hand.algebraic,
    trivial,
    Cert.Kernel8Ideal.Hand.algebraic,
    trivial,
    Cert.Kernel9Ideal.Hand.algebraic,
    trivial,
    Cert.Kernel10Ideal.Hand.algebraic,
    trivial,
    Cert.Kernel11Ideal.Hand.algebraic,
    trivial,
    Cert.Kernel12Ideal.Hand.algebraic⟩

end Cert.Proof

end
